-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))).2.2.2.2.2.2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v67) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v15_0)) (v1 : (c : Dev Cert.ProjIdeal.nD) → Buf (Elt Ideal) ((c.tc : Thread Cert.ProjIdeal.nD Cert.ProjIdeal.τ).loc Cert.ProjIdeal.main_v15_1)) (v2 : (c : Dev Cert.ProjIdeal.nD) → Buf (Elt Ideal) ((c.tc : Thread Cert.ProjIdeal.nD Cert.ProjIdeal.τ).loc Cert.ProjIdeal.main_v15_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15_0) = v0 c
          ∧ r.2.mem ((c.tc : Thread Cert.ProjIdeal.nD Cert.ProjIdeal.τ).loc Cert.ProjIdeal.main_v15_1) = v1 c
          ∧ r.2.mem ((c.tc : Thread Cert.ProjIdeal.nD Cert.ProjIdeal.τ).loc Cert.ProjIdeal.main_v15_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v10) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_v20) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v29) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v3_0)) (v1 : (c : Dev Cert.PrepIdeal.nD) → Buf (Elt Ideal) ((c.tc : Thread Cert.PrepIdeal.nD Cert.PrepIdeal.τ).loc Cert.PrepIdeal.main_v3_1)) (v2 : (c : Dev Cert.PrepIdeal.nD) → Buf (Elt Ideal) ((c.tc : Thread Cert.PrepIdeal.nD Cert.PrepIdeal.τ).loc Cert.PrepIdeal.main_v3_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v3_0) = v0 c
          ∧ r.2.mem ((c.tc : Thread Cert.PrepIdeal.nD Cert.PrepIdeal.τ).loc Cert.PrepIdeal.main_v3_1) = v1 c
          ∧ r.2.mem ((c.tc : Thread Cert.PrepIdeal.nD Cert.PrepIdeal.τ).loc Cert.PrepIdeal.main_v3_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v4) = v0 c
          ∧ r.2.mem ((c.tc : Thread Cert.PrepRefIdeal.nD Cert.PrepRefIdeal.τ).loc Cert.PrepRefIdeal.main_v18) = v1 c
          ∧ r.2.mem ((c.tc : Thread Cert.PrepRefIdeal.nD Cert.PrepRefIdeal.τ).loc Cert.PrepRefIdeal.main_v43) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v1) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v8) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v16_0)) (v1 : (c : Dev Cert.MixIdeal.nD) → Buf (Elt Ideal) ((c.tc : Thread Cert.MixIdeal.nD Cert.MixIdeal.τ).loc Cert.MixIdeal.main_v16_1)) (v2 : (c : Dev Cert.MixIdeal.nD) → Buf (Elt Ideal) ((c.tc : Thread Cert.MixIdeal.nD Cert.MixIdeal.τ).loc Cert.MixIdeal.main_v16_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v16_0) = v0 c
          ∧ r.2.mem ((c.tc : Thread Cert.MixIdeal.nD Cert.MixIdeal.τ).loc Cert.MixIdeal.main_v16_1) = v1 c
          ∧ r.2.mem ((c.tc : Thread Cert.MixIdeal.nD Cert.MixIdeal.τ).loc Cert.MixIdeal.main_v16_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v81) = v0 c
          ∧ r.2.mem ((c.tc : Thread Cert.MixRefIdeal.nD Cert.MixRefIdeal.τ).loc Cert.MixRefIdeal.main_v82) = v1 c
          ∧ r.2.mem ((c.tc : Thread Cert.MixRefIdeal.nD Cert.MixRefIdeal.τ).loc Cert.MixRefIdeal.main_v83) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hFinal : Cert.Final.Facts) (hFinalIdeal : Cert.FinalIdeal.Facts) (hFinalRefIdeal : Cert.FinalRefIdeal.Facts) (hPrep : Cert.Prep.Facts) (hPrepIdeal : Cert.PrepIdeal.Facts) (hPrepRefIdeal : Cert.PrepRefIdeal.Facts) (hAct : Cert.Act.Facts) (hActIdeal : Cert.ActIdeal.Facts) (hActRefIdeal : Cert.ActRefIdeal.Facts) (hMix : Cert.Mix.Facts) (hMixIdeal : Cert.MixIdeal.Facts) (hMixRefIdeal : Cert.MixRefIdeal.Facts) (hPre_all_finite : Cert.Pre_all_finite.Facts) (hPre_mix_finite : Cert.Pre_mix_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Final (hFinal := hFinal)
    ∧ quiescent_FinalIdeal (hFinalIdeal := hFinalIdeal)
    ∧ quiescent_FinalRefIdeal (hFinalRefIdeal := hFinalRefIdeal)
    ∧ quiescent_Prep (hPrep := hPrep)
    ∧ quiescent_PrepIdeal (hPrepIdeal := hPrepIdeal)
    ∧ quiescent_PrepRefIdeal (hPrepRefIdeal := hPrepRefIdeal)
    ∧ quiescent_Act (hAct := hAct)
    ∧ quiescent_ActIdeal (hActIdeal := hActIdeal)
    ∧ quiescent_ActRefIdeal (hActRefIdeal := hActRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Final_FinalIdeal
    ∧ algebraic_FinalIdeal_FinalRefIdeal (hFinalIdeal := hFinalIdeal) (hFinalRefIdeal := hFinalRefIdeal)
    ∧ preserves_Prep_PrepIdeal
    ∧ algebraic_PrepIdeal_PrepRefIdeal (hPrepIdeal := hPrepIdeal) (hPrepRefIdeal := hPrepRefIdeal)
    ∧ preserves_Act_ActIdeal
    ∧ algebraic_ActIdeal_ActRefIdeal (hActIdeal := hActIdeal) (hActRefIdeal := hActRefIdeal)
    ∧ preserves_Mix_MixIdeal
    ∧ algebraic_MixIdeal_MixRefIdeal_pre_mix_finite (hMixIdeal := hMixIdeal) (hMixRefIdeal := hMixRefIdeal) (hPre_mix_finite := hPre_mix_finite)
-- ==== Pre_all_finite.lean ====
abbrev S1x2048x1024 : Shape := ⟨3, ![1, 2048, 1024]⟩
abbrev S1x1024 : Shape := ⟨2, ![1, 1024]⟩
abbrev S1024x1024 : Shape := ⟨2, ![1024, 1024]⟩
abbrev S8x2x128x64 : Shape := ⟨4, ![8, 2, 128, 64]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S8x2x128x64 : S_.BroadcastsInDim S8x2x128x64 (![] : Fin 0 → Fin S8x2x128x64.rank)

variable [Facts]

def fn {F : FTy → Type} [FloatOps F] (main_arg0 : FVec F S1x2048x1024 .f32) (main_arg1 : FVec F S1x1024 .f32) (main_arg2 : FVec F S1x1024 .f32) (main_arg3 : FVec F S1024x1024 .f32) (main_arg4 : FVec F S8x2x128x64 .f32) : IVec S1x2048x1024 1 × IVec S1x1024 1 × IVec S1x1024 1 × IVec S1024x1024 1 × IVec S8x2x128x64 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8x2x128x64 .f32 := Host.absf main_arg4
  let main_cst_3 : FVec F S_ .f32 := constant S_ .f32 0x7F800000#32
  let main_v13 : FVec F S8x2x128x64 .f32 := broadcastInDim S8x2x128x64 ![] bcast_S_S8x2x128x64 main_cst_3
  let main_v14 : IVec S8x2x128x64 1 := cmpf .olt main_v12 main_v13
  (main_v2, main_v5, main_v8, main_v11, main_v14)
-- ==== Pre_mix_finite.lean ====
abbrev S1x2048x1792 : Shape := ⟨3, ![1, 2048, 1792]⟩
abbrev S1x8x64x64 : Shape := ⟨4, ![1, 8, 64, 64]⟩
abbrev S1x1x1792 : Shape := ⟨3, ![1, 1, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩

class Facts : Prop where
  bcast_S_S1x2048x1792 : S_.BroadcastsInDim S1x2048x1792 (![] : Fin 0 → Fin S1x2048x1792.rank)
  bcast_S_S1x8x64x64 : S_.BroadcastsInDim S1x8x64x64 (![] : Fin 0 → Fin S1x8x64x64.rank)
  bcast_S_S1x1x1792 : S_.BroadcastsInDim S1x1x1792 (![] : Fin 0 → Fin S1x1x1792.rank)
  bcast_S_S1792 : S_.BroadcastsInDim S1792 (![] : Fin 0 → Fin S1792.rank)
  bcast_S_S512 : S_.BroadcastsInDim S512 (![] : Fin 0 → Fin S512.rank)
  bcast_S_S64x512 : S_.BroadcastsInDim S64x512 (![] : Fin 0 → Fin S64x512.rank)
  bcast_S_S128x512 : S_.BroadcastsInDim S128x512 (![] : Fin 0 → Fin S128x512.rank)
  bcast_S_S8x64 : S_.BroadcastsInDim S8x64 (![] : Fin 0 → Fin S8x64.rank)

variable [Facts]

def fn_part2 {F : FTy → Type} [FloatOps F] (main_arg12 : FVec F S512 .f32) (main_arg13 : FVec F S512 .f32) (main_v2 : IVec S1x2048x1792 1) (main_v5 : IVec S1x8x64x64 1) (main_v8 : IVec S1x1x1792 1) (main_v11 : IVec S1792 1) (main_v14 : IVec S512 1) (main_v17 : IVec S64x512 1) (main_v20 : IVec S512 1) (main_v23 : IVec S64x512 1) (main_v26 : IVec S128x512 1) (main_v29 : IVec S512 1) (main_v32 : IVec S512 1) (main_v35 : IVec S8x64 1) : IVec S1x2048x1792 1 × IVec S1x8x64x64 1 × IVec S1x1x1792 1 × IVec S1792 1 × IVec S512 1 × IVec S64x512 1 × IVec S512 1 × IVec S64x512 1 × IVec S128x512 1 × IVec S512 1 × IVec S512 1 × IVec S8x64 1 × IVec S512 1 × IVec S512 1 :=
  let main_v36 : FVec F S512 .f32 := Host.absf main_arg12
  let main_cst_11 : FVec F S_ .f32 := constant S_ .f32 0x7F800000#32
  let main_v37 : FVec F S512 .f32 := broadcastInDim S512 ![] bcast_S_S512 main_cst_11
  let main_v38 : IVec S512 1 := cmpf .olt main_v36 main_v37
  let main_v39 : FVec F S512 .f32 := Host.absf main_arg13
  let main_cst_12 : FVec F S_ .f32 := constant S_ .f32 0x7F800000#32
  let main_v40 : FVec F S512 .f32 := broadcastInDim S512 ![] bcast_S_S512 main_cst_12
  let main_v41 : IVec S512 1 := cmpf .olt main_v39 main_v40
  (main_v2, main_v5, main_v8, main_v11, main_v14, main_v17, main_v20, main_v23, main_v26, main_v29, main_v32, main_v35, main_v38, main_v41)

def fn_part1 {F : FTy → Type} [FloatOps F] (main_arg6 : FVec F S512 .f32) (main_arg7 : FVec F S64x512 .f32) (main_arg8 : FVec F S128x512 .f32) (main_arg9 : FVec F S512 .f32) (main_arg10 : FVec F S512 .f32) (main_arg11 : FVec F S8x64 .f32) (main_arg12 : FVec F S512 .f32) (main_arg13 : FVec F S512 .f32) (main_v2 : IVec S1x2048x1792 1) (main_v5 : IVec S1x8x64x64 1) (main_v8 : IVec S1x1x1792 1) (main_v11 : IVec S1792 1) (main_v14 : IVec S512 1) (main_v17 : IVec S64x512 1) : IVec S1x2048x1792 1 × IVec S1x8x64x64 1 × IVec S1x1x1792 1 × IVec S1792 1 × IVec S512 1 × IVec S64x512 1 × IVec S512 1 × IVec S64x512 1 × IVec S128x512 1 × IVec S512 1 × IVec S512 1 × IVec S8x64 1 × IVec S512 1 × IVec S512 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S64x512 .f32 := Host.absf main_arg7
  let main_cst_6 : FVec F S_ .f32 := constant S_ .f32 0x7F800000#32
  let main_v22 : FVec F S64x512 .f32 := broadcastInDim S64x512 ![] bcast_S_S64x512 main_cst_6
  let main_v23 : IVec S64x512 1 := cmpf .olt main_v21 main_v22
  let main_v24 : FVec F S128x512 .f32 := Host.absf main_arg8
  let main_cst_7 : FVec F S_ .f32 := constant S_ .f32 0x7F800000#32
  let main_v25 : FVec F S128x512 .f32 := broadcastInDim S128x512 ![] bcast_S_S128x512 main_cst_7
  let main_v26 : IVec S128x512 1 := cmpf .olt main_v24 main_v25
  let main_v27 : FVec F S512 .f32 := Host.absf main_arg9
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S512 .f32 := Host.absf main_arg10
  let main_cst_9 : FVec F S_ .f32 := constant S_ .f32 0x7F800000#32
  let main_v31 : FVec F S512 .f32 := broadcastInDim S512 ![] bcast_S_S512 main_cst_9
  let main_v32 : IVec S512 1 := cmpf .olt main_v30 main_v31
  let main_v33 : FVec F S8x64 .f32 := Host.absf main_arg11
  let main_cst_10 : FVec F S_ .f32 := constant S_ .f32 0x7F800000#32
  let main_v34 : FVec F S8x64 .f32 := broadcastInDim S8x64 ![] bcast_S_S8x64 main_cst_10
  let main_v35 : IVec S8x64 1 := cmpf .olt main_v33 main_v34
  fn_part2 (F := F) main_arg12 main_arg13 main_v2 main_v5 main_v8 main_v11 main_v14 main_v17 main_v20 main_v23 main_v26 main_v29 main_v32 main_v35

def fn {F : FTy → Type} [FloatOps F] (main_arg0 : FVec F S1x2048x1792 .f32) (main_arg1 : FVec F S1x8x64x64 .f32) (main_arg2 : FVec F S1x1x1792 .f32) (main_arg3 : FVec F S1792 .f32) (main_arg4 : FVec F S512 .f32) (main_arg5 : FVec F S64x512 .f32) (main_arg6 : FVec F S512 .f32) (main_arg7 : FVec F S64x512 .f32) (main_arg8 : FVec F S128x512 .f32) (main_arg9 : FVec F S512 .f32) (main_arg10 : FVec F S512 .f32) (main_arg11 : FVec F S8x64 .f32) (main_arg12 : FVec F S512 .f32) (main_arg13 : FVec F S512 .f32) : IVec S1x2048x1792 1 × IVec S1x8x64x64 1 × IVec S1x1x1792 1 × IVec S1792 1 × IVec S512 1 × IVec S64x512 1 × IVec S512 1 × IVec S64x512 1 × IVec S128x512 1 × IVec S512 1 × IVec S512 1 × IVec S8x64 1 × IVec S512 1 × IVec S512 1 :=
  let main_v0 : FVec F S1x2048x1792 .f32 := Host.absf main_arg0
  let main_cst : FVec F S_ .f32 := constant S_ .f32 0x7F800000#32
  let main_v1 : FVec F S1x2048x1792 .f32 := broadcastInDim S1x2048x1792 ![] bcast_S_S1x2048x1792 main_cst
  let main_v2 : IVec S1x2048x1792 1 := cmpf .olt main_v0 main_v1
  let main_v3 : FVec F S1x8x64x64 .f32 := Host.absf main_arg1
  let main_cst_0 : FVec F S_ .f32 := constant S_ .f32 0x7F800000#32
  let main_v4 : FVec F S1x8x64x64 .f32 := broadcastInDim S1x8x64x64 ![] bcast_S_S1x8x64x64 main_cst_0
  let main_v5 : IVec S1x8x64x64 1 := cmpf .olt main_v3 main_v4
  let main_v6 : FVec F S1x1x1792 .f32 := Host.absf main_arg2
  let main_cst_1 : FVec F S_ .f32 := constant S_ .f32 0x7F800000#32
  let main_v7 : FVec F S1x1x1792 .f32 := broadcastInDim S1x1x1792 ![] bcast_S_S1x1x1792 main_cst_1
  let main_v8 : IVec S1x1x1792 1 := cmpf .olt main_v6 main_v7
  let main_v9 : FVec F S1792 .f32 := Host.absf main_arg3
  let main_cst_2 : FVec F S_ .f32 := constant S_ .f32 0x7F800000#32
  let main_v10 : FVec F S1792 .f32 := broadcastInDim S1792 ![] bcast_S_S1792 main_cst_2
  let main_v11 : IVec S1792 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S64x512 .f32 := Host.absf main_arg5
  let main_cst_4 : FVec F S_ .f32 := constant S_ .f32 0x7F800000#32
  let main_v16 : FVec F S64x512 .f32 := broadcastInDim S64x512 ![] bcast_S_S64x512 main_cst_4
  let main_v17 : IVec S64x512 1 := cmpf .olt main_v15 main_v16
  fn_part1 (F := F) main_arg6 main_arg7 main_arg8 main_arg9 main_arg10 main_arg11 main_arg12 main_arg13 main_v2 main_v5 main_v8 main_v11 main_v14 main_v17
-- ==== Kernel.lean ====
abbrev S1x2048x1024 : Shape := ⟨3, ![1, 2048, 1024]⟩
abbrev S1x1024 : Shape := ⟨2, ![1, 1024]⟩
abbrev S1024x1024 : Shape := ⟨2, ![1024, 1024]⟩
abbrev S8x2x128x64 : Shape := ⟨4, ![8, 2, 128, 64]⟩
abbrev S1x1x1024 : Shape := ⟨3, ![1, 1, 1024]⟩
abbrev S1x2048x128 : Shape := ⟨3, ![1, 2048, 128]⟩
abbrev S1x256x1024 : Shape := ⟨3, ![1, 256, 1024]⟩
abbrev S1x256x128 : Shape := ⟨3, ![1, 256, 128]⟩
abbrev S8x256x128 : Shape := ⟨3, ![8, 256, 128]⟩
abbrev S128x256 : Shape := ⟨2, ![128, 256]⟩
abbrev S256x1024 : Shape := ⟨2, ![256, 1024]⟩
abbrev S256x128 : Shape := ⟨2, ![256, 128]⟩
abbrev S1x1x128x64 : Shape := ⟨4, ![1, 1, 128, 64]⟩
abbrev S128x64 : Shape := ⟨2, ![128, 64]⟩
abbrev S256x64 : Shape := ⟨2, ![256, 64]⟩
abbrev S256 : Shape := ⟨1, ![256]⟩
abbrev S1x256 : Shape := ⟨2, ![1, 256]⟩
abbrev S16x256 : Shape := ⟨2, ![16, 256]⟩
abbrev S8x256 : Shape := ⟨2, ![8, 256]⟩
abbrev S5x256 : Shape := ⟨2, ![5, 256]⟩
abbrev S4x256 : Shape := ⟨2, ![4, 256]⟩
abbrev S3x256 : Shape := ⟨2, ![3, 256]⟩
abbrev S2x256 : Shape := ⟨2, ![2, 256]⟩
abbrev S6x256 : Shape := ⟨2, ![6, 256]⟩
abbrev S56x256 : Shape := ⟨2, ![56, 256]⟩

abbrev nBuf : Space → Nat
  | .hbm => 12
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S8x2x128x64, .f32⟩
  | .hbm, ⟨5, _⟩ => ⟨S1x1x1024, .f32⟩
  | .hbm, ⟨6, _⟩ => ⟨S1x1x1024, .f32⟩
  | .hbm, ⟨7, _⟩ => ⟨S1024x1024, .bf16⟩
  | .hbm, ⟨8, _⟩ => ⟨S8x2x128x64, .bf16⟩
  | .hbm, ⟨9, _⟩ => ⟨S1x2048x1024, .f32⟩
  | .hbm, ⟨10, _⟩ => ⟨S1x2048x128, .i32⟩
  | .hbm, ⟨11, _⟩ => ⟨S1x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .bf16⟩
  | .local _ .vmem, ⟨5, _⟩ => ⟨S8x2x128x64, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x128, .i32⟩
  | .local _ .vmem, ⟨9, _⟩ => ⟨S1x256x128, .i32⟩
  | .local _ .vmem, ⟨10, _⟩ => ⟨S1x256x128, .f32⟩
  | .local _ .vmem, ⟨11, _⟩ => ⟨S1x256x128, .f32⟩
  | .local _ .vmem, ⟨12, _⟩ => ⟨S8x256x128, .bf16⟩
  | .local _ .vmem, ⟨13, _⟩ => ⟨S128x256, .i32⟩
  | .local _ .vmem, ⟨14, _⟩ => ⟨S128x256, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 8], ![false, false]⟩

@[reducible] def k0_t1_loop : Scf.Loop 32 :=
  let c0_i32 : BitVec 32 := 0#32
  let c8_i32 : BitVec 32 := 8#32
  let v59 : BitVec 32 := Scalar.addi c0_i32 c8_i32
  let c1_i32 : BitVec 32 := 1#32
  ⟨c0_i32, v59, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v70 : Index := Scalar.indexCast arg13
  let c0_42 : Index := 0#32
  let c0_43 : Index := 0#32
  ![v70.toNat, 0, 0]
def k0_off2 (k0_t1 : Fin k0_t1_loop.trips) : Fin 4 → Nat :=
  let c0_i32 : BitVec 32 := 0#32
  let c1_i32 : BitVec 32 := 1#32
  let arg13 : BitVec 32 := Scf.iv c0_i32 c1_i32 k0_t1
  let v73 : Index := Scalar.indexCast arg13
  let c0_44 : Index := 0#32
  let c0_45 : Index := 0#32
  let c0_46 : Index := 0#32
  ![v73.toNat, 0, 0, 0]
def k0_off3 (k0_t1 : Fin k0_t1_loop.trips) : Fin 4 → Nat :=
  let c0_i32 : BitVec 32 := 0#32
  let c1_i32 : BitVec 32 := 1#32
  let arg13 : BitVec 32 := Scf.iv c0_i32 c1_i32 k0_t1
  let v78 : Index := Scalar.indexCast arg13
  let c1_48 : Index := 1#32
  let c0_49 : Index := 0#32
  let c0_50 : Index := 0#32
  ![v78.toNat, 1, 0, 0]
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32 : BitVec 32 := 16#32
  let v876 : BitVec 32 := Scalar.muli arg13 c16_i32
  v876
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c16_i32 : BitVec 32 := 16#32
  let v876 : BitVec 32 := Scalar.muli arg13 c16_i32
  let v877 : BitVec 32 := v876
  let v878 : Index := Scalar.indexCast v877
  let c0_289 : Index := 0#32
  ![v878.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32_290 : BitVec 32 := 16#32
  let v882 : BitVec 32 := Scalar.muli arg13 c16_i32_290
  v882
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S1x2048x1024 : Shape := ⟨3, ![1, 2048, 1024]⟩
abbrev S1x1024 : Shape := ⟨2, ![1, 1024]⟩
abbrev S1024x1024 : Shape := ⟨2, ![1024, 1024]⟩
abbrev S8x2x128x64 : Shape := ⟨4, ![8, 2, 128, 64]⟩
abbrev S1x1x1024 : Shape := ⟨3, ![1, 1, 1024]⟩
abbrev S_ : Shape := ⟨0, ![]⟩
abbrev S2048x1024 : Shape := ⟨2, ![2048, 1024]⟩
abbrev S2048x8x2x64 : Shape := ⟨4, ![2048, 8, 2, 64]⟩
abbrev S8x2x128x2048 : Shape := ⟨4, ![8, 2, 128, 2048]⟩
abbrev S2048x8x2x128 : Shape := ⟨4, ![2048, 8, 2, 128]⟩
abbrev S2048x8x1x128 : Shape := ⟨4, ![2048, 8, 1, 128]⟩
abbrev S2048x8x128 : Shape := ⟨3, ![2048, 8, 128]⟩
abbrev S2048x8x16 : Shape := ⟨3, ![2048, 8, 16]⟩
abbrev S2048x8x16x1 : Shape := ⟨4, ![2048, 8, 16, 1]⟩
abbrev S2048x8x1x16 : Shape := ⟨4, ![2048, 8, 1, 16]⟩
abbrev S2048x8x16x16 : Shape := ⟨4, ![2048, 8, 16, 16]⟩
abbrev S2048x8x256 : Shape := ⟨3, ![2048, 8, 256]⟩
abbrev S1 : Shape := ⟨1, ![1]⟩
abbrev S1x1x1x1 : Shape := ⟨4, ![1, 1, 1, 1]⟩
abbrev S2048x8 : Shape := ⟨2, ![2048, 8]⟩
abbrev S2048x8x1 : Shape := ⟨3, ![2048, 8, 1]⟩
abbrev S1x2048x128 : Shape := ⟨3, ![1, 2048, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S8x2x128x64, .f32⟩
  | .hbm, ⟨5, _⟩ => ⟨S1x1x1024, .f32⟩
  | .hbm, ⟨6, _⟩ => ⟨S_, .f32⟩
  | .hbm, ⟨7, _⟩ => ⟨S1x1x1024, .f32⟩
  | .hbm, ⟨8, _⟩ => ⟨S1x1x1024, .f32⟩
  | .hbm, ⟨9, _⟩ => ⟨S1x2048x1024, .f32⟩
  | .hbm, ⟨10, _⟩ => ⟨S1x2048x1024, .f32⟩
  | .hbm, ⟨11, _⟩ => ⟨S1x1x1024, .f32⟩
  | .hbm, ⟨12, _⟩ => ⟨S1x2048x1024, .f32⟩
  | .hbm, ⟨13, _⟩ => ⟨S1x2048x1024, .f32⟩
  | .hbm, ⟨14, _⟩ => ⟨S2048x1024, .f32⟩
  | .hbm, ⟨15, _⟩ => ⟨S2048x1024, .f32⟩
  | .hbm, ⟨16, _⟩ => ⟨S2048x8x2x64, .f32⟩
  | .hbm, ⟨17, _⟩ => ⟨S8x2x128x2048, .f32⟩
  | .hbm, ⟨18, _⟩ => ⟨S2048x8x2x128, .f32⟩
  | .hbm, ⟨19, _⟩ => ⟨S2048x8x1x128, .f32⟩
  | .hbm, ⟨20, _⟩ => ⟨S2048x8x128, .f32⟩
  | .hbm, ⟨21, _⟩ => ⟨S2048x8x16, .f32⟩
  | .hbm, ⟨22, _⟩ => ⟨S2048x8x16, .i32⟩
  | .hbm, ⟨23, _⟩ => ⟨S2048x8x1x128, .f32⟩
  | .hbm, ⟨24, _⟩ => ⟨S2048x8x128, .f32⟩
  | .hbm, ⟨25, _⟩ => ⟨S2048x8x16, .f32⟩
  | .hbm, ⟨26, _⟩ => ⟨S2048x8x16, .i32⟩
  | .hbm, ⟨27, _⟩ => ⟨S2048x8x16x1, .f32⟩
  | .hbm, ⟨28, _⟩ => ⟨S2048x8x1x16, .f32⟩
  | .hbm, ⟨29, _⟩ => ⟨S2048x8x16x16, .f32⟩
  | .hbm, ⟨30, _⟩ => ⟨S2048x8x16x16, .f32⟩
  | .hbm, ⟨31, _⟩ => ⟨S2048x8x16x16, .f32⟩
  | .hbm, ⟨32, _⟩ => ⟨S2048x8x256, .f32⟩
  | .hbm, ⟨33, _⟩ => ⟨S2048x8x16x1, .i32⟩
  | .hbm, ⟨34, _⟩ => ⟨S_, .i32⟩
  | .hbm, ⟨35, _⟩ => ⟨S2048x8x16x1, .i32⟩
  | .hbm, ⟨36, _⟩ => ⟨S2048x8x16x1, .i32⟩
  | .hbm, ⟨37, _⟩ => ⟨S2048x8x1x16, .i32⟩
  | .hbm, ⟨38, _⟩ => ⟨S2048x8x16x16, .i32⟩
  | .hbm, ⟨39, _⟩ => ⟨S2048x8x16x16, .i32⟩
  | .hbm, ⟨40, _⟩ => ⟨S2048x8x16x16, .i32⟩
  | .hbm, ⟨41, _⟩ => ⟨S2048x8x256, .i32⟩
  | .hbm, ⟨42, _⟩ => ⟨S2048x8x16, .f32⟩
  | .hbm, ⟨43, _⟩ => ⟨S2048x8x16, .i32⟩
  | .hbm, ⟨44, _⟩ => ⟨S_, .i32⟩
  | .hbm, ⟨45, _⟩ => ⟨S2048x8x16, .i32⟩
  | .hbm, ⟨46, _⟩ => ⟨S2048x8x16, .i1⟩
  | .hbm, ⟨47, _⟩ => ⟨S_, .i32⟩
  | .hbm, ⟨48, _⟩ => ⟨S2048x8x16, .i32⟩
  | .hbm, ⟨49, _⟩ => ⟨S2048x8x16, .i32⟩
  | .hbm, ⟨50, _⟩ => ⟨S2048x8x16, .i32⟩
  | .hbm, ⟨51, _⟩ => ⟨S2048x8x16x1, .i32⟩
  | .hbm, ⟨52, _⟩ => ⟨S1, .i32⟩
  | .hbm, ⟨53, _⟩ => ⟨S_, .i32⟩
  | .hbm, ⟨54, _⟩ => ⟨S2048x8x16x1, .i32⟩
  | .hbm, ⟨55, _⟩ => ⟨S2048x8x16x1, .i1⟩
  | .hbm, ⟨56, _⟩ => ⟨S1x1x1x1, .i32⟩
  | .hbm, ⟨57, _⟩ => ⟨S2048x8x16x1, .i32⟩
  | .hbm, ⟨58, _⟩ => ⟨S2048x8x16x1, .i1⟩
  | .hbm, ⟨59, _⟩ => ⟨S2048x8x16x1, .i1⟩
  | .hbm, ⟨60, _⟩ => ⟨S_, .i1⟩
  | .hbm, ⟨61, _⟩ => ⟨S2048x8x16, .i1⟩
  | .hbm, ⟨62, _⟩ => ⟨S2048x8x16, .i32⟩
  | .hbm, ⟨63, _⟩ => ⟨S_, .i32⟩
  | .hbm, ⟨64, _⟩ => ⟨S2048x8x16, .i32⟩
  | .hbm, ⟨65, _⟩ => ⟨S2048x8x16, .i32⟩
  | .hbm, ⟨66, _⟩ => ⟨S_, .f32⟩
  | .hbm, ⟨67, _⟩ => ⟨S2048x8, .f32⟩
  | .hbm, ⟨68, _⟩ => ⟨S_, .f32⟩
  | .hbm, ⟨69, _⟩ => ⟨S2048x8, .f32⟩
  | .hbm, ⟨70, _⟩ => ⟨S2048x8, .f32⟩
  | .hbm, ⟨71, _⟩ => ⟨S2048x8x1, .f32⟩
  | .hbm, ⟨72, _⟩ => ⟨S2048x8x16, .f32⟩
  | .hbm, ⟨73, _⟩ => ⟨S2048x8x16, .f32⟩
  | .hbm, ⟨74, _⟩ => ⟨S2048x8x16, .f32⟩
  | .hbm, ⟨75, _⟩ => ⟨S_, .f32⟩
  | .hbm, ⟨76, _⟩ => ⟨S2048x8, .f32⟩
  | .hbm, ⟨77, _⟩ => ⟨S2048x8x1, .f32⟩
  | .hbm, ⟨78, _⟩ => ⟨S2048x8x16, .f32⟩
  | .hbm, ⟨79, _⟩ => ⟨S2048x8x16, .f32⟩
  | .hbm, ⟨80, _⟩ => ⟨S1x2048x128, .i32⟩
  | .hbm, ⟨81, _⟩ => ⟨S1x2048x128, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_v16 : Ref sig .tc := ⟨.hbm, 24, rfl⟩
abbrev main_values_0 : Ref sig .tc := ⟨.hbm, 25, rfl⟩
abbrev main_indices_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_values_2 : Ref sig .tc := ⟨.hbm, 42, rfl⟩
abbrev main_indices_3 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_c_4 : Ref sig .tc := ⟨.hbm, 63, rfl⟩
abbrev main_call0_v14 : Ref sig .tc := ⟨.hbm, 64, rfl⟩
abbrev main_v31 : Ref sig .tc := ⟨.hbm, 65, rfl⟩
abbrev main_cst_4 : Ref sig .tc := ⟨.hbm, 66, rfl⟩
abbrev main_v32 : Ref sig .tc := ⟨.hbm, 67, rfl⟩
abbrev main_cst_5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩

abbrev nD : Nat := 1
abbrev τ : Topo := Topo.v7x

variable {F : FTy → Type} [FloatOps F]
-- ==== Merge.lean ====
abbrev S8x4096x1024 : Shape := ⟨3, ![8, 4096, 1024]⟩
abbrev S1x1024 : Shape := ⟨2, ![1, 1024]⟩
abbrev S1x2048x512 : Shape := ⟨3, ![1, 2048, 512]⟩
abbrev S1x2048x1024 : Shape := ⟨3, ![1, 2048, 1024]⟩
abbrev S1024x5316 : Shape := ⟨2, ![1024, 5316]⟩
abbrev S512x1024 : Shape := ⟨2, ![512, 1024]⟩
abbrev S1024x1024 : Shape := ⟨2, ![1024, 1024]⟩
abbrev S1024 : Shape := ⟨1, ![1024]⟩
abbrev S1024x1792 : Shape := ⟨2, ![1024, 1792]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x2048 : Shape := ⟨2, ![1024, 2048]⟩
abbrev S1x1x1024 : Shape := ⟨3, ![1, 1, 1024]⟩
abbrev S1x256x1024 : Shape := ⟨3, ![1, 256, 1024]⟩
abbrev S1x256x512 : Shape := ⟨3, ![1, 256, 512]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x2048x512, .bf16⟩
  | .hbm, ⟨5, _⟩ => ⟨S1x2048x1024, .bf16⟩
  | .hbm, ⟨6, _⟩ => ⟨S1024x5316, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1792, .f32⟩
  | .hbm, ⟨13, _⟩ => ⟨S1024x1024, .f32⟩
  | .hbm, ⟨14, _⟩ => ⟨S1024x128, .f32⟩
  | .hbm, ⟨15, _⟩ => ⟨S1024x256, .f32⟩
  | .hbm, ⟨16, _⟩ => ⟨S1024x64, .f32⟩
  | .hbm, ⟨17, _⟩ => ⟨S1024x4, .f32⟩
  | .hbm, ⟨18, _⟩ => ⟨S1024x1024, .f32⟩
  | .hbm, ⟨19, _⟩ => ⟨S1024x1024, .f32⟩
  | .hbm, ⟨20, _⟩ => ⟨S1024x2048, .f32⟩
  | .hbm, ⟨21, _⟩ => ⟨S1024x2048, .bf16⟩
  | .hbm, ⟨22, _⟩ => ⟨S512x1024, .bf16⟩
  | .hbm, ⟨23, _⟩ => ⟨S1024x1024, .bf16⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x256x512, .bf16⟩
  | .local _ .vmem, ⟨6, _⟩ => ⟨S1x256x512, .bf16⟩
  | .local _ .vmem, ⟨7, _⟩ => ⟨S1x256x1024, .bf16⟩
  | .local _ .vmem, ⟨8, _⟩ => ⟨S1x256x1024, .bf16⟩
  | .local _ .vmem, ⟨9, _⟩ => ⟨S1024x2048, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c8_i32 : BitVec 32 := 8#32
  let v1 : BitVec 32 := Scalar.addi arg1 c8_i32
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8x4096x1024 : Shape := ⟨3, ![8, 4096, 1024]⟩
abbrev S1x1024 : Shape := ⟨2, ![1, 1024]⟩
abbrev S1x2048x512 : Shape := ⟨3, ![1, 2048, 512]⟩
abbrev S1x2048x1024 : Shape := ⟨3, ![1, 2048, 1024]⟩
abbrev S1024x5316 : Shape := ⟨2, ![1024, 5316]⟩
abbrev S512x1024 : Shape := ⟨2, ![512, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S1x2048x5316 : Shape := ⟨3, ![1, 2048, 5316]⟩
abbrev S1x2048x1792 : Shape := ⟨3, ![1, 2048, 1792]⟩
abbrev S1x2048x128 : Shape := ⟨3, ![1, 2048, 128]⟩
abbrev S1x2048x256 : Shape := ⟨3, ![1, 2048, 256]⟩
abbrev S1x2048x64 : Shape := ⟨3, ![1, 2048, 64]⟩
abbrev S1x2048x4 : Shape := ⟨3, ![1, 2048, 4]⟩
abbrev S1x2048 : Shape := ⟨2, ![1, 2048]⟩
abbrev S1x2048x1 : Shape := ⟨3, ![1, 2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x2048x512, .bf16⟩
  | .hbm, ⟨5, _⟩ => ⟨S1x2048x1024, .bf16⟩
  | .hbm, ⟨6, _⟩ => ⟨S1024x5316, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1x2048x1024, .f32⟩
  | .hbm, ⟨13, _⟩ => ⟨S1x1x1024, .f32⟩
  | .hbm, ⟨14, _⟩ => ⟨S_, .f32⟩
  | .hbm, ⟨15, _⟩ => ⟨S1x1x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x1x1024, .f32⟩
  | .hbm, ⟨20, _⟩ => ⟨S1x2048x1024, .f32⟩
  | .hbm, ⟨21, _⟩ => ⟨S1x2048x1024, .f32⟩
  | .hbm, ⟨22, _⟩ => ⟨S1x2048x5316, .f32⟩
  | .hbm, ⟨23, _⟩ => ⟨S1x2048x1792, .f32⟩
  | .hbm, ⟨24, _⟩ => ⟨S1x2048x1024, .f32⟩
  | .hbm, ⟨25, _⟩ => ⟨S1x2048x128, .f32⟩
  | .hbm, ⟨26, _⟩ => ⟨S1x2048x256, .f32⟩
  | .hbm, ⟨27, _⟩ => ⟨S1x2048x64, .f32⟩
  | .hbm, ⟨28, _⟩ => ⟨S1x2048x4, .f32⟩
  | .hbm, ⟨29, _⟩ => ⟨S1x2048x1024, .f32⟩
  | .hbm, ⟨30, _⟩ => ⟨S1x2048x1024, .f32⟩
  | .hbm, ⟨31, _⟩ => ⟨S1x2048x512, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x2048x1024, .f32⟩
  | .hbm, ⟨48, _⟩ => ⟨S1x2048x1024, .f32⟩
  | .hbm, ⟨49, _⟩ => ⟨S_, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S_, .f32⟩
  | .hbm, ⟨55, _⟩ => ⟨S1x2048x1024, .f32⟩
  | .hbm, ⟨56, _⟩ => ⟨S1x2048x1024, .f32⟩
  | .hbm, ⟨57, _⟩ => ⟨S1x1x1024, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S1x2048x1024, .f32⟩
  | .hbm, ⟨62, _⟩ => ⟨S_, .f32⟩
  | .hbm, ⟨63, _⟩ => ⟨S1x2048, .f32⟩
  | .hbm, ⟨64, _⟩ => ⟨S1x2048x1, .f32⟩
  | .hbm, ⟨65, _⟩ => ⟨S_, .f32⟩
  | .hbm, ⟨66, _⟩ => ⟨S1x2048x1, .f32⟩
  | .hbm, ⟨67, _⟩ => ⟨S1x2048x1, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S_, .f32⟩
  | .hbm, ⟨72, _⟩ => ⟨S1x2048, .f32⟩
  | .hbm, ⟨73, _⟩ => ⟨S1x2048x1, .f32⟩
  | .hbm, ⟨74, _⟩ => ⟨S_, .f32⟩
  | .hbm, ⟨75, _⟩ => ⟨S1x2048x1, .f32⟩
  | .hbm, ⟨76, _⟩ => ⟨S1x2048x1, .f32⟩
  | .hbm, ⟨77, _⟩ => ⟨S1x2048x1024, .f32⟩
  | .hbm, ⟨78, _⟩ => ⟨S1x2048x1024, .f32⟩
  | .hbm, ⟨79, _⟩ => ⟨S_, .f32⟩
  | .hbm, ⟨80, _⟩ => ⟨S1x2048x1, .f32⟩
  | .hbm, ⟨81, _⟩ => ⟨S1x2048x1, .f32⟩
  | .hbm, ⟨82, _⟩ => ⟨S1x2048x1, .f32⟩
  | .hbm, ⟨83, _⟩ => ⟨S1x2048x1024, .f32⟩
  | .hbm, ⟨84, _⟩ => ⟨S1x2048x1024, .f32⟩
  | .hbm, ⟨85, _⟩ => ⟨S1x1x1024, .f32⟩
  | .hbm, ⟨86, _⟩ => ⟨S1x2048x1024, .f32⟩
  | .hbm, ⟨87, _⟩ => ⟨S1x2048x1024, .f32⟩
  | .hbm, ⟨88, _⟩ => ⟨S1x1x1024, .f32⟩
  | .hbm, ⟨89, _⟩ => ⟨S1x2048x1024, .f32⟩
  | .hbm, ⟨90, _⟩ => ⟨S1x2048x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1024x5316 : Shape := ⟨2, ![1024, 5316]⟩
abbrev S1024x1792 : Shape := ⟨2, ![1024, 1792]⟩
abbrev S1024x1024 : Shape := ⟨2, ![1024, 1024]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x60 : Shape := ⟨2, ![1024, 60]⟩
abbrev S1024x512 : Shape := ⟨2, ![1024, 512]⟩
abbrev S1x1x1024 : Shape := ⟨3, ![1, 1, 1024]⟩
abbrev S1x2048x1792 : Shape := ⟨3, ![1, 2048, 1792]⟩
abbrev S1x2048x1024 : Shape := ⟨3, ![1, 2048, 1024]⟩
abbrev S1x2048x512 : Shape := ⟨3, ![1, 2048, 512]⟩
abbrev S1x256x1024 : Shape := ⟨3, ![1, 256, 1024]⟩
abbrev S1x256x1792 : Shape := ⟨3, ![1, 256, 1792]⟩
abbrev S1x256x512 : Shape := ⟨3, ![1, 256, 512]⟩
abbrev S256x1024 : Shape := ⟨2, ![256, 1024]⟩
abbrev S256x1792 : Shape := ⟨2, ![256, 1792]⟩
abbrev S256x512 : Shape := ⟨2, ![256, 512]⟩

abbrev nBuf : Space → Nat
  | .hbm => 23
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1024x5316, .f32⟩
  | .hbm, ⟨4, _⟩ => ⟨S1024x1792, .f32⟩
  | .hbm, ⟨5, _⟩ => ⟨S1024x1024, .f32⟩
  | .hbm, ⟨6, _⟩ => ⟨S1024x128, .f32⟩
  | .hbm, ⟨7, _⟩ => ⟨S1024x256, .f32⟩
  | .hbm, ⟨8, _⟩ => ⟨S1024x64, .f32⟩
  | .hbm, ⟨9, _⟩ => ⟨S1024x4, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x60, .f32⟩
  | .hbm, ⟨14, _⟩ => ⟨S1024x512, .f32⟩
  | .hbm, ⟨15, _⟩ => ⟨S1024x1792, .bf16⟩
  | .hbm, ⟨16, _⟩ => ⟨S1024x1024, .bf16⟩
  | .hbm, ⟨17, _⟩ => ⟨S1024x512, .bf16⟩
  | .hbm, ⟨18, _⟩ => ⟨S1x1x1024, .f32⟩
  | .hbm, ⟨19, _⟩ => ⟨S1x1x1024, .f32⟩
  | .hbm, ⟨20, _⟩ => ⟨S1x2048x1792, .f32⟩
  | .hbm, ⟨21, _⟩ => ⟨S1x2048x1024, .bf16⟩
  | .hbm, ⟨22, _⟩ => ⟨S1x2048x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1792, .bf16⟩
  | .local _ .vmem, ⟨5, _⟩ => ⟨S1024x1024, .bf16⟩
  | .local _ .vmem, ⟨6, _⟩ => ⟨S1024x512, .bf16⟩
  | .local _ .vmem, ⟨7, _⟩ => ⟨S1x256x1792, .f32⟩
  | .local _ .vmem, ⟨8, _⟩ => ⟨S1x256x1792, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x512, .f32⟩
  | .local _ .vmem, ⟨12, _⟩ => ⟨S1x256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c8_i32 : BitVec 32 := 8#32
  let v1 : BitVec 32 := Scalar.addi arg1 c8_i32
  let c0_i32 : BitVec 32 := 0#32
  let c0_i32_0 : BitVec 32 := 0#32
  ![v0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjRefIdeal.lean ====
abbrev S8x4096x1024 : Shape := ⟨3, ![8, 4096, 1024]⟩
abbrev S1x1024 : Shape := ⟨2, ![1, 1024]⟩
abbrev S1024x5316 : Shape := ⟨2, ![1024, 5316]⟩
abbrev S1x2048x1024 : Shape := ⟨3, ![1, 2048, 1024]⟩
abbrev S1x1x1024 : Shape := ⟨3, ![1, 1, 1024]⟩
abbrev S_ : Shape := ⟨0, ![]⟩
abbrev S1x2048x5316 : Shape := ⟨3, ![1, 2048, 5316]⟩
abbrev S1x2048x1792 : Shape := ⟨3, ![1, 2048, 1792]⟩
abbrev S1x2048x128 : Shape := ⟨3, ![1, 2048, 128]⟩
abbrev S1x2048x256 : Shape := ⟨3, ![1, 2048, 256]⟩
abbrev S1x2048x64 : Shape := ⟨3, ![1, 2048, 64]⟩
abbrev S1x2048x4 : Shape := ⟨3, ![1, 2048, 4]⟩
abbrev S1x2048x60 : Shape := ⟨3, ![1, 2048, 60]⟩
abbrev S1x2048x512 : Shape := ⟨3, ![1, 2048, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024, .f32⟩
  | .hbm, ⟨3, _⟩ => ⟨S1024x5316, .f32⟩
  | .hbm, ⟨4, _⟩ => ⟨S1x2048x1024, .f32⟩
  | .hbm, ⟨5, _⟩ => ⟨S1x1x1024, .f32⟩
  | .hbm, ⟨6, _⟩ => ⟨S_, .f32⟩
  | .hbm, ⟨7, _⟩ => ⟨S1x1x1024, .f32⟩
  | .hbm, ⟨8, _⟩ => ⟨S1x1x1024, .f32⟩
  | .hbm, ⟨9, _⟩ => ⟨S1x2048x1024, .f32⟩
  | .hbm, ⟨10, _⟩ => ⟨S1x2048x1024, .f32⟩
  | .hbm, ⟨11, _⟩ => ⟨S1x1x1024, .f32⟩
  | .hbm, ⟨12, _⟩ => ⟨S1x2048x1024, .f32⟩
  | .hbm, ⟨13, _⟩ => ⟨S1x2048x1024, .f32⟩
  | .hbm, ⟨14, _⟩ => ⟨S1x2048x5316, .f32⟩
  | .hbm, ⟨15, _⟩ => ⟨S1x2048x1792, .f32⟩
  | .hbm, ⟨16, _⟩ => ⟨S1x2048x1024, .f32⟩
  | .hbm, ⟨17, _⟩ => ⟨S1x2048x128, .f32⟩
  | .hbm, ⟨18, _⟩ => ⟨S1x2048x256, .f32⟩
  | .hbm, ⟨19, _⟩ => ⟨S1x2048x64, .f32⟩
  | .hbm, ⟨20, _⟩ => ⟨S1x2048x4, .f32⟩
  | .hbm, ⟨21, _⟩ => ⟨S1x2048x1024, .f32⟩
  | .hbm, ⟨22, _⟩ => ⟨S1x2048x1024, .f32⟩
  | .hbm, ⟨23, _⟩ => ⟨S_, .f32⟩
  | .hbm, ⟨24, _⟩ => ⟨S1x2048x60, .f32⟩
  | .hbm, ⟨25, _⟩ => ⟨S1x2048x1024, .bf16⟩
  | .hbm, ⟨26, _⟩ => ⟨S1x2048x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Final.lean ====
abbrev S1x2048x1024 : Shape := ⟨3, ![1, 2048, 1024]⟩
abbrev S1x1024 : Shape := ⟨2, ![1, 1024]⟩
abbrev S1024 : Shape := ⟨1, ![1024]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x2048x1024, .f32⟩
  | .hbm, ⟨3, _⟩ => ⟨S1024, .f32⟩
  | .hbm, ⟨4, _⟩ => ⟨S1024, .f32⟩
  | .hbm, ⟨5, _⟩ => ⟨S1x1x1024, .f32⟩
  | .hbm, ⟨6, _⟩ => ⟨S1x1024, .f32⟩
  | .hbm, ⟨7, _⟩ => ⟨S1x1024, .f32⟩
  | .hbm, ⟨8, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalRefIdeal.lean ====
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S1x1x1024 : Shape := ⟨3, ![1, 1, 1024]⟩
abbrev S1x2048 : Shape := ⟨2, ![1, 2048]⟩
abbrev S1x2048x1 : Shape := ⟨3, ![1, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1x2048x1024, .f32⟩
  | .hbm, ⟨7, _⟩ => ⟨S1x2048x1024, .f32⟩
  | .hbm, ⟨8, _⟩ => ⟨S1x1x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S_, .f32⟩
  | .hbm, ⟨13, _⟩ => ⟨S1x2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S_, .f32⟩
  | .hbm, ⟨22, _⟩ => ⟨S1x2048, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S1x2048x1024, .f32⟩
  | .hbm, ⟨28, _⟩ => ⟨S1x2048x1024, .f32⟩
  | .hbm, ⟨29, _⟩ => ⟨S_, .f32⟩
  | .hbm, ⟨30, _⟩ => ⟨S1x2048x1, .f32⟩
  | .hbm, ⟨31, _⟩ => ⟨S1x2048x1, .f32⟩
  | .hbm, ⟨32, _⟩ => ⟨S1x2048x1, .f32⟩
  | .hbm, ⟨33, _⟩ => ⟨S1x2048x1024, .f32⟩
  | .hbm, ⟨34, _⟩ => ⟨S1x2048x1024, .f32⟩
  | .hbm, ⟨35, _⟩ => ⟨S1x1x1024, .f32⟩
  | .hbm, ⟨36, _⟩ => ⟨S1x2048x1024, .f32⟩
  | .hbm, ⟨37, _⟩ => ⟨S1x2048x1024, .f32⟩
  | .hbm, ⟨38, _⟩ => ⟨S1x1x1024, .f32⟩
  | .hbm, ⟨39, _⟩ => ⟨S1x2048x1024, .f32⟩
  | .hbm, ⟨40, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Prep.lean ====
abbrev S1x2048x512 : Shape := ⟨3, ![1, 2048, 512]⟩
abbrev S128 : Shape := ⟨1, ![128]⟩
abbrev S64 : Shape := ⟨1, ![64]⟩
abbrev S1x128 : Shape := ⟨2, ![1, 128]⟩
abbrev S1x64 : Shape := ⟨2, ![1, 64]⟩
abbrev S1x2048x256 : Shape := ⟨3, ![1, 2048, 256]⟩
abbrev S1x2048x128 : Shape := ⟨3, ![1, 2048, 128]⟩
abbrev S1x2048x64 : Shape := ⟨3, ![1, 2048, 64]⟩
abbrev S1x512x512 : Shape := ⟨3, ![1, 512, 512]⟩
abbrev S1x512x256 : Shape := ⟨3, ![1, 512, 256]⟩
abbrev S1x512x128 : Shape := ⟨3, ![1, 512, 128]⟩
abbrev S1x512x64 : Shape := ⟨3, ![1, 512, 64]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x64 : Shape := ⟨2, ![512, 64]⟩

abbrev nBuf : Space → Nat
  | .hbm => 10
  | .vmem => 11
  | .smem => 0
  | _ => 0

abbrev bufTy : (tb : Table) → Fin (tcTables nBuf tb) → BufTy
  | .hbm, ⟨0, _⟩ => ⟨S1x2048x512, .f32⟩
  | .hbm, ⟨1, _⟩ => ⟨S128, .f32⟩
  | .hbm, ⟨2, _⟩ => ⟨S64, .f32⟩
  | .hbm, ⟨3, _⟩ => ⟨S64, .f32⟩
  | .hbm, ⟨4, _⟩ => ⟨S1x128, .f32⟩
  | .hbm, ⟨5, _⟩ => ⟨S1x64, .f32⟩
  | .hbm, ⟨6, _⟩ => ⟨S1x64, .f32⟩
  | .hbm, ⟨7, _⟩ => ⟨S1x2048x256, .bf16⟩
  | .hbm, ⟨8, _⟩ => ⟨S1x2048x128, .bf16⟩
  | .hbm, ⟨9, _⟩ => ⟨S1x2048x64, .bf16⟩
  | .local _ .vmem, ⟨0, _⟩ => ⟨S1x512x512, .f32⟩
  | .local _ .vmem, ⟨1, _⟩ => ⟨S1x512x512, .f32⟩
  | .local _ .vmem, ⟨2, _⟩ => ⟨S1x128, .f32⟩
  | .local _ .vmem, ⟨3, _⟩ => ⟨S1x64, .f32⟩
  | .local _ .vmem, ⟨4, _⟩ => ⟨S1x64, .f32⟩
  | .local _ .vmem, ⟨5, _⟩ => ⟨S1x512x256, .bf16⟩
  | .local _ .vmem, ⟨6, _⟩ => ⟨S1x512x256, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x64, .bf16⟩
  | .local _ .vmem, ⟨10, _⟩ => ⟨S1x512x64, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PrepRefIdeal.lean ====
abbrev S1x2048x512 : Shape := ⟨3, ![1, 2048, 512]⟩
abbrev S128 : Shape := ⟨1, ![128]⟩
abbrev S64 : Shape := ⟨1, ![64]⟩
abbrev S1x2048x256 : Shape := ⟨3, ![1, 2048, 256]⟩
abbrev S1x2048x128 : Shape := ⟨3, ![1, 2048, 128]⟩
abbrev S1x2048x64 : Shape := ⟨3, ![1, 2048, 64]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x1x64 : Shape := ⟨3, ![1, 1, 64]⟩

abbrev nBuf : Space → Nat
  | .hbm => 56
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S128, .f32⟩
  | .hbm, ⟨2, _⟩ => ⟨S64, .f32⟩
  | .hbm, ⟨3, _⟩ => ⟨S64, .f32⟩
  | .hbm, ⟨4, _⟩ => ⟨S1x2048x256, .f32⟩
  | .hbm, ⟨5, _⟩ => ⟨S1x2048x128, .f32⟩
  | .hbm, ⟨6, _⟩ => ⟨S1x2048x64, .f32⟩
  | .hbm, ⟨7, _⟩ => ⟨S1x2048x64, .f32⟩
  | .hbm, ⟨8, _⟩ => ⟨S1x2048x256, .bf16⟩
  | .hbm, ⟨9, _⟩ => ⟨S1x2048x128, .f32⟩
  | .hbm, ⟨10, _⟩ => ⟨S_, .f32⟩
  | .hbm, ⟨11, _⟩ => ⟨S1x2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S1x2048x128, .f32⟩
  | .hbm, ⟨21, _⟩ => ⟨S1x2048x128, .f32⟩
  | .hbm, ⟨22, _⟩ => ⟨S1x1x128, .f32⟩
  | .hbm, ⟨23, _⟩ => ⟨S1x2048x128, .f32⟩
  | .hbm, ⟨24, _⟩ => ⟨S1x2048x128, .f32⟩
  | .hbm, ⟨25, _⟩ => ⟨S1x2048x128, .bf16⟩
  | .hbm, ⟨26, _⟩ => ⟨S_, .f32⟩
  | .hbm, ⟨27, _⟩ => ⟨S1x2048, .f32⟩
  | .hbm, ⟨28, _⟩ => ⟨S1x2048x1, .f32⟩
  | .hbm, ⟨29, _⟩ => ⟨S_, .f32⟩
  | .hbm, ⟨30, _⟩ => ⟨S1x2048x1, .f32⟩
  | .hbm, ⟨31, _⟩ => ⟨S1x2048x1, .f32⟩
  | .hbm, ⟨32, _⟩ => ⟨S1x2048x64, .f32⟩
  | .hbm, ⟨33, _⟩ => ⟨S1x2048x64, .f32⟩
  | .hbm, ⟨34, _⟩ => ⟨S1x2048x64, .f32⟩
  | .hbm, ⟨35, _⟩ => ⟨S_, .f32⟩
  | .hbm, ⟨36, _⟩ => ⟨S1x2048, .f32⟩
  | .hbm, ⟨37, _⟩ => ⟨S1x2048x1, .f32⟩
  | .hbm, ⟨38, _⟩ => ⟨S_, .f32⟩
  | .hbm, ⟨39, _⟩ => ⟨S1x2048x1, .f32⟩
  | .hbm, ⟨40, _⟩ => ⟨S1x2048x1, .f32⟩
  | .hbm, ⟨41, _⟩ => ⟨S1x2048x64, .f32⟩
  | .hbm, ⟨42, _⟩ => ⟨S1x2048x64, .f32⟩
  | .hbm, ⟨43, _⟩ => ⟨S_, .f32⟩
  | .hbm, ⟨44, _⟩ => ⟨S1x2048x1, .f32⟩
  | .hbm, ⟨45, _⟩ => ⟨S1x2048x1, .f32⟩
  | .hbm, ⟨46, _⟩ => ⟨S1x2048x1, .f32⟩
  | .hbm, ⟨47, _⟩ => ⟨S1x2048x64, .f32⟩
  | .hbm, ⟨48, _⟩ => ⟨S1x2048x64, .f32⟩
  | .hbm, ⟨49, _⟩ => ⟨S1x1x64, .f32⟩
  | .hbm, ⟨50, _⟩ => ⟨S1x2048x64, .f32⟩
  | .hbm, ⟨51, _⟩ => ⟨S1x2048x64, .f32⟩
  | .hbm, ⟨52, _⟩ => ⟨S1x1x64, .f32⟩
  | .hbm, ⟨53, _⟩ => ⟨S1x2048x64, .f32⟩
  | .hbm, ⟨54, _⟩ => ⟨S1x2048x64, .f32⟩
  | .hbm, ⟨55, _⟩ => ⟨S1x2048x64, .bf16⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Act.lean ====
abbrev S2048x128 : Shape := ⟨2, ![2048, 128]⟩
abbrev S1x2048x128 : Shape := ⟨3, ![1, 2048, 128]⟩

abbrev nBuf : Space → Nat
  | .hbm => 4
  | .vmem => 3
  | .smem => 0
  | _ => 0

abbrev bufTy : (tb : Table) → Fin (tcTables nBuf tb) → BufTy
  | .hbm, ⟨0, _⟩ => ⟨S2048x128, .f32⟩
  | .hbm, ⟨1, _⟩ => ⟨S1x2048x128, .f32⟩
  | .hbm, ⟨2, _⟩ => ⟨S2048x128, .f32⟩
  | .hbm, ⟨3, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ActRefIdeal.lean ====
abbrev S2048x128 : Shape := ⟨2, ![2048, 128]⟩
abbrev S1x2048x128 : Shape := ⟨3, ![1, 2048, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1x2048x128, .f32⟩
  | .hbm, ⟨2, _⟩ => ⟨S_, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Mix.lean ====
abbrev S1x2048x1792 : Shape := ⟨3, ![1, 2048, 1792]⟩
abbrev S1x8x64x64 : Shape := ⟨4, ![1, 8, 64, 64]⟩
abbrev S1x1x1792 : Shape := ⟨3, ![1, 1, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1792 : Shape := ⟨2, ![1, 1792]⟩
abbrev S1x2048x512 : Shape := ⟨3, ![1, 2048, 512]⟩
abbrev S1x64x1792 : Shape := ⟨3, ![1, 64, 1792]⟩
abbrev S1x64x512 : Shape := ⟨3, ![1, 64, 512]⟩
abbrev S8x64x64 : Shape := ⟨3, ![8, 64, 64]⟩
abbrev S64x1792 : Shape := ⟨2, ![64, 1792]⟩
abbrev S64x64 : Shape := ⟨2, ![64, 64]⟩
abbrev S64x128 : Shape := ⟨2, ![64, 128]⟩
abbrev S1x64x64 : Shape := ⟨3, ![1, 64, 64]⟩
abbrev S8x128x64 : Shape := ⟨3, ![8, 128, 64]⟩
abbrev S8x128x128 : Shape := ⟨3, ![8, 128, 128]⟩
abbrev S8x64x128 : Shape := ⟨3, ![8, 64, 128]⟩
abbrev S1x64 : Shape := ⟨2, ![1, 64]⟩
abbrev S1x1x64 : Shape := ⟨3, ![1, 1, 64]⟩
abbrev S8x1x64 : Shape := ⟨3, ![8, 1, 64]⟩

abbrev nBuf : Space → Nat
  | .hbm => 50
  | .vmem => 23
  | .smem => 0
  | _ => 0

abbrev bufTy : (tb : Table) → Fin (tcTables nBuf tb) → BufTy
  | .hbm, ⟨0, _⟩ => ⟨S1x2048x1792, .f32⟩
  | .hbm, ⟨1, _⟩ => ⟨S1x8x64x64, .f32⟩
  | .hbm, ⟨2, _⟩ => ⟨S1x1x1792, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S512, .f32⟩
  | .hbm, ⟨10, _⟩ => ⟨S512, .f32⟩
  | .hbm, ⟨11, _⟩ => ⟨S8x64, .f32⟩
  | .hbm, ⟨12, _⟩ => ⟨S512, .f32⟩
  | .hbm, ⟨13, _⟩ => ⟨S512, .f32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S1x512, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S512x512, .f32⟩
  | .hbm, ⟨39, _⟩ => ⟨S1x1792, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x2048x512, .bf16⟩
  | .hbm, ⟨48, _⟩ => ⟨S1x8x64x64, .f32⟩
  | .hbm, ⟨49, _⟩ => ⟨S1x1x1792, .f32⟩
  | .local _ .vmem, ⟨0, _⟩ => ⟨S1x64x1792, .f32⟩
  | .local _ .vmem, ⟨1, _⟩ => ⟨S1x64x1792, .f32⟩
  | .local _ .vmem, ⟨2, _⟩ => ⟨S1x8x64x64, .f32⟩
  | .local _ .vmem, ⟨3, _⟩ => ⟨S1x1x1792, .f32⟩
  | .local _ .vmem, ⟨4, _⟩ => ⟨S1x1792, .f32⟩
  | .local _ .vmem, ⟨5, _⟩ => ⟨S1x512, .f32⟩
  | .local _ .vmem, ⟨6, _⟩ => ⟨S64x512, .f32⟩
  | .local _ .vmem, ⟨7, _⟩ => ⟨S1x512, .f32⟩
  | .local _ .vmem, ⟨8, _⟩ => ⟨S64x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S1x64x512, .bf16⟩
  | .local _ .vmem, ⟨17, _⟩ => ⟨S1x64x512, .bf16⟩
  | .local _ .vmem, ⟨18, _⟩ => ⟨S1x8x64x64, .f32⟩
  | .local _ .vmem, ⟨19, _⟩ => ⟨S1x1x1792, .f32⟩
  | .local _ .vmem, ⟨20, _⟩ => ⟨S8x64x64, .f32⟩
  | .local _ .vmem, ⟨21, _⟩ => ⟨S1x1792, .f32⟩
  | .local _ .vmem, ⟨22, _⟩ => ⟨S64x512, .f32⟩
  | _, _ => ⟨S1x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16_0 : Ref sig .tc := ⟨.hbm, 47, rfl⟩
abbrev main_v16_1 : Ref sig .tc := ⟨.hbm, 48, rfl⟩
abbrev main_v16_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg17_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem17_0 : DmaSem sig := 19

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v862 : BitVec 1 := Scalar.cmpi .eq arg1 c31_i32
  let v863 : BitVec 32 := Scalar.extui v862
  let c0_i32_192 : BitVec 32 := 0#32
  let v864 : BitVec 1 := Scalar.cmpi .ne v863 c0_i32_192
  v864

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x8x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S1x1x1792 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]
-- ==== MixRefIdeal.lean ====
abbrev S1x2048x1792 : Shape := ⟨3, ![1, 2048, 1792]⟩
abbrev S1x8x64x64 : Shape := ⟨4, ![1, 8, 64, 64]⟩
abbrev S1x1x1792 : Shape := ⟨3, ![1, 1, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S1x2047x1792 : Shape := ⟨3, ![1, 2047, 1792]⟩
abbrev S1x2048x512 : Shape := ⟨3, ![1, 2048, 512]⟩
abbrev S1x2048x64 : Shape := ⟨3, ![1, 2048, 64]⟩
abbrev S1x2048x128 : Shape := ⟨3, ![1, 2048, 128]⟩
abbrev S1x1x512 : Shape := ⟨3, ![1, 1, 512]⟩
abbrev S_ : Shape := ⟨0, ![]⟩
abbrev S1x2048x8x64 : Shape := ⟨4, ![1, 2048, 8, 64]⟩
abbrev S1x2048x8 : Shape := ⟨3, ![1, 2048, 8]⟩
abbrev S1x2048x8x1 : Shape := ⟨4, ![1, 2048, 8, 1]⟩
abbrev S2048x1x8x64 : Shape := ⟨4, ![2048, 1, 8, 64]⟩
abbrev S2048x1x512 : Shape := ⟨3, ![2048, 1, 512]⟩
abbrev S1x1x8x64 : Shape := ⟨4, ![1, 1, 8, 64]⟩
abbrev S1x8x64 : Shape := ⟨3, ![1, 8, 64]⟩
abbrev S1x512 : Shape := ⟨2, ![1, 512]⟩
abbrev S1x8x1x64 : Shape := ⟨4, ![1, 8, 1, 64]⟩
abbrev S1x8x64x1 : Shape := ⟨4, ![1, 8, 64, 1]⟩
abbrev S1x8 : Shape := ⟨2, ![1, 8]⟩
abbrev S1x8x1 : Shape := ⟨3, ![1, 8, 1]⟩

abbrev nBuf : Space → Nat
  | .hbm => 232
  | .vmem => 0
  | .smem => 0
  | _ => 0

abbrev hbmTy0_0 (i : Nat) : BufTy := match i % 128 with
  | 0 => ⟨S1x2048x1792, .f32⟩
  | 1 => ⟨S1x8x64x64, .f32⟩
  | 2 => ⟨S1x1x1792, .f32⟩
  | 3 => ⟨S1792, .f32⟩
  | 4 => ⟨S512, .f32⟩
  | 5 => ⟨S64x512, .f32⟩
  | 6 => ⟨S512, .f32⟩
  | 7 => ⟨S64x512, .f32⟩
  | 8 => ⟨S128x512, .f32⟩
  | 9 => ⟨S512, .f32⟩
  | 10 => ⟨S512, .f32⟩
  | 11 => ⟨S8x64, .f32⟩
  | 12 => ⟨S512, .f32⟩
  | 13 => ⟨S512, .f32⟩
  | 14 => ⟨S1x2047x1792, .f32⟩
  | 15 => ⟨S1x2048x1792, .f32⟩
  | 16 => ⟨S1x2048x1792, .f32⟩
  | 17 => ⟨S1x1x1792, .f32⟩
  | 18 => ⟨S1x2048x1792, .f32⟩
  | 19 => ⟨S1x2048x1792, .f32⟩
  | 20 => ⟨S1x2048x1792, .f32⟩
  | 21 => ⟨S1x2048x512, .f32⟩
  | 22 => ⟨S1x2048x512, .f32⟩
  | 23 => ⟨S1x2048x512, .f32⟩
  | 24 => ⟨S1x2048x64, .f32⟩
  | 25 => ⟨S1x2048x64, .f32⟩
  | 26 => ⟨S1x2048x128, .f32⟩
  | 27 => ⟨S1x2048x64, .f32⟩
  | 28 => ⟨S1x2048x512, .f32⟩
  | 29 => ⟨S1x1x512, .f32⟩
  | 30 => ⟨S1x2048x512, .f32⟩
  | 31 => ⟨S1x2048x512, .f32⟩
  | 32 => ⟨S1x2048x512, .f32⟩
  | 33 => ⟨S_, .f32⟩
  | 34 => ⟨S1x2048x512, .f32⟩
  | 35 => ⟨S1x2048x512, .f32⟩
  | 36 => ⟨S1x2048x512, .f32⟩
  | 37 => ⟨S1x2048x512, .f32⟩
  | 38 => ⟨S1x2048x512, .i1⟩
  | 39 => ⟨S1x2048x512, .f32⟩
  | 40 => ⟨S1x2048x512, .f32⟩
  | 41 => ⟨S1x2048x512, .f32⟩
  | 42 => ⟨S1x2048x512, .f32⟩
  | 43 => ⟨S1x2048x512, .f32⟩
  | 44 => ⟨S1x2048x512, .f32⟩
  | 45 => ⟨S1x2048x512, .f32⟩
  | 46 => ⟨S1x2048x512, .f32⟩
  | 47 => ⟨S1x2048x512, .f32⟩
  | 48 => ⟨S_, .f32⟩
  | 49 => ⟨S1x2048x512, .f32⟩
  | 50 => ⟨S1x2048x512, .f32⟩
  | 51 => ⟨S1x2048x512, .f32⟩
  | 52 => ⟨S1x2048x512, .f32⟩
  | 53 => ⟨S1x2048x512, .f32⟩
  | 54 => ⟨S1x2048x512, .f32⟩
  | 55 => ⟨S1x1x512, .f32⟩
  | 56 => ⟨S1x2048x512, .f32⟩
  | 57 => ⟨S1x2048x512, .f32⟩
  | 58 => ⟨S1x2048x512, .f32⟩
  | 59 => ⟨S1x2048x512, .f32⟩
  | 60 => ⟨S_, .f32⟩
  | 61 => ⟨S1x2048x512, .f32⟩
  | 62 => ⟨S1x2048x512, .f32⟩
  | 63 => ⟨S_, .f32⟩
  | 64 => ⟨S1x2048x512, .f32⟩
  | 65 => ⟨S1x2048x512, .f32⟩
  | 66 => ⟨S1x2048x128, .f32⟩
  | 67 => ⟨S1x2048x128, .f32⟩
  | 68 => ⟨S_, .f32⟩
  | 69 => ⟨S1x2048x128, .f32⟩
  | 70 => ⟨S1x2048x128, .f32⟩
  | 71 => ⟨S_, .f32⟩
  | 72 => ⟨S1x2048x128, .f32⟩
  | 73 => ⟨S1x2048x128, .f32⟩
  | 74 => ⟨S1x2048x512, .f32⟩
  | 75 => ⟨S1x1x512, .f32⟩
  | 76 => ⟨S1x2048x512, .f32⟩
  | 77 => ⟨S1x2048x512, .f32⟩
  | 78 => ⟨S1x2048x8x64, .f32⟩
  | 79 => ⟨S1x2048x8x64, .f32⟩
  | 80 => ⟨S_, .f32⟩
  | 81 => ⟨S1x2048x8, .f32⟩
  | 82 => ⟨S1x2048x8x1, .f32⟩
  | 83 => ⟨S_, .f32⟩
  | 84 => ⟨S1x2048x8x1, .f32⟩
  | 85 => ⟨S1x2048x8x1, .f32⟩
  | 86 => ⟨S1x2048x8x1, .f32⟩
  | 87 => ⟨S1x2048x8x64, .f32⟩
  | 88 => ⟨S1x2048x8x64, .f32⟩
  | 89 => ⟨S_, .f32⟩
  | 90 => ⟨S1x2048x512, .f32⟩
  | 91 => ⟨S1x2048x512, .f32⟩
  | 92 => ⟨S1x1x512, .f32⟩
  | 93 => ⟨S1x2048x512, .f32⟩
  | 94 => ⟨S1x2048x512, .f32⟩
  | 95 => ⟨S_, .f32⟩
  | 96 => ⟨S1x2048x512, .f32⟩
  | 97 => ⟨S1x2048x512, .f32⟩
  | 98 => ⟨S1x2048x512, .f32⟩
  | 99 => ⟨S1x2048x8x64, .f32⟩
  | 100 => ⟨S1x2048x8x64, .f32⟩
  | 101 => ⟨S1x2048x8x64, .f32⟩
  | 102 => ⟨S1x2048x8x64, .f32⟩
  | 103 => ⟨S1x2048x8x64, .f32⟩
  | 104 => ⟨S1x2048x8x64, .f32⟩
  | 105 => ⟨S1x2048x8x64, .f32⟩
  | 106 => ⟨S2048x1x8x64, .f32⟩
  | 107 => ⟨S2048x1x8x64, .f32⟩
  | 108 => ⟨S2048x1x8x64, .f32⟩
  | 109 => ⟨S2048x1x8x64, .f32⟩
  | 110 => ⟨S2048x1x8x64, .f32⟩
  | 111 => ⟨S2048x1x8x64, .f32⟩
  | 112 => ⟨S2048x1x512, .f32⟩
  | 113 => ⟨S1x8x64x64, .f32⟩
  | 114 => ⟨S_, .f32⟩
  | 115 => ⟨S2048x1x512, .f32⟩
  | 116 => ⟨S_, .i32⟩
  | 117 => ⟨S2048x1x8x64, .f32⟩
  | 118 => ⟨S2048x1x8x64, .f32⟩
  | 119 => ⟨S2048x1x8x64, .f32⟩
  | 120 => ⟨S2048x1x8x64, .f32⟩
  | 121 => ⟨S2048x1x8x64, .f32⟩
  | 122 => ⟨S2048x1x8x64, .f32⟩
  | 123 => ⟨S2048x1x512, .f32⟩
  | 124 => ⟨S512, .f32⟩
  | 125 => ⟨S512, .f32⟩
  | 126 => ⟨S8x64, .f32⟩
  | 127 => ⟨S_, .i32⟩
  | _ => ⟨S1x2048x1792, .f32⟩

abbrev hbmTy0_1 (i : Nat) : BufTy := match i % 128 with
  | 0 => ⟨S1x8x64x64, .f32⟩
  | 1 => ⟨S2048x1x512, .f32⟩
  | 2 => ⟨S_, .i32⟩
  | 3 => ⟨S_, .i1⟩
  | 4 => ⟨S_, .i32⟩
  | 5 => ⟨S_, .i32⟩
  | 6 => ⟨S_, .i32⟩
  | 7 => ⟨S1x1x8x64, .f32⟩
  | 8 => ⟨S1x8x64, .f32⟩
  | 9 => ⟨S_, .i32⟩
  | 10 => ⟨S_, .i32⟩
  | 11 => ⟨S_, .i32⟩
  | 12 => ⟨S1x1x8x64, .f32⟩
  | 13 => ⟨S1x8x64, .f32⟩
  | 14 => ⟨S_, .i32⟩
  | 15 => ⟨S_, .i32⟩
  | 16 => ⟨S_, .i32⟩
  | 17 => ⟨S1x1x8x64, .f32⟩
  | 18 => ⟨S1x8x64, .f32⟩
  | 19 => ⟨S_, .i32⟩
  | 20 => ⟨S_, .i32⟩
  | 21 => ⟨S_, .i32⟩
  | 22 => ⟨S1x1x8x64, .f32⟩
  | 23 => ⟨S1x8x64, .f32⟩
  | 24 => ⟨S_, .i32⟩
  | 25 => ⟨S_, .i32⟩
  | 26 => ⟨S_, .i32⟩
  | 27 => ⟨S1x1x8x64, .f32⟩
  | 28 => ⟨S1x8x64, .f32⟩
  | 29 => ⟨S_, .i32⟩
  | 30 => ⟨S_, .i32⟩
  | 31 => ⟨S_, .i32⟩
  | 32 => ⟨S1x1x8x64, .f32⟩
  | 33 => ⟨S1x8x64, .f32⟩
  | 34 => ⟨S_, .i32⟩
  | 35 => ⟨S_, .i32⟩
  | 36 => ⟨S1x1x512, .f32⟩
  | 37 => ⟨S1x512, .f32⟩
  | 38 => ⟨S1x8x64, .f32⟩
  | 39 => ⟨S1x8x1x64, .f32⟩
  | 40 => ⟨S1x8x64x64, .f32⟩
  | 41 => ⟨S1x8x64x64, .f32⟩
  | 42 => ⟨S1x8x64x1, .f32⟩
  | 43 => ⟨S1x8x1x64, .f32⟩
  | 44 => ⟨S1x8x64x64, .f32⟩
  | 45 => ⟨S1x8x64x64, .f32⟩
  | 46 => ⟨S1x8x64x64, .f32⟩
  | 47 => ⟨S1x8x64x64, .f32⟩
  | 48 => ⟨S1x8x64x1, .f32⟩
  | 49 => ⟨S1x8x1x64, .f32⟩
  | 50 => ⟨S1x8x64x64, .f32⟩
  | 51 => ⟨S1x8x64x64, .f32⟩
  | 52 => ⟨S1x8x64x64, .f32⟩
  | 53 => ⟨S1x8x64x64, .f32⟩
  | 54 => ⟨S1x8x64, .f32⟩
  | 55 => ⟨S_, .f32⟩
  | 56 => ⟨S1x8, .f32⟩
  | 57 => ⟨S1x8x1, .f32⟩
  | 58 => ⟨S_, .f32⟩
  | 59 => ⟨S1x8x1, .f32⟩
  | 60 => ⟨S1x8x1, .f32⟩
  | 61 => ⟨S1x8x64, .f32⟩
  | 62 => ⟨S1x8x64, .f32⟩
  | 63 => ⟨S1x8x64, .f32⟩
  | 64 => ⟨S_, .f32⟩
  | 65 => ⟨S1x8, .f32⟩
  | 66 => ⟨S1x8x1, .f32⟩
  | 67 => ⟨S_, .f32⟩
  | 68 => ⟨S1x8x1, .f32⟩
  | 69 => ⟨S1x8x1, .f32⟩
  | 70 => ⟨S1x8x64, .f32⟩
  | 71 => ⟨S1x8x64, .f32⟩
  | 72 => ⟨S_, .f32⟩
  | 73 => ⟨S1x8x1, .f32⟩
  | 74 => ⟨S1x8x1, .f32⟩
  | 75 => ⟨S1x8x1, .f32⟩
  | 76 => ⟨S1x8x64, .f32⟩
  | 77 => ⟨S1x8x64, .f32⟩
  | 78 => ⟨S1x512, .f32⟩
  | 79 => ⟨S1x512, .f32⟩
  | 80 => ⟨S1x512, .f32⟩
  | 81 => ⟨S1x512, .f32⟩
  | 82 => ⟨S1x512, .f32⟩
  | 83 => ⟨S1x8x64, .f32⟩
  | 84 => ⟨S1x8x64, .f32⟩
  | 85 => ⟨S1x8x64, .f32⟩
  | 86 => ⟨S_, .f32⟩
  | 87 => ⟨S1x8, .f32⟩
  | 88 => ⟨S1x8x1, .f32⟩
  | 89 => ⟨S1x8x64, .f32⟩
  | 90 => ⟨S1x8x64, .f32⟩
  | 91 => ⟨S1x512, .f32⟩
  | 92 => ⟨S1x512, .f32⟩
  | 93 => ⟨S1x512, .f32⟩
  | 94 => ⟨S1x1x512, .f32⟩
  | 95 => ⟨S_, .i32⟩
  | 96 => ⟨S_, .i32⟩
  | 97 => ⟨S2048x1x512, .f32⟩
  | 98 => ⟨S_, .i32⟩
  | 99 => ⟨S_, .i32⟩
  | 100 => ⟨S1x2048x512, .f32⟩
  | 101 => ⟨S1x2048x512, .bf16⟩
  | 102 => ⟨S1x8x64x64, .f32⟩
  | 103 => ⟨S1x1x1792, .f32⟩
  | _ => ⟨S1x2048x1792, .f32⟩

abbrev hbmTy (i : Nat) : BufTy := match i / 128 with
  | 0 => hbmTy0_0 i
  | 1 => hbmTy0_1 i
  | _ => ⟨S1x2048x1792, .f32⟩

abbrev bufTy : (tb : Table) → Fin (tcTables nBuf tb) → BufTy
  | .hbm, ⟨i, _⟩ => hbmTy i
  | _, _ => ⟨S1x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_0 : Ref sig .tc := ⟨.hbm, 60, rfl⟩
abbrev main_v32 : Ref sig .tc := ⟨.hbm, 61, rfl⟩
abbrev main_v33 : Ref sig .tc := ⟨.hbm, 62, rfl⟩
abbrev main_cst_1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_2 : Ref sig .tc := ⟨.hbm, 68, rfl⟩
abbrev main_v38 : Ref sig .tc := ⟨.hbm, 69, rfl⟩
abbrev main_v39 : Ref sig .tc := ⟨.hbm, 70, rfl⟩
abbrev main_cst_3 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_4 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_6 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_7 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_8 : Ref sig .tc := ⟨.hbm, 114, rfl⟩
abbrev main_v78 : Ref sig .tc := ⟨.hbm, 115, rfl⟩
abbrev main_c : Ref sig .tc := ⟨.hbm, 116, rfl⟩
abbrev main_v79_0 : Ref sig .tc := ⟨.hbm, 117, rfl⟩
abbrev main_v79_1 : Ref sig .tc := ⟨.hbm, 118, rfl⟩
abbrev main_v79_2 : Ref sig .tc := ⟨.hbm, 119, rfl⟩
abbrev main_v79_3 : Ref sig .tc := ⟨.hbm, 120, rfl⟩
abbrev main_v79_4 : Ref sig .tc := ⟨.hbm, 121, rfl⟩
abbrev main_v79_5 : Ref sig .tc := ⟨.hbm, 122, rfl⟩
abbrev main_v79_6 : Ref sig .tc := ⟨.hbm, 123, rfl⟩
abbrev main_v79_7 : Ref sig .tc := ⟨.hbm, 124, rfl⟩
abbrev main_v79_8 : Ref sig .tc := ⟨.hbm, 125, rfl⟩
abbrev main_v79_9 : Ref sig .tc := ⟨.hbm, 126, rfl⟩
abbrev main_v79_10 : Ref sig .tc := ⟨.hbm, 127, rfl⟩
abbrev main_v79_11 : Ref sig .tc := ⟨.hbm, 128, rfl⟩
abbrev main_v79_12 : Ref sig .tc := ⟨.hbm, 129, rfl⟩
abbrev main_while0c_c_21 : Ref sig .tc := ⟨.hbm, 130, rfl⟩
abbrev main_while0c_v84 : Ref sig .tc := ⟨.hbm, 131, rfl⟩
abbrev main_while0b_call1_c : Ref sig .tc := ⟨.hbm, 132, rfl⟩
abbrev main_while0b_call1_c_0 : Ref sig .tc := ⟨.hbm, 133, rfl⟩
abbrev main_while0b_call1_c_1 : Ref sig .tc := ⟨.hbm, 134, rfl⟩
abbrev main_while0b_call1_v0 : Ref sig .tc := ⟨.hbm, 135, rfl⟩
abbrev main_while0b_v84 : Ref sig .tc := ⟨.hbm, 136, rfl⟩
abbrev main_while0b_call2_c : Ref sig .tc := ⟨.hbm, 137, rfl⟩
abbrev main_while0b_call2_c_0 : Ref sig .tc := ⟨.hbm, 138, rfl⟩
abbrev main_while0b_call2_c_1 : Ref sig .tc := ⟨.hbm, 139, rfl⟩
abbrev main_while0b_call2_v0 : Ref sig .tc := ⟨.hbm, 140, rfl⟩
abbrev main_while0b_v85 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_c_1 : Ref sig .tc := ⟨.hbm, 144, rfl⟩
abbrev main_while0b_call3_v0 : Ref sig .tc := ⟨.hbm, 145, rfl⟩
abbrev main_while0b_v86 : Ref sig .tc := ⟨.hbm, 146, rfl⟩
abbrev main_while0b_call4_c : Ref sig .tc := ⟨.hbm, 147, rfl⟩
abbrev main_while0b_call4_c_0 : Ref sig .tc := ⟨.hbm, 148, rfl⟩
abbrev main_while0b_call4_c_1 : Ref sig .tc := ⟨.hbm, 149, rfl⟩
abbrev main_while0b_call4_v0 : Ref sig .tc := ⟨.hbm, 150, rfl⟩
abbrev main_while0b_v87 : Ref sig .tc := ⟨.hbm, 151, rfl⟩
abbrev main_while0b_call5_c : Ref sig .tc := ⟨.hbm, 152, rfl⟩
abbrev main_while0b_call5_c_0 : Ref sig .tc := ⟨.hbm, 153, rfl⟩
abbrev main_while0b_call5_c_1 : Ref sig .tc := ⟨.hbm, 154, rfl⟩
abbrev main_while0b_call5_v0 : Ref sig .tc := ⟨.hbm, 155, rfl⟩
abbrev main_while0b_v88 : Ref sig .tc := ⟨.hbm, 156, rfl⟩
abbrev main_while0b_call6_c : Ref sig .tc := ⟨.hbm, 157, rfl⟩
abbrev main_while0b_call6_c_0 : Ref sig .tc := ⟨.hbm, 158, rfl⟩
abbrev main_while0b_call6_c_1 : Ref sig .tc := ⟨.hbm, 159, rfl⟩
abbrev main_while0b_call6_v0 : Ref sig .tc := ⟨.hbm, 160, rfl⟩
abbrev main_while0b_v89 : Ref sig .tc := ⟨.hbm, 161, rfl⟩
abbrev main_while0b_call7_c : Ref sig .tc := ⟨.hbm, 162, rfl⟩
abbrev main_while0b_call7_c_0 : Ref sig .tc := ⟨.hbm, 163, rfl⟩
abbrev main_while0b_call7_v0 : Ref sig .tc := ⟨.hbm, 164, rfl⟩
abbrev main_while0b_v90 : Ref sig .tc := ⟨.hbm, 165, rfl⟩
abbrev main_while0b_v91 : Ref sig .tc := ⟨.hbm, 166, rfl⟩
abbrev main_while0b_v92 : Ref sig .tc := ⟨.hbm, 167, rfl⟩
abbrev main_while0b_v93 : Ref sig .tc := ⟨.hbm, 168, rfl⟩
abbrev main_while0b_v94 : Ref sig .tc := ⟨.hbm, 169, rfl⟩
abbrev main_while0b_v95 : Ref sig .tc := ⟨.hbm, 170, rfl⟩
abbrev main_while0b_v96 : Ref sig .tc := ⟨.hbm, 171, rfl⟩
abbrev main_while0b_v97 : Ref sig .tc := ⟨.hbm, 172, rfl⟩
abbrev main_while0b_v98 : Ref sig .tc := ⟨.hbm, 173, rfl⟩
abbrev main_while0b_v99 : Ref sig .tc := ⟨.hbm, 174, rfl⟩
abbrev main_while0b_v100 : Ref sig .tc := ⟨.hbm, 175, rfl⟩
abbrev main_while0b_v101 : Ref sig .tc := ⟨.hbm, 176, rfl⟩
abbrev main_while0b_v102 : Ref sig .tc := ⟨.hbm, 177, rfl⟩
abbrev main_while0b_v103 : Ref sig .tc := ⟨.hbm, 178, rfl⟩
abbrev main_while0b_v104 : Ref sig .tc := ⟨.hbm, 179, rfl⟩
abbrev main_while0b_v105 : Ref sig .tc := ⟨.hbm, 180, rfl⟩
abbrev main_while0b_v106 : Ref sig .tc := ⟨.hbm, 181, rfl⟩
abbrev main_while0b_v107 : Ref sig .tc := ⟨.hbm, 182, rfl⟩
abbrev main_while0b_cst_21 : Ref sig .tc := ⟨.hbm, 183, rfl⟩
abbrev main_while0b_v108 : Ref sig .tc := ⟨.hbm, 184, rfl⟩
abbrev main_while0b_v109 : Ref sig .tc := ⟨.hbm, 185, rfl⟩
abbrev main_while0b_cst_22 : Ref sig .tc := ⟨.hbm, 186, rfl⟩
abbrev main_while0b_v110 : Ref sig .tc := ⟨.hbm, 187, rfl⟩
abbrev main_while0b_v111 : Ref sig .tc := ⟨.hbm, 188, rfl⟩
abbrev main_while0b_v112 : Ref sig .tc := ⟨.hbm, 189, rfl⟩
abbrev main_while0b_v113 : Ref sig .tc := ⟨.hbm, 190, rfl⟩
abbrev main_while0b_v114 : Ref sig .tc := ⟨.hbm, 191, rfl⟩
abbrev main_while0b_cst_23 : Ref sig .tc := ⟨.hbm, 192, rfl⟩
abbrev main_while0b_v115 : Ref sig .tc := ⟨.hbm, 193, rfl⟩
abbrev main_while0b_v116 : Ref sig .tc := ⟨.hbm, 194, rfl⟩
abbrev main_while0b_cst_24 : Ref sig .tc := ⟨.hbm, 195, rfl⟩
abbrev main_while0b_v117 : Ref sig .tc := ⟨.hbm, 196, rfl⟩
abbrev main_while0b_v118 : Ref sig .tc := ⟨.hbm, 197, rfl⟩
abbrev main_while0b_v119 : Ref sig .tc := ⟨.hbm, 198, rfl⟩
abbrev main_while0b_v120 : Ref sig .tc := ⟨.hbm, 199, rfl⟩
abbrev main_while0b_cst_25 : Ref sig .tc := ⟨.hbm, 200, rfl⟩
abbrev main_while0b_v121 : Ref sig .tc := ⟨.hbm, 201, rfl⟩
abbrev main_while0b_v122 : Ref sig .tc := ⟨.hbm, 202, rfl⟩
abbrev main_while0b_v123 : Ref sig .tc := ⟨.hbm, 203, rfl⟩
abbrev main_while0b_v124 : Ref sig .tc := ⟨.hbm, 204, rfl⟩
abbrev main_while0b_v125 : Ref sig .tc := ⟨.hbm, 205, rfl⟩
abbrev main_while0b_v126 : Ref sig .tc := ⟨.hbm, 206, rfl⟩
abbrev main_while0b_v127 : Ref sig .tc := ⟨.hbm, 207, rfl⟩
abbrev main_while0b_v128 : Ref sig .tc := ⟨.hbm, 208, rfl⟩
abbrev main_while0b_v129 : Ref sig .tc := ⟨.hbm, 209, rfl⟩
abbrev main_while0b_v130 : Ref sig .tc := ⟨.hbm, 210, rfl⟩
abbrev main_while0b_v131 : Ref sig .tc := ⟨.hbm, 211, rfl⟩
abbrev main_while0b_v132 : Ref sig .tc := ⟨.hbm, 212, rfl⟩
abbrev main_while0b_v133 : Ref sig .tc := ⟨.hbm, 213, rfl⟩
abbrev main_while0b_cst_26 : Ref sig .tc := ⟨.hbm, 214, rfl⟩
abbrev main_while0b_v134 : Ref sig .tc := ⟨.hbm, 215, rfl⟩
abbrev main_while0b_v135 : Ref sig .tc := ⟨.hbm, 216, rfl⟩
abbrev main_while0b_v136 : Ref sig .tc := ⟨.hbm, 217, rfl⟩
abbrev main_while0b_v137 : Ref sig .tc := ⟨.hbm, 218, rfl⟩
abbrev main_while0b_v138 : Ref sig .tc := ⟨.hbm, 219, rfl⟩
abbrev main_while0b_v139 : Ref sig .tc := ⟨.hbm, 220, rfl⟩
abbrev main_while0b_v140 : Ref sig .tc := ⟨.hbm, 221, rfl⟩
abbrev main_while0b_call8_v0 : Ref sig .tc := ⟨.hbm, 222, rfl⟩
abbrev main_while0b_call8_c : Ref sig .tc := ⟨.hbm, 223, rfl⟩
abbrev main_while0b_call8_c_0 : Ref sig .tc := ⟨.hbm, 224, rfl⟩
abbrev main_while0b_v141 : Ref sig .tc := ⟨.hbm, 225, rfl⟩
abbrev main_while0b_c_27 : Ref sig .tc := ⟨.hbm, 226, rfl⟩
abbrev main_while0b_v142 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩

abbrev nD : Nat := 1
abbrev τ : Topo := Topo.v7x

variable {F : FTy → Type} [FloatOps F]

abbrev main_while0_count : Scf.Loop 32 := ⟨0#32, 2048#32, 1#32⟩
-- ==== Proof.MixChunk.lean ====
module

public import Mathlib.Data.Matrix.Mul
public import Mathlib.Analysis.SpecialFunctions.Exp
public import Mathlib.Tactic.NoncommRing

/-! # The chunk form of the mixing recurrence

One head of the time mixing keeps a 64 by 64 state `M`.  At a step it reads `u = aᵀ M`, replaces the state by
`diag w M + b uᵀ + k vᵀ` and reads `rᵀ M`.  This file shows, for real numbers, that 64 such steps can be taken at once with
matrix products and one triangular inverse, and that the inverse may be built from blocks of 16, 32 and 64 rows. -/

@[expose] public section

noncomputable section

namespace Cert.MixProof

abbrev Mat := Matrix (Fin 64) (Fin 64) ℝ

/-- The positions where a matrix may differ from zero. -/
def Supp (p : Fin 64 → Fin 64 → Prop) (A : Mat) : Prop := ∀ i j, ¬ p i j → A i j = 0

theorem Supp.mul {p q r : Fin 64 → Fin 64 → Prop} {A B : Mat} (hA : Supp p A) (hB : Supp q B)
    (h : ∀ i k j, p i k → q k j → r i j) : Supp r (A * B) := by
  intro i j hr
  rw [Matrix.mul_apply]
  refine Finset.sum_eq_zero fun k _ => ?_
  by_cases hp : p i k
  · by_cases hq : q k j
    · exact absurd (h i k j hp hq) hr
    · rw [hB k j hq, mul_zero]
  · rw [hA i k hp, zero_mul]

theorem Supp.add {p : Fin 64 → Fin 64 → Prop} {A B : Mat} (hA : Supp p A) (hB : Supp p B) : Supp p (A + B) := fun i j h => by
  rw [Matrix.add_apply, hA i j h, hB i j h, add_zero]

theorem Supp.mono {p q : Fin 64 → Fin 64 → Prop} {A : Mat} (hA : Supp p A) (h : ∀ i j, p i j → q i j) : Supp q A :=
  fun i j hq => hA i j fun hp => hq (h i j hp)

theorem Supp.one {p : Fin 64 → Fin 64 → Prop} (h : ∀ i, p i i) : Supp p (1 : Mat) := fun i j hp =>
  Matrix.one_apply_ne fun e => hp (e ▸ h i)

theorem Supp.zero {p : Fin 64 → Fin 64 → Prop} {A : Mat} (hA : Supp p A) (h : ∀ i j, ¬ p i j) : A = 0 := by
  ext i j
  exact hA i j (h i j)

/-- The part of a matrix where a condition holds. -/
def keep (p : Fin 64 → Fin 64 → Prop) [∀ i j, Decidable (p i j)] (A : Mat) : Mat := fun i j => if p i j then A i j else 0

theorem keep_supp (p : Fin 64 → Fin 64 → Prop) [∀ i j, Decidable (p i j)] (A : Mat) : Supp p (keep p A) := fun i j h => if_neg h

/-- Same block of 16. -/
abbrev same16 (i j : Fin 64) : Prop := i.val / 16 = j.val / 16
/-- Same block of 32 and not the same block of 16. -/
abbrev pair32 (i j : Fin 64) : Prop := i.val / 16 / 2 = j.val / 16 / 2 ∧ ¬ i.val / 16 = j.val / 16
/-- Another block of 32. -/
abbrev cross32 (i j : Fin 64) : Prop := ¬ i.val / 16 / 2 = j.val / 16 / 2

/-- The inverse of one minus the part of `L` in the blocks of 16. -/
def inv16 (L : Mat) : Mat :=
  let D := keep same16 L
  let X := (1 + D) + (1 + D) * (D * D)
  let X' := X + X * (D * D * (D * D))
  X' + X' * (D * D * (D * D) * (D * D * (D * D)))

/-- The inverse of one minus the part of `L` in the blocks of 32. -/
def inv32 (L : Mat) : Mat := inv16 L + inv16 L * keep pair32 L * inv16 L

/-- The inverse of one minus `L`. -/
def inv64 (L : Mat) : Mat := inv32 L + inv32 L * keep cross32 L * inv32 L

variable {L : Mat}

theorem parts (L : Mat) : L = keep same16 L + keep pair32 L + keep cross32 L := by
  ext i j
  simp only [Matrix.add_apply, keep]
  by_cases h1 : i.val / 16 = j.val / 16
  · simp [same16, pair32, cross32, h1]
  · by_cases h2 : i.val / 16 / 2 = j.val / 16 / 2 <;> simp [same16, pair32, cross32, h1, h2]

theorem inv16_mul (hL : Supp (fun i j => j < i) L) : inv16 L * (1 - keep same16 L) = 1 := by
  have hD : Supp (fun i j => same16 i j ∧ j.val + 1 ≤ i.val) (keep same16 L) := fun i j h => by
    unfold keep
    split
    · rename_i hs
      exact hL i j fun hl => h ⟨hs, hl⟩
    · rfl
  have step : ∀ {n : ℕ} {A B : Mat}, Supp (fun i j => same16 i j ∧ j.val + n ≤ i.val) A → Supp (fun i j => same16 i j ∧ j.val + n ≤ i.val) B →
      Supp (fun i j => same16 i j ∧ j.val + (n + n) ≤ i.val) (A * B) := fun hA hB =>
    hA.mul hB fun i k j ⟨h1, h2⟩ ⟨h3, h4⟩ => ⟨h1.trans h3, by omega⟩
  have h2 := step hD hD
  have h4 := step h2 h2
  have h8 := step h4 h4
  have h16 := step h8 h8
  have hz := h16.zero fun i j ⟨h1, h2⟩ => by
    have : i.val / 16 = j.val / 16 := h1
    omega
  have e : inv16 L * (1 - keep same16 L) = 1 - (keep same16 L * keep same16 L * (keep same16 L * keep same16 L) * (keep same16 L * keep same16 L * (keep same16 L * keep same16 L))) * (keep same16 L * keep same16 L * (keep same16 L * keep same16 L) * (keep same16 L * keep same16 L * (keep same16 L * keep same16 L))) := by
    unfold inv16
    noncomm_ring
  rw [e, hz, sub_zero]

theorem inv16_supp (L : Mat) : Supp same16 (inv16 L) := by
  have hD := keep_supp same16 L
  have m : ∀ {A B : Mat}, Supp same16 A → Supp same16 B → Supp same16 (A * B) := fun hA hB => hA.mul hB fun i k j h1 h2 => h1.trans h2
  have h1 : Supp same16 (1 : Mat) := Supp.one fun i => rfl
  have h2 := m hD hD
  have h4 := m h2 h2
  have h8 := m h4 h4
  have a := (h1.add hD).add (m (h1.add hD) h2)
  have b := a.add (m a h4)
  exact b.add (m b h8)

theorem pair_supp (hL : Supp (fun i j => j < i) L) : Supp (fun i j => i.val / 16 % 2 = 1 ∧ j.val / 16 % 2 = 0 ∧ i.val / 16 / 2 = j.val / 16 / 2) (keep pair32 L) := fun i j h => by
  unfold keep
  split
  · rename_i hs
    refine hL i j fun hl => h ?_
    have hl' : j.val < i.val := hl
    obtain ⟨h1, h2⟩ := hs
    omega
  · rfl

theorem inv32_mul (hL : Supp (fun i j => j < i) L) : inv32 L * (1 - keep same16 L - keep pair32 L) = 1 := by
  have h1 := inv16_mul hL
  have hs := (inv16_supp L).mul (r := fun i j => i.val / 16 % 2 = 1 ∧ j.val / 16 % 2 = 0) (pair_supp hL) fun i k j h1 h2 => by
    have : i.val / 16 = k.val / 16 := h1
    omega
  have hz : inv16 L * keep pair32 L * (inv16 L * keep pair32 L) = 0 := (hs.mul hs (r := fun _ _ => False) fun i k j h1 h2 => by omega).zero fun _ _ h => h
  have e : inv32 L * (1 - keep same16 L - keep pair32 L) = inv16 L * (1 - keep same16 L) + inv16 L * keep pair32 L * (inv16 L * (1 - keep same16 L))
      - inv16 L * keep pair32 L - inv16 L * keep pair32 L * (inv16 L * keep pair32 L) := by
    unfold inv32
    noncomm_ring
  rw [e, h1, hz]
  noncomm_ring

theorem inv32_supp (hL : Supp (fun i j => j < i) L) : Supp (fun i j => i.val / 16 / 2 = j.val / 16 / 2) (inv32 L) := by
  have h1 : Supp (fun i j => i.val / 16 / 2 = j.val / 16 / 2) (inv16 L) := (inv16_supp L).mono fun i j (h : i.val / 16 = j.val / 16) => by rw [h]
  have h2 : Supp (fun i j => i.val / 16 / 2 = j.val / 16 / 2) (keep pair32 L) := (pair_supp hL).mono fun i j h => h.2.2
  exact h1.add ((h1.mul h2 fun i k j a b => a.trans b).mul h1 fun i k j a b => a.trans b)

theorem inv64_mul (hL : Supp (fun i j => j < i) L) : inv64 L * (1 - L) = 1 := by
  have h1 := inv32_mul hL
  have hc : Supp (fun i j => i.val / 16 / 2 = 1 ∧ j.val / 16 / 2 = 0) (keep cross32 L) := fun i j h => by
    unfold keep
    split
    · rename_i hs
      refine hL i j fun hl => h ?_
      have hl' : j.val < i.val := hl
      have : ¬ i.val / 16 / 2 = j.val / 16 / 2 := hs
      omega
    · rfl
  have hs := (inv32_supp hL).mul (r := fun i j => i.val / 16 / 2 = 1 ∧ j.val / 16 / 2 = 0) hc fun i k j h1 h2 => by omega
  have hz : inv32 L * keep cross32 L * (inv32 L * keep cross32 L) = 0 := (hs.mul hs (r := fun _ _ => False) fun i k j h1 h2 => by omega).zero fun _ _ h => h
  have e : ∀ X D P H : Mat, (X + X * H * X) * (1 - (D + P + H)) = X * (1 - D - P) + X * H * (X * (1 - D - P)) - X * H - X * H * (X * H) := by
    intro X D P H
    noncomm_ring
  have e1 : inv64 L * (1 - L) = (inv32 L + inv32 L * keep cross32 L * inv32 L) * (1 - (keep same16 L + keep pair32 L + keep cross32 L)) := by
    rw [← parts L]
    rfl
  rw [e1, e, h1, hz]
  noncomm_ring

/-- One step of the recurrence on the state. -/
def mixStep (ld a b k v : Fin 64 → ℝ) (M : Mat) : Mat := fun x y =>
  Real.exp (ld x) * M x y + b x * (∑ z, a z * M z y) + k x * v y

/-- The state before step `n`. -/
def mixState (ld a b k v : ℕ → Fin 64 → ℝ) (M : Mat) : ℕ → Mat
  | 0 => M
  | n + 1 => mixStep (ld n) (a n) (b n) (k n) (v n) (mixState ld a b k v M n)

/-- What step `n` reads from the new state. -/
def mixRead (ld a b k v r : ℕ → Fin 64 → ℝ) (M : Mat) (n : ℕ) (y : Fin 64) : ℝ :=
  ∑ x, r n x * mixState ld a b k v M (n + 1) x y

section Chunk

variable (ld a b k v r : ℕ → Fin 64 → ℝ) (M : Mat)

/-- The sum of the first `n` log decays. -/
def cum (n : ℕ) (x : Fin 64) : ℝ := ∑ s ∈ Finset.range n, ld s x

theorem cum_succ (n : ℕ) (x : Fin 64) : cum ld (n + 1) x = cum ld n x + ld n x := Finset.sum_range_succ ..

/-- What step `n` reads from the old state. -/
def old (n : ℕ) (y : Fin 64) : ℝ := ∑ z, a n z * mixState ld a b k v M n z y

theorem mixState_scaled (n : ℕ) (x y : Fin 64) : Real.exp (- cum ld n x) * mixState ld a b k v M n x y
    = M x y + ∑ s ∈ Finset.range n, (b s x * Real.exp (- cum ld (s + 1) x) * old ld a b k v M s y + k s x * Real.exp (- cum ld (s + 1) x) * v s y) := by
  induction n with
  | zero => simp [cum, mixState]
  | succ n ih =>
    rw [Finset.sum_range_succ, ← add_assoc, ← ih]
    have h : Real.exp (- cum ld (n + 1) x) * Real.exp (ld n x) = Real.exp (- cum ld n x) := by
      rw [← Real.exp_add, cum_succ]; congr 1; ring
    simp only [mixState, mixStep, old]
    rw [← h]
    ring

theorem mixState_eq (n : ℕ) (x y : Fin 64) : mixState ld a b k v M n x y = Real.exp (cum ld n x) * (M x y
    + ∑ s ∈ Finset.range n, (b s x * Real.exp (- cum ld (s + 1) x) * old ld a b k v M s y + k s x * Real.exp (- cum ld (s + 1) x) * v s y)) := by
  rw [← mixState_scaled, ← mul_assoc, ← Real.exp_add, add_neg_cancel, Real.exp_zero, one_mul]

theorem range_sum (n : ℕ) (hn : n ≤ 64) (f : ℕ → ℝ) : ∑ s ∈ Finset.range n, f s = ∑ s : Fin 64, if s.val < n then f s.val else 0 := by
  rw [Finset.sum_fin_eq_sum_range, ← Finset.sum_subset (Finset.range_subset_range.2 hn)]
  · refine Finset.sum_congr rfl fun s hs => ?_
    have := Finset.mem_range.1 hs
    rw [dif_pos (by omega), if_pos this]
  · intro s hs hs'
    have := Finset.mem_range.1 hs
    rw [dif_pos this, if_neg (by simpa using hs')]

/-- The rows of a sequence as a matrix. -/
def rows (f : ℕ → Fin 64 → ℝ) : Mat := fun t x => f t.val x

def cA : Mat := rows fun t x => a t x * Real.exp (cum ld (t + 1) x - ld t x)
def cR : Mat := rows fun t x => r t x * Real.exp (cum ld (t + 1) x)
def cB : Mat := rows fun t x => b t x * Real.exp (- cum ld (t + 1) x)
def cE : Mat := rows fun t x => b t x * Real.exp (cum ld 64 x - cum ld (t + 1) x)

/-- The strictly lower triangle and the lower triangle of a matrix. -/
abbrev below (A : Mat) : Mat := keep (fun i j => j < i) A
abbrev upTo (A : Mat) : Mat := keep (fun i j => j ≤ i) A

def cP1 : Mat := inv64 (below (cA ld a * (cB ld b).transpose)) * cA ld a
def cP2 : Mat := inv64 (below (cA ld a * (cB ld b).transpose)) * (below (cA ld a * (cB ld k).transpose) * rows v)

theorem scaled_row (c : ℕ → Fin 64 → ℝ) (n m : ℕ) (hm : m ≤ 64) (w : Fin 64 → ℝ) (y : Fin 64) (hw : ∀ x, w x = c n x * Real.exp (cum ld m x)) :
    ∑ x, c n x * mixState ld a b k v M m x y = ∑ x, w x * M x y
      + ∑ s : Fin 64, (if s.val < m then ∑ x, w x * cB ld b s x else 0) * old ld a b k v M s.val y
      + ∑ s : Fin 64, (if s.val < m then ∑ x, w x * cB ld k s x else 0) * v s.val y := by
  have e : ∀ x, c n x * mixState ld a b k v M m x y = w x * M x y
      + ∑ s : Fin 64, (if s.val < m then w x * cB ld b s x * old ld a b k v M s.val y + w x * cB ld k s x * v s.val y else 0) := fun x => by
    rw [mixState_eq, ← mul_assoc, ← hw, mul_add, range_sum _ hm, Finset.mul_sum]
    congr 1
    refine Finset.sum_congr rfl fun s _ => ?_
    simp only [cB, rows]
    split <;> ring
  simp only [e]
  rw [Finset.sum_add_distrib, add_assoc]
  congr 1
  rw [Finset.sum_comm, ← Finset.sum_add_distrib]
  refine Finset.sum_congr rfl fun s _ => ?_
  split
  · rw [Finset.sum_add_distrib, Finset.sum_mul, Finset.sum_mul]
  · simp

theorem old_eq : rows (old ld a b k v M) = cA ld a * M + below (cA ld a * (cB ld b).transpose) * rows (old ld a b k v M)
    + below (cA ld a * (cB ld k).transpose) * rows v := by
  ext t y
  refine (scaled_row ld a b k v M a t.val t.val (by omega) (cA ld a t) y fun x => ?_).trans ?_
  · simp only [cA, rows, cum_succ, add_sub_cancel_right]
  · simp only [Matrix.add_apply, Matrix.mul_apply, below, keep, Matrix.transpose_apply, rows, Fin.lt_def]

theorem old_solved : rows (old ld a b k v M) = cP1 ld a b * M + cP2 ld a b k v := by
  have h := old_eq ld a b k v M
  have hi := inv64_mul (L := below (cA ld a * (cB ld b).transpose)) (keep_supp _ _)
  have h' : (1 - below (cA ld a * (cB ld b).transpose)) * rows (old ld a b k v M) = cA ld a * M + below (cA ld a * (cB ld k).transpose) * rows v := by
    rw [sub_mul, one_mul, sub_eq_iff_eq_add]
    exact h.trans (add_right_comm _ _ _)
  calc rows (old ld a b k v M) = inv64 (below (cA ld a * (cB ld b).transpose)) * ((1 - below (cA ld a * (cB ld b).transpose)) * rows (old ld a b k v M)) := by
        rw [← mul_assoc, hi, one_mul]
    _ = _ := by rw [h', mul_add, cP1, cP2, mul_assoc]

/-- What the 64 steps read, as matrix products. -/
theorem chunk_read : (cR ld r + upTo (cR ld r * (cB ld b).transpose) * cP1 ld a b) * M
      + (upTo (cR ld r * (cB ld b).transpose) * cP2 ld a b k v + upTo (cR ld r * (cB ld k).transpose) * rows v)
    = rows (mixRead ld a b k v r M) := by
  have h : rows (mixRead ld a b k v r M) = cR ld r * M + upTo (cR ld r * (cB ld b).transpose) * rows (old ld a b k v M)
      + upTo (cR ld r * (cB ld k).transpose) * rows v := by
    ext t y
    refine (scaled_row ld a b k v M r t.val (t.val + 1) (by omega) (cR ld r t) y fun x => rfl).trans ?_
    simp only [Matrix.add_apply, Matrix.mul_apply, upTo, keep, Matrix.transpose_apply, rows, Fin.le_def, Nat.lt_succ_iff]
  rw [h, old_solved]
  noncomm_ring

/-- The state after the 64 steps, as matrix products. -/
theorem chunk_state : (Matrix.diagonal (fun x => Real.exp (cum ld 64 x)) + (cE ld b).transpose * cP1 ld a b) * M
      + ((cE ld b).transpose * cP2 ld a b k v + (cE ld k).transpose * rows v)
    = mixState ld a b k v M 64 := by
  have h : mixState ld a b k v M 64 = Matrix.diagonal (fun x => Real.exp (cum ld 64 x)) * M + (cE ld b).transpose * rows (old ld a b k v M)
      + (cE ld k).transpose * rows v := by
    ext x y
    rw [mixState_eq, mul_add, range_sum _ le_rfl, Finset.mul_sum, add_assoc, Matrix.add_apply, Matrix.diagonal_mul, Matrix.add_apply,
      Matrix.mul_apply, Matrix.mul_apply, ← Finset.sum_add_distrib]
    congr 1
    refine Finset.sum_congr rfl fun s _ => ?_
    have e : Real.exp (cum ld 64 x - cum ld (s.val + 1) x) = Real.exp (cum ld 64 x) * Real.exp (- cum ld (s.val + 1) x) := by
      rw [← Real.exp_add, sub_eq_add_neg]
    simp only [Matrix.transpose_apply, cE, rows, e, if_pos s.isLt]
    ring
  rw [h, old_solved]
  noncomm_ring

end Chunk

end Cert.MixProof
-- ==== Proof.MixSpec.lean ====
module

public import proofs.«01_k».proof.Proof.MixChunk
public import Idealize.ShloMosaic.PureOps.Ideal

/-! # The time mixing on real numbers

What one token contributes to the recurrence, the recurrence of each head, and what the token gives out. -/

@[expose] public section

noncomputable section

namespace Cert.MixProof

/-- The parameters of the time mixing. -/
structure Par where
  mu : Fin 1792 → ℝ
  w0 : Fin 512 → ℝ
  w2 : Fin 64 → Fin 512 → ℝ
  a0 : Fin 512 → ℝ
  a2 : Fin 64 → Fin 512 → ℝ
  g2 : Fin 128 → Fin 512 → ℝ
  kk : Fin 512 → ℝ
  ka : Fin 512 → ℝ
  rk : Fin 512 → ℝ
  gg : Fin 512 → ℝ
  gb : Fin 512 → ℝ

/-- The logistic function. -/
def sig (r : ℝ) : ℝ := 1 / (1 + Real.exp (-r))
/-- The smooth maximum of a number and zero. -/
def soft (r : ℝ) : ℝ := max r 0 + Real.log (1 + Real.exp (-|r|))

/-- A column of 512 by head and place. -/
def hd (h : Fin 8) (n : Fin 64) : Fin 512 := ⟨64 * h.val + n.val, by omega⟩
def hOf (j : Fin 512) : Fin 8 := ⟨j.val / 64, by omega⟩
def nOf (j : Fin 512) : Fin 64 := ⟨j.val % 64, by omega⟩

theorem hd_of (j : Fin 512) : hd (hOf j) (nOf j) = j := Fin.ext (by simp only [hd, hOf, nOf]; omega)
theorem hOf_hd (h : Fin 8) (n : Fin 64) : hOf (hd h n) = h := Fin.ext (by simp only [hd, hOf]; omega)
theorem nOf_hd (h : Fin 8) (n : Fin 64) : nOf (hd h n) = n := Fin.ext (by simp only [hd, nOf]; omega)

/-- The sum over the head that a column lies in. -/
def hsum (f : Fin 512 → ℝ) (h : Fin 8) : ℝ := ∑ n : Fin 64, f (hd h n)

/-- A sum against the indicator of one head. -/
theorem sum_head (f : Fin 512 → ℝ) (j : Fin 512) : (∑ k : Fin 512, f k * if k.val / 64 = j.val / 64 then 1 else 0) = hsum f (hOf j) := by
  unfold hsum
  simp only [mul_ite, mul_one, mul_zero]
  rw [← Finset.sum_filter]
  refine Finset.sum_nbij' nOf (hd (hOf j)) (fun _ _ => Finset.mem_univ _) (fun n _ => ?_) (fun k hk => ?_) (fun n _ => nOf_hd ..) fun k hk => ?_
  · simp only [Finset.mem_filter, Finset.mem_univ, true_and, hd, hOf]
    omega
  · have hk' := (Finset.mem_filter.1 hk).2
    exact Fin.ext (by simp only [hd, hOf, nOf]; omega)
  · have hk' := (Finset.mem_filter.1 hk).2
    exact congrArg f (Fin.ext (by simp only [hd, hOf, nOf]; omega))

section Token

variable (tiny small : ℝ) (P : Par) (x : Fin 1792 → ℝ)

def tR (j : Fin 512) : ℝ := x ⟨j.val, by omega⟩
def tK0 (j : Fin 512) : ℝ := x ⟨512 + j.val, by omega⟩
def tV (j : Fin 512) : ℝ := x ⟨1024 + j.val, by omega⟩
/-- The log decay. -/
def tLd (j : Fin 512) : ℝ := -Real.exp (-soft (-(P.w0 j + ∑ k : Fin 64, Real.tanh (x ⟨1536 + k.val, by omega⟩) * P.w2 k j)) - 1 / 2)
/-- The learning rate. -/
def tAl (j : Fin 512) : ℝ := sig (P.a0 j + ∑ k : Fin 64, x ⟨1600 + k.val, by omega⟩ * P.a2 k j)
/-- The gate. -/
def tG (j : Fin 512) : ℝ := ∑ k : Fin 128, sig (x ⟨1664 + k.val, by omega⟩) * P.g2 k j
def tKk (j : Fin 512) : ℝ := tK0 x j * P.kk j
def tKn (j : Fin 512) : ℝ := tKk P x j * (Real.sqrt (max (hsum (fun k => tKk P x k * tKk P x k) (hOf j)) tiny))⁻¹
def tK (j : Fin 512) : ℝ := tK0 x j * (1 + (tAl P x j - 1) * P.ka j)
def tA (j : Fin 512) : ℝ := -tKn tiny P x j
def tB (j : Fin 512) : ℝ := tKn tiny P x j * tAl P x j

/-- The group norm of what was read, the bonus of the token itself, and the gate. -/
def dev (y : Fin 512 → ℝ) (j : Fin 512) : ℝ := y j - hsum y (hOf j) / 64
def tOut (y : Fin 512 → ℝ) (j : Fin 512) : ℝ :=
  (dev y j * (Real.sqrt (hsum (fun k => dev y k * dev y k) (hOf j) / 64 + small))⁻¹ * P.gg j + P.gb j
    + hsum (fun k => tR x k * tK P x k * P.rk k) (hOf j) * tV x j) * tG P x j

end Token

section Seq

variable (tiny small : ℝ) (P : Par) (x : ℕ → Fin 1792 → ℝ) (M : Fin 8 → Mat)

/-- The state of head `h` before token `n`. -/
def headState (h : Fin 8) (n : ℕ) : Mat :=
  mixState (fun n x' => tLd P (x n) (hd h x')) (fun n x' => tA tiny P (x n) (hd h x')) (fun n x' => tB tiny P (x n) (hd h x'))
    (fun n x' => tK P (x n) (hd h x')) (fun n x' => tV (x n) (hd h x')) (M h) n

/-- What token `n` reads. -/
def headRead (n : ℕ) (j : Fin 512) : ℝ := ∑ z, tR (x n) (hd (hOf j) z) * headState tiny P x M (hOf j) (n + 1) z (nOf j)

/-- What token `n` gives out. -/
def tokenOut (n : ℕ) (j : Fin 512) : ℝ := tOut small P (x n) (headRead tiny P x M n) j

theorem headState_add (m n : ℕ) (h : Fin 8) : headState tiny P (fun k => x (m + k)) (fun h => headState tiny P x M h m) h n = headState tiny P x M h (m + n) := by
  induction n with
  | zero => rfl
  | succ n ih =>
    rw [← add_assoc]
    simp only [headState, mixState] at ih ⊢
    rw [ih]

theorem headRead_add (m n : ℕ) : headRead tiny P (fun k => x (m + k)) (fun h => headState tiny P x M h m) n = headRead tiny P x M (m + n) := by
  funext j
  simp only [headRead, headState_add, add_assoc]

theorem tokenOut_add (m n : ℕ) : tokenOut tiny small P (fun k => x (m + k)) (fun h => headState tiny P x M h m) n = tokenOut tiny small P x M (m + n) := by
  funext j
  simp only [tokenOut, headRead_add]

/-- The rows after the token shift. -/
def shift (mu : Fin 1792 → ℝ) (z : ℕ → Fin 1792 → ℝ) (p : Fin 1792 → ℝ) (n : ℕ) (j : Fin 1792) : ℝ :=
  z n j + ((if n = 0 then p j else z (n - 1) j) - z n j) * mu j

end Seq

end Cert.MixProof
-- ==== Proof.MixReal.lean ====
module

public import proofs.«01_k».proof.Proof.MixSpec
public import proofs.«01_k».proof.Proof.Gen.MixIdeal.Skeleton
public import Idealize.ShloMosaic.Lib.Pointwise

/-! # Arrays of real numbers among arrays of extended reals

The operations of the time mixing keep real entries real.  Each lemma here pushes the coercion through one operation. -/

@[expose] public section

set_option maxRecDepth 16384

noncomputable section

namespace Cert.MixProof

open Idealize.ShloMosaic Idealize.ShloMosaic.TcCoe

theorem coe_sum {ι : Type} (s : Finset ι) (f : ι → ℝ) : ((∑ k ∈ s, f k : ℝ) : EReal) = ∑ k ∈ s, (f k : EReal) :=
  map_sum (⟨⟨fun r : ℝ => (r : EReal), rfl⟩, EReal.coe_add⟩ : ℝ →+ EReal) f s

theorem exp_coe (r : ℝ) : Ideal.exp (r : EReal) = ((Real.exp r : ℝ) : EReal) := rfl
theorem tanh_coe (r : ℝ) : Ideal.tanh (r : EReal) = ((Real.tanh r : ℝ) : EReal) := rfl

theorem div_coe (a b : ℝ) (hb : b ≠ 0) : Ideal.div (a : EReal) (b : EReal) = ((a / b : ℝ) : EReal) := by
  have : (b : EReal) ≠ 0 := by exact_mod_cast hb
  rw [Ideal.div, if_neg this, ← EReal.coe_inv, ← EReal.coe_mul, div_eq_mul_inv]

theorem div_one_coe (r : ℝ) : Ideal.div (1 : EReal) (1 + ((Real.exp r : ℝ) : EReal)) = ((1 / (1 + Real.exp r) : ℝ) : EReal) := by
  have h := div_coe 1 (1 + Real.exp r) (by have := Real.exp_pos r; linarith)
  rwa [EReal.coe_add, EReal.coe_one] at h

theorem logistic_coe (r : ℝ) : Ideal.logistic (r : EReal) = ((sig r : ℝ) : EReal) := by
  rw [Ideal.logistic, ← EReal.coe_neg, exp_coe, div_one_coe, sig]

theorem log1p_coe (r : ℝ) : Ideal.log1p ((Real.exp r : ℝ) : EReal) = ((Real.log (1 + Real.exp r) : ℝ) : EReal) := by
  have h : ¬ (1 + Real.exp r) ≤ 0 := by have := Real.exp_pos r; linarith
  rw [Ideal.log1p, ← EReal.coe_one, ← EReal.coe_add]
  exact if_neg h

theorem rsqrt_coe (r : ℝ) (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.2 h.le), if_neg h.ne']

theorem half_coe : Ideal.ofBits .f32 0x3F000000#32 = ((1 / 2 : ℝ) : EReal) := by
  simp [Ideal.ofBits, Ideal.ieee]
  rw [← EReal.coe_mul]
  norm_num
theorem one_coe : Ideal.ofBits .f32 0x3F800000#32 = ((1 : ℝ) : EReal) := by
  simp [Ideal.ofBits, Ideal.ieee]
  rw [← EReal.coe_mul]
  norm_num
theorem n64_coe : Ideal.ofBits .f32 0x42800000#32 = ((64 : ℝ) : EReal) := by
  simp [Ideal.ofBits, Ideal.ieee]
  rw [← EReal.coe_mul]
  norm_num
theorem i64_coe : Ideal.ofBits .f32 0x3C800000#32 = ((1 / 64 : ℝ) : EReal) := by
  simp [Ideal.ofBits, Ideal.ieee]
  rw [← EReal.coe_mul]
  norm_num

/-- The two small constants of the norms. -/
def tiny : ℝ := (Ideal.ofBits .f32 0x179ABE15#32).toReal
def small : ℝ := (Ideal.ofBits .f32 0x3A27C5AC#32).toReal

theorem tiny_pos : Ideal.ofBits .f32 0x179ABE15#32 = ((tiny : ℝ) : EReal) ∧ 0 < tiny := by
  have h : ∃ q : ℝ, 0 < q ∧ Ideal.ofBits .f32 0x179ABE15#32 = (q : EReal) := by
    simp [Ideal.ofBits, Ideal.ieee]
    refine ⟨_, ?_, (EReal.coe_mul _ _).symm⟩
    norm_num
  obtain ⟨q, hq, e⟩ := h
  have : tiny = q := by rw [tiny, e, EReal.toReal_coe]
  rw [this]
  exact ⟨e, hq⟩

theorem small_pos : Ideal.ofBits .f32 0x3A27C5AC#32 = ((small : ℝ) : EReal) ∧ 0 < small := by
  have h : ∃ q : ℝ, 0 < q ∧ Ideal.ofBits .f32 0x3A27C5AC#32 = (q : EReal) := by
    simp [Ideal.ofBits, Ideal.ieee]
    refine ⟨_, ?_, (EReal.coe_mul _ _).symm⟩
    norm_num
  obtain ⟨q, hq, e⟩ := h
  have : small = q := by rw [small, e, EReal.toReal_coe]
  rw [this]
  exact ⟨e, hq⟩

/-- A matrix of real numbers as an array. -/
def up2 {m n : ℕ} {t : FTy} (a : Fin m → Fin n → ℝ) : FVec Ideal ⟨2, ![m, n]⟩ t := fun i => ((a (i 0) (i 1) : ℝ) : EReal)
/-- A stack of real matrices as an array. -/
def up3 {l m n : ℕ} {t : FTy} (a : Fin l → Fin m → Fin n → ℝ) : FVec Ideal ⟨3, ![l, m, n]⟩ t := fun i => ((a (i 0) (i 1) (i 2) : ℝ) : EReal)
/-- One matrix for each head as an array. -/
def upM {t : FTy} (a : Fin 8 → Mat) : FVec Ideal ⟨3, ![8, 64, 64]⟩ t := fun i => ((a (i 0) (i 1) (i 2) : ℝ) : EReal)

section Rules

variable {m n l : ℕ} {t : FTy}

theorem up2_ix (a : Fin m → Fin n → ℝ) (i : Fin m) (j : Fin n) : (up2 (t := t) a) (ix2 i j) = ((a i j : ℝ) : EReal) := rfl
theorem up3_ix (a : Fin l → Fin m → Fin n → ℝ) (h : Fin l) (i : Fin m) (j : Fin n) : (up3 (t := t) a) (ix3 h i j) = ((a h i j : ℝ) : EReal) := rfl
theorem upM_ix (a : Fin 8 → Mat) (h : Fin 8) (i j : Fin 64) : (upM (t := t) a) (ix3 h i j) = ((a h i j : ℝ) : EReal) := rfl

theorem addf_up2 (a b : Fin m → Fin n → ℝ) : addf (up2 (t := t) a) (up2 b) = up2 (a + b) := rfl
theorem subf_up2 (a b : Fin m → Fin n → ℝ) : subf (up2 (t := t) a) (up2 b) = up2 (a - b) := rfl
theorem mulf_up2 (a b : Fin m → Fin n → ℝ) : mulf (up2 (t := t) a) (up2 b) = up2 (a * b) := rfl
theorem truncf_up2 (a : Fin m → Fin n → ℝ) (h) : truncf .bf16 (up2 (t := .f32) a) h = up2 a := rfl
theorem extf_up2 (a : Fin m → Fin n → ℝ) (h) : extf .f32 (up2 (t := .bf16) a) h = up2 a := rfl
theorem exp_up2 (a : Fin m → Fin n → ℝ) : exp (up2 (t := t) a) = up2 fun i j => Real.exp (a i j) := rfl
theorem tanh_up2 (a : Fin m → Fin n → ℝ) : tanh (up2 (t := t) a) = up2 fun i j => Real.tanh (a i j) := rfl
theorem logistic_up2 (a : Fin m → Fin n → ℝ) : logistic (up2 (t := t) a) = up2 fun i j => sig (a i j) := funext fun i => logistic_coe _
theorem zero_up2 : broadcast (⟨2, ![m, n]⟩ : Shape) (Scalar.ofBits .f32 0x00000000#32 : Ideal .f32) = up2 0 := by
  funext i
  exact show Ideal.ofBits .f32 0x00000000#32 = ((0 : ℝ) : EReal) by simp [Ideal.ofBits, Ideal.ieee]
theorem one_up2 : broadcast (⟨2, ![m, n]⟩ : Shape) (Scalar.ofBits .f32 0x3F800000#32 : Ideal .f32) = up2 1 := by
  funext i
  exact one_coe
theorem half_up2 : broadcast (⟨2, ![m, n]⟩ : Shape) (Scalar.ofBits .f32 0x3F000000#32 : Ideal .f32) = up2 fun _ _ => 1 / 2 := by
  funext i
  exact half_coe
theorem i64_up2 : broadcast (⟨2, ![m, n]⟩ : Shape) (Scalar.ofBits .f32 0x3C800000#32 : Ideal .f32) = up2 fun _ _ => 1 / 64 := by
  funext i
  exact i64_coe
theorem tiny_up2 : broadcast (⟨2, ![m, n]⟩ : Shape) (Scalar.ofBits .f32 0x179ABE15#32 : Ideal .f32) = up2 fun _ _ => tiny := by
  funext i
  exact tiny_pos.1
theorem small_up2 : broadcast (⟨2, ![m, n]⟩ : Shape) (Scalar.ofBits .f32 0x3A27C5AC#32 : Ideal .f32) = up2 fun _ _ => small := by
  funext i
  exact small_pos.1
theorem maximumf_up2 (a b : Fin m → Fin n → ℝ) : maximumf (up2 (t := t) a) (up2 b) = up2 fun i j => max (a i j) (b i j) := by
  funext i
  exact (EReal.coe_strictMono.monotone.map_max).symm
theorem absf_up2 (a : Fin m → Fin n → ℝ) : absf (up2 (t := t) a) = up2 fun i j => |a i j| := by
  funext i
  show max ((a (i 0) (i 1) : ℝ) : EReal) (-((a (i 0) (i 1) : ℝ) : EReal)) = _
  rw [← EReal.coe_neg]
  exact (EReal.coe_strictMono.monotone.map_max).symm
theorem log1p_exp_up2 (a : Fin m → Fin n → ℝ) : log1p (up2 (t := t) fun i j => Real.exp (a i j)) = up2 fun i j => Real.log (1 + Real.exp (a i j)) :=
  funext fun i => log1p_coe _

theorem addf_upM (a b : Fin 8 → Mat) : addf (upM (t := t) a) (upM b) = upM fun h => a h + b h := rfl
theorem subf_upM (a b : Fin 8 → Mat) : subf (upM (t := t) a) (upM b) = upM fun h => a h - b h := rfl
theorem truncf_upM (a : Fin 8 → Mat) (h) : truncf .bf16 (upM (t := .f32) a) h = upM a := rfl
theorem extf_upM (a : Fin 8 → Mat) (h) : extf .f32 (upM (t := .bf16) a) h = upM a := rfl
theorem subf_up3 (a b : Fin l → Fin m → Fin n → ℝ) : subf (up3 (t := t) a) (up3 b) = up3 (a - b) := rfl
theorem addf_up3 (a b : Fin l → Fin m → Fin n → ℝ) : addf (up3 (t := t) a) (up3 b) = up3 (a + b) := rfl
theorem truncf_up3 (a : Fin l → Fin m → Fin n → ℝ) (h) : truncf .bf16 (up3 (t := .f32) a) h = up3 a := rfl
theorem extf_up3 (a : Fin l → Fin m → Fin n → ℝ) (h) : extf .f32 (up3 (t := .bf16) a) h = up3 a := rfl

/-- The product of two matrices, and the products of two stacks. -/
def dotR {p : ℕ} (a : Fin m → Fin p → ℝ) (b : Fin p → Fin n → ℝ) : Fin m → Fin n → ℝ := fun i j => ∑ k, a i k * b k j
def dot3R {p : ℕ} (a : Fin l → Fin m → Fin p → ℝ) (b : Fin l → Fin p → Fin n → ℝ) : Fin l → Fin m → Fin n → ℝ := fun h i j => ∑ k, a h i k * b h k j
def dotT3R {p : ℕ} (a : Fin l → Fin m → Fin p → ℝ) (b : Fin l → Fin n → Fin p → ℝ) : Fin l → Fin m → Fin n → ℝ := fun h i j => ∑ k, a h i k * b h j k

theorem dotR_zero_left {p : ℕ} (b : Fin p → Fin n → ℝ) : dotR (0 : Fin m → Fin p → ℝ) b = 0 := by funext i j; simp [dotR]
theorem dotR_zero_right {p : ℕ} (b : Fin m → Fin p → ℝ) : dotR b (0 : Fin p → Fin n → ℝ) = 0 := by funext i j; simp [dotR]
theorem dot3R_zero_left {p : ℕ} (b : Fin l → Fin p → Fin n → ℝ) : dot3R (0 : Fin l → Fin m → Fin p → ℝ) b = 0 := by funext h i j; simp [dot3R]
theorem dot3R_zero_right {p : ℕ} (b : Fin l → Fin m → Fin p → ℝ) : dot3R b (0 : Fin l → Fin p → Fin n → ℝ) = 0 := by funext h i j; simp [dot3R]
theorem dotT3R_zero_left {p : ℕ} (b : Fin l → Fin n → Fin p → ℝ) : dotT3R (0 : Fin l → Fin m → Fin p → ℝ) b = 0 := by funext h i j; simp [dotT3R]
theorem dotT3R_zero_right {p : ℕ} (b : Fin l → Fin m → Fin p → ℝ) : dotT3R b (0 : Fin l → Fin n → Fin p → ℝ) = 0 := by funext h i j; simp [dotT3R]

end Rules

section Products
open Cert.MixIdeal Cert.MixIdeal.Gen

variable {t : FTy}

theorem mm_w (a : Fin 64 → Fin 64 → ℝ) (b : Fin 64 → Fin 512 → ℝ) : matmul dot_S64x64_S64x512_S64x512_1_0_0_1_n_n none (up2 a : FVec Ideal S64x64 .bf16) (up2 b : FVec Ideal S64x512 .bf16)
    (constant (F := Ideal) S64x512 .f32 0x00000000#32) = up2 (dotR a b) := by
  funext i
  idx_vars i
  rw [up2_ix, dotR, coe_sum]
  simp only [EReal.coe_mul]
  pointwise [up2_ix]

theorem mm_g (a : Fin 64 → Fin 128 → ℝ) (b : Fin 128 → Fin 512 → ℝ) : matmul dot_S64x128_S128x512_S64x512_1_0_0_1_n_n none (up2 a : FVec Ideal S64x128 .bf16) (up2 b : FVec Ideal S128x512 .bf16)
    (constant (F := Ideal) S64x512 .f32 0x00000000#32) = up2 (dotR a b) := by
  funext i
  idx_vars i
  rw [up2_ix, dotR, coe_sum]
  simp only [EReal.coe_mul]
  pointwise [up2_ix]

theorem mm_bd (a : Fin 64 → Fin 512 → ℝ) (b : Fin 512 → Fin 512 → ℝ) : matmul dot_S64x512_S512x512_S64x512_1_0_0_1_n_n none (up2 a : FVec Ideal S64x512 .bf16) (up2 b : FVec Ideal S512x512 .bf16)
    (constant (F := Ideal) S64x512 .f32 0x00000000#32) = up2 (dotR a b) := by
  funext i
  idx_vars i
  rw [up2_ix, dotR, coe_sum]
  simp only [EReal.coe_mul]
  pointwise [up2_ix]

theorem mm_64 (p) (a b : Fin 8 → Mat) : matmul dot_S8x64x64_S8x64x64_S8x64x64_2_1_1_2_0_0 p (upM a : FVec Ideal S8x64x64 t) (upM b : FVec Ideal S8x64x64 t)
    (constant (F := Ideal) S8x64x64 .f32 0x00000000#32) = upM fun h => a h * b h := by
  funext i
  idx_vars i
  rw [upM_ix, Matrix.mul_apply, coe_sum]
  simp only [EReal.coe_mul]
  pointwise [upM_ix]

theorem mm_v (a : Fin 8 → Fin 128 → Fin 64 → ℝ) (b : Fin 8 → Fin 64 → Fin 64 → ℝ) : matmul dot_S8x128x64_S8x64x64_S8x128x64_2_1_1_2_0_0 none (up3 a : FVec Ideal S8x128x64 .bf16) (up3 b : FVec Ideal S8x64x64 .bf16)
    (constant (F := Ideal) S8x128x64 .f32 0x00000000#32) = up3 (dot3R a b) := by
  funext i
  idx_vars i
  rw [up3_ix, dot3R, coe_sum]
  simp only [EReal.coe_mul]
  pointwise [up3_ix]

theorem mm_x (a : Fin 8 → Fin 64 → Fin 64 → ℝ) (b : Fin 8 → Fin 64 → Fin 128 → ℝ) : matmul dot_S8x64x64_S8x64x128_S8x64x128_2_1_1_2_0_0 none (up3 a : FVec Ideal S8x64x64 .bf16) (up3 b : FVec Ideal S8x64x128 .bf16)
    (constant (F := Ideal) S8x64x128 .f32 0x00000000#32) = up3 (dot3R a b) := by
  funext i
  idx_vars i
  rw [up3_ix, dot3R, coe_sum]
  simp only [EReal.coe_mul]
  pointwise [up3_ix]

theorem mm_t (a b : Fin 8 → Fin 128 → Fin 64 → ℝ) : matmul dot_S8x128x64_S8x128x64_S8x128x128_2_2_1_1_0_0 none (up3 a : FVec Ideal S8x128x64 .bf16) (up3 b : FVec Ideal S8x128x64 .bf16)
    (constant (F := Ideal) S8x128x128 .f32 0x00000000#32) = up3 (dotT3R a b) := by
  funext i
  idx_vars i
  rw [up3_ix, dotT3R, coe_sum]
  simp only [EReal.coe_mul]
  pointwise [up3_ix]

end Products

end Cert.MixProof
-- ==== Proof.MixBody.lean ====
module

public import proofs.«01_k».proof.Proof.MixReal

/-! # What one chunk of the time mixing computes

The values of the kernel's body on real inputs: the token's vectors first, then the matrices of the chunk. -/

@[expose] public section

set_option maxRecDepth 16384

noncomputable section

namespace Cert.MixProof

open Idealize.ShloMosaic Idealize.ShloMosaic.TcCoe
open Cert.MixIdeal Cert.MixIdeal.Gen

variable {t : FTy}

/-- A number read from an integer word. -/
theorem float_of (b : BitVec 32) : (FloatOps.sitofp .f32 b : Ideal .f32) = ((b.toInt : ℝ) : EReal) := rfl

/-- One row as an array of one row. -/
def up1 {n : ℕ} (w : Fin n → ℝ) : FVec Ideal ⟨2, ![1, n]⟩ .f32 := fun i => ((w (i 1) : ℝ) : EReal)
theorem up1_ix {n : ℕ} (w : Fin n → ℝ) (i : Fin 1) (j : Fin n) : (up1 w) (ix2 i j) = ((w j : ℝ) : EReal) := rfl

theorem row_up1 (w : Fin 512 → ℝ) : broadcastTo S64x512 (up1 w : FVec Ideal S1x512 .f32) broadcasts_S1x512_S64x512 = up2 (t := .f32) fun _ => w := by
  funext i
  idx_vars i
  pointwise [up1_ix, up2_ix]

theorem rsqrt_up2 {m n : ℕ} (a : Fin m → Fin n → ℝ) (h : ∀ i j, 0 < a i j) : rsqrt (up2 (t := t) a) = up2 fun i j => (Real.sqrt (a i j))⁻¹ :=
  funext fun _ => rsqrt_coe _ (h _ _)

theorem never_up2 (a : Fin 64 → Fin 512 → ℝ) (x y : FVec Ideal S64x512 .f32) : select (cmpf .one (up2 a : FVec Ideal S64x512 .f32) (up2 a)) x y = y := by
  funext i
  idx_vars i
  pointwise [up2_ix]
  simp

/-- The products split in two or three parts are the products. -/
theorem split_w (a : Fin 64 → Fin 64 → ℝ) (b : Fin 64 → Fin 512 → ℝ) : dotR a b + dotR a (b - b) + dotR (a - a) b = dotR a b := by
  simp only [sub_self, dotR_zero_left, dotR_zero_right, add_zero]

theorem decay (w0 : Fin 512 → ℝ) (a : Fin 64 → Fin 64 → ℝ) (b : Fin 64 → Fin 512 → ℝ) :
    k0_pay18 (F := Ideal) (up1 w0) (up2 (t := .f32) a) (up2 (t := .f32) b) (up2 (t := .bf16) a) (up2 (t := .bf16) b) = up2 (t := .f32) fun i j => -Real.exp (-soft (-(w0 j + dotR a b i j)) - 1 / 2) := by
  unfold k0_pay18
  dsimp only
  simp only [row_up1, truncf_up2, extf_up2, subf_up2, mm_w, addf_up2, sub_self, dotR_zero_left, dotR_zero_right, add_zero, zero_up2, maximumf_up2, absf_up2,
    exp_up2, log1p_exp_up2, never_up2, half_up2]
  congr 1
  funext i j
  simp [soft]

theorem rate (a0 : Fin 512 → ℝ) (a : Fin 64 → Fin 64 → ℝ) (b : Fin 64 → Fin 512 → ℝ) :
    k0_pay24 (F := Ideal) (up1 a0) (k0_pay20 (up2 (t := .f32) a)) (k0_pay21 (up2 (t := .f32) b)) (k0_pay22 (up2 (t := .f32) a)) (k0_pay23 (up2 (t := .f32) b)) = up2 (t := .f32) fun i j => sig (a0 j + dotR a b i j) := by
  unfold k0_pay24 k0_pay22 k0_pay23 k0_pay20 k0_pay21
  dsimp only
  simp only [row_up1, truncf_up2, extf_up2, subf_up2, mm_w, addf_up2, sub_self, dotR_zero_left, dotR_zero_right, add_zero, logistic_up2]
  rfl

theorem gate (a : Fin 64 → Fin 128 → ℝ) (b : Fin 128 → Fin 512 → ℝ) :
    k0_pay25 (F := Ideal) (up2 (t := .f32) a) (up2 (t := .f32) b) = up2 (t := .f32) (dotR (fun i j => sig (a i j)) b) := by
  unfold k0_pay25
  dsimp only
  simp only [truncf_up2, extf_up2, subf_up2, mm_g, addf_up2, sub_self, dotR_zero_left, dotR_zero_right, add_zero, logistic_up2]

theorem scaled (k : Fin 64 → Fin 512 → ℝ) (kk : Fin 512 → ℝ) : k0_pay26 (F := Ideal) (up2 (t := .f32) k) (up1 kk) = up2 (t := .f32) fun i j => k i j * kk j := by
  unfold k0_pay26
  dsimp only
  simp only [shapeCast_self, row_up1, mulf_up2]
  rfl

/-- The indicator that two columns lie in one head. -/
def heads : Fin 512 → Fin 512 → ℝ := fun k j => if k.val / 64 = j.val / 64 then 1 else 0

theorem dot_heads (a : Fin 64 → Fin 512 → ℝ) : dotR a heads = fun i j => hsum (a i) (hOf j) := by
  funext i j
  exact sum_head (a i) j

theorem squares (k : Fin 64 → Fin 512 → ℝ) (kk : Fin 512 → ℝ) :
    k0_pay27 (F := Ideal) (up2 (t := .f32) k) (up2 (t := .f32) heads) (up1 kk) = up2 (t := .f32) fun i j => max (hsum (fun z => k i z * kk z * (k i z * kk z)) (hOf j)) tiny := by
  unfold k0_pay27
  dsimp only
  simp only [scaled, mulf_up2, truncf_up2, extf_up2, subf_up2, mm_bd, addf_up2, sub_self, dotR_zero_left, add_zero, zero_add, zero_up2, tiny_up2, maximumf_up2]
  simp only [dot_heads]
  rfl

theorem normed (k s : Fin 64 → Fin 512 → ℝ) (h : ∀ i j, 0 < s i j) : k0_pay28 (F := Ideal) (up2 (t := .f32) k) (up2 (t := .f32) s) = up2 (t := .f32) fun i j => k i j * (Real.sqrt (s i j))⁻¹ := by
  unfold k0_pay28
  dsimp only
  rw [rsqrt_up2 _ h, mulf_up2]
  rfl

theorem newKey (k a : Fin 64 → Fin 512 → ℝ) (ka : Fin 512 → ℝ) : k0_pay29 (F := Ideal) (up2 (t := .f32) k) (up2 (t := .f32) a) (up1 ka) = up2 (t := .f32) fun i j => k i j * (1 + (a i j - 1) * ka j) := by
  unfold k0_pay29
  dsimp only
  simp only [shapeCast_self, row_up1, one_up2, subf_up2, mulf_up2, addf_up2]
  rfl

theorem running (ld : Fin 64 → Fin 512 → ℝ) : k0_pay31 (F := Ideal) (up2 (t := .f32) ld) = up2 (t := .f32) fun i j => ∑ s : Fin 64, (if s ≤ i then 1 else 0) * ld s j := by
  have hm : sitofp .f32 (extui 32 (cmpi .sge (iota .tc S64x64 32 [0] iota_S64x64_d0_w32) (iota .tc S64x64 32 [1] iota_S64x64_d1_w32) : IVec S64x64 1) natLt_1_32)
      = (up2 fun i s => if s ≤ i then 1 else 0 : FVec Ideal S64x64 .f32) := by
    have hb : ∀ i s : Fin 64, (extui 32 (cmpi .sge (iota .tc S64x64 32 [0] iota_S64x64_d0_w32) (iota .tc S64x64 32 [1] iota_S64x64_d1_w32) : IVec S64x64 1) natLt_1_32 : IVec S64x64 32) (ix2 i s) = if s ≤ i then 1#32 else 0#32 := by
      decide +kernel
    funext x
    idx_vars x
    pointwise [up2_ix, hb]
    split <;> simp [float_of]
  unfold k0_pay31
  dsimp only
  rw [hm]
  simp only [truncf_up2, extf_up2, subf_up2, mm_w, addf_up2, sub_self, dotR_zero_right, add_zero, zero_add, zero_up2]
  rfl

/-- The running sums of a chunk are the sums over its first rows. -/
theorem sum_upTo (f : ℕ → ℝ) (i : Fin 64) : (∑ s : Fin 64, (if s ≤ i then 1 else 0) * f s.val) = ∑ s ∈ Finset.range (i.val + 1), f s := by
  simp only [← Fin.val_fin_le]
  rw [Fin.sum_univ_eq_sum_range (fun s => (if s ≤ i.val then (1 : ℝ) else 0) * f s) 64]
  simp only [ite_mul, one_mul, zero_mul]
  rw [← Finset.sum_filter]
  refine Finset.sum_congr (Finset.ext fun s => ?_) fun _ _ => rfl
  simp only [Finset.mem_filter, Finset.mem_range]
  omega

section Scales

variable (ld : ℕ → Fin 512 → ℝ)

/-- The running sums of the log decay. -/
def run (n : ℕ) (j : Fin 512) : ℝ := ∑ s ∈ Finset.range n, ld s j

theorem running' : k0_pay31 (F := Ideal) (up2 (t := .f32) fun i => ld i.val) = up2 (t := .f32) fun i => run ld (i.val + 1) := by
  rw [running]
  congr 1
  funext i j
  exact sum_upTo (fun s => ld s j) i

theorem last : k0_pay32 (F := Ideal) (up2 (t := .f32) fun i => ld i.val) = up1 (run ld 64) := by
  unfold k0_pay32
  dsimp only
  rw [running']
  funext i
  idx_vars i
  pointwise [up2_ix, up1_ix]

theorem inverseScale : k0_pay33 (F := Ideal) (up2 (t := .f32) fun i => ld i.val) = up2 (t := .f32) fun i j => Real.exp (-run ld (i.val + 1) j) := by
  unfold k0_pay33
  dsimp only
  rw [running', zero_up2, subf_up2, exp_up2, zero_sub]
  rfl

theorem endScale : k0_pay34 (F := Ideal) (up2 (t := .f32) fun i => ld i.val) = up2 (t := .f32) fun i j => Real.exp (run ld 64 j - run ld (i.val + 1) j) := by
  unfold k0_pay34
  dsimp only
  rw [running', last, row_up1, subf_up2, exp_up2]
  rfl

theorem wholeScale : k0_pay35 (F := Ideal) (up2 (t := .f32) fun i => ld i.val) = up1 fun j => Real.exp (run ld 64 j) := by
  unfold k0_pay35
  dsimp only
  rw [last]
  rfl

end Scales

/-- A yes-or-no matrix as an array of bits. -/
def mask (p : Fin 64 → Fin 64 → Prop) [∀ i j, Decidable (p i j)] : IVec S64x64 1 := fun x => (fun i j : Fin 64 => if p i j then 1#1 else 0#1) (x 0) (x 1)

abbrev rowNo : IVec S64x64 32 := iota .tc S64x64 32 [0] iota_S64x64_d0_w32
abbrev colNo : IVec S64x64 32 := iota .tc S64x64 32 [1] iota_S64x64_d1_w32

end Cert.MixProof
-- ==== Proof.MixChain.lean ====
module

public import proofs.«01_k».proof.Proof.MixBody

/-! # The matrices of a chunk

The heads' matrices stacked, the four products masked, the inverse, and what the chunk reads and leaves as its state. -/

@[expose] public section

set_option maxRecDepth 16384

noncomputable section

namespace Cert.MixProof

open Idealize.ShloMosaic Idealize.ShloMosaic.TcCoe
open Cert.MixIdeal Cert.MixIdeal.Gen

variable {t : FTy}

/-- Keeping the positions of a mask in every head. -/
theorem keep_upM (p : Fin 64 → Fin 64 → Prop) [∀ i j, Decidable (p i j)] (a : Fin 8 → Mat) :
    select (broadcastTo S8x64x64 (shapeCast S1x64x64 (mask p) shapeCasts_S64x64_S1x64x64) broadcasts_S1x64x64_S8x64x64) (upM a : FVec Ideal S8x64x64 .f32)
      (broadcast S8x64x64 (Scalar.ofBits .f32 0x00000000#32 : Ideal .f32)) = upM fun h => keep p (a h) := by
  have hm : ∀ i j, mask p (ix2 i j) = if p i j then 1#1 else 0#1 := fun _ _ => rfl
  funext x
  idx_vars x
  pointwise [upM_ix, hm]
  have e : keep p (a x0) x1 x2 = if p x1 x2 then a x0 x1 x2 else 0 := rfl
  rw [e]
  by_cases h : p x1 x2 <;> simp [h, Scalar.select]

theorem unit_upM : broadcastTo S8x64x64 (shapeCast S1x64x64 (k0_pay59 (F := Ideal) rowNo colNo) shapeCasts_S64x64_S1x64x64) broadcasts_S1x64x64_S8x64x64
    = upM (t := .f32) fun _ => 1 := by
  have hb : ∀ i s : Fin 64, (extui 32 (cmpi .eq rowNo colNo : IVec S64x64 1) natLt_1_32 : IVec S64x64 32) (ix2 i s) = if i = s then 1#32 else 0#32 := by
    decide +kernel
  unfold k0_pay59
  dsimp only
  funext x
  idx_vars x
  pointwise [upM_ix, hb]
  simp only [Matrix.one_apply]
  split <;> simp [float_of]

/-- The columns of each head as a matrix. -/
def split8 (a : Fin 64 → Fin 512 → ℝ) : Fin 8 → Mat := fun h i j => a i (hd h j)

theorem stack_upM (a : Fin 64 → Fin 512 → ℝ) : k0_pay60 (F := Ideal) (up2 (t := .f32) a) = upM (t := .f32) (split8 a) := by
  unfold k0_pay60
  dsimp only
  funext x
  idx_vars x
  fin_cases x0 <;> pointwise [up2_ix, upM_ix] <;> exact congrArg (fun z => ((a x1 z : ℝ) : EReal)) (Fin.ext (by simp [hd] <;> omega))

theorem stack61 (v : FVec Ideal S64x512 .f32) : k0_pay61 v = k0_pay60 v := rfl
theorem stack70 (v : FVec Ideal S64x512 .f32) : k0_pay70 (k0_pay62 v) (k0_pay63 v) (k0_pay64 v) (k0_pay65 v) (k0_pay66 v) (k0_pay67 v) (k0_pay68 v) (k0_pay69 v) = k0_pay60 v := rfl
theorem stack71 (v : FVec Ideal S64x512 .f32) : k0_pay71 v = k0_pay60 v := rfl
theorem stack72 (v : FVec Ideal S64x512 .f32) : k0_pay72 v = k0_pay60 v := rfl
theorem stack73 (v : FVec Ideal S64x512 .f32) : k0_pay73 v = k0_pay60 v := rfl
theorem stack74 (v : FVec Ideal S64x512 .f32) : k0_pay74 v = k0_pay60 v := rfl

/-- Two stacks one below the other, and side by side. -/
def catRow (a b : Fin 8 → Mat) : Fin 8 → Fin 128 → Fin 64 → ℝ := fun h i j => if hi : i.val < 64 then a h ⟨i.val, hi⟩ j else b h ⟨i.val - 64, by omega⟩ j
def catCol (a b : Fin 8 → Mat) : Fin 8 → Fin 64 → Fin 128 → ℝ := fun h i j => if hj : j.val < 64 then a h i ⟨j.val, hj⟩ else b h i ⟨j.val - 64, by omega⟩

theorem catRow_upM (a b : Fin 8 → Mat) : concatenate S8x128x64 1 [⟨S8x64x64, (upM a : FVec Ideal S8x64x64 .f32)⟩, ⟨S8x64x64, (upM b : FVec Ideal S8x64x64 .f32)⟩]
    concatenates_S8x64x64_S8x64x64_S8x128x64_d1 = up3 (t := .f32) (catRow a b) := by
  funext x
  idx_vars x
  by_cases h : x1.val < 64
  · pointwise [upM_ix, up3_ix, h]
    simp only [catRow, h, dite_true]
  · pointwise [upM_ix, up3_ix, h]
    simp only [catRow, h, dite_false]

theorem catCol_upM (a b : Fin 8 → Mat) : concatenate S8x64x128 2 [⟨S8x64x64, (upM a : FVec Ideal S8x64x64 .f32)⟩, ⟨S8x64x64, (upM b : FVec Ideal S8x64x64 .f32)⟩]
    concatenates_S8x64x64_S8x64x64_S8x64x128_d2 = up3 (t := .f32) (catCol a b) := by
  funext x
  idx_vars x
  by_cases h : x2.val < 64
  · pointwise [upM_ix, up3_ix, h]
    simp only [catCol, h, dite_true]
  · pointwise [upM_ix, up3_ix, h]
    simp only [catCol, h, dite_false]

/-- The products of stacked matrices are the stacked products. -/
theorem mm_row (a b v : Fin 8 → Mat) : matmul dot_S8x128x64_S8x64x64_S8x128x64_2_1_1_2_0_0 none (up3 (catRow a b) : FVec Ideal S8x128x64 .bf16) (upM v : FVec Ideal S8x64x64 .bf16)
    (constant (F := Ideal) S8x128x64 .f32 0x00000000#32) = up3 (t := .f32) (catRow (fun h => a h * v h) (fun h => b h * v h)) := by
  refine (mm_v (catRow a b) (fun h => v h)).trans (congrArg up3 ?_)
  funext h i j
  simp only [dot3R, catRow]
  split <;> simp only [Matrix.mul_apply]
theorem mm_row_zero (a : Fin 8 → Fin 128 → Fin 64 → ℝ) : matmul dot_S8x128x64_S8x64x64_S8x128x64_2_1_1_2_0_0 none (up3 a : FVec Ideal S8x128x64 .bf16) (upM (fun _ => 0) : FVec Ideal S8x64x64 .bf16)
    (constant (F := Ideal) S8x128x64 .f32 0x00000000#32) = up3 (t := .f32) 0 := by
  refine (mm_v a 0).trans (congrArg up3 ?_)
  exact dot3R_zero_right _
theorem mm_row_zero' (v : Fin 8 → Mat) : matmul dot_S8x128x64_S8x64x64_S8x128x64_2_1_1_2_0_0 none (up3 0 : FVec Ideal S8x128x64 .bf16) (upM v : FVec Ideal S8x64x64 .bf16)
    (constant (F := Ideal) S8x128x64 .f32 0x00000000#32) = up3 (t := .f32) 0 := by
  refine (mm_v 0 fun h => v h).trans (congrArg up3 ?_)
  exact dot3R_zero_left _
theorem mm_col (x a b : Fin 8 → Mat) : matmul dot_S8x64x64_S8x64x128_S8x64x128_2_1_1_2_0_0 none (upM x : FVec Ideal S8x64x64 .bf16) (up3 (catCol a b) : FVec Ideal S8x64x128 .bf16)
    (constant (F := Ideal) S8x64x128 .f32 0x00000000#32) = up3 (t := .f32) (catCol (fun h => x h * a h) (fun h => x h * b h)) := by
  refine (mm_x (fun h => x h) (catCol a b)).trans (congrArg up3 ?_)
  funext h i j
  simp only [dot3R, catCol]
  split <;> simp only [Matrix.mul_apply]
theorem mm_col_zero (x : Fin 8 → Mat) : matmul dot_S8x64x64_S8x64x128_S8x64x128_2_1_1_2_0_0 none (upM x : FVec Ideal S8x64x64 .bf16) (up3 0 : FVec Ideal S8x64x128 .bf16)
    (constant (F := Ideal) S8x64x128 .f32 0x00000000#32) = up3 (t := .f32) 0 := by
  refine (mm_x (fun h => x h) 0).trans (congrArg up3 ?_)
  exact dot3R_zero_right _
theorem mm_col_zero' (a : Fin 8 → Fin 64 → Fin 128 → ℝ) : matmul dot_S8x64x64_S8x64x128_S8x64x128_2_1_1_2_0_0 none (upM (fun _ => 0) : FVec Ideal S8x64x64 .bf16) (up3 a : FVec Ideal S8x64x128 .bf16)
    (constant (F := Ideal) S8x64x128 .f32 0x00000000#32) = up3 (t := .f32) 0 := by
  refine (mm_x 0 a).trans (congrArg up3 ?_)
  exact dot3R_zero_left _

/-- The four products of the chunk's matrices. -/
def quad (a r b k : Fin 8 → Mat) : Fin 8 → Fin 128 → Fin 128 → ℝ := dotT3R (catRow a r) (catRow b k)

theorem quad_up3 (a r b k : Fin 8 → Mat) : k0_pay75 (F := Ideal) (upM (t := .f32) a) (upM (t := .f32) r) (upM (t := .f32) b) (upM (t := .f32) k) = up3 (t := .f32) (quad a r b k) := by
  unfold k0_pay75
  dsimp only
  simp only [catRow_upM, truncf_up3, extf_up3, subf_up3, sub_self, mm_t, dotT3R_zero_left, dotT3R_zero_right, addf_up3, add_zero]
  rfl

theorem quad00 (a r b k : Fin 8 → Mat) : extractStridedSlice S8x64x64 ![0, 0, 0] (up3 (quad a r b k) : FVec Ideal S8x128x128 .f32) slices_S8x128x128_o0_0_0_S8x64x64
    = upM (t := .f32) fun h => a h * (b h).transpose := by
  funext x
  idx_vars x
  pointwise [up3_ix, upM_ix]
  refine congrArg _ ?_
  simp [quad, dotT3R, catRow, Matrix.mul_apply]
theorem quad01 (a r b k : Fin 8 → Mat) : extractStridedSlice S8x64x64 ![0, 0, 64] (up3 (quad a r b k) : FVec Ideal S8x128x128 .f32) slices_S8x128x128_o0_0_64_S8x64x64
    = upM (t := .f32) fun h => a h * (k h).transpose := by
  funext x
  idx_vars x
  pointwise [up3_ix, upM_ix]
  refine congrArg _ ?_
  simp [quad, dotT3R, catRow, Matrix.mul_apply]
theorem quad10 (a r b k : Fin 8 → Mat) : extractStridedSlice S8x64x64 ![0, 64, 0] (up3 (quad a r b k) : FVec Ideal S8x128x128 .f32) slices_S8x128x128_o0_64_0_S8x64x64
    = upM (t := .f32) fun h => r h * (b h).transpose := by
  funext x
  idx_vars x
  pointwise [up3_ix, upM_ix]
  refine congrArg _ ?_
  simp [quad, dotT3R, catRow, Matrix.mul_apply]
theorem quad11 (a r b k : Fin 8 → Mat) : extractStridedSlice S8x64x64 ![0, 64, 64] (up3 (quad a r b k) : FVec Ideal S8x128x128 .f32) slices_S8x128x128_o0_64_64_S8x64x64
    = upM (t := .f32) fun h => r h * (k h).transpose := by
  funext x
  idx_vars x
  pointwise [up3_ix, upM_ix]
  refine congrArg _ ?_
  simp [quad, dotT3R, catRow, Matrix.mul_apply]

theorem row0 (a b : Fin 8 → Mat) : extractStridedSlice S8x64x64 ![0, 0, 0] (up3 (catRow a b) : FVec Ideal S8x128x64 .f32) slices_S8x128x64_o0_0_0_S8x64x64 = upM (t := .f32) a := by
  funext x
  idx_vars x
  pointwise [up3_ix, upM_ix]
  refine congrArg _ ?_
  simp [catRow]
theorem row1 (a b : Fin 8 → Mat) : extractStridedSlice S8x64x64 ![0, 64, 0] (up3 (catRow a b) : FVec Ideal S8x128x64 .f32) slices_S8x128x64_o0_64_0_S8x64x64 = upM (t := .f32) b := by
  funext x
  idx_vars x
  pointwise [up3_ix, upM_ix]
  refine congrArg _ ?_
  simp [catRow]
theorem col0 (a b : Fin 8 → Mat) : extractStridedSlice S8x64x64 ![0, 0, 0] (up3 (catCol a b) : FVec Ideal S8x64x128 .f32) slices_S8x64x128_o0_0_0_S8x64x64 = upM (t := .f32) a := by
  funext x
  idx_vars x
  pointwise [up3_ix, upM_ix]
  refine congrArg _ ?_
  simp [catCol]
theorem col1 (a b : Fin 8 → Mat) : extractStridedSlice S8x64x64 ![0, 0, 64] (up3 (catCol a b) : FVec Ideal S8x64x128 .f32) slices_S8x64x128_o0_0_64_S8x64x64 = upM (t := .f32) b := by
  funext x
  idx_vars x
  pointwise [up3_ix, upM_ix]
  refine congrArg _ ?_
  simp [catCol]

section Inverse

variable (L : Fin 8 → Mat)

abbrev zeroS : Ideal .f32 := Scalar.ofBits .f32 0x00000000#32

theorem diag16 : k0_pay80 (F := Ideal) (mask same16) (upM (t := .f32) L) zeroS = upM (t := .f32) fun h => keep same16 (L h) := by
  unfold k0_pay80
  dsimp only
  exact keep_upM _ _

theorem diag16sq : k0_pay81 (F := Ideal) (mask same16) (upM (t := .f32) L) zeroS = upM (t := .f32) fun h => keep same16 (L h) * keep same16 (L h) := by
  unfold k0_pay81
  dsimp only
  simp only [diag16, truncf_upM, extf_upM, subf_upM, sub_self, mm_64, addf_upM, mul_zero, zero_mul, add_zero]

theorem first16 : k0_pay82 (F := Ideal) (mask same16) (k0_pay59 rowNo colNo) (upM (t := .f32) L) zeroS
    = upM (t := .f32) fun h => (1 + keep same16 (L h)) + (1 + keep same16 (L h)) * (keep same16 (L h) * keep same16 (L h)) := by
  unfold k0_pay82
  dsimp only
  simp only [unit_upM, diag16, diag16sq, truncf_upM, extf_upM, subf_upM, sub_self, mm_64, addf_upM, mul_zero, zero_mul, add_zero]

theorem fourth16 : k0_pay83 (F := Ideal) (mask same16) (upM (t := .f32) L) zeroS
    = upM (t := .f32) fun h => keep same16 (L h) * keep same16 (L h) * (keep same16 (L h) * keep same16 (L h)) := by
  unfold k0_pay83
  dsimp only
  simp only [diag16sq, truncf_upM, extf_upM, subf_upM, sub_self, mm_64, addf_upM, mul_zero, zero_mul, add_zero]

theorem inverse16 : k0_pay87 (F := Ideal) (k0_pay82 (mask same16) (k0_pay59 rowNo colNo) (upM (t := .f32) L) zeroS) (k0_pay83 (mask same16) (upM (t := .f32) L) zeroS)
    (k0_pay84 (mask same16) (k0_pay59 rowNo colNo) (upM (t := .f32) L) zeroS) (k0_pay85 (mask same16) (upM (t := .f32) L) zeroS)
    (k0_pay86 (mask same16) (k0_pay59 rowNo colNo) (upM (t := .f32) L) zeroS) = upM (t := .f32) fun h => inv16 (L h) := by
  unfold k0_pay87 k0_pay86 k0_pay84 k0_pay85
  dsimp only
  simp only [first16, fourth16, truncf_upM, extf_upM, subf_upM, sub_self, mm_64, addf_upM, mul_zero, zero_mul, add_zero]
  rfl

end Inverse

theorem inverse32 (X L : Fin 8 → Mat) : k0_pay93 (F := Ideal) (upM (t := .f32) X) (upM (t := .bf16) X) (k0_pay90 (mask pair32) (upM (t := .f32) L)) (upM (t := .bf16) fun _ => 0)
    (k0_pay92 (mask pair32) (upM (t := .f32) L)) (constant S8x64x64 .f32 0x00000000#32) = upM (t := .f32) fun h => X h + X h * keep pair32 (L h) * X h := by
  unfold k0_pay93 k0_pay92 k0_pay90 k0_pay88
  dsimp only
  simp only [keep_upM, truncf_upM, extf_upM, subf_upM, sub_self, mm_64, addf_upM, mul_zero, zero_mul, add_zero]

section Rest

variable (A R B K E G V X L U W Z : Fin 8 → Mat)

local notation "u" => upM (t := FTy.f32)

theorem one_diag (i j : Fin 64) (c : ℝ) (Y : Mat) (f : Fin 64 → ℝ) (hf : c = f j) :
    (((1 : Mat) i j : ℝ) : EReal) * ((c : ℝ) : EReal) + ((Y i j : ℝ) : EReal) = (((Matrix.diagonal f + Y) i j : ℝ) : EReal) := by
  rw [← EReal.coe_mul, ← EReal.coe_add]
  refine congrArg _ ?_
  rw [Matrix.add_apply, Matrix.diagonal_apply, Matrix.one_apply]
  by_cases e : i = j
  · subst e
    simp [hf]
  · simp [e]

theorem catCol_zero : (catCol (fun _ => 0) fun _ => 0) = 0 := by
  funext h i j
  simp [catCol]

theorem trunc16 (v w : FVec Ideal S8x64x64 .f32) (v' w' : FVec Ideal S8x64x64 .bf16) (q : FVec Ideal S8x64x64 .f32) (h : k0_pay87 v w v' w' q = u X) :
    k0_pay89 v w v' w' q = upM (t := .bf16) X ∧ k0_pay91 v w v' w' q = upM (t := .bf16) fun _ => 0 := by
  unfold k0_pay91 k0_pay89
  dsimp only
  rw [h]
  simp only [truncf_upM, extf_upM, subf_upM, sub_self, and_self]

theorem cross_sum (x : FVec Ideal S8x64x64 .f32) (x' p z z' : FVec Ideal S8x64x64 .bf16) (c : FVec Ideal S8x64x64 .f32) (h : k0_pay93 x x' p z z' c = u X) :
    addf (k0_pay97 (mask cross32) (u L) x x' p z z' c) (k0_pay98 (mask cross32) (u L) x x' p z z' c) = u fun h => X h * keep cross32 (L h) * X h := by
  unfold k0_pay97 k0_pay98 k0_pay95 k0_pay94 k0_pay96
  dsimp only
  simp only [h, keep_upM, truncf_upM, extf_upM, subf_upM, sub_self, mm_64, addf_upM, mul_zero, zero_mul, add_zero]

theorem kept_v : k0_pay99 (F := Ideal) (u V) (u U) (u W) = up3 (t := .f32) (catRow (fun h => U h * V h) (fun h => W h * V h)) := by
  unfold k0_pay99
  dsimp only
  simp only [catRow_upM, truncf_up3, extf_up3, subf_up3, truncf_upM, extf_upM, subf_upM, sub_self, mm_row, mm_row_zero, mm_row_zero', addf_up3, add_zero]

theorem solved (x y z : FVec Ideal S8x64x64 .f32) (hx : x = u X) (hyz : addf y z = u Z) : k0_pay100 (F := Ideal) (u A) (u V) (u U) (u W) x y z
    = up3 (t := .f32) (catCol (fun h => (X h + Z h) * A h) (fun h => (X h + Z h) * (U h * V h))) := by
  unfold k0_pay100
  dsimp only
  rw [hyz, hx, kept_v, row0, catCol_upM]
  simp only [truncf_up3, extf_up3, subf_up3, truncf_upM, extf_upM, subf_upM, sub_self, mm_col, mm_col_zero, mm_col_zero', zero_mul, catCol_zero, addf_up3, addf_upM, add_zero]

variable {x y z : FVec Ideal S8x64x64 .f32} (P Q : Fin 8 → Mat) (h : k0_pay100 (F := Ideal) (u A) (u V) (u U) (u W) x y z = up3 (t := .f32) (catCol P Q))
include h

theorem reread : k0_pay101 (F := Ideal) (u A) (u V) (u U) (u Z) (u W) x y z = up3 (t := .f32) (catCol (fun h => Z h * P h) (fun h => Z h * Q h)) := by
  unfold k0_pay101
  dsimp only
  simp only [h, truncf_up3, extf_up3, subf_up3, truncf_upM, extf_upM, subf_upM, sub_self, mm_col, mm_col_zero, mm_col_zero', zero_mul, catCol_zero, addf_up3, add_zero]

theorem out1 : k0_pay102 (F := Ideal) (u A) (u R) (u V) (u U) (u Z) (u W) x y z = u fun h => R h + Z h * P h := by
  unfold k0_pay102
  dsimp only
  rw [reread A V U W Z P Q h, col0, addf_upM]

theorem out2 : k0_pay103 (F := Ideal) (u A) (u V) (u U) (u Z) (u W) x y z = u fun h => Z h * Q h + W h * V h := by
  unfold k0_pay103
  dsimp only
  rw [reread A V U W Z P Q h, col1, kept_v, row1, addf_upM]

omit h

theorem turned : k0_pay104 (F := Ideal) (u E) = u fun h => (E h).transpose := by
  unfold k0_pay104
  dsimp only
  funext x
  idx_vars x
  pointwise [upM_ix]
  rfl

theorem turned' : transpose S8x64x64 [0, 2, 1] (u E) transposes_S8x64x64_p0_2_1_S8x64x64 = u fun h => (E h).transpose := turned E

theorem toEnd : k0_pay106 (F := Ideal) (up3 (t := .f32) (catCol P Q)) (k0_pay104 (u E)) (k0_pay105 (u E))
    = up3 (t := .f32) (catCol (fun h => (E h).transpose * P h) (fun h => (E h).transpose * Q h)) := by
  unfold k0_pay106 k0_pay105
  dsimp only
  simp only [turned, truncf_up3, extf_up3, subf_up3, truncf_upM, extf_upM, subf_upM, sub_self, mm_col, mm_col_zero, mm_col_zero', zero_mul, catCol_zero, addf_up3, add_zero]

theorem whole (w : Fin 512 → ℝ) : k0_pay107 (F := Ideal) (up1 w) (k0_pay59 rowNo colNo) (up3 (t := .f32) (catCol P Q)) (k0_pay104 (u E)) (k0_pay105 (u E))
    = u fun h => Matrix.diagonal (fun j => w (hd h j)) + (E h).transpose * P h := by
  unfold k0_pay107
  dsimp only
  rw [toEnd, col0, unit_upM]
  funext x
  idx_vars x
  fin_cases x0 <;> pointwise [up1_ix, upM_ix]
  all_goals exact one_diag _ _ _ _ _ (congrArg w (Fin.ext (by simp [hd] <;> omega)))

theorem added : k0_pay108 (F := Ideal) (u G) (u V) (up3 (t := .f32) (catCol P Q)) (k0_pay104 (u E)) (k0_pay105 (u E))
    = u fun h => (E h).transpose * Q h + (G h).transpose * V h := by
  unfold k0_pay108
  dsimp only
  rw [toEnd, col1, turned']
  simp only [truncf_upM, extf_upM, subf_upM, sub_self, mm_64, addf_upM, mul_zero, zero_mul, add_zero]

theorem readAll : k0_pay109 (F := Ideal) (u X) (u Z) (u V) = u fun h => X h * V h + Z h := by
  unfold k0_pay109
  dsimp only
  rw [mm_64, addf_upM]

theorem newState : k0_pay110 (F := Ideal) (u X) (u Z) (u V) = u fun h => X h * V h + Z h := by
  unfold k0_pay110
  dsimp only
  rw [mm_64, addf_upM]
  exact shapeCast_self _ _

end Rest

section Chain

abbrev kSame := k0_pay49 (k0_pay44 rowNo) (k0_pay45 colNo) (k0_pay46 colNo) (k0_pay47 colNo)
abbrev kPair := k0_pay54 kSame (k0_pay50 (k0_pay44 rowNo)) (k0_pay51 (k0_pay45 colNo) (k0_pay46 colNo) (k0_pay47 colNo))
  (k0_pay52 (k0_pay45 colNo) (k0_pay46 colNo) (k0_pay47 colNo)) (k0_pay53 (k0_pay45 colNo) (k0_pay46 colNo) (k0_pay47 colNo))
abbrev kCross := k0_pay58 (k0_pay48 (k0_pay45 colNo) (k0_pay46 colNo) (k0_pay47 colNo)) (k0_pay55 (k0_pay44 rowNo)) 2#32
  (k0_pay56 (k0_pay48 (k0_pay45 colNo) (k0_pay46 colNo) (k0_pay47 colNo))) (k0_pay57 (k0_pay48 (k0_pay45 colNo) (k0_pay46 colNo) (k0_pay47 colNo)))
  (Scalar.extui (Scalar.cmpi .sgt 2#32 0#32)) (Scalar.cmpi .slt 2#32 0#32)

variable (L A V U W : FVec Ideal S8x64x64 .f32)

/-- The kernel's inverse of a chunk, step by step. -/
def k521 := k0_pay82 (F := Ideal) kSame (k0_pay59 rowNo colNo) L zeroS
def k534 := k0_pay83 (F := Ideal) kSame L zeroS
def k535 := k0_pay84 (F := Ideal) kSame (k0_pay59 rowNo colNo) L zeroS
def k536 := k0_pay85 (F := Ideal) kSame L zeroS
def k538 := k0_pay86 (F := Ideal) kSame (k0_pay59 rowNo colNo) L zeroS
def k575 := k0_pay87 (F := Ideal) (k521 L) (k534 L) (k535 L) (k536 L) (k538 L)
def k580 := k0_pay89 (F := Ideal) (k521 L) (k534 L) (k535 L) (k536 L) (k538 L)
def k584 := k0_pay91 (F := Ideal) (k521 L) (k534 L) (k535 L) (k536 L) (k538 L)
def k606 := k0_pay93 (F := Ideal) (k575 L) (k580 L) (k0_pay90 kPair L) (k584 L) (k0_pay92 kPair L) (constant S8x64x64 .f32 0x00000000#32)
def k634 := k0_pay97 (F := Ideal) kCross L (k575 L) (k580 L) (k0_pay90 kPair L) (k584 L) (k0_pay92 kPair L) (constant S8x64x64 .f32 0x00000000#32)
def k635 := k0_pay98 (F := Ideal) kCross L (k575 L) (k580 L) (k0_pay90 kPair L) (k584 L) (k0_pay92 kPair L) (constant S8x64x64 .f32 0x00000000#32)
def k666 := k0_pay100 (F := Ideal) A V U W (k606 L) (k634 L) (k635 L)

end Chain

end Cert.MixProof
-- ==== Proof.MixMask.lean ====
module

public import proofs.«01_k».proof.Proof.MixBody

/-! # The masks of a chunk

Which positions the kernel's integer comparisons keep. -/

@[expose] public section

set_option maxRecDepth 16384

noncomputable section

namespace Cert.MixProof

open Idealize.ShloMosaic Idealize.ShloMosaic.TcCoe
open Cert.MixIdeal Cert.MixIdeal.Gen

theorem mask_below : k0_pay42 rowNo colNo = mask fun i j => j < i := by
  have h : ∀ i j : Fin 64, k0_pay42 rowNo colNo (ix2 i j) = if j < i then 1#1 else 0#1 := by decide +kernel
  funext x
  idx_vars x
  exact h _ _
theorem mask_upTo : k0_pay43 rowNo colNo = mask fun i j => j ≤ i := by
  have h : ∀ i j : Fin 64, k0_pay43 rowNo colNo (ix2 i j) = if j ≤ i then 1#1 else 0#1 := by decide +kernel
  funext x
  idx_vars x
  exact h _ _
theorem mask_same : k0_pay49 (k0_pay44 rowNo) (k0_pay45 colNo) (k0_pay46 colNo) (k0_pay47 colNo) = mask same16 := by
  have h : ∀ i j : Fin 64, k0_pay49 (k0_pay44 rowNo) (k0_pay45 colNo) (k0_pay46 colNo) (k0_pay47 colNo) (ix2 i j) = if same16 i j then 1#1 else 0#1 := by decide +kernel
  funext x
  idx_vars x
  exact h _ _
theorem mask_pair : k0_pay54 (mask same16) (k0_pay50 (k0_pay44 rowNo)) (k0_pay51 (k0_pay45 colNo) (k0_pay46 colNo) (k0_pay47 colNo))
    (k0_pay52 (k0_pay45 colNo) (k0_pay46 colNo) (k0_pay47 colNo)) (k0_pay53 (k0_pay45 colNo) (k0_pay46 colNo) (k0_pay47 colNo)) = mask pair32 := by
  have h : ∀ i j : Fin 64, k0_pay54 (mask same16) (k0_pay50 (k0_pay44 rowNo)) (k0_pay51 (k0_pay45 colNo) (k0_pay46 colNo) (k0_pay47 colNo))
    (k0_pay52 (k0_pay45 colNo) (k0_pay46 colNo) (k0_pay47 colNo)) (k0_pay53 (k0_pay45 colNo) (k0_pay46 colNo) (k0_pay47 colNo)) (ix2 i j) = if pair32 i j then 1#1 else 0#1 := by decide +kernel
  funext x
  idx_vars x
  exact h _ _
theorem mask_cross : k0_pay58 (k0_pay48 (k0_pay45 colNo) (k0_pay46 colNo) (k0_pay47 colNo)) (k0_pay55 (k0_pay44 rowNo)) 2#32
    (k0_pay56 (k0_pay48 (k0_pay45 colNo) (k0_pay46 colNo) (k0_pay47 colNo))) (k0_pay57 (k0_pay48 (k0_pay45 colNo) (k0_pay46 colNo) (k0_pay47 colNo)))
    (Scalar.extui (Scalar.cmpi .sgt 2#32 0#32)) (Scalar.cmpi .slt 2#32 0#32) = mask cross32 := by
  have h : ∀ i j : Fin 64, k0_pay58 (k0_pay48 (k0_pay45 colNo) (k0_pay46 colNo) (k0_pay47 colNo)) (k0_pay55 (k0_pay44 rowNo)) 2#32
    (k0_pay56 (k0_pay48 (k0_pay45 colNo) (k0_pay46 colNo) (k0_pay47 colNo))) (k0_pay57 (k0_pay48 (k0_pay45 colNo) (k0_pay46 colNo) (k0_pay47 colNo)))
    (Scalar.extui (Scalar.cmpi .sgt 2#32 0#32)) (Scalar.cmpi .slt 2#32 0#32) (ix2 i j) = if cross32 i j then 1#1 else 0#1 := by decide +kernel
  funext x
  idx_vars x
  exact h _ _

end Cert.MixProof
-- ==== Proof.MixMatrix.lean ====
module

public import proofs.«01_k».proof.Proof.MixChain
public import proofs.«01_k».proof.Proof.MixMask

/-! # A chunk as matrices

What a chunk of the kernel reads and the state it leaves, from the stacks of its heads' matrices. -/

@[expose] public section

set_option maxRecDepth 16384

noncomputable section

namespace Cert.MixProof

open Idealize.ShloMosaic Idealize.ShloMosaic.TcCoe
open Cert.MixIdeal Cert.MixIdeal.Gen

local notation "u" => upM (t := FTy.f32)

section Chain

variable (L : Fin 8 → Mat)

theorem k575_up : k575 (u L) = u fun h => inv16 (L h) := by
  unfold k575 k521 k534 k535 k536 k538
  rw [show kSame = mask same16 from mask_same]
  exact inverse16 L

theorem k580_up : k580 (u L) = upM (t := .bf16) fun h => inv16 (L h) := (trunc16 _ _ _ _ _ _ (k575_up L)).1
theorem k584_up : k584 (u L) = upM (t := .bf16) fun _ => 0 := (trunc16 _ _ _ _ _ _ (k575_up L)).2

theorem pair_up : kPair = mask pair32 := by
  unfold kPair
  rw [show kSame = mask same16 from mask_same]
  exact mask_pair

theorem k606_up : k606 (u L) = u fun h => inv32 (L h) := by
  unfold k606
  rw [k575_up, k580_up, k584_up, pair_up]
  exact inverse32 _ _

theorem k635_up : addf (k634 (u L)) (k635 (u L)) = u fun h => inv32 (L h) * keep cross32 (L h) * inv32 (L h) := by
  unfold k634 k635
  rw [show kCross = mask cross32 from mask_cross]
  exact cross_sum _ _ _ _ _ _ _ _ (k606_up L)

theorem k666_up (A V U W : Fin 8 → Mat) : k666 (u L) (u A) (u V) (u U) (u W) = up3 (t := .f32) (catCol (fun h => inv64 (L h) * A h) fun h => inv64 (L h) * (U h * V h)) :=
  solved A V _ U W _ _ _ _ (k606_up L) (k635_up L)

end Chain

section Chunk

variable (a r b k e g v m : FVec Ideal S8x64x64 .f32) (w : FVec Ideal S1x512 .f32)

/-- What a chunk reads, and its state after it. -/
def kRead : FVec Ideal S8x64x64 .f32 :=
  k0_pay109 (k0_pay102 a r v (k0_pay77 (k0_pay42 rowNo colNo) a r b k) (k0_pay78 (k0_pay43 rowNo colNo) a r b k) (k0_pay79 (k0_pay43 rowNo colNo) a r b k)
      (k606 (k0_pay76 (k0_pay42 rowNo colNo) a r b k)) (k634 (k0_pay76 (k0_pay42 rowNo colNo) a r b k)) (k635 (k0_pay76 (k0_pay42 rowNo colNo) a r b k)))
    (k0_pay103 a v (k0_pay77 (k0_pay42 rowNo colNo) a r b k) (k0_pay78 (k0_pay43 rowNo colNo) a r b k) (k0_pay79 (k0_pay43 rowNo colNo) a r b k)
      (k606 (k0_pay76 (k0_pay42 rowNo colNo) a r b k)) (k634 (k0_pay76 (k0_pay42 rowNo colNo) a r b k)) (k635 (k0_pay76 (k0_pay42 rowNo colNo) a r b k))) m
def kState : FVec Ideal S8x64x64 .f32 :=
  k0_pay110 (k0_pay107 w (k0_pay59 rowNo colNo) (k666 (k0_pay76 (k0_pay42 rowNo colNo) a r b k) a v (k0_pay77 (k0_pay42 rowNo colNo) a r b k) (k0_pay79 (k0_pay43 rowNo colNo) a r b k)) (k0_pay104 e) (k0_pay105 e))
    (k0_pay108 g v (k666 (k0_pay76 (k0_pay42 rowNo colNo) a r b k) a v (k0_pay77 (k0_pay42 rowNo colNo) a r b k) (k0_pay79 (k0_pay43 rowNo colNo) a r b k)) (k0_pay104 e) (k0_pay105 e)) m

end Chunk

section Values

variable (A R B K E G V M : Fin 8 → Mat) (w : Fin 512 → ℝ)

theorem masked76 : k0_pay76 (F := Ideal) (k0_pay42 rowNo colNo) (u A) (u R) (u B) (u K) = u fun h => below (A h * (B h).transpose) := by
  unfold k0_pay76
  dsimp only
  rw [mask_below, quad_up3, quad00]
  exact keep_upM _ _
theorem masked77 : k0_pay77 (F := Ideal) (k0_pay42 rowNo colNo) (u A) (u R) (u B) (u K) = u fun h => below (A h * (K h).transpose) := by
  unfold k0_pay77
  dsimp only
  rw [mask_below, quad_up3, quad01]
  exact keep_upM _ _
theorem masked78 : k0_pay78 (F := Ideal) (k0_pay43 rowNo colNo) (u A) (u R) (u B) (u K) = u fun h => upTo (R h * (B h).transpose) := by
  unfold k0_pay78
  dsimp only
  rw [mask_upTo, quad_up3, quad10]
  exact keep_upM _ _
theorem masked79 : k0_pay79 (F := Ideal) (k0_pay43 rowNo colNo) (u A) (u R) (u B) (u K) = u fun h => upTo (R h * (K h).transpose) := by
  unfold k0_pay79
  dsimp only
  rw [mask_upTo, quad_up3, quad11]
  exact keep_upM _ _

theorem kRead_up : kRead (u A) (u R) (u B) (u K) (u V) (u M) = u fun h =>
    (R h + upTo (R h * (B h).transpose) * (inv64 (below (A h * (B h).transpose)) * A h)) * M h
      + (upTo (R h * (B h).transpose) * (inv64 (below (A h * (B h).transpose)) * (below (A h * (K h).transpose) * V h)) + upTo (R h * (K h).transpose) * V h) := by
  unfold kRead
  rw [masked76, masked77, masked78, masked79]
  rw [out1 A R V _ _ _ _ _ (k666_up _ A V _ _), out2 A V _ _ _ _ _ (k666_up _ A V _ _)]
  exact readAll _ _ _

theorem kState_up : kState (u A) (u R) (u B) (u K) (u E) (u G) (u V) (u M) (up1 w) = u fun h =>
    (Matrix.diagonal (fun j => w (hd h j)) + (E h).transpose * (inv64 (below (A h * (B h).transpose)) * A h)) * M h
      + ((E h).transpose * (inv64 (below (A h * (B h).transpose)) * (below (A h * (K h).transpose) * V h)) + (G h).transpose * V h) := by
  unfold kState
  rw [masked76, masked77, masked79, k666_up, whole, added]
  exact newState _ _ _

end Values

end Cert.MixProof
-- ==== Proof.MixOut.lean ====
module

public import proofs.«01_k».proof.Proof.MixMatrix
public import Idealize.ShloMosaic.Lib.KernelVsHost

/-! # What a chunk of the kernel gives out

The whole body of one grid point as a function of its blocks, and its values on real inputs. -/

@[expose] public section

set_option maxRecDepth 16384

noncomputable section

namespace Cert.MixProof

open Idealize.ShloMosaic Idealize.ShloMosaic.TcCoe
open Cert.MixIdeal Cert.MixIdeal.Gen

section Body

variable (z : FVec Ideal S1x64x1792 .f32) (p mu : FVec Ideal S1x1792 .f32) (w0 : FVec Ideal S1x512 .f32) (w2 : FVec Ideal S64x512 .f32)
  (a0 : FVec Ideal S1x512 .f32) (a2 : FVec Ideal S64x512 .f32) (g2 : FVec Ideal S128x512 .f32) (kk ka rk gg gb : FVec Ideal S1x512 .f32)
  (bd : FVec Ideal S512x512 .f32) (m : FVec Ideal S8x64x64 .f32)

/-- The log decay, the learning rate, the scaled key and its squared length of a chunk's rows. -/
def bLd : FVec Ideal S64x512 .f32 := k0_pay18 (k0_pay14 w0) (k0_pay15 z p mu) w2 (k0_pay16 z p mu) (k0_pay17 w2)
def bAl : FVec Ideal S64x512 .f32 := k0_pay24 (k0_pay19 a0) (k0_pay20 (k0_pay11 z p mu)) (k0_pay21 a2) (k0_pay22 (k0_pay11 z p mu)) (k0_pay23 a2)
def bKk : FVec Ideal S64x512 .f32 := k0_pay26 (k0_pay9 z p mu) kk
def bSq : FVec Ideal S64x512 .f32 := k0_pay27 (k0_pay9 z p mu) (k0_pay13 bd) kk
def bKey : FVec Ideal S64x512 .f32 := k0_pay29 (k0_pay9 z p mu) (bAl z p mu a0 a2) ka

/-- The stacks of the heads' matrices. -/
def sA : FVec Ideal S8x64x64 .f32 := k0_pay60 (k0_pay36 (bLd z p mu w0 w2) (bKk z p mu kk) (bSq z p mu kk bd))
def sR : FVec Ideal S8x64x64 .f32 := k0_pay60 (k0_pay37 (k0_pay8 z p mu) (bLd z p mu w0 w2))
def sB : FVec Ideal S8x64x64 .f32 := k0_pay60 (k0_pay38 (bLd z p mu w0 w2) (bAl z p mu a0 a2) (bKk z p mu kk) (bSq z p mu kk bd))
def sK : FVec Ideal S8x64x64 .f32 := k0_pay60 (k0_pay39 (k0_pay9 z p mu) (bLd z p mu w0 w2) (bAl z p mu a0 a2) ka)
def sE : FVec Ideal S8x64x64 .f32 := k0_pay60 (k0_pay40 (bLd z p mu w0 w2) (bAl z p mu a0 a2) (bKk z p mu kk) (bSq z p mu kk bd))
def sG : FVec Ideal S8x64x64 .f32 := k0_pay60 (k0_pay41 (bKey z p mu a0 a2 ka) (k0_pay34 (bLd z p mu w0 w2)))
def sV : FVec Ideal S8x64x64 .f32 := k0_pay60 (k0_pay10 z p mu)

/-- What the chunk reads from the state, and the state after it. -/
def bRead : FVec Ideal S8x64x64 .f32 :=
  kRead (sA z p mu w0 w2 kk bd) (sR z p mu w0 w2) (sB z p mu w0 w2 a0 a2 kk bd) (sK z p mu w0 w2 a0 a2 ka) (sV z p mu) m
def bState : FVec Ideal S8x64x64 .f32 :=
  kState (sA z p mu w0 w2 kk bd) (sR z p mu w0 w2) (sB z p mu w0 w2 a0 a2 kk bd) (sK z p mu w0 w2 a0 a2 ka) (sE z p mu w0 w2 a0 a2 kk bd) (sG z p mu w0 w2 a0 a2 ka) (sV z p mu) m
    (k0_pay35 (bLd z p mu w0 w2))

/-- The heads side by side. -/
def aside (y : FVec Ideal S8x64x64 .f32) : FVec Ideal S64x512 .f32 := fun i => y (ix3 (hOf (i 1)) (i 0) (nOf (i 1)))

/-- The block given out, from what was read. -/
def bOut (y : FVec Ideal S64x512 .f32) : FVec Ideal S1x64x512 .bf16 :=
  k0_pay129 (k0_pay8 z p mu) (k0_pay10 z p mu) (k0_pay13 bd) (k0_pay25 (k0_pay12 z p mu) g2) (bKey z p mu a0 a2 ka)
    (k0_pay120 (k0_pay13 bd) y) (k0_pay122 (k0_pay13 bd)) (k0_pay126 (k0_pay13 bd) y) (k0_pay127 (k0_pay13 bd) y) (k0_pay128 (k0_pay13 bd) y) gg gb rk

end Body

section Values

variable (Z : ℕ → Fin 1792 → ℝ) (q : Fin 1792 → ℝ) (P : Par) (M : Fin 8 → Mat)

/-- The block of a chunk's rows. -/
def upz : FVec Ideal S1x64x1792 .f32 := fun i => ((Z (i 1).val (i 2) : ℝ) : EReal)
theorem upz_ix (i : Fin 1) (j : Fin 64) (k : Fin 1792) : (upz Z) (ix3 i j k) = ((Z j.val k : ℝ) : EReal) := rfl

/-- The rows of a chunk after the token shift. -/
abbrev xs : ℕ → Fin 1792 → ℝ := shift P.mu Z q

theorem rows5 : k0_pay5 (F := Ideal) (upz Z) = up2 (t := .f32) fun i => Z i.val := by
  unfold k0_pay5
  dsimp only
  funext x
  idx_vars x
  pointwise [upz_ix, up2_ix]

theorem rotated (x : FVec Ideal S64x1792 .f32) (i : Fin 64) (j : Fin 1792) :
    dynamicRotate 0 1#32 none x rotates_S64x1792_d0 (ix2 i j) = x (ix2 ⟨(i.val + 63) % 64, by omega⟩ j) := by
  refine dynamicRotate_apply 0 1#32 x _ _ _ fun b => ?_
  fin_cases b
  · rfl
  · rfl

theorem shifted : k0_pay7 (F := Ideal) (upz Z) (up1 q) (up1 P.mu) = up2 (t := .f32) fun i => xs Z q P i.val := by
  unfold k0_pay7
  dsimp only
  rw [rows5]
  have hm : ∀ (i : Fin 64) (j : Fin 1792), (cmpi .eq (iota .tc S64x1792 32 [0] iota_S64x1792_d0_w32) (broadcast S64x1792 0#32) : IVec S64x1792 1) (ix2 i j) = if i.val = 0 then 1#1 else 0#1 := by
    intro i j
    have h : ∀ i : Fin 64, IntOp.cmpi CmpIPredicate.eq (BitVec.ofNat 32 i.val) 0#32 = if i.val = 0 then 1#1 else 0#1 := by decide
    pointwise
    exact h i
  funext x
  idx_vars x
  pointwise [up2_ix, up1_ix, rotated, hm]
  by_cases h : x0.val = 0
  · simp [h, xs, shift, Scalar.select, EReal.coe_add, EReal.coe_sub, EReal.coe_mul]
  · have h1 : (x0.val + 63) % 64 = x0.val - 1 := by omega
    simp [h, h1, xs, shift, Scalar.select, EReal.coe_add, EReal.coe_sub, EReal.coe_mul]

/-- The parts of a shifted row. -/
theorem part_r : k0_pay8 (F := Ideal) (upz Z) (up1 q) (up1 P.mu) = up2 (t := .f32) fun i => tR (xs Z q P i.val) := by
  unfold k0_pay8
  dsimp only
  rw [shifted]
  funext x
  idx_vars x
  pointwise [up2_ix]
  rfl
theorem part_k : k0_pay9 (F := Ideal) (upz Z) (up1 q) (up1 P.mu) = up2 (t := .f32) fun i => tK0 (xs Z q P i.val) := by
  unfold k0_pay9
  dsimp only
  rw [shifted]
  funext x
  idx_vars x
  pointwise [up2_ix]
  rfl
theorem part_v : k0_pay10 (F := Ideal) (upz Z) (up1 q) (up1 P.mu) = up2 (t := .f32) fun i => tV (xs Z q P i.val) := by
  unfold k0_pay10
  dsimp only
  rw [shifted]
  funext x
  idx_vars x
  pointwise [up2_ix]
  rfl
theorem part_a : k0_pay11 (F := Ideal) (upz Z) (up1 q) (up1 P.mu) = up2 (t := .f32) fun i (k : Fin 64) => xs Z q P i.val ⟨1600 + k.val, by omega⟩ := by
  unfold k0_pay11
  dsimp only
  rw [shifted]
  funext x
  idx_vars x
  pointwise [up2_ix]
theorem part_g : k0_pay12 (F := Ideal) (upz Z) (up1 q) (up1 P.mu) = up2 (t := .f32) fun i (k : Fin 128) => xs Z q P i.val ⟨1664 + k.val, by omega⟩ := by
  unfold k0_pay12
  dsimp only
  rw [shifted]
  funext x
  idx_vars x
  pointwise [up2_ix]
theorem part_w : k0_pay15 (F := Ideal) (upz Z) (up1 q) (up1 P.mu) = up2 (t := .f32) fun i (k : Fin 64) => Real.tanh (xs Z q P i.val ⟨1536 + k.val, by omega⟩) := by
  have h : extractStridedSlice S64x64 ![0, 1536] (k0_pay7 (F := Ideal) (upz Z) (up1 q) (up1 P.mu)) slices_S64x1792_o0_1536_S64x64 = up2 (t := .f32) fun i (k : Fin 64) => xs Z q P i.val ⟨1536 + k.val, by omega⟩ := by
    rw [shifted]
    funext x
    idx_vars x
    pointwise [up2_ix]
  unfold k0_pay15
  dsimp only
  rw [h, tanh_up2]

/-- The rows of the token's vectors. -/
theorem ld_up : bLd (upz Z) (up1 q) (up1 P.mu) (up1 P.w0) (up2 P.w2) = up2 (t := .f32) fun i => tLd P (xs Z q P i.val) := by
  unfold bLd k0_pay14 k0_pay16 k0_pay17
  dsimp only
  rw [part_w, shapeCast_self, truncf_up2, truncf_up2, decay]
  rfl
theorem al_up : bAl (upz Z) (up1 q) (up1 P.mu) (up1 P.a0) (up2 P.a2) = up2 (t := .f32) fun i => tAl P (xs Z q P i.val) := by
  unfold bAl k0_pay19
  dsimp only
  rw [part_a, shapeCast_self, rate]
  rfl
theorem kk_up : bKk (upz Z) (up1 q) (up1 P.mu) (up1 P.kk) = up2 (t := .f32) fun i => tKk P (xs Z q P i.val) := by
  unfold bKk
  rw [part_k, scaled]
  rfl
theorem sq_up : bSq (upz Z) (up1 q) (up1 P.mu) (up1 P.kk) (up2 heads) = up2 (t := .f32) fun i j => max (hsum (fun k => tKk P (xs Z q P i.val) k * tKk P (xs Z q P i.val) k) (hOf j)) tiny := by
  unfold bSq k0_pay13
  dsimp only
  rw [part_k, shapeCast_self, squares]
  rfl
theorem key_up : bKey (upz Z) (up1 q) (up1 P.mu) (up1 P.a0) (up2 P.a2) (up1 P.ka) = up2 (t := .f32) fun i => tK P (xs Z q P i.val) := by
  unfold bKey
  rw [part_k, al_up, newKey]
  rfl
theorem kn_up : k0_pay28 (F := Ideal) (up2 (t := .f32) fun i => tKk P (xs Z q P i.val)) (up2 (t := .f32) fun i j => max (hsum (fun k => tKk P (xs Z q P i.val) k * tKk P (xs Z q P i.val) k) (hOf j)) tiny)
    = up2 (t := .f32) fun i => tKn tiny P (xs Z q P i.val) := by
  rw [normed _ _ fun i j => lt_max_of_lt_right tiny_pos.2]
  rfl

/-- The columns of one head. -/
def col (f : Fin 512 → ℝ) (h : Fin 8) : Fin 64 → ℝ := fun x => f (hd h x)

section Heads

variable (h : Fin 8)

abbrev hLd (n : ℕ) : Fin 64 → ℝ := col (tLd P (xs Z q P n)) h
abbrev hA (n : ℕ) : Fin 64 → ℝ := col (tA tiny P (xs Z q P n)) h
abbrev hB (n : ℕ) : Fin 64 → ℝ := col (tB tiny P (xs Z q P n)) h
abbrev hK (n : ℕ) : Fin 64 → ℝ := col (tK P (xs Z q P n)) h
abbrev hV (n : ℕ) : Fin 64 → ℝ := col (tV (xs Z q P n)) h
abbrev hR (n : ℕ) : Fin 64 → ℝ := col (tR (xs Z q P n)) h

end Heads

theorem sA_up : sA (upz Z) (up1 q) (up1 P.mu) (up1 P.w0) (up2 P.w2) (up1 P.kk) (up2 heads) = upM (t := .f32) fun h => cA (hLd Z q P h) (hA Z q P h) := by
  unfold sA k0_pay36
  dsimp only
  rw [ld_up, kk_up, sq_up, kn_up, running' fun n => tLd P (xs Z q P n), zero_up2, subf_up2, subf_up2, exp_up2, mulf_up2, stack_upM]
  congr 1
  funext h i j
  simp only [split8, cA, rows, Pi.mul_apply, Pi.sub_apply, Pi.zero_apply, zero_sub]
  rfl
theorem sR_up : sR (upz Z) (up1 q) (up1 P.mu) (up1 P.w0) (up2 P.w2) = upM (t := .f32) fun h => cR (hLd Z q P h) (hR Z q P h) := by
  unfold sR k0_pay37
  dsimp only
  rw [ld_up, part_r, running' fun n => tLd P (xs Z q P n), exp_up2, mulf_up2, stack_upM]
  rfl
theorem b_up : k0_pay30 (F := Ideal) (up2 (t := .f32) fun i => tAl P (xs Z q P i.val)) (up2 (t := .f32) fun i => tKk P (xs Z q P i.val)) (up2 (t := .f32) fun i j => max (hsum (fun k => tKk P (xs Z q P i.val) k * tKk P (xs Z q P i.val) k) (hOf j)) tiny)
    = up2 (t := .f32) fun i => tB tiny P (xs Z q P i.val) := by
  unfold k0_pay30
  dsimp only
  rw [kn_up, mulf_up2]
  rfl
theorem sB_up : sB (upz Z) (up1 q) (up1 P.mu) (up1 P.w0) (up2 P.w2) (up1 P.a0) (up2 P.a2) (up1 P.kk) (up2 heads) = upM (t := .f32) fun h => cB (hLd Z q P h) (hB Z q P h) := by
  unfold sB k0_pay38
  dsimp only
  rw [ld_up, al_up, kk_up, sq_up, b_up, inverseScale fun n => tLd P (xs Z q P n), mulf_up2, stack_upM]
  rfl
theorem sK_up : sK (upz Z) (up1 q) (up1 P.mu) (up1 P.w0) (up2 P.w2) (up1 P.a0) (up2 P.a2) (up1 P.ka) = upM (t := .f32) fun h => cB (hLd Z q P h) (hK Z q P h) := by
  have h : k0_pay29 (F := Ideal) (k0_pay9 (upz Z) (up1 q) (up1 P.mu)) (bAl (upz Z) (up1 q) (up1 P.mu) (up1 P.a0) (up2 P.a2)) (up1 P.ka) = up2 (t := .f32) fun i => tK P (xs Z q P i.val) := key_up Z q P
  unfold sK k0_pay39
  dsimp only
  rw [h, ld_up, inverseScale fun n => tLd P (xs Z q P n), mulf_up2, stack_upM]
  rfl
theorem sE_up : sE (upz Z) (up1 q) (up1 P.mu) (up1 P.w0) (up2 P.w2) (up1 P.a0) (up2 P.a2) (up1 P.kk) (up2 heads) = upM (t := .f32) fun h => cE (hLd Z q P h) (hB Z q P h) := by
  unfold sE k0_pay40
  dsimp only
  rw [ld_up, al_up, kk_up, sq_up, b_up, endScale fun n => tLd P (xs Z q P n), mulf_up2, stack_upM]
  rfl
theorem sG_up : sG (upz Z) (up1 q) (up1 P.mu) (up1 P.w0) (up2 P.w2) (up1 P.a0) (up2 P.a2) (up1 P.ka) = upM (t := .f32) fun h => cE (hLd Z q P h) (hK Z q P h) := by
  unfold sG k0_pay41
  dsimp only
  rw [key_up, ld_up, endScale fun n => tLd P (xs Z q P n), mulf_up2, stack_upM]
  rfl
theorem sV_up : sV (upz Z) (up1 q) (up1 P.mu) = upM (t := .f32) fun h => rows (hV Z q P h) := by
  unfold sV
  rw [part_v, stack_upM]
  rfl

/-- What the chunk reads, head by head. -/
theorem read_up : bRead (upz Z) (up1 q) (up1 P.mu) (up1 P.w0) (up2 P.w2) (up1 P.a0) (up2 P.a2) (up1 P.kk) (up1 P.ka) (up2 heads) (upM M)
    = upM (t := .f32) fun h => rows (mixRead (hLd Z q P h) (hA Z q P h) (hB Z q P h) (hK Z q P h) (hV Z q P h) (hR Z q P h) (M h)) := by
  unfold bRead
  rw [sA_up, sR_up, sB_up, sK_up, sV_up, kRead_up]
  congr 1
  funext h
  exact chunk_read ..

/-- The state after the chunk. -/
theorem state_up : bState (upz Z) (up1 q) (up1 P.mu) (up1 P.w0) (up2 P.w2) (up1 P.a0) (up2 P.a2) (up1 P.kk) (up1 P.ka) (up2 heads) (upM M)
    = upM (t := .f32) fun h => headState tiny P (xs Z q P) M h 64 := by
  unfold bState
  rw [sA_up, sR_up, sB_up, sK_up, sE_up, sG_up, sV_up, ld_up, wholeScale fun n => tLd P (xs Z q P n), kState_up]
  congr 1
  funext h
  exact chunk_state ..

theorem aside_up : aside (upM fun h => rows (mixRead (hLd Z q P h) (hA Z q P h) (hB Z q P h) (hK Z q P h) (hV Z q P h) (hR Z q P h) (M h)))
    = up2 (t := .f32) fun i => headRead tiny P (xs Z q P) M i.val := rfl

section Out

variable (y : Fin 64 → Fin 512 → ℝ)

theorem hsum_zero (h : Fin 8) : hsum 0 h = 0 := by simp [hsum]

theorem dev_up : k0_pay120 (F := Ideal) (up2 (t := .f32) heads) (up2 (t := .f32) y) = up2 (t := .f32) fun i => dev (y i) := by
  unfold k0_pay120
  dsimp only
  simp only [truncf_up2, extf_up2, subf_up2, mm_bd, addf_up2, sub_self, dotR_zero_left, add_zero, zero_add, zero_up2, i64_up2, mulf_up2, dot_heads]
  congr 1
  funext i j
  simp [dev, div_eq_mul_inv, hsum_zero]

theorem out_up : bOut (upz Z) (up1 q) (up1 P.mu) (up1 P.a0) (up2 P.a2) (up2 P.g2) (up1 P.ka) (up1 P.rk) (up1 P.gg) (up1 P.gb) (up2 heads) (up2 y)
    = fun i => ((tOut small P (xs Z q P (i 1).val) (y (i 1)) (i 2) : ℝ) : EReal) := by
  have hpos : ∀ (i : Fin 64) (j : Fin 512), 0 < hsum (fun k => dev (y i) k * dev (y i) k) (hOf j) * (1 / 64) + small := fun i j =>
    add_pos_of_nonneg_of_pos (mul_nonneg (Finset.sum_nonneg fun _ _ => mul_self_nonneg _) (by norm_num)) small_pos.2
  have hr : rsqrt (up2 (t := .f32) fun (i : Fin 64) (j : Fin 512) => hsum (fun k => dev (y i) k * dev (y i) k) (hOf j) * (1 / 64) + small) = up2 fun i j => (Real.sqrt (hsum (fun k => dev (y i) k * dev (y i) k) (hOf j) * (1 / 64) + small))⁻¹ :=
    rsqrt_up2 _ hpos
  unfold bOut k0_pay129 k0_pay128 k0_pay127 k0_pay126 k0_pay125 k0_pay124 k0_pay123 k0_pay122 k0_pay121 k0_pay13
  dsimp only
  simp only [shapeCast_self, dev_up, part_r, part_v, part_g, key_up, gate, row_up1, truncf_up2, extf_up2, subf_up2, mm_bd, addf_up2, sub_self, dotR_zero_left, add_zero, zero_add, zero_up2, i64_up2, small_up2, mulf_up2, dot_heads]
  have hz : (fun (i : Fin 64) (j : Fin 512) => hsum ((0 : Fin 64 → Fin 512 → ℝ) i) (hOf j)) = 0 := by
    funext i j
    exact hsum_zero _
  rw [hz]
  simp only [add_zero]
  rw [show (up2 (t := .f32) ((((fun (i : Fin 64) (j : Fin 512) => hsum (((fun i => dev (y i)) * fun i => dev (y i)) i) (hOf j)) * fun _ _ => 1 / 64) + fun _ _ => small) : Fin 64 → Fin 512 → ℝ)) = up2 (t := .f32) fun (i : Fin 64) (j : Fin 512) => hsum (fun k => dev (y i) k * dev (y i) k) (hOf j) * (1 / 64) + small from rfl, hr]
  simp only [mulf_up2, addf_up2, truncf_up2]
  funext x
  idx_vars x
  pointwise [up2_ix]
  refine congrArg _ ?_
  simp only [Pi.mul_apply, Pi.add_apply, tOut, ← div_eq_mul_one_div]
  rfl

end Out

end Values

end Cert.MixProof
-- ==== Proof.MixCase.lean ====
module

public import proofs.«01_k».proof.Proof.MixOut
public import proofs.«01_k».proof.Proof.Gen.MixIdeal.Value
public import Idealize.ShloMosaic.Lib.Tactic
public import Idealize.ShloMosaic.Lib.Pipeline.ValueKit.Tiles

/-! # What one grid point of the time mixing leaves

The block given out, the state and the last row, in each of the three cases of the grid. -/

@[expose] public section

set_option maxRecDepth 65536

noncomputable section

namespace Cert.MixCase

open Idealize.ShloMosaic Idealize.ShloMosaic.TcCoe Idealize.SL.Sem
open Cert.MixIdeal Cert.MixIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Side

variable {sig : RefSig} {κ : Kind} {sp : Space} (v : View sig κ sp S64x512 .f32) (a b : FVec Ideal S8x64x64 .f32) (m : Vec Ideal S8x64x64 .f32)

theorem piece7 (y : S64x512.Idx) (x : S64x64.Idx) (h0 : (y 0 : Nat) = 0 + x 0) (h1 : (y 1 : Nat) = 448 + x 1) : (k0_pay119 (k0_pay109 a b m) : FVec Ideal S64x64 .f32) x = MixProof.aside (k0_pay109 a b m) y := by
  have e : MixProof.aside (k0_pay109 a b m) y = k0_pay109 a b m (ix3 7 (x 0) (x 1)) := by
    have hx : (x 1).val < 64 := (x 1).isLt
    have hy : y 0 = x 0 := Fin.ext (by omega)
    have e1 : MixProof.hOf (y 1) = 7 := Fin.ext (by show (y 1).val / 64 = 7; omega)
    have e2 : MixProof.nOf (y 1) = x 1 := Fin.ext (by show (y 1).val % 64 = (x 1).val; omega)
    unfold MixProof.aside
    rw [e1, e2, hy]
  rw [e]
  idx_vars x
  unfold k0_pay119
  pointwise

theorem piece6 (y : S64x512.Idx) (x : S64x64.Idx) (h0 : (y 0 : Nat) = 0 + x 0) (h1 : (y 1 : Nat) = 384 + x 1) : (k0_pay118 (k0_pay109 a b m) : FVec Ideal S64x64 .f32) x = MixProof.aside (k0_pay109 a b m) y := by
  have e : MixProof.aside (k0_pay109 a b m) y = k0_pay109 a b m (ix3 6 (x 0) (x 1)) := by
    have hx : (x 1).val < 64 := (x 1).isLt
    have hy : y 0 = x 0 := Fin.ext (by omega)
    have e1 : MixProof.hOf (y 1) = 6 := Fin.ext (by show (y 1).val / 64 = 6; omega)
    have e2 : MixProof.nOf (y 1) = x 1 := Fin.ext (by show (y 1).val % 64 = (x 1).val; omega)
    unfold MixProof.aside
    rw [e1, e2, hy]
  rw [e]
  idx_vars x
  unfold k0_pay118
  pointwise

theorem piece5 (y : S64x512.Idx) (x : S64x64.Idx) (h0 : (y 0 : Nat) = 0 + x 0) (h1 : (y 1 : Nat) = 320 + x 1) : (k0_pay117 (k0_pay116 a b m) : FVec Ideal S64x64 .f32) x = MixProof.aside (k0_pay109 a b m) y := by
  have e : MixProof.aside (k0_pay109 a b m) y = k0_pay109 a b m (ix3 5 (x 0) (x 1)) := by
    have hx : (x 1).val < 64 := (x 1).isLt
    have hy : y 0 = x 0 := Fin.ext (by omega)
    have e1 : MixProof.hOf (y 1) = 5 := Fin.ext (by show (y 1).val / 64 = 5; omega)
    have e2 : MixProof.nOf (y 1) = x 1 := Fin.ext (by show (y 1).val % 64 = (x 1).val; omega)
    unfold MixProof.aside
    rw [e1, e2, hy]
  rw [e]
  idx_vars x
  unfold k0_pay117 k0_pay116
  pointwise

theorem piece4 (y : S64x512.Idx) (x : S64x64.Idx) (h0 : (y 0 : Nat) = 0 + x 0) (h1 : (y 1 : Nat) = 256 + x 1) : (k0_pay115 a b m : FVec Ideal S64x64 .f32) x = MixProof.aside (k0_pay109 a b m) y := by
  have e : MixProof.aside (k0_pay109 a b m) y = k0_pay109 a b m (ix3 4 (x 0) (x 1)) := by
    have hx : (x 1).val < 64 := (x 1).isLt
    have hy : y 0 = x 0 := Fin.ext (by omega)
    have e1 : MixProof.hOf (y 1) = 4 := Fin.ext (by show (y 1).val / 64 = 4; omega)
    have e2 : MixProof.nOf (y 1) = x 1 := Fin.ext (by show (y 1).val % 64 = (x 1).val; omega)
    unfold MixProof.aside
    rw [e1, e2, hy]
  rw [e]
  idx_vars x
  unfold k0_pay115
  pointwise

theorem piece3 (y : S64x512.Idx) (x : S64x64.Idx) (h0 : (y 0 : Nat) = 0 + x 0) (h1 : (y 1 : Nat) = 192 + x 1) : (k0_pay114 a b m : FVec Ideal S64x64 .f32) x = MixProof.aside (k0_pay109 a b m) y := by
  have e : MixProof.aside (k0_pay109 a b m) y = k0_pay109 a b m (ix3 3 (x 0) (x 1)) := by
    have hx : (x 1).val < 64 := (x 1).isLt
    have hy : y 0 = x 0 := Fin.ext (by omega)
    have e1 : MixProof.hOf (y 1) = 3 := Fin.ext (by show (y 1).val / 64 = 3; omega)
    have e2 : MixProof.nOf (y 1) = x 1 := Fin.ext (by show (y 1).val % 64 = (x 1).val; omega)
    unfold MixProof.aside
    rw [e1, e2, hy]
  rw [e]
  idx_vars x
  unfold k0_pay114
  pointwise

theorem piece2 (y : S64x512.Idx) (x : S64x64.Idx) (h0 : (y 0 : Nat) = 0 + x 0) (h1 : (y 1 : Nat) = 128 + x 1) : (k0_pay113 a b m : FVec Ideal S64x64 .f32) x = MixProof.aside (k0_pay109 a b m) y := by
  have e : MixProof.aside (k0_pay109 a b m) y = k0_pay109 a b m (ix3 2 (x 0) (x 1)) := by
    have hx : (x 1).val < 64 := (x 1).isLt
    have hy : y 0 = x 0 := Fin.ext (by omega)
    have e1 : MixProof.hOf (y 1) = 2 := Fin.ext (by show (y 1).val / 64 = 2; omega)
    have e2 : MixProof.nOf (y 1) = x 1 := Fin.ext (by show (y 1).val % 64 = (x 1).val; omega)
    unfold MixProof.aside
    rw [e1, e2, hy]
  rw [e]
  idx_vars x
  unfold k0_pay113
  pointwise

theorem piece1 (y : S64x512.Idx) (x : S64x64.Idx) (h0 : (y 0 : Nat) = 0 + x 0) (h1 : (y 1 : Nat) = 64 + x 1) : (k0_pay112 a b m : FVec Ideal S64x64 .f32) x = MixProof.aside (k0_pay109 a b m) y := by
  have e : MixProof.aside (k0_pay109 a b m) y = k0_pay109 a b m (ix3 1 (x 0) (x 1)) := by
    have hx : (x 1).val < 64 := (x 1).isLt
    have hy : y 0 = x 0 := Fin.ext (by omega)
    have e1 : MixProof.hOf (y 1) = 1 := Fin.ext (by show (y 1).val / 64 = 1; omega)
    have e2 : MixProof.nOf (y 1) = x 1 := Fin.ext (by show (y 1).val % 64 = (x 1).val; omega)
    unfold MixProof.aside
    rw [e1, e2, hy]
  rw [e]
  idx_vars x
  unfold k0_pay112
  pointwise

theorem piece0 (y : S64x512.Idx) (x : S64x64.Idx) (h0 : (y 0 : Nat) = 0 + x 0) (h1 : (y 1 : Nat) = 0 + x 1) : (k0_pay111 a b m : FVec Ideal S64x64 .f32) x = MixProof.aside (k0_pay109 a b m) y := by
  have e : MixProof.aside (k0_pay109 a b m) y = k0_pay109 a b m (ix3 0 (x 0) (x 1)) := by
    have hx : (x 1).val < 64 := (x 1).isLt
    have hy : y 0 = x 0 := Fin.ext (by omega)
    have e1 : MixProof.hOf (y 1) = 0 := Fin.ext (by show (y 1).val / 64 = 0; omega)
    have e2 : MixProof.nOf (y 1) = x 1 := Fin.ext (by show (y 1).val % 64 = (x 1).val; omega)
    unfold MixProof.aside
    rw [e1, e2, hy]
  rw [e]
  idx_vars x
  unfold k0_pay111
  pointwise

/-- The eight heads' results stored side by side and read back. -/
theorem side_by_side : v.readCov (Val := Elt Ideal) [⟨Rect.unit ![0, 448] ![64, 64] inb_S64x512_S64x64_0_448, k0_pay119 (k0_pay109 a b m)⟩,
    ⟨Rect.unit ![0, 384] ![64, 64] inb_S64x512_S64x64_0_384, k0_pay118 (k0_pay109 a b m)⟩,
    ⟨Rect.unit ![0, 320] ![64, 64] inb_S64x512_S64x64_0_320, k0_pay117 (k0_pay116 a b m)⟩,
    ⟨Rect.unit ![0, 256] ![64, 64] inb_S64x512_S64x64_0_256, k0_pay115 a b m⟩,
    ⟨Rect.unit ![0, 192] ![64, 64] inb_S64x512_S64x64_0_192, k0_pay114 a b m⟩,
    ⟨Rect.unit ![0, 128] ![64, 64] inb_S64x512_S64x64_0_128, k0_pay113 a b m⟩,
    ⟨Rect.unit ![0, 64] ![64, 64] inb_S64x512_S64x64_0_64, k0_pay112 a b m⟩,
    ⟨Rect.unit ![0, 0] ![64, 64] inb_S64x512_S64x64_0_0, k0_pay111 a b m⟩]
      (Rect.unit ![0, 0] ![64, 512] inb_S64x512_S64x512_0_0).toLoadRect = MixProof.aside (k0_pay109 a b m) := by
  rw [View.readCov_eq_canon_ld _ _ _ (View.cover_of_tiled_head _ _ _ rfl)]
  rw [View.ld_unit_zero (S := S64x512) hz2]
  funext y
  refine View.canon_eq_of_allAt _ y _ (View.cover_of_tiled_head _ _ _ rfl y) ?_
  refine View.allAt_cons_unit _ _ _ _ _ (fun x hx => piece7 a b m y x (hx 0) (hx 1)) ?_
  refine View.allAt_cons_unit _ _ _ _ _ (fun x hx => piece6 a b m y x (hx 0) (hx 1)) ?_
  refine View.allAt_cons_unit _ _ _ _ _ (fun x hx => piece5 a b m y x (hx 0) (hx 1)) ?_
  refine View.allAt_cons_unit _ _ _ _ _ (fun x hx => piece4 a b m y x (hx 0) (hx 1)) ?_
  refine View.allAt_cons_unit _ _ _ _ _ (fun x hx => piece3 a b m y x (hx 0) (hx 1)) ?_
  refine View.allAt_cons_unit _ _ _ _ _ (fun x hx => piece2 a b m y x (hx 0) (hx 1)) ?_
  refine View.allAt_cons_unit _ _ _ _ _ (fun x hx => piece1 a b m y x (hx 0) (hx 1)) ?_
  refine View.allAt_cons_unit _ _ _ _ _ (fun x hx => piece0 a b m y x (hx 0) (hx 1)) ?_
  exact View.allAt_nil _ _

end Side

theorem out0_B_15_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : ¬cond0_0 i) (hc1 : ¬cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) (xs0 : Vec Ideal S8x64x64 .f32) (xs1 : Vec Ideal S1x1792 .f32) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = MixProof.bOut x0 xs1 x3 x6 x7 x8 x10 x11 x12 x13 x14 (MixProof.aside (MixProof.bRead x0 xs1 x3 x4 x5 x6 x7 x9 x10 x14 xs0)) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2, View.ld_unit_zero (S := S8x64x64) hz3]
  rw [View.canon_unit_zero (S := S1x64x512) hz3]
  simp only [side_by_side]
  rfl
theorem sout0_B_0_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : ¬cond0_0 i) (hc1 : ¬cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) (xs0 : Vec Ideal S8x64x64 .f32) (xs1 : Vec Ideal S1x1792 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = MixProof.bState x0 xs1 x3 x4 x5 x6 x7 x9 x10 x14 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2, View.ld_unit_zero (S := S8x64x64) hz3]
  rw [View.canon_unit_zero (S := S8x64x64) hz3]
  rfl
theorem sout0_B_1_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : ¬cond0_0 i) (hc1 : ¬cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) (xs0 : Vec Ideal S8x64x64 .f32) (xs1 : Vec Ideal S1x1792 .f32) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = k0_pay6 x0 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2, View.ld_unit_zero (S := S8x64x64) hz3]
  rw [View.canon_unit_zero (S := S1x1792) hz2]
theorem out0_A_15_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : cond0_0 i) (hc1 : ¬cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 = MixProof.bOut x0 (k0_pay4 x2) x3 x6 x7 x8 x10 x11 x12 x13 x14 (MixProof.aside (MixProof.bRead x0 (k0_pay4 x2) x3 x4 x5 x6 x7 x9 x10 x14 (k0_pay3 x1))) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14)]
  unfold kernelRun0_A
  dsimp only
  sl_unfold_words
  simp only [View.readAt_eq_ld, harg3.read_unread, harg4.read_unread, View.ld_unit_zero (S := S1x8x64x64) hz4, View.ld_unit_zero (S := S1x1x1792) hz3, View.readCov_unit_zero (S := S8x64x64) _ hz3, View.readCov_unit_zero (S := S1x1792) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2]
  rw [View.canon_unit_zero (S := S1x64x512) hz3]
  simp only [side_by_side]
  rfl
theorem sout0_A_0_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : cond0_0 i) (hc1 : ¬cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 = MixProof.bState x0 (k0_pay4 x2) x3 x4 x5 x6 x7 x9 x10 x14 (k0_pay3 x1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14)]
  unfold kernelRun0_A
  dsimp only
  sl_unfold_words
  simp only [View.readAt_eq_ld, harg3.read_unread, harg4.read_unread, View.ld_unit_zero (S := S1x8x64x64) hz4, View.ld_unit_zero (S := S1x1x1792) hz3, View.readCov_unit_zero (S := S8x64x64) _ hz3, View.readCov_unit_zero (S := S1x1792) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2]
  rw [View.canon_cons_unit_zero (S := S8x64x64) hz3]
  rfl
theorem sout0_A_1_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : cond0_0 i) (hc1 : ¬cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 = k0_pay6 x0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14)]
  unfold kernelRun0_A
  dsimp only
  sl_unfold_words
  simp only [View.readAt_eq_ld, harg3.read_unread, harg4.read_unread, View.ld_unit_zero (S := S1x8x64x64) hz4, View.ld_unit_zero (S := S1x1x1792) hz3, View.readCov_unit_zero (S := S8x64x64) _ hz3, View.readCov_unit_zero (S := S1x1792) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2]
  rw [View.canon_cons_unit_zero (S := S1x1792) hz2]
theorem out0_C_15_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : ¬cond0_0 i) (hc1 : cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) (xs0 : Vec Ideal S8x64x64 .f32) (xs1 : Vec Ideal S1x1792 .f32) :
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = MixProof.bOut x0 xs1 x3 x6 x7 x8 x10 x11 x12 x13 x14 (MixProof.aside (MixProof.bRead x0 xs1 x3 x4 x5 x6 x7 x9 x10 x14 xs0)) := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2, View.ld_unit_zero (S := S8x64x64) hz3]
  rw [View.canon_unit_zero (S := S1x64x512) hz3]
  simp only [side_by_side]
  rfl
theorem out0_C_16_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : ¬cond0_0 i) (hc1 : cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) (xs0 : Vec Ideal S8x64x64 .f32) (xs1 : Vec Ideal S1x1792 .f32) :
    out0_C_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = k0_pay1 (F := Ideal) (MixProof.bState x0 xs1 x3 x4 x5 x6 x7 x9 x10 x14 xs0) := by
  unfold out0_C_16
  rw [View.read_writes_eq_canon _ _ _ (cover0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1)]
  unfold kernelRun0_C
  dsimp only
  sl_unfold_words
  simp only [View.readCov_unit_zero (S := S8x64x64) _ hz3, View.readCov_unit_zero (S := S1x1792) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2, View.ld_unit_zero (S := S8x64x64) hz3]
  rw [View.canon_unit_zero (S := S1x8x64x64) hz4]
  rfl
theorem out0_C_17_eq (c : Dev nD) (i : grid0.Coords) (arg2 : Memref sig .tc .vmem S1x64x1792 .f32) (harg2 : arg2.IsWhole) (arg3 : Memref sig .tc .vmem S1x8x64x64 .f32) (harg3 : arg3.IsWhole) (arg4 : Memref sig .tc .vmem S1x1x1792 .f32) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x64x512 .bf16) (harg17 : arg17.IsWhole) (arg18 : Memref sig .tc .vmem S1x8x64x64 .f32) (harg18 : arg18.IsWhole) (arg19 : Memref sig .tc .vmem S1x1x1792 .f32) (harg19 : arg19.IsWhole) (arg20 : Memref sig .tc .vmem S8x64x64 .f32) (harg20 : arg20.IsWhole) (arg21 : Memref sig .tc .vmem S1x1792 .f32) (harg21 : arg21.IsWhole) (arg22 : Memref sig .tc .vmem S64x512 .f32) (harg22 : arg22.IsWhole) (hc0 : ¬cond0_0 i) (hc1 : cond0_1 i)
    (x0 : Vec Ideal S1x64x1792 .f32) (x1 : Vec Ideal S1x8x64x64 .f32) (x2 : Vec Ideal S1x1x1792 .f32) (x3 : Vec Ideal S1x1792 .f32) (x4 : Vec Ideal S1x512 .f32) (x5 : Vec Ideal S64x512 .f32) (x6 : Vec Ideal S1x512 .f32) (x7 : Vec Ideal S64x512 .f32) (x8 : Vec Ideal S128x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S512x512 .f32) (xs0 : Vec Ideal S8x64x64 .f32) (xs1 : Vec Ideal S1x1792 .f32) :
    out0_C_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1 = k0_pay2 (F := Ideal) (k0_pay6 x0) := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 xs0 xs1)]
  unfold kernelRun0_C
  dsimp only
  sl_unfold_words
  simp only [View.readCov_unit_zero (S := S8x64x64) _ hz3, View.readCov_unit_zero (S := S1x1792) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg20.read_unread, harg21.read_unread, View.ld_unit_zero (S := S128x512) hz2, View.ld_unit_zero (S := S1x1792) hz2, View.ld_unit_zero (S := S1x1x1792) hz3, View.ld_unit_zero (S := S1x512) hz2, View.ld_unit_zero (S := S1x64x1792) hz3, View.ld_unit_zero (S := S1x8x64x64) hz4, View.ld_unit_zero (S := S512x512) hz2, View.ld_unit_zero (S := S64x512) hz2, View.ld_unit_zero (S := S8x64x64) hz3]
  rw [View.canon_unit_zero (S := S1x1x1792) hz3]

end Cert.MixCase
-- ==== Proof.MixArgs.lean ====
module

public import proofs.«01_k».proof.Proof.MixSpec
public import Idealize.ShloMosaic.Lib.Pointwise

/-! # Real arguments of the time mixing -/

@[expose] public section

noncomputable section

namespace Cert.MixProof

open Idealize.ShloMosaic

/-- The argument arrays hold these real numbers. -/
structure RealArgs (az : FVec Ideal ⟨3, ![1, 2048, 1792]⟩ .f32) (am : FVec Ideal ⟨4, ![1, 8, 64, 64]⟩ .f32) (ap : FVec Ideal ⟨3, ![1, 1, 1792]⟩ .f32)
    (amu : FVec Ideal ⟨1, ![1792]⟩ .f32) (aw0 : FVec Ideal ⟨1, ![512]⟩ .f32) (aw2 : FVec Ideal ⟨2, ![64, 512]⟩ .f32) (aa0 : FVec Ideal ⟨1, ![512]⟩ .f32)
    (aa2 : FVec Ideal ⟨2, ![64, 512]⟩ .f32) (ag2 : FVec Ideal ⟨2, ![128, 512]⟩ .f32) (akk aka : FVec Ideal ⟨1, ![512]⟩ .f32)
    (ark : FVec Ideal ⟨2, ![8, 64]⟩ .f32) (agg agb : FVec Ideal ⟨1, ![512]⟩ .f32)
    (Z : ℕ → Fin 1792 → ℝ) (q : Fin 1792 → ℝ) (P : Par) (M : Fin 8 → Mat) : Prop where
  z : ∀ (i : Fin 2048) (j : Fin 1792), az (ix3 0 i j) = ((Z i.val j : ℝ) : EReal)
  m0 : ∀ (h : Fin 8) (i j : Fin 64), am (ix4 0 h i j) = ((M h i j : ℝ) : EReal)
  p0 : ∀ j : Fin 1792, ap (ix3 0 0 j) = ((q j : ℝ) : EReal)
  mu : ∀ j : Fin 1792, amu (ix1 j) = ((P.mu j : ℝ) : EReal)
  w0 : ∀ j : Fin 512, aw0 (ix1 j) = ((P.w0 j : ℝ) : EReal)
  w2 : ∀ (i : Fin 64) (j : Fin 512), aw2 (ix2 i j) = ((P.w2 i j : ℝ) : EReal)
  a0 : ∀ j : Fin 512, aa0 (ix1 j) = ((P.a0 j : ℝ) : EReal)
  a2 : ∀ (i : Fin 64) (j : Fin 512), aa2 (ix2 i j) = ((P.a2 i j : ℝ) : EReal)
  g2 : ∀ (i : Fin 128) (j : Fin 512), ag2 (ix2 i j) = ((P.g2 i j : ℝ) : EReal)
  kk : ∀ j : Fin 512, akk (ix1 j) = ((P.kk j : ℝ) : EReal)
  ka : ∀ j : Fin 512, aka (ix1 j) = ((P.ka j : ℝ) : EReal)
  rk : ∀ (h : Fin 8) (n : Fin 64), ark (ix2 h n) = ((P.rk (hd h n) : ℝ) : EReal)
  gg : ∀ j : Fin 512, agg (ix1 j) = ((P.gg j : ℝ) : EReal)
  gb : ∀ j : Fin 512, agb (ix1 j) = ((P.gb j : ℝ) : EReal)

end Cert.MixProof
-- ==== Proof.MixKernel.lean ====
module

public import proofs.«01_k».proof.Proof.MixCase
public import proofs.«01_k».proof.Proof.MixArgs
public import Idealize.ShloMosaic.Lib.Pipeline.ValueKit
public import Idealize.ShloMosaic.Lib.StableHlo.ReadAt

/-! # The time mixing kernel, block by block -/

@[expose] public section

set_option maxRecDepth 65536

noncomputable section

namespace Cert.MixCase

open Idealize.ShloMosaic Idealize.ShloMosaic.TcCoe Idealize.SL.Sem
open Cert.MixIdeal Cert.MixIdeal.Gen Cert.MixIdeal.Value
open Cert.MixProof hiding sig

theorem maps : ∀ t : Fin grid0.N, win0_0.index t = ![0, t.val, 0] ∧ win0_1.index t = ![0, 0, 0, 0] ∧ win0_2.index t = ![0, 0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] ∧ win0_14.index t = ![0, 0] := by decide +kernel

section Blocks

variable (m : (ℓ : Loc nD τ sig) → Buf (Elt Ideal) ℓ) (c : Dev nD)

abbrev B0 (t : Fin cfg0.N) : FVec Ideal S1x64x1792 .f32 := iblk m c 0 t
abbrev B1 (t : Fin cfg0.N) : FVec Ideal S1x8x64x64 .f32 := iblk m c 1 t
abbrev B2 (t : Fin cfg0.N) : FVec Ideal S1x1x1792 .f32 := iblk m c 2 t
abbrev B3 (t : Fin cfg0.N) : FVec Ideal S1x1792 .f32 := iblk m c 3 t
abbrev B4 (t : Fin cfg0.N) : FVec Ideal S1x512 .f32 := iblk m c 4 t
abbrev B5 (t : Fin cfg0.N) : FVec Ideal S64x512 .f32 := iblk m c 5 t
abbrev B6 (t : Fin cfg0.N) : FVec Ideal S1x512 .f32 := iblk m c 6 t
abbrev B7 (t : Fin cfg0.N) : FVec Ideal S64x512 .f32 := iblk m c 7 t
abbrev B8 (t : Fin cfg0.N) : FVec Ideal S128x512 .f32 := iblk m c 8 t
abbrev B9 (t : Fin cfg0.N) : FVec Ideal S1x512 .f32 := iblk m c 9 t
abbrev B10 (t : Fin cfg0.N) : FVec Ideal S1x512 .f32 := iblk m c 10 t
abbrev B11 (t : Fin cfg0.N) : FVec Ideal S1x512 .f32 := iblk m c 11 t
abbrev B12 (t : Fin cfg0.N) : FVec Ideal S1x512 .f32 := iblk m c 12 t
abbrev B13 (t : Fin cfg0.N) : FVec Ideal S1x512 .f32 := iblk m c 13 t
abbrev B14 (t : Fin cfg0.N) : FVec Ideal S512x512 .f32 := iblk m c 14 t

/-- The arguments of the kernel on device `c` hold these real numbers. -/
abbrev KArgs := RealArgs (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (m ((c.tc : Thread nD τ).loc main_arg9)) (m ((c.tc : Thread nD τ).loc main_arg10))
  (m ((c.tc : Thread nD τ).loc main_arg11)) (m ((c.tc : Thread nD τ).loc main_arg12)) (m ((c.tc : Thread nD τ).loc main_arg13))

end Blocks

section Blocks

variable {m : (ℓ : Loc nD τ sig) → Buf (Elt Ideal) ℓ} {c : Dev nD} {Z : ℕ → Fin 1792 → ℝ} {q : Fin 1792 → ℝ} {P : Par} {M : Fin 8 → Mat} (H : KArgs m c Z q P M) (t : Fin cfg0.N)
include H

theorem b0 : B0 m c t = upz fun n => Z (64 * t.val + n) := by
  obtain ⟨h0, -⟩ := maps t
  have ht : t.val < 32 := lt_of_lt_of_eq t.isLt N_0
  funext x
  idx_vars x
  have e : B0 m c t (ix3 x0 x1 x2) = (m ((c.tc : Thread nD τ).loc main_arg0) : FVec Ideal S1x2048x1792 .f32) (ix3 0 (⟨64 * t.val + x1.val, by omega⟩ : Fin 2048) x2) := by
    blk_ext! [iblk, V, h0]
  rw [e]
  exact H.z _ _
theorem b1 : k0_pay3 (F := Ideal) (B1 m c t) = upM (t := .f32) M := by
  obtain ⟨-, h1, -⟩ := maps t
  unfold k0_pay3
  dsimp only
  funext x
  idx_vars x
  pointwise
  have e : B1 m c t (ix4 0 x0 x1 x2) = (m ((c.tc : Thread nD τ).loc main_arg1) : FVec Ideal S1x8x64x64 .f32) (ix4 0 x0 x1 x2) := by
    blk_ext! [iblk, V, h1]
  exact e.trans (H.m0 _ _ _)
theorem b2 : k0_pay4 (F := Ideal) (B2 m c t) = up1 q := by
  obtain ⟨-, -, h1, -⟩ := maps t
  unfold k0_pay4
  dsimp only
  funext x
  idx_vars x
  pointwise
  have e : B2 m c t (ix3 0 0 x1) = (m ((c.tc : Thread nD τ).loc main_arg2) : FVec Ideal S1x1x1792 .f32) (ix3 0 0 x1) := by
    blk_ext! [iblk, V, h1]
  exact e.trans (H.p0 _)
theorem b3 : B3 m c t = up1 P.mu := by
  obtain ⟨-, -, -, h1, -⟩ := maps t
  funext x
  idx_vars x
  have e : B3 m c t (ix2 x0 x1) = (V m c main_v8 : FVec Ideal S1x1792 .f32) (ix2 x0 x1) := by
    blk_ext [iblk, h1]
  refine e.trans ?_
  unfold V
  after_reads_at
  exact (H.mu _)
theorem b4 : B4 m c t = up1 P.w0 := by
  obtain ⟨-, -, -, -, h1, -⟩ := maps t
  funext x
  idx_vars x
  have e : B4 m c t (ix2 x0 x1) = (V m c main_v9 : FVec Ideal S1x512 .f32) (ix2 x0 x1) := by
    blk_ext [iblk, h1]
  refine e.trans ?_
  unfold V
  after_reads_at
  exact (H.w0 _)
theorem b5 : B5 m c t = up2 (t := .f32) P.w2 := by
  obtain ⟨-, -, -, -, -, h1, -⟩ := maps t
  funext x
  idx_vars x
  have e : B5 m c t (ix2 x0 x1) = (m ((c.tc : Thread nD τ).loc main_arg5) : FVec Ideal S64x512 .f32) (ix2 x0 x1) := by
    blk_ext! [iblk, V, h1]
  exact e.trans (H.w2 _ _)
theorem b6 : B6 m c t = up1 P.a0 := by
  obtain ⟨-, -, -, -, -, -, h1, -⟩ := maps t
  funext x
  idx_vars x
  have e : B6 m c t (ix2 x0 x1) = (V m c main_v10 : FVec Ideal S1x512 .f32) (ix2 x0 x1) := by
    blk_ext [iblk, h1]
  refine e.trans ?_
  unfold V
  after_reads_at
  exact (H.a0 _)
theorem b7 : B7 m c t = up2 (t := .f32) P.a2 := by
  obtain ⟨-, -, -, -, -, -, -, h1, -⟩ := maps t
  funext x
  idx_vars x
  have e : B7 m c t (ix2 x0 x1) = (m ((c.tc : Thread nD τ).loc main_arg7) : FVec Ideal S64x512 .f32) (ix2 x0 x1) := by
    blk_ext! [iblk, V, h1]
  exact e.trans (H.a2 _ _)
theorem b8 : B8 m c t = up2 (t := .f32) P.g2 := by
  obtain ⟨-, -, -, -, -, -, -, -, h1, -⟩ := maps t
  funext x
  idx_vars x
  have e : B8 m c t (ix2 x0 x1) = (m ((c.tc : Thread nD τ).loc main_arg8) : FVec Ideal S128x512 .f32) (ix2 x0 x1) := by
    blk_ext! [iblk, V, h1]
  exact e.trans (H.g2 _ _)
theorem b9 : B9 m c t = up1 P.kk := by
  obtain ⟨-, -, -, -, -, -, -, -, -, h1, -⟩ := maps t
  funext x
  idx_vars x
  have e : B9 m c t (ix2 x0 x1) = (V m c main_v11 : FVec Ideal S1x512 .f32) (ix2 x0 x1) := by
    blk_ext [iblk, h1]
  refine e.trans ?_
  unfold V
  after_reads_at
  exact (H.kk _)
theorem b10 : B10 m c t = up1 P.ka := by
  obtain ⟨-, -, -, -, -, -, -, -, -, -, h1, -⟩ := maps t
  funext x
  idx_vars x
  have e : B10 m c t (ix2 x0 x1) = (V m c main_v12 : FVec Ideal S1x512 .f32) (ix2 x0 x1) := by
    blk_ext [iblk, h1]
  refine e.trans ?_
  unfold V
  after_reads_at
  exact (H.ka _)
theorem b11 : B11 m c t = up1 P.rk := by
  obtain ⟨-, -, -, -, -, -, -, -, -, -, -, h1, -⟩ := maps t
  funext x
  idx_vars x
  have e : B11 m c t (ix2 x0 x1) = (V m c main_v13 : FVec Ideal S1x512 .f32) (ix2 x0 x1) := by
    blk_ext [iblk, h1]
  refine e.trans ?_
  unfold V
  after_reads_at
  refine (H.rk (hOf x1) (nOf x1)).trans ?_
  rw [hd_of]
  rfl
theorem b12 : B12 m c t = up1 P.gg := by
  obtain ⟨-, -, -, -, -, -, -, -, -, -, -, -, h1, -⟩ := maps t
  funext x
  idx_vars x
  have e : B12 m c t (ix2 x0 x1) = (V m c main_v14 : FVec Ideal S1x512 .f32) (ix2 x0 x1) := by
    blk_ext [iblk, h1]
  refine e.trans ?_
  unfold V
  after_reads_at
  exact (H.gg _)
theorem b13 : B13 m c t = up1 P.gb := by
  obtain ⟨-, -, -, -, -, -, -, -, -, -, -, -, -, h1, -⟩ := maps t
  funext x
  idx_vars x
  have e : B13 m c t (ix2 x0 x1) = (V m c main_v15 : FVec Ideal S1x512 .f32) (ix2 x0 x1) := by
    blk_ext [iblk, h1]
  refine e.trans ?_
  unfold V
  after_reads_at
  exact (H.gb _)

end Blocks

end Cert.MixCase
-- ==== Proof.MixRun.lean ====
module

public import proofs.«01_k».proof.Proof.MixKernel
public import proofs.«01_k».proof.Proof.MixOut
public import proofs.«01_k».proof.Proof.Gen.MixIdeal.Value

/-! # The time mixing kernel's results over the whole grid -/

@[expose] public section

set_option maxRecDepth 65536

noncomputable section

namespace Cert.MixCase

open Idealize.ShloMosaic Idealize.ShloMosaic.TcCoe Idealize.SL.Sem
open Cert.MixIdeal Cert.MixIdeal.Gen Cert.MixIdeal.Value
open Cert.MixProof hiding sig

/-- The quotient by 64, as the host's line of operations computes it. -/
def quot (w : BitVec 32) : BitVec 32 :=
  Scalar.select
    (IntOp.andi (IntOp.cmpi CmpIPredicate.ne (if w = 0 then 0 else if w.msb = true then -1 else 1) (if (64#32 : BitVec 32) = 0 then 0 else if BitVec.msb 64#32 = true then -1 else (1 : BitVec 32)))
      (IntOp.cmpi CmpIPredicate.ne (IntOp.remsi ArithUnit.host w 64#32) 0#32))
    (IntOp.subi (IntOp.divsi ArithUnit.host w 64#32) 1#32) (IntOp.divsi ArithUnit.host w 64#32)

theorem quot_eq : ∀ i : Fin 512, quot (BitVec.ofNat 32 i.val) = BitVec.ofNat 32 (i.val / 64) := by decide +kernel

theorem quot_inj (i j : Fin 512) : BitVec.ofNat 32 (i.val / 64) = BitVec.ofNat 32 (j.val / 64) ↔ i.val / 64 = j.val / 64 := by
  constructor
  · intro h
    have := congrArg BitVec.toNat h
    simp only [BitVec.toNat_ofNat] at this
    omega
  · intro h
    rw [h]

theorem mask_entry (m : (ℓ : Loc nD τ sig) → Buf (Elt Ideal) ℓ) (c : Dev nD) : (V m c main_v7 : FVec Ideal S512x512 .f32) = up2 (t := .f32) heads := by
  funext x
  idx_vars x
  unfold V
  after_reads_at
  refine Eq.trans (b := FloatOps.uitofp (F := Ideal) .f32 (IntOp.cmpi .eq (quot (BitVec.ofNat 32 x0.val)) (quot (BitVec.ofNat 32 x1.val)))) rfl ?_
  rw [quot_eq, quot_eq]
  simp only [up2_ix, heads]
  have hu : ∀ w : BitVec 1, FloatOps.uitofp (F := Ideal) .f32 w = (((w.toNat : ℝ)) : EReal) := fun w => rfl
  rw [hu]
  by_cases h : x0.val / 64 = x1.val / 64
  · simp [IntOp.cmpi, h]
  · simp [IntOp.cmpi, quot_inj, h]

theorem b14 (m : (ℓ : Loc nD τ sig) → Buf (Elt Ideal) ℓ) (c : Dev nD) (t : Fin cfg0.N) : B14 m c t = up2 (t := .f32) heads := by
  obtain ⟨-, -, -, -, -, -, -, -, -, -, -, -, -, -, h1⟩ := maps t
  funext x
  idx_vars x
  have e : B14 m c t (ix2 x0 x1) = (V m c main_v7 : FVec Ideal S512x512 .f32) (ix2 x0 x1) := by
    blk_ext [iblk, h1]
  rw [e, mask_entry]

theorem last_row (Z : ℕ → Fin 1792 → ℝ) : k0_pay6 (F := Ideal) (upz Z) = up1 (Z 63) := by
  unfold k0_pay6 k0_pay5
  dsimp only
  funext x
  idx_vars x
  pointwise [upz]
  rfl

theorem state_result (M : Fin 8 → Mat) : k0_pay1 (F := Ideal) (upM (t := .f32) M) = fun i => ((M (i 1) (i 2) (i 3) : ℝ) : EReal) := by
  unfold k0_pay1
  funext x
  idx_vars x
  pointwise
  rfl

theorem row_result (q : Fin 1792 → ℝ) : k0_pay2 (F := Ideal) (up1 q) = fun i => ((q (i 2) : ℝ) : EReal) := by
  unfold k0_pay2
  funext x
  idx_vars x
  pointwise
  rfl

section Chunk

variable (Z : ℕ → Fin 1792 → ℝ) (q : Fin 1792 → ℝ) (P : Par) (M : Fin 8 → Mat) (n : ℕ)

/-- The rows of chunk `n`. -/
abbrev zs : ℕ → Fin 1792 → ℝ := fun k => Z (64 * n + k)
/-- The row before chunk `n`. -/
abbrev qs : Fin 1792 → ℝ := if n = 0 then q else Z (64 * n - 1)
/-- The state before chunk `n`. -/
abbrev Ms : Fin 8 → Mat := fun h => headState tiny P (xs Z q P) M h (64 * n)

theorem chunk_shift : xs (zs Z n) (qs Z q n) P = fun k => xs Z q P (64 * n + k) := by
  funext k j
  show shift _ _ _ _ _ = shift _ _ _ _ _
  unfold shift
  rcases Nat.eq_zero_or_pos k with rfl | hk
  · rcases Nat.eq_zero_or_pos n with rfl | hn
    · simp [zs, qs]
    · have : ¬ n = 0 := by omega
      simp [zs, qs, this]
  · have h1 : ¬ k = 0 := by omega
    have h2 : ¬ 64 * n + k = 0 := by omega
    have h3 : 64 * n + (k - 1) = 64 * n + k - 1 := by omega
    simp only [if_neg h1, if_neg h2, zs, h3]

theorem chunk_out : bOut (upz (zs Z n)) (up1 (qs Z q n)) (up1 P.mu) (up1 P.a0) (up2 P.a2) (up2 P.g2) (up1 P.ka) (up1 P.rk) (up1 P.gg) (up1 P.gb) (up2 heads)
      (aside (bRead (upz (zs Z n)) (up1 (qs Z q n)) (up1 P.mu) (up1 P.w0) (up2 P.w2) (up1 P.a0) (up2 P.a2) (up1 P.kk) (up1 P.ka) (up2 heads) (upM (Ms Z q P M n))))
    = fun i => ((tokenOut tiny small P (xs Z q P) M (64 * n + (i 1).val) (i 2) : ℝ) : EReal) := by
  rw [read_up, aside_up, out_up]
  funext i
  have e := congrFun (tokenOut_add tiny small P (xs Z q P) M (64 * n) (i 1).val) (i 2)
  rw [← chunk_shift] at e
  rw [← e]
  rfl

theorem chunk_next : bState (upz (zs Z n)) (up1 (qs Z q n)) (up1 P.mu) (up1 P.w0) (up2 P.w2) (up1 P.a0) (up2 P.a2) (up1 P.kk) (up1 P.ka) (up2 heads) (upM (Ms Z q P M n))
    = upM (t := .f32) (Ms Z q P M (n + 1)) := by
  rw [state_up, chunk_shift]
  exact congrArg (upM (t := .f32)) (funext fun h => headState_add ..)

end Chunk

section Sweep

variable {m : (ℓ : Loc nD τ sig) → Buf (Elt Ideal) ℓ} {c : Dev nD} {Z : ℕ → Fin 1792 → ℝ} {q : Fin 1792 → ℝ} {P : Par} {M : Fin 8 → Mat} (H : KArgs m c Z q P M)

/-- What is held after grid point `n`: its block of tokens, the state, and the last row. -/
structure Good (Z : ℕ → Fin 1792 → ℝ) (q : Fin 1792 → ℝ) (P : Par) (M : Fin 8 → Mat) (n : ℕ)
    (acc : Vec Ideal S1x64x512 .bf16 × Vec Ideal S1x8x64x64 .f32 × Vec Ideal S1x1x1792 .f32 × Vec Ideal S8x64x64 .f32 × Vec Ideal S1x1792 .f32) : Prop where
  block : acc.1 = fun i => ((tokenOut tiny small P (xs Z q P) M (64 * n + (i 1).val) (i 2) : ℝ) : EReal)
  state : acc.2.2.2.1 = upM (t := .f32) (Ms Z q P M (n + 1))
  row : acc.2.2.2.2 = up1 (Z (64 * n + 63))

include H

theorem good_A (t : Fin cfg0.N) (h0 : t.val = 0) (acc) : Good Z q P M t.val (stAt0 m c t.val t.isLt acc) := by
  rw [stAt0_A m c t acc (by omega) (by omega)]
  have e0 := chunk_out Z q P M 0
  have e1 := chunk_next Z q P M 0
  have e2 := last_row (zs Z 0)
  have f0 : B0 m c t = upz (zs Z 0) := (b0 H t).trans (by rw [h0])
  have fq : k0_pay4 (F := Ideal) (B2 m c t) = up1 (qs Z q 0) := (b2 H t).trans (congrArg up1 (if_pos rfl).symm)
  have fm : k0_pay3 (F := Ideal) (B1 m c t) = upM (t := .f32) (Ms Z q P M 0) := (b1 H t).trans rfl
  refine ⟨?_, ?_, ?_⟩
  · dsimp only
    refine (out0_A_15_eq ..).trans ?_
    rw [show iblk m c 0 t = _ from f0, show k0_pay4 (F := Ideal) (iblk m c 2 t) = _ from fq, show k0_pay3 (F := Ideal) (iblk m c 1 t) = _ from fm, show iblk m c 3 t = _ from b3 H t, show iblk m c 4 t = _ from b4 H t, show iblk m c 5 t = _ from b5 H t, show iblk m c 6 t = _ from b6 H t, show iblk m c 7 t = _ from b7 H t, show iblk m c 8 t = _ from b8 H t, show iblk m c 9 t = _ from b9 H t, show iblk m c 10 t = _ from b10 H t, show iblk m c 11 t = _ from b11 H t, show iblk m c 12 t = _ from b12 H t, show iblk m c 13 t = _ from b13 H t, show iblk m c 14 t = _ from b14 m c t, h0]
    exact e0
  · dsimp only
    refine (sout0_A_0_eq ..).trans ?_
    rw [show iblk m c 0 t = _ from f0, show k0_pay4 (F := Ideal) (iblk m c 2 t) = _ from fq, show k0_pay3 (F := Ideal) (iblk m c 1 t) = _ from fm, show iblk m c 3 t = _ from b3 H t, show iblk m c 4 t = _ from b4 H t, show iblk m c 5 t = _ from b5 H t, show iblk m c 6 t = _ from b6 H t, show iblk m c 7 t = _ from b7 H t, show iblk m c 9 t = _ from b9 H t, show iblk m c 10 t = _ from b10 H t, show iblk m c 14 t = _ from b14 m c t, h0]
    exact e1
  · dsimp only
    refine (sout0_A_1_eq ..).trans ?_
    rw [show iblk m c 0 t = _ from f0, h0]
    exact e2

theorem good_B (t : Fin cfg0.N) (h0 : t.val ≠ 0) (h1 : t.val < 31) (acc) (G : Good Z q P M (t.val - 1) acc) : Good Z q P M t.val (stAt0 m c t.val t.isLt acc) := by
  rw [stAt0_B m c t acc (by omega) (by omega)]
  have f0 : B0 m c t = upz (zs Z t.val) := b0 H t
  have fq : acc.2.2.2.2 = up1 (qs Z q t.val) := G.row.trans ((congrArg (fun k => up1 (Z k)) (by omega)).trans (congrArg up1 (if_neg h0).symm))
  have fm : acc.2.2.2.1 = upM (t := .f32) (Ms Z q P M t.val) := G.state.trans (by rw [Nat.sub_add_cancel (by omega)])
  refine ⟨?_, ?_, ?_⟩
  · dsimp only
    refine (out0_B_15_eq ..).trans ?_
    rw [show iblk m c 0 t = _ from f0, fq, fm, show iblk m c 3 t = _ from b3 H t, show iblk m c 4 t = _ from b4 H t, show iblk m c 5 t = _ from b5 H t, show iblk m c 6 t = _ from b6 H t, show iblk m c 7 t = _ from b7 H t, show iblk m c 8 t = _ from b8 H t, show iblk m c 9 t = _ from b9 H t, show iblk m c 10 t = _ from b10 H t, show iblk m c 11 t = _ from b11 H t, show iblk m c 12 t = _ from b12 H t, show iblk m c 13 t = _ from b13 H t, show iblk m c 14 t = _ from b14 m c t]
    exact chunk_out Z q P M t.val
  · dsimp only
    refine (sout0_B_0_eq ..).trans ?_
    rw [show iblk m c 0 t = _ from f0, fq, fm, show iblk m c 3 t = _ from b3 H t, show iblk m c 4 t = _ from b4 H t, show iblk m c 5 t = _ from b5 H t, show iblk m c 6 t = _ from b6 H t, show iblk m c 7 t = _ from b7 H t, show iblk m c 9 t = _ from b9 H t, show iblk m c 10 t = _ from b10 H t, show iblk m c 14 t = _ from b14 m c t]
    exact chunk_next Z q P M t.val
  · dsimp only
    refine (sout0_B_1_eq ..).trans ?_
    rw [show iblk m c 0 t = _ from f0]
    exact last_row (zs Z t.val)

theorem good : ∀ (n : ℕ) (hn : n < cfg0.N), n < 31 → Good Z q P M n (outsAt0 m c n hn)
  | 0, hn, _ => by rw [outsAt0_zero]; exact good_A H ⟨0, hn⟩ rfl _
  | n + 1, hn, h => by
    rw [outsAt0_succ]
    exact good_B H ⟨n + 1, hn⟩ (Nat.succ_ne_zero n) h _ (good n _ (by omega))

theorem good_C (t : Fin cfg0.N) (h1 : t.val = 31) (acc) (G : Good Z q P M 30 acc) :
    (stAt0 m c t.val t.isLt acc).1 = (fun i => ((tokenOut tiny small P (xs Z q P) M (64 * 31 + (i 1).val) (i 2) : ℝ) : EReal))
    ∧ (stAt0 m c t.val t.isLt acc).2.1 = (fun i => ((headState tiny P (xs Z q P) M (i 1) 2048 (i 2) (i 3) : ℝ) : EReal))
    ∧ (stAt0 m c t.val t.isLt acc).2.2.1 = (fun i => ((Z 2047 (i 2) : ℝ) : EReal)) := by
  rw [stAt0_C m c t acc (by omega) (by omega)]
  have f0 : B0 m c t = upz (zs Z 31) := (b0 H t).trans (by rw [h1])
  have fq : acc.2.2.2.2 = up1 (qs Z q 31) := G.row
  have fm : acc.2.2.2.1 = upM (t := .f32) (Ms Z q P M 31) := G.state
  refine ⟨?_, ?_, ?_⟩
  · dsimp only
    refine (out0_C_15_eq ..).trans ?_
    rw [show iblk m c 0 t = _ from f0, fq, fm, show iblk m c 3 t = _ from b3 H t, show iblk m c 4 t = _ from b4 H t, show iblk m c 5 t = _ from b5 H t, show iblk m c 6 t = _ from b6 H t, show iblk m c 7 t = _ from b7 H t, show iblk m c 8 t = _ from b8 H t, show iblk m c 9 t = _ from b9 H t, show iblk m c 10 t = _ from b10 H t, show iblk m c 11 t = _ from b11 H t, show iblk m c 12 t = _ from b12 H t, show iblk m c 13 t = _ from b13 H t, show iblk m c 14 t = _ from b14 m c t]
    exact chunk_out Z q P M 31
  · dsimp only
    refine (out0_C_16_eq ..).trans ?_
    rw [show iblk m c 0 t = _ from f0, fq, fm, show iblk m c 3 t = _ from b3 H t, show iblk m c 4 t = _ from b4 H t, show iblk m c 5 t = _ from b5 H t, show iblk m c 6 t = _ from b6 H t, show iblk m c 7 t = _ from b7 H t, show iblk m c 9 t = _ from b9 H t, show iblk m c 10 t = _ from b10 H t, show iblk m c 14 t = _ from b14 m c t, chunk_next Z q P M 31]
    exact state_result _
  · dsimp only
    refine (out0_C_17_eq ..).trans ?_
    rw [show iblk m c 0 t = _ from f0, last_row]
    exact row_result _

theorem good_last (hn : 31 < cfg0.N) : (outsAt0 m c 31 hn).1 = (fun i => ((tokenOut tiny small P (xs Z q P) M (64 * 31 + (i 1).val) (i 2) : ℝ) : EReal))
    ∧ (outsAt0 m c 31 hn).2.1 = (fun i => ((headState tiny P (xs Z q P) M (i 1) 2048 (i 2) (i 3) : ℝ) : EReal))
    ∧ (outsAt0 m c 31 hn).2.2.1 = (fun i => ((Z 2047 (i 2) : ℝ) : EReal)) := by
  rw [outsAt0_succ m c 30 hn]
  exact good_C H ⟨31, hn⟩ rfl _ (good H 30 _ (by omega))

/-- The tokens. -/
theorem tokens : G15 m c = fun i => ((tokenOut tiny small P (xs Z q P) M (i 1).val (i 2) : ℝ) : EReal) := by
  funext i
  have hi0 : (i 0).val < 1 := (i 0).isLt
  have hi1 : (i 1).val < 2048 := (i 1).isLt
  have hi2 : (i 2).val < 512 := (i 2).isLt
  have hp : pt15Of i = (i 1).val / 64 := by
    unfold pt15Of run15Of
    omega
  have hN : cfg0.N = 32 := N_0
  have hlt : pt15Of i < cfg0.N := by omega
  unfold G15
  rw [dif_pos hlt, ← outsAt0_sweep m c _ hlt]
  have key : (outsAt0 m c (pt15Of i) hlt).1 = fun j => ((tokenOut tiny small P (xs Z q P) M (64 * pt15Of i + (j 1).val) (j 2) : ℝ) : EReal) := by
    rcases Nat.lt_or_ge (pt15Of i) 31 with h | h
    · exact (good H _ hlt h).block
    · have h' : pt15Of i = 31 := by omega
      generalize pt15Of i = p at *
      subst h'
      exact (good_last H hlt).1
  have e1 : 64 * pt15Of i + (loc15Of i 1).val = (i 1).val := by
    rw [hp]
    show 64 * ((i 1).val / 64) + (i 1).val % 64 = _
    omega
  have e2 : loc15Of i 2 = i 2 := Fin.ext (Nat.mod_eq_of_lt hi2)
  refine (congrFun key _).trans ?_
  exact congrArg₂ (fun (a : ℕ) (b : Fin 512) => ((tokenOut tiny small P (xs Z q P) M a b : ℝ) : EReal)) e1 e2

theorem final_state : G16 m c = fun i => ((headState tiny P (xs Z q P) M (i 1) 2048 (i 2) (i 3) : ℝ) : EReal) := by
  have hN : cfg0.N = 32 := N_0
  rw [G16_last, ← outsAt0_sweep m c 31 (by omega)]
  exact (good_last H _).2.1

theorem final_row : G17 m c = fun i => ((Z 2047 (i 2) : ℝ) : EReal) := by
  have hN : cfg0.N = 32 := N_0
  rw [G17_last, ← outsAt0_sweep m c 31 (by omega)]
  exact (good_last H _).2.2

end Sweep

end Cert.MixCase
-- ==== Proof.MixLoop.lean ====
module

public import proofs.«01_k».proof.Proof.Gen.MixRefIdeal.Run
public import proofs.«01_k».proof.Proof.Gen.MixRefIdeal.Step
public import Idealize.ShloMosaic.Lib.Pointwise

/-! # The reference's loop as a sequence of states -/

@[expose] public section

set_option maxRecDepth 65536

noncomputable section

namespace Cert.MixLoop

open Idealize.ShloMosaic Idealize.ShloMosaic.TcCoe Idealize.SL.Sem Idealize.ShloMosaic.StableHlo
open Cert.MixRefIdeal Cert.MixRefIdeal.Gen Cert.MixRefIdeal.Value
open Cert.MixRefIdeal.Step (State step init)

variable (V : Valuation τ sig (Elt Ideal))

/-- The state that the loop's arrays hold. -/
def held : State Ideal where
  main_v79_11 := V (Proc.devRef .tc main_v79_11)
  main_v79_12 := V (Proc.devRef .tc main_v79_12)
  main_v79_0 := V (Proc.devRef .tc main_v79_0)
  main_v79_1 := V (Proc.devRef .tc main_v79_1)
  main_v79_2 := V (Proc.devRef .tc main_v79_2)
  main_v79_3 := V (Proc.devRef .tc main_v79_3)
  main_v79_4 := V (Proc.devRef .tc main_v79_4)
  main_v79_5 := V (Proc.devRef .tc main_v79_5)
  main_v79_6 := V (Proc.devRef .tc main_v79_6)
  main_v79_7 := V (Proc.devRef .tc main_v79_7)
  main_v79_8 := V (Proc.devRef .tc main_v79_8)
  main_v79_9 := V (Proc.devRef .tc main_v79_9)

/-- The trip counter stands at `j`. -/
abbrev At (j : ℕ) : Prop := V (Proc.devRef .tc main_v79_10) = constantI S_ 32 (BitVec.ofNat 32 j)

variable {V} {j : ℕ} (h : At V j)
include h

theorem r_eq : res_main_while0b_v84 V = Step.b4 j (held V) := by unfold res_main_while0b_v84; rw [h]; rfl
theorem k_eq : res_main_while0b_v86 V = Step.b14 j (held V) := by unfold res_main_while0b_v86; rw [h]; rfl
theorem v_eq : res_main_while0b_v87 V = Step.b19 j (held V) := by unfold res_main_while0b_v87; rw [h]; rfl
theorem state_eq : res_main_while0b_v106 V = Step.b49 j (held V) := by
  unfold res_main_while0b_v106
  rw [k_eq h, v_eq h, h]
  rfl
theorem read_eq : res_main_while0b_v107 V = Step.b50 j (held V) := by
  unfold res_main_while0b_v107
  rw [state_eq h, r_eq h]
  rfl
theorem mean_eq : res_main_while0b_v111 V = Step.b56 j (held V) := by
  unfold res_main_while0b_v111
  rw [read_eq h]
  rfl
theorem dev_eq : res_main_while0b_v113 V = Step.b58 j (held V) := by
  unfold res_main_while0b_v113
  rw [read_eq h, mean_eq h]
  rfl
theorem token_eq : step_main_v79_12 V = Step.b93 j (held V) := by
  unfold step_main_v79_12
  rw [read_eq h, mean_eq h, dev_eq h, r_eq h, k_eq h, v_eq h, h]
  rfl

/-- One trip is one step. -/
theorem held_step : held (STEP V) = step j (held V) := by
  have e11 : STEP V (Proc.devRef .tc main_v79_11) = Step.b49 j (held V) := (STEP_main_v79_11 V).trans (state_eq h)
  have e12 : STEP V (Proc.devRef .tc main_v79_12) = Step.b93 j (held V) := (STEP_main_v79_12 V).trans (token_eq h)
  unfold held step
  rw [e11, e12, STEP_main_v79_0, STEP_main_v79_1, STEP_main_v79_2, STEP_main_v79_3, STEP_main_v79_4, STEP_main_v79_5, STEP_main_v79_6, STEP_main_v79_7, STEP_main_v79_8, STEP_main_v79_9]
  rfl

theorem at_step : At (STEP V) (j + 1) := by
  refine (STEP_main_v79_10 V).trans ?_
  unfold step_main_v79_10
  rw [h]
  funext i
  show BitVec.ofNat 32 j + 1#32 = BitVec.ofNat 32 (j + 1)
  simp only [BitVec.ofNat_add]

omit h

variable (m : (ℓ : Loc nD τ sig) → Buf (Elt Ideal) ℓ) (c : Dev nD)

/-- The state before the first trip. -/
abbrev start : State Ideal :=
  init (m ((c.tc : Thread nD τ).loc main_arg12)) (m ((c.tc : Thread nD τ).loc main_arg13)) (m ((c.tc : Thread nD τ).loc main_arg11)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

set_option maxHeartbeats 900000 in
theorem at_start : At (entryContents preI m c) 0 := by
  show entryContents preI m c (Proc.devRef .tc main_v79_10) = _
  (simp only [entryContents, afterL_cons, afterL_nil]; after_reads_simp) <;> rfl

set_option maxHeartbeats 900000 in
theorem start_11 : entryContents preI m c (Proc.devRef .tc main_v79_11) = (start m c).main_v79_11 := by
  (simp only [entryContents, afterL_cons, afterL_nil]; after_reads_simp) <;> rfl
set_option maxHeartbeats 900000 in
theorem start_12 : entryContents preI m c (Proc.devRef .tc main_v79_12) = (start m c).main_v79_12 := by
  (simp only [entryContents, afterL_cons, afterL_nil]; after_reads_simp) <;> rfl
set_option maxHeartbeats 900000 in
theorem start_0 : entryContents preI m c (Proc.devRef .tc main_v79_0) = (start m c).main_v79_0 := by
  (simp only [entryContents, afterL_cons, afterL_nil]; after_reads_simp) <;> rfl
set_option maxHeartbeats 900000 in
theorem start_1 : entryContents preI m c (Proc.devRef .tc main_v79_1) = (start m c).main_v79_1 := by
  (simp only [entryContents, afterL_cons, afterL_nil]; after_reads_simp) <;> rfl
set_option maxHeartbeats 900000 in
theorem start_2 : entryContents preI m c (Proc.devRef .tc main_v79_2) = (start m c).main_v79_2 := by
  (simp only [entryContents, afterL_cons, afterL_nil]; after_reads_simp) <;> rfl
set_option maxHeartbeats 900000 in
theorem start_3 : entryContents preI m c (Proc.devRef .tc main_v79_3) = (start m c).main_v79_3 := by
  (simp only [entryContents, afterL_cons, afterL_nil]; after_reads_simp) <;> rfl
set_option maxHeartbeats 900000 in
theorem start_4 : entryContents preI m c (Proc.devRef .tc main_v79_4) = (start m c).main_v79_4 := by
  (simp only [entryContents, afterL_cons, afterL_nil]; after_reads_simp) <;> rfl
set_option maxHeartbeats 900000 in
theorem start_5 : entryContents preI m c (Proc.devRef .tc main_v79_5) = (start m c).main_v79_5 := by
  (simp only [entryContents, afterL_cons, afterL_nil]; after_reads_simp) <;> rfl
set_option maxHeartbeats 900000 in
theorem start_6 : entryContents preI m c (Proc.devRef .tc main_v79_6) = (start m c).main_v79_6 := by
  (simp only [entryContents, afterL_cons, afterL_nil]; after_reads_simp) <;> rfl
set_option maxHeartbeats 900000 in
theorem start_7 : entryContents preI m c (Proc.devRef .tc main_v79_7) = (start m c).main_v79_7 := by
  (simp only [entryContents, afterL_cons, afterL_nil]; after_reads_simp) <;> rfl
set_option maxHeartbeats 900000 in
theorem start_8 : entryContents preI m c (Proc.devRef .tc main_v79_8) = (start m c).main_v79_8 := by
  (simp only [entryContents, afterL_cons, afterL_nil]; after_reads_simp) <;> rfl
set_option maxHeartbeats 900000 in
theorem start_9 : entryContents preI m c (Proc.devRef .tc main_v79_9) = (start m c).main_v79_9 := by
  (simp only [entryContents, afterL_cons, afterL_nil]; after_reads_simp) <;> rfl

theorem held_start : held (entryContents preI m c) = start m c := by
  unfold held
  rw [start_11 m c, start_12 m c, start_0 m c, start_1 m c, start_2 m c, start_3 m c, start_4 m c, start_5 m c, start_6 m c, start_7 m c, start_8 m c, start_9 m c]

/-- The states before each trip. -/
def states : ℕ → State Ideal
  | 0 => start m c
  | n + 1 => step n (states n)

theorem loop (n : ℕ) : At (STEP^[n] (entryContents preI m c)) n ∧ held (STEP^[n] (entryContents preI m c)) = states m c n := by
  induction n with
  | zero => exact ⟨at_start m c, held_start m c⟩
  | succ n ih =>
    rw [Function.iterate_succ_apply']
    exact ⟨at_step ih.1, (held_step ih.1).trans (by rw [ih.2]; rfl)⟩

end Cert.MixLoop
-- ==== Proof.MixPre.lean ====
module

public import proofs.«01_k».proof.Proof.Gen.MixRefIdeal.Step
public import proofs.«01_k».proof.Proof.MixArgs
public import proofs.«01_k».proof.Proof.MixReal
public import Idealize.ShloMosaic.Lib.Pointwise

/-! # What the time mixing reference computes before its loop -/

@[expose] public section

set_option maxRecDepth 65536

noncomputable section

namespace Cert.MixProof

open Idealize.ShloMosaic Cert.MixRefIdeal.Step
open Cert.MixRefIdeal hiding sig

/-- The absolute value of a real number. -/
theorem abs_coe (r : ℝ) : (FloatOps.absf (r : Ideal .f32) : Ideal .f32) = ((|r| : ℝ) : EReal) := by
  show max (r : EReal) (-(r : EReal)) = _
  rw [← EReal.coe_neg]
  exact (EReal.coe_strictMono.monotone.map_max).symm

section Pre

variable {a0 : FVec Ideal ⟨3, ![1, 2048, 1792]⟩ .f32} {a1 : FVec Ideal ⟨4, ![1, 8, 64, 64]⟩ .f32} {a2 : FVec Ideal ⟨3, ![1, 1, 1792]⟩ .f32}
    {a3 : FVec Ideal ⟨1, ![1792]⟩ .f32} {a4 : FVec Ideal ⟨1, ![512]⟩ .f32} {a5 : FVec Ideal ⟨2, ![64, 512]⟩ .f32} {a6 : FVec Ideal ⟨1, ![512]⟩ .f32}
    {a7 : FVec Ideal ⟨2, ![64, 512]⟩ .f32} {a8 : FVec Ideal ⟨2, ![128, 512]⟩ .f32} {a9 a10 : FVec Ideal ⟨1, ![512]⟩ .f32}
    {a11 : FVec Ideal ⟨2, ![8, 64]⟩ .f32} {a12 a13 : FVec Ideal ⟨1, ![512]⟩ .f32}
    {Z : ℕ → Fin 1792 → ℝ} {q : Fin 1792 → ℝ} {P : Par} {M : Fin 8 → Mat}
    (H : RealArgs a0 a1 a2 a3 a4 a5 a6 a7 a8 a9 a10 a11 a12 a13 Z q P M) (i : Fin 2048) (j : Fin 512) (h : Fin 8) (n : Fin 64)
include H

theorem in_at (j : Fin 1792) : A_main_v6 (F := Ideal) a0 a1 a2 a3 a4 a5 a6 a7 a8 a9 a10 (ix3 0 i j) = ((shift P.mu Z q i.val j : ℝ) : EReal) := by
  have e1 : A_main_v1 (F := Ideal) a0 a1 a2 a3 a4 a5 a6 a7 a8 a9 a10 (ix3 0 i j) = (((if i.val = 0 then q j else Z (i.val - 1) j) : ℝ) : EReal) := by
    unfold A_main_v1 A_main_v0
    pointwise
    by_cases hi : i.val = 0
    · simp only [hi, if_true]
      rw [dif_pos (by omega)]
      exact H.p0 j
    · rw [dif_neg (by omega), if_neg hi]
      exact H.z ⟨i.val - 1, by omega⟩ j
  unfold A_main_v6 A_main_v5 A_main_v4 A_main_v3 A_main_v2
  pointwise
  rw [e1, H.z, H.mu]
  rfl

theorem decay_arg : A_main_v18 (F := Ideal) a0 a1 a2 a3 a4 a5 a6 a7 a8 a9 a10 (ix3 0 i j) = ((-(P.w0 j + ∑ k : Fin 64, Real.tanh (shift P.mu Z q i.val ⟨1536 + k.val, by omega⟩) * P.w2 k j) : ℝ) : EReal) := by
  unfold A_main_v18 A_main_v17 A_main_v16 A_main_v15 A_main_v14 A_main_v13 A_main_v10
  pointwise
  simp only [in_at H, H.w2, H.w0, tanh_coe, ← EReal.coe_mul, ← coe_sum, ← EReal.coe_add, ← EReal.coe_neg]

theorem soft_at : A_main_v19 (F := Ideal) a0 a1 a2 a3 a4 a5 a6 a7 a8 a9 a10 (ix3 0 i j) = ((soft (-(P.w0 j + ∑ k : Fin 64, Real.tanh (shift P.mu Z q i.val ⟨1536 + k.val, by omega⟩) * P.w2 k j)) : ℝ) : EReal) := by
  unfold A_main_v19 A_main_call0_v4 A_main_call0_v6 A_main_call0_v11 A_main_call0_v10 A_main_call0_v9 A_main_call0_v8 A_main_call0_v7 A_main_call0_v3 A_main_call0_v1 K_main_call0_v0 K_main_call0_v2 K_main_call0_v5 K_main_call0_cst
  pointwise
  rw [decay_arg H, if_neg (fun h => h rfl)]
  generalize -(P.w0 j + ∑ k : Fin 64, Real.tanh (shift P.mu Z q i.val ⟨1536 + k.val, by omega⟩) * P.w2 k j) = r
  rw [show (FloatOps.absf (r : Ideal .f32) : Ideal .f32) = ((|r| : ℝ) : EReal) from abs_coe r, ← EReal.coe_neg, exp_coe, log1p_coe, soft, EReal.coe_add,
    EReal.coe_strictMono.monotone.map_max]
  rfl

theorem decay_at : A_main_v25 (F := Ideal) a0 a1 a2 a3 a4 a5 a6 a7 a8 a9 a10 (ix3 0 i j) = ((Real.exp (tLd P (shift P.mu Z q i.val) j) : ℝ) : EReal) := by
  unfold A_main_v25 A_main_v24 A_main_v23 A_main_v22 A_main_v20 K_main_v21 K_main_cst
  pointwise
  rw [soft_at H, half_coe]
  rfl

theorem rate_at : A_main_v35 (F := Ideal) a0 a1 a2 a3 a4 a5 a6 a7 a8 a9 a10 (ix3 0 i j) = ((tAl P (shift P.mu Z q i.val) j : ℝ) : EReal) := by
  unfold A_main_v35 A_main_v33 A_main_v31 A_main_v30 A_main_v29 A_main_v28 A_main_v27 A_main_v26 A_main_v11 K_main_v34 K_main_cst_1 K_main_v32 K_main_cst_0
  pointwise
  simp only [in_at H, H.a2, H.a0, ← EReal.coe_mul, ← coe_sum, ← EReal.coe_add, ← EReal.coe_neg, exp_coe]
  exact div_one_coe _

theorem gate_at : A_main_v42 (F := Ideal) a0 a1 a2 a3 a4 a5 a6 a7 a8 a9 a10 (ix3 0 i j) = ((tG P (shift P.mu Z q i.val) j : ℝ) : EReal) := by
  unfold A_main_v42 A_main_v41 A_main_v39 A_main_v37 A_main_v36 A_main_v12 K_main_v38 K_main_cst_2 K_main_v40 K_main_cst_3
  pointwise
  simp only [in_at H, H.g2, ← EReal.coe_neg, exp_coe, div_one_coe, ← EReal.coe_mul, ← coe_sum]
  rfl

theorem key_at : A_main_v62 (F := Ideal) a0 a1 a2 a3 a4 a5 a6 a7 a8 a9 a10 (ix3 0 i j) = ((tK P (shift P.mu Z q i.val) j : ℝ) : EReal) := by
  unfold A_main_v62 A_main_v61 A_main_v59 A_main_v58 A_main_v57 A_main_v56 A_main_v8 K_main_v55 K_main_v60 K_main_cst_6 K_main_cst_7
  pointwise
  rw [in_at H, rate_at H, H.ka]
  rw [show (1 : EReal) = ((1 : ℝ) : EReal) from rfl, ← EReal.coe_sub, ← EReal.coe_mul, ← EReal.coe_add, ← EReal.coe_mul]
  rfl

theorem kk_at : A_main_v46 (F := Ideal) a0 a1 a2 a3 a4 a5 a6 a7 a8 a9 a10 (ix4 0 i h n) = ((tKk P (shift P.mu Z q i.val) (hd h n) : ℝ) : EReal) := by
  unfold A_main_v46 A_main_v45 A_main_v44 A_main_v43 A_main_v8
  pointwise
  rw [in_at H, H.kk, ← EReal.coe_mul]
  simp only [tKk, tK0, hd, Nat.mul_comm 64]

theorem kn_at : A_main_v54 (F := Ideal) a0 a1 a2 a3 a4 a5 a6 a7 a8 a9 a10 (ix4 0 i h n) = ((tKn tiny P (shift P.mu Z q i.val) (hd h n) : ℝ) : EReal) := by
  unfold A_main_v54 A_main_v53 A_main_v52 A_main_v51 A_main_v49 A_main_v48 A_main_v47 K_main_v50 K_main_cst_5 K_main_cst_4
  pointwise
  have hs : (0 : ℝ) < max (hsum (fun k => tKk P (shift P.mu Z q i.val) k * tKk P (shift P.mu Z q i.val) k) h) tiny :=
    lt_max_of_lt_right tiny_pos.2
  simp only [kk_at H, tiny_pos.1, ← EReal.coe_mul, ← coe_sum, ← EReal.coe_strictMono.monotone.map_max]
  rw [show (∑ x : Fin 64, tKk P (shift P.mu Z q i.val) (hd h x) * tKk P (shift P.mu Z q i.val) (hd h x))
    = hsum (fun k => tKk P (shift P.mu Z q i.val) k * tKk P (shift P.mu Z q i.val) k) h from rfl, rsqrt_coe _ hs, ← EReal.coe_mul]
  simp only [tKn, hOf_hd]

theorem r_at : A_main_v70 (F := Ideal) a0 a1 a2 a3 a4 a5 a6 a7 a8 a9 a10 (ix4 i 0 h n) = ((tR (shift P.mu Z q i.val) (hd h n) : ℝ) : EReal) := by
  unfold A_main_v70 A_main_v63 A_main_v7
  pointwise
  rw [in_at H]
  simp only [tR, hd, Nat.mul_comm 64, Nat.zero_add]

theorem w_at : A_main_v71 (F := Ideal) a0 a1 a2 a3 a4 a5 a6 a7 a8 a9 a10 (ix4 i 0 h n) = ((Real.exp (tLd P (shift P.mu Z q i.val) (hd h n)) : ℝ) : EReal) := by
  unfold A_main_v71 A_main_v66
  pointwise
  rw [decay_at H]
  simp only [hd, Nat.mul_comm 64]

theorem k_at : A_main_v72 (F := Ideal) a0 a1 a2 a3 a4 a5 a6 a7 a8 a9 a10 (ix4 i 0 h n) = ((tK P (shift P.mu Z q i.val) (hd h n) : ℝ) : EReal) := by
  unfold A_main_v72 A_main_v64
  pointwise
  rw [key_at H]
  simp only [hd, Nat.mul_comm 64]

theorem v_at : A_main_v73 (F := Ideal) a0 a1 a2 a3 a4 a5 a6 a7 a8 a9 a10 (ix4 i 0 h n) = ((tV (shift P.mu Z q i.val) (hd h n) : ℝ) : EReal) := by
  unfold A_main_v73 A_main_v65 A_main_v9
  pointwise
  rw [in_at H]
  simp only [tV, hd, Nat.mul_comm 64]

theorem a_at : A_main_v74 (F := Ideal) a0 a1 a2 a3 a4 a5 a6 a7 a8 a9 a10 (ix4 i 0 h n) = ((tA tiny P (shift P.mu Z q i.val) (hd h n) : ℝ) : EReal) := by
  unfold A_main_v74 A_main_v68
  pointwise
  rw [kn_at H, ← EReal.coe_neg]
  rfl

theorem b_at : A_main_v75 (F := Ideal) a0 a1 a2 a3 a4 a5 a6 a7 a8 a9 a10 (ix4 i 0 h n) = ((tB tiny P (shift P.mu Z q i.val) (hd h n) : ℝ) : EReal) := by
  have e : A_main_v67 (F := Ideal) a0 a1 a2 a3 a4 a5 a6 a7 a8 a9 a10 (ix4 0 i h n) = ((tAl P (shift P.mu Z q i.val) (hd h n) : ℝ) : EReal) := by
    unfold A_main_v67
    pointwise
    rw [rate_at H]
    simp only [hd, Nat.mul_comm 64]
  unfold A_main_v75 A_main_v69
  pointwise
  rw [kn_at H, e, ← EReal.coe_mul]
  rfl

theorem g_at : A_main_v76 (F := Ideal) a0 a1 a2 a3 a4 a5 a6 a7 a8 a9 a10 (ix3 i 0 j) = ((tG P (shift P.mu Z q i.val) j : ℝ) : EReal) := by
  unfold A_main_v76
  pointwise
  rw [gate_at H]

theorem m_at (x y : Fin 64) : A_main_v77 (F := Ideal) a0 a1 a2 a3 a4 a5 a6 a7 a8 a9 a10 (ix4 0 h x y) = ((M h y x : ℝ) : EReal) := by
  unfold A_main_v77
  pointwise
  rw [H.m0]

end Pre

end Cert.MixProof
-- ==== Proof.MixStep.lean ====
module

public import proofs.«01_k».proof.Proof.Gen.MixRefIdeal.Step
public import proofs.«01_k».proof.Proof.MixSpec
public import proofs.«01_k».proof.Proof.MixReal
public import Idealize.ShloMosaic.Lib.Pointwise
public import Idealize.ShloMosaic.Lib.DynamicIndex

/-! # One token of the time mixing reference's loop -/

@[expose] public section

set_option maxRecDepth 65536

noncomputable section

namespace Cert.MixProof

open Idealize.ShloMosaic Cert.MixRefIdeal.Step
open Cert.MixRefIdeal hiding sig

/-- What the loop never changes: the token's rows, the norm's scale and shift, and the bonus weights. -/
structure Fields (s : State Ideal) (P : Par) (x : ℕ → Fin 1792 → ℝ) : Prop where
  r : ∀ (i : Fin 2048) (h : Fin 8) (n : Fin 64), s.main_v79_0 (ix4 i 0 h n) = ((tR (x i.val) (hd h n) : ℝ) : EReal)
  w : ∀ (i : Fin 2048) (h : Fin 8) (n : Fin 64), s.main_v79_1 (ix4 i 0 h n) = ((Real.exp (tLd P (x i.val) (hd h n)) : ℝ) : EReal)
  k : ∀ (i : Fin 2048) (h : Fin 8) (n : Fin 64), s.main_v79_2 (ix4 i 0 h n) = ((tK P (x i.val) (hd h n) : ℝ) : EReal)
  v : ∀ (i : Fin 2048) (h : Fin 8) (n : Fin 64), s.main_v79_3 (ix4 i 0 h n) = ((tV (x i.val) (hd h n) : ℝ) : EReal)
  a : ∀ (i : Fin 2048) (h : Fin 8) (n : Fin 64), s.main_v79_4 (ix4 i 0 h n) = ((tA tiny P (x i.val) (hd h n) : ℝ) : EReal)
  b : ∀ (i : Fin 2048) (h : Fin 8) (n : Fin 64), s.main_v79_5 (ix4 i 0 h n) = ((tB tiny P (x i.val) (hd h n) : ℝ) : EReal)
  g : ∀ (i : Fin 2048) (j : Fin 512), s.main_v79_6 (ix3 i 0 j) = ((tG P (x i.val) j : ℝ) : EReal)
  gg : ∀ j : Fin 512, s.main_v79_7 (ix1 j) = ((P.gg j : ℝ) : EReal)
  gb : ∀ j : Fin 512, s.main_v79_8 (ix1 j) = ((P.gb j : ℝ) : EReal)
  rk : ∀ (h : Fin 8) (n : Fin 64), s.main_v79_9 (ix2 h n) = ((P.rk (hd h n) : ℝ) : EReal)

/-- A token's number read back from its word. -/
theorem word_toInt (j : ℕ) (hj : j < 2048) : (BitVec.ofNat 32 j).toInt = (j : ℤ) := toInt_ofNat_of_lt (by omega)

theorem fits4 (j : ℕ) (hj : j < 2048) : S2048x1x8x64.Slices ![j, 0, 0, 0] S1x1x8x64 :=
  ⟨rfl, by intro a; fin_cases a <;> simp [S2048x1x8x64, S1x1x8x64] <;> omega⟩
theorem fits3 (j : ℕ) (hj : j < 2048) : S2048x1x512.Slices ![j, 0, 0] S1x1x512 :=
  ⟨rfl, by intro a; fin_cases a <;> simp [S2048x1x512, S1x1x512] <;> omega⟩

/-- A token's block of a row array by heads. -/
theorem token_row (v : S2048x1x8x64.Idx → EReal) (start : Fin 4 → ℤ) (j : ℕ) (hj : j < 2048)
    (e : ∀ a, start a = ((![j, 0, 0, 0] : Fin 4 → ℕ) a : ℤ)) (h : Fin 8) (n : Fin 64) :
    Host.dynamicSlice S1x1x8x64 v start Gen.sliceFits_S2048x1x8x64_S1x1x8x64 (ix4 0 0 h n) = v (ix4 ⟨j, hj⟩ 0 h n) := by
  rw [Host.dynamicSlice_eq_extractStridedSlice S1x1x8x64 v start ![j, 0, 0, 0] _ (fits4 j hj) e]
  pointwise

/-- A token's row of the gates. -/
theorem gate_row (v : S2048x1x512.Idx → EReal) (start : Fin 3 → ℤ) (j : ℕ) (hj : j < 2048)
    (e : ∀ a, start a = ((![j, 0, 0] : Fin 3 → ℕ) a : ℤ)) (n : Fin 512) :
    Host.dynamicSlice S1x1x512 v start Gen.sliceFits_S2048x1x512_S1x1x512 (ix3 0 0 n) = v (ix3 ⟨j, hj⟩ 0 n) := by
  rw [Host.dynamicSlice_eq_extractStridedSlice S1x1x512 v start ![j, 0, 0] _ (fits3 j hj) e]
  pointwise

/-- The array of results with a token's row written. -/
theorem put_row (v : S2048x1x512.Idx → EReal) (u : S1x1x512.Idx → EReal) (start : Fin 3 → ℤ) (j : ℕ) (hj : j < 2048)
    (e : ∀ a, start a = ((![j, 0, 0] : Fin 3 → ℕ) a : ℤ)) (i : Fin 2048) (n : Fin 512) :
    Host.dynamicUpdateSlice v u start Gen.updateFits_S2048x1x512_S1x1x512 (ix3 i 0 n) = if i.val = j then u (ix3 0 0 n) else v (ix3 i 0 n) := by
  rw [Host.dynamicUpdateSlice_eq_updateSlice v u start _ ![j, 0, 0]
    (fun a => by rw [e a]; have := (fits3 j hj).2 a; revert this; generalize (![j, 0, 0] : Fin 3 → ℕ) a = z; intro this; omega) (fits3 j hj)]
  unfold updateSlice
  by_cases hi : i.val = j
  · rw [if_pos hi, dif_pos]
    · refine congrArg u (funext fun b => ?_)
      fin_cases b
      · exact Fin.ext (by show i.val - j = 0; omega)
      · rfl
      · exact Fin.ext (by show n.val - 0 = n.val; omega)
    · intro a
      fin_cases a
      · show j ≤ i.val ∧ i.val < j + 1; omega
      · show 0 ≤ 0 ∧ 0 < 0 + 1; omega
      · show 0 ≤ n.val ∧ n.val < 0 + 512; omega
  · rw [if_neg hi, dif_neg]
    intro hin
    have := hin 0
    change j ≤ i.val ∧ i.val < j + 1 at this
    omega

section Step

variable {s : State Ideal} {P : Par} {x : ℕ → Fin 1792 → ℝ} {S : Fin 8 → Mat} (F : Fields s P x) (j : ℕ) (hj : j < 2048) (h : Fin 8) (n : Fin 64)
include F hj

theorem r_step : b4 j s (ix3 0 h n) = ((tR (x j) (hd h n) : ℝ) : EReal) := by
  have e : b3 j s (ix4 0 0 h n) = _ := token_row _ _ j hj (by intro a; fin_cases a <;> first | exact word_toInt j hj | rfl) h n
  unfold b4
  pointwise
  rw [e, F.r]

theorem w_step : b9 j s (ix3 0 h n) = ((Real.exp (tLd P (x j) (hd h n)) : ℝ) : EReal) := by
  have e : b8 j s (ix4 0 0 h n) = _ := token_row _ _ j hj (by intro a; fin_cases a <;> first | exact word_toInt j hj | rfl) h n
  unfold b9
  pointwise
  rw [e, F.w]

theorem k_step : b14 j s (ix3 0 h n) = ((tK P (x j) (hd h n) : ℝ) : EReal) := by
  have e : b13 j s (ix4 0 0 h n) = _ := token_row _ _ j hj (by intro a; fin_cases a <;> first | exact word_toInt j hj | rfl) h n
  unfold b14
  pointwise
  rw [e, F.k]

theorem v_step : b19 j s (ix3 0 h n) = ((tV (x j) (hd h n) : ℝ) : EReal) := by
  have e : b18 j s (ix4 0 0 h n) = _ := token_row _ _ j hj (by intro a; fin_cases a <;> first | exact word_toInt j hj | rfl) h n
  unfold b19
  pointwise
  rw [e, F.v]

theorem a_step : b24 j s (ix3 0 h n) = ((tA tiny P (x j) (hd h n) : ℝ) : EReal) := by
  have e : b23 j s (ix4 0 0 h n) = _ := token_row _ _ j hj (by intro a; fin_cases a <;> first | exact word_toInt j hj | rfl) h n
  unfold b24
  pointwise
  rw [e, F.a]

theorem b_step : b29 j s (ix3 0 h n) = ((tB tiny P (x j) (hd h n) : ℝ) : EReal) := by
  have e : b28 j s (ix4 0 0 h n) = _ := token_row _ _ j hj (by intro a; fin_cases a <;> first | exact word_toInt j hj | rfl) h n
  unfold b29
  pointwise
  rw [e, F.b]

theorem g_step (n : Fin 512) : b33 j s (ix2 0 n) = ((tG P (x j) n : ℝ) : EReal) := by
  have e : b32 j s (ix3 0 0 n) = _ := gate_row _ _ j hj (by intro a; fin_cases a <;> first | exact word_toInt j hj | rfl) n
  unfold b33
  pointwise
  rw [e, F.g]

section State
variable (hS : ∀ (h : Fin 8) (v k : Fin 64), s.main_v79_11 (ix4 0 h v k) = ((S h k v : ℝ) : EReal))
include hS

theorem state_step (v k : Fin 64) : b49 j s (ix4 0 h v k) = ((mixStep (fun y => tLd P (x j) (hd h y)) (fun y => tA tiny P (x j) (hd h y))
    (fun y => tB tiny P (x j) (hd h y)) (fun y => tK P (x j) (hd h y)) (fun y => tV (x j) (hd h y)) (S h) k v : ℝ) : EReal) := by
  unfold b49 b48 b47 b46 b45 b44 b43 b42 b41 b40 b39 b38 b37 b36 b35 b34
  pointwise
  simp only [w_step F j hj, k_step F j hj, v_step F j hj, a_step F j hj, b_step F j hj, hS, ← EReal.coe_mul, ← coe_sum, ← EReal.coe_add]
  refine congrArg _ ?_
  simp only [mixStep, mul_comm]

end State

variable {Y : Fin 512 → ℝ} (hY : ∀ (h : Fin 8) (n : Fin 64), b50 j s (ix3 0 h n) = ((Y (hd h n) : ℝ) : EReal))
include hY

theorem mean_step : b56 j s (ix3 0 h 0) = ((hsum Y h / 64 : ℝ) : EReal) := by
  unfold b56 b55 b54 b53 b52 b51
  pointwise
  simp only [hY, ← coe_sum, n64_coe]
  exact div_coe _ _ (by norm_num)

theorem dev_step : b58 j s (ix3 0 h n) = ((dev Y (hd h n) : ℝ) : EReal) := by
  unfold b58 b57
  pointwise
  rw [hY, mean_step F j hj h hY, ← EReal.coe_sub]
  simp only [dev, hOf_hd]

theorem spread_step : b71 j s (ix3 0 h 0) = (((Real.sqrt (hsum (fun k => dev Y k * dev Y k) h / 64 + small))⁻¹ : ℝ) : EReal) := by
  unfold b71 b70 b69 b68 b65 b64 b63 b62 b61 b60 b59
  pointwise
  simp only [dev_step F j hj _ _ hY, ← EReal.coe_mul, ← coe_sum, n64_coe, small_pos.1]
  have hs : 0 ≤ ∑ k : Fin 64, dev Y (hd h k) * dev Y (hd h k) := Finset.sum_nonneg fun k _ => mul_self_nonneg _
  rw [div_coe _ _ (by norm_num), ← EReal.coe_add, rsqrt_coe _ (by have := small_pos.2; positivity)]
  rfl

theorem norm_step : b73 j s (ix3 0 h n) = ((dev Y (hd h n) * (Real.sqrt (hsum (fun k => dev Y k * dev Y k) h / 64 + small))⁻¹ : ℝ) : EReal) := by
  unfold b73 b72 b67 b66
  pointwise
  rw [hY, mean_step F j hj h hY, spread_step F j hj h hY, ← EReal.coe_sub, ← EReal.coe_mul]
  simp only [dev, hOf_hd]

theorem bonus_step : b86 j s (ix3 0 h n) = ((hsum (fun k => tR (x j) k * tK P (x j) k * P.rk k) h * tV (x j) (hd h n) : ℝ) : EReal) := by
  unfold b86 b85 b84 b83 b82 b81 b80 b79
  pointwise
  simp only [r_step F j hj, k_step F j hj, v_step F j hj, F.rk, ← EReal.coe_mul, ← coe_sum]
  rfl

theorem out_step (n : Fin 512) : b90 j s (ix3 0 0 n) = ((tOut small P (x j) Y n : ℝ) : EReal) := by
  unfold b90 b89 b88 b87 b78 b77 b76 b75 b74
  pointwise
  rw [show b73 j s (ix3 0 ⟨n.val / 64, _⟩ ⟨n.val % 64, _⟩) = _ from norm_step F j hj (hOf n) (nOf n) hY,
    show b86 j s (ix3 0 ⟨n.val / 64, _⟩ ⟨n.val % 64, _⟩) = _ from bonus_step F j hj (hOf n) (nOf n) hY, g_step F j hj, F.gg, F.gb]
  simp only [hd_of, ← EReal.coe_mul, ← EReal.coe_add]
  rfl

end Step

theorem write_step (s : State Ideal) (j : ℕ) (hj : j < 2048) (i : Fin 2048) (n : Fin 512) :
    b93 j s (ix3 i 0 n) = if i.val = j then b90 j s (ix3 0 0 n) else s.main_v79_12 (ix3 i 0 n) := by
  exact put_row _ _ _ j hj (by intro a; fin_cases a <;> first | exact word_toInt j hj | rfl) i n

end Cert.MixProof
-- ==== Proof.MixRef.lean ====
module

public import proofs.«01_k».proof.Proof.MixLoop
public import proofs.«01_k».proof.Proof.MixPre
public import proofs.«01_k».proof.Proof.MixStep

/-! # What the time mixing reference ends with -/

@[expose] public section

set_option maxRecDepth 65536

noncomputable section

namespace Cert.MixLoop

open Idealize.ShloMosaic Idealize.ShloMosaic.TcCoe Idealize.SL.Sem Idealize.ShloMosaic.StableHlo
open Cert.MixRefIdeal Cert.MixRefIdeal.Gen Cert.MixRefIdeal.Value
open Cert.MixRefIdeal.Step (State step init)
open Cert.MixProof hiding sig

variable (m : (ℓ : Loc nD τ sig) → Buf (Elt Ideal) ℓ) (c : Dev nD)

/-- The reference's argument arrays hold these real numbers. -/
abbrev RArgs := RealArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

theorem kept_rows (n : ℕ) : (STEP^[n] (entryContents preI m c)) (Proc.devRef .tc main_v79_12) = (states m c n).main_v79_12 := congrArg State.main_v79_12 (loop m c n).2
theorem kept_state (n : ℕ) : (STEP^[n] (entryContents preI m c)) (Proc.devRef .tc main_v79_11) = (states m c n).main_v79_11 := congrArg State.main_v79_11 (loop m c n).2

theorem rows_of (V : Valuation τ sig (Elt Ideal)) (f : Fin 2048 → Fin 512 → ℝ)
    (h : ∀ (i : Fin 2048) (j : Fin 512), (V (Proc.devRef .tc main_v79_12) : S2048x1x512.Idx → EReal) (ix3 i 0 j) = ((f i j : ℝ) : EReal)) :
    out_main_v81 V = fun i => ((f (i 1) (i 2) : ℝ) : EReal) := by
  unfold out_main_v81
  funext i
  idx_vars i
  obtain rfl : i0 = 0 := Subsingleton.elim _ _
  pointwise
  exact h i1 i2

theorem state_of (V : Valuation τ sig (Elt Ideal)) (f : Fin 8 → Mat)
    (h : ∀ (h : Fin 8) (v k : Fin 64), (V (Proc.devRef .tc main_v79_11) : S1x8x64x64.Idx → EReal) (ix4 0 h v k) = ((f h k v : ℝ) : EReal)) :
    out_main_v82 V = fun i => ((f (i 1) (i 2) (i 3) : ℝ) : EReal) := by
  unfold out_main_v82
  funext i
  idx_vars i
  obtain rfl : i0 = 0 := Subsingleton.elim _ _
  pointwise
  exact h i1 i3 i2

variable {m c} {Z : ℕ → Fin 1792 → ℝ} {q : Fin 1792 → ℝ} {P : Par} {M : Fin 8 → Mat} (H : RArgs m c Z q P M)
include H

theorem fields (n : ℕ) : Fields (states m c n) P (shift P.mu Z q) := by
  induction n with
  | zero => exact ⟨r_at H, w_at H, k_at H, v_at H, a_at H, b_at H, g_at H, H.gg, H.gb, H.rk⟩
  | succ n ih => exact ⟨ih.r, ih.w, ih.k, ih.v, ih.a, ih.b, ih.g, ih.gg, ih.gb, ih.rk⟩

theorem read_step (n : ℕ) (hn : n < 2048)
    (hS : ∀ (h : Fin 8) (v k : Fin 64), (states m c n).main_v79_11 (ix4 0 h v k) = ((headState tiny P (shift P.mu Z q) M h n k v : ℝ) : EReal)) (h : Fin 8) (v : Fin 64) :
    Step.b50 n (states m c n) (ix3 0 h v) = ((headRead tiny P (shift P.mu Z q) M n (hd h v) : ℝ) : EReal) := by
  unfold Step.b50
  pointwise
  simp only [state_step (S := fun h => headState tiny P (shift P.mu Z q) M h n) (fields H n) n hn h hS, r_step (fields H n) n hn, ← EReal.coe_mul, ← coe_sum]
  refine congrArg _ ?_
  simp only [headRead, hOf_hd, nOf_hd]
  exact Finset.sum_congr rfl fun _ _ => mul_comm _ _

/-- Before trip `n` the state is that of the first `n` tokens, and their rows are written. -/
theorem upto (n : ℕ) (hn : n ≤ 2048) :
    (∀ (h : Fin 8) (v k : Fin 64), (states m c n).main_v79_11 (ix4 0 h v k) = ((headState tiny P (shift P.mu Z q) M h n k v : ℝ) : EReal))
    ∧ ∀ (i : Fin 2048) (j : Fin 512), i.val < n → (states m c n).main_v79_12 (ix3 i 0 j) = ((tokenOut tiny small P (shift P.mu Z q) M i.val j : ℝ) : EReal) := by
  induction n with
  | zero => exact ⟨fun h v k => m_at H h v k, fun _ _ h => absurd h (Nat.not_lt_zero _)⟩
  | succ n ih =>
    obtain ⟨hS, hO⟩ := ih (by omega)
    refine ⟨fun h v k => ?_, fun i j hi => ?_⟩
    · exact state_step (S := fun h => headState tiny P (shift P.mu Z q) M h n) (fields H n) n hn h hS v k
    · refine (write_step (states m c n) n hn i j).trans ?_
      by_cases e : i.val = n
      · rw [if_pos e, out_step (fields H n) n hn (read_step H n hn hS) j, e]
        rfl
      · rw [if_neg e]
        exact hO i j (by omega)

theorem ref_tokens : out_main_v81 (STEP^[2048] (entryContents preI m c)) = fun i => ((tokenOut tiny small P (shift P.mu Z q) M (i 1).val (i 2) : ℝ) : EReal) :=
  rows_of _ (fun i j => tokenOut tiny small P (shift P.mu Z q) M i.val j) (fun i j => (congrFun (kept_rows m c 2048) _).trans ((upto H 2048 le_rfl).2 i j i.isLt))

theorem ref_state : out_main_v82 (STEP^[2048] (entryContents preI m c)) = fun i => ((headState tiny P (shift P.mu Z q) M (i 1) 2048 (i 2) (i 3) : ℝ) : EReal) :=
  state_of _ (fun h => headState tiny P (shift P.mu Z q) M h 2048) (fun h v k => (congrFun (kept_state m c 2048) _).trans ((upto H 2048 le_rfl).1 h v k))

theorem ref_row : out_main_v83 (STEP^[2048] (entryContents preI m c)) = fun i => ((Z 2047 (i 2) : ℝ) : EReal) := by
  unfold out_main_v83
  rw [iter_main_arg0 m c 2048]
  funext i
  idx_vars i
  pointwise
  exact H.z 2047 i2

end Cert.MixLoop
-- ==== Proof.TopRank.lean ====
module

public import Idealize.ShloMosaic.Lib.SortFacts
public import Mathlib.Data.EReal.Operations

/-! The order in which the greatest entries of a column are taken: by the entry, and of equal entries the lower row first. The rank
of a row is the number of rows before it. A stable descending sort puts the row of rank `r` at place `r`; a round of "the
maximum, the first row that holds it, that row overwritten" takes the row of rank `r` in round `r`; and of the sums of two
descending sequences the first sixteen lie among the pairs with `(a + 1) * (b + 1) ≤ 16`. -/

@[expose] public section

noncomputable section

namespace Cert.TopRank

open Idealize.ShloMosaic
open Classical

variable {n : Nat}

/-- Row `i` is taken before row `j`. -/
def Bf (s : Fin n → EReal) (i j : Fin n) : Prop := s j < s i ∨ (s i = s j ∧ i < j)

/-- The number of rows taken before row `i`. -/
def rank (s : Fin n → EReal) (i : Fin n) : Nat := (Finset.univ.filter fun j => Bf s j i).card

theorem bf_irrefl (s : Fin n → EReal) (i : Fin n) : ¬ Bf s i i := by
  rintro (h | ⟨_, h⟩)
  · exact lt_irrefl _ h
  · exact lt_irrefl _ h

theorem bf_trans (s : Fin n → EReal) {i j k : Fin n} (h : Bf s i j) (h' : Bf s j k) : Bf s i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem bf_total (s : Fin n → EReal) {i j : Fin n} (h : i ≠ j) : Bf s i j ∨ Bf s j i := by
  rcases lt_trichotomy (s i) (s j) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem rank_lt (s : Fin n → EReal) {i j : Fin n} (h : Bf s i j) : rank s i < rank s j := by
  refine Finset.card_lt_card (Finset.ssubset_iff_of_subset ?_ |>.mpr ⟨i, ?_, ?_⟩)
  · intro k hk
    simp only [Finset.mem_filter, Finset.mem_univ, true_and] at hk ⊢
    exact bf_trans s hk h
  · simpa using h
  · simpa using bf_irrefl s i

theorem rank_inj (s : Fin n → EReal) : Function.Injective (rank s) := by
  intro i j h
  by_contra hne
  rcases bf_total s hne with hb | hb
  · exact absurd h (rank_lt s hb).ne
  · exact absurd h (rank_lt s hb).ne'

theorem bf_of_rank_lt (s : Fin n → EReal) {i j : Fin n} (h : rank s i < rank s j) : Bf s i j := by
  rcases eq_or_ne i j with rfl | hne
  · exact absurd h (lt_irrefl _)
  · rcases bf_total s hne with hb | hb
    · exact hb
    · exact absurd (rank_lt s hb) (by omega)

/-- Positions in increasing order stay in it, among equal entries, through a stable descending sort. -/
theorem pairwise_insert (s : Fin n → EReal) (a : Fin n) (l : List (Fin n)) (hl : l.Pairwise (Bf s)) (ha : ∀ b ∈ l, a < b) :
    (insertBefore (fun x y => decide (s y < s x)) a l).Pairwise (Bf s) := by
  induction l with
  | nil => simp [insertBefore]
  | cons b l ih =>
    unfold insertBefore
    rw [List.pairwise_cons] at hl
    split
    · rename_i hb
      have hb : s a < s b := by simpa using hb
      refine List.pairwise_cons.mpr ⟨fun c hc => ?_, ih hl.2 fun c hc => ha c (List.mem_cons_of_mem _ hc)⟩
      rcases List.mem_cons.mp ((perm_insertBefore _ a l).mem_iff.mp hc) with rfl | hc
      · exact .inl hb
      · exact hl.1 c hc
    · rename_i hb
      have hb : s b ≤ s a := by simpa using hb
      have hab : Bf s a b := by
        rcases hb.lt_or_eq with h | h
        · exact .inl h
        · exact .inr ⟨h.symm, ha b List.mem_cons_self⟩
      refine List.pairwise_cons.mpr ⟨fun c hc => ?_, List.pairwise_cons.mpr hl⟩
      rcases List.mem_cons.mp hc with rfl | hc
      · exact hab
      · exact bf_trans s hab (hl.1 c hc)

theorem pairwise_sort (s : Fin n → EReal) (l : List (Fin n)) (hl : l.Pairwise (· < ·)) :
    (stableSort (fun x y => decide (s y < s x)) l).Pairwise (Bf s) := by
  induction l with
  | nil => exact List.Pairwise.nil
  | cons a l ih =>
    rw [List.pairwise_cons] at hl
    unfold stableSort
    exact pairwise_insert s a _ (ih hl.2) fun b hb => hl.1 b ((perm_stableSort _ l).mem_iff.mp hb)

/-- The row that a stable descending sort puts at place `r`. -/
def sel (s : Fin n → EReal) (r : Fin n) : Fin n := sortedFrom (fun x y => decide (s y < s x)) r

theorem sel_bf (s : Fin n → EReal) {a b : Fin n} (h : a < b) : Bf s (sel s a) (sel s b) := by
  have hp : (sortPositions n fun x y => decide (s y < s x)).Pairwise (Bf s) := pairwise_sort s _ (List.pairwise_lt_finRange n)
  have := List.pairwise_iff_get.mp hp (a.cast (length_sortPositions n _).symm) (b.cast (length_sortPositions n _).symm) (by simpa using h)
  exact this

theorem rank_sel (s : Fin n → EReal) (r : Fin n) : rank s (sel s r) = r.val := by
  have hinj : Function.Injective (sel s) := sortedFrom_injective _
  have hsur : Function.Surjective (sel s) := sortedFrom_surjective _
  have : (Finset.univ.filter fun j => Bf s j (sel s r)) = (Finset.univ.filter fun a : Fin n => a < r).map ⟨sel s, hinj⟩ := by
    ext j
    simp only [Finset.mem_filter, Finset.mem_univ, true_and, Finset.mem_map, Function.Embedding.coeFn_mk]
    constructor
    · intro h
      obtain ⟨a, rfl⟩ := hsur j
      refine ⟨a, ?_, rfl⟩
      by_contra hna
      rcases eq_or_lt_of_le (not_lt.mp hna) with rfl | hlt
      · exact bf_irrefl s _ h
      · exact bf_irrefl s _ (bf_trans s h (sel_bf s hlt))
    · rintro ⟨a, ha, rfl⟩
      exact sel_bf s ha
  unfold rank
  rw [this, Finset.card_map]
  have : (Finset.univ.filter fun a : Fin n => a < r) = Finset.Iio r := by ext; simp
  rw [this, Fin.card_Iio]

theorem eq_sel (s : Fin n → EReal) {p : Fin n} {r : Fin n} (h : rank s p = r.val) : p = sel s r :=
  rank_inj s (h.trans (rank_sel s r).symm)

theorem sel_antitone (s : Fin n → EReal) {a b : Fin n} (h : a ≤ b) : s (sel s b) ≤ s (sel s a) := by
  rcases eq_or_lt_of_le h with rfl | h
  · exact le_rfl
  · rcases sel_bf s h with h | ⟨h, _⟩
    · exact h.le
    · exact h.ge

/-- The column after the rows of rank below `t` are overwritten. -/
def masked (s : Fin n → EReal) (t : Nat) (i : Fin n) : EReal := if rank s i < t then ⊥ else s i

theorem masked_zero (s : Fin n → EReal) : masked s 0 = s := by
  funext i; simp [masked]

theorem masked_sel (s : Fin n → EReal) (t : Fin n) : masked s t.val (sel s t) = s (sel s t) := by
  simp [masked, rank_sel]

/-- The row of rank `t` holds the greatest entry that is left. -/
theorem masked_le (s : Fin n → EReal) (t : Fin n) (i : Fin n) : masked s t.val i ≤ s (sel s t) := by
  unfold masked
  split
  · exact bot_le
  · rename_i h
    rcases eq_or_ne i (sel s t) with rfl | hne
    · exact le_rfl
    · rcases bf_total s hne with hb | hb
      · have := rank_lt s hb; rw [rank_sel] at this; exact absurd this h
      · rcases hb with hb | ⟨hb, _⟩
        · exact hb.le
        · exact hb.ge

/-- The row of rank `t` is the first that holds it. -/
theorem le_of_masked_eq (s : Fin n → EReal) (t : Fin n) (ht : s (sel s t) ≠ ⊥) (i : Fin n)
    (h : masked s t.val i = s (sel s t)) : sel s t ≤ i := by
  unfold masked at h
  split at h
  · exact absurd h.symm ht
  · rename_i hr
    rcases eq_or_ne i (sel s t) with rfl | hne
    · exact le_rfl
    · rcases bf_total s hne with hb | hb
      · have := rank_lt s hb; rw [rank_sel] at this; exact absurd this hr
      · rcases hb with hb | ⟨_, hb⟩
        · exact absurd h hb.ne
        · exact hb.le

/-- Overwriting the row of rank `t` leaves the column without the rows of rank below `t + 1`. -/
theorem masked_succ (s : Fin n → EReal) (t : Fin n) (i : Fin n) :
    (if i = sel s t then ⊥ else masked s t.val i) = masked s (t.val + 1) i := by
  have key : i = sel s t ↔ rank s i = t.val := ⟨fun h => h ▸ rank_sel s t, fun h => eq_sel s h⟩
  unfold masked
  by_cases h : rank s i = t.val
  · rw [if_pos (key.mpr h), if_pos (by omega)]
  · rw [if_neg (fun h' => h (key.mp h'))]
    by_cases h2 : rank s i < t.val
    · rw [if_pos h2, if_pos (by omega)]
    · rw [if_neg h2, if_neg (by omega)]

/-! ## Sums of two descending sequences -/

/-- The first sequence's place of a kept pair. -/
def ga : Fin 50 → Fin 16 := ![0, 0, 0, 0, 0, 0, 0, 0, 0, 0, 0, 0, 0, 0, 0, 0, 1, 1, 1, 1, 1, 1, 1, 1, 2, 2, 2, 2, 2, 3, 3, 3, 3, 4, 4, 4, 5, 5, 6, 6, 7, 7, 8, 9, 10, 11, 12, 13, 14, 15]

/-- The second sequence's place of a kept pair. -/
def gb : Fin 50 → Fin 16 := ![0, 1, 2, 3, 4, 5, 6, 7, 8, 9, 10, 11, 12, 13, 14, 15, 0, 1, 2, 3, 4, 5, 6, 7, 0, 1, 2, 3, 4, 0, 1, 2, 3, 0, 1, 2, 0, 1, 0, 1, 0, 1, 0, 0, 0, 0, 0, 0, 0, 0]

/-- The place of the pair `(a, b)` among all the pairs. -/
def pr (a b : Fin 16) : Fin 256 := ⟨16 * a.val + b.val, by omega⟩

/-- The place of a kept pair among all the pairs. -/
def g (r : Fin 50) : Fin 256 := pr (ga r) (gb r)

theorem g_strictMono : StrictMono g :=
  Fin.strictMono_iff_lt_succ.mpr (by decide +kernel : ∀ i : Fin 49, g i.castSucc < g i.succ)

theorem g_surj : ∀ a b : Fin 16, (a.val + 1) * (b.val + 1) ≤ 16 → ∃ r : Fin 50, ga r = a ∧ gb r = b := by decide +kernel

/-- The sums over all the pairs. -/
def full (u v : Fin 16 → EReal) (q : Fin 256) : EReal := u ⟨q.val / 16, by omega⟩ + v ⟨q.val % 16, by omega⟩

theorem full_pr (u v : Fin 16 → EReal) (a b : Fin 16) : full u v (pr a b) = u a + v b := by
  unfold full pr
  congr 2 <;> exact Fin.ext (by simp only; omega)

/-- The sums over the kept pairs, and minus infinity in the last six rows. -/
def kept (u v : Fin 16 → EReal) (r : Fin 56) : EReal := if h : r.val < 50 then u (ga ⟨r.val, h⟩) + v (gb ⟨r.val, h⟩) else ⊥

theorem exists_pr (q : Fin 256) : ∃ a b, q = pr a b :=
  ⟨⟨q.val / 16, by omega⟩, ⟨q.val % 16, by omega⟩, Fin.ext (by simp only [pr]; omega)⟩

section Prune

variable (u v : Fin 16 → EReal) (hu : ∀ a b, a ≤ b → u b ≤ u a) (hv : ∀ a b, a ≤ b → v b ≤ v a)
include hu hv

/-- The pairs below and to the left of a pair come before it. -/
theorem rank_full_ge (a b : Fin 16) : (a.val + 1) * (b.val + 1) ≤ rank (full u v) (pr a b) + 1 := by
  have hinj : Function.Injective fun x : Fin 16 × Fin 16 => pr x.1 x.2 := by
    rintro ⟨a, b⟩ ⟨a', b'⟩ h
    have := congrArg Fin.val h
    simp only [pr] at this
    exact Prod.ext (Fin.ext (by simp only; omega)) (Fin.ext (by simp only; omega))
  have hsub : ((Finset.Iic a ×ˢ Finset.Iic b).map ⟨_, hinj⟩).erase (pr a b) ⊆ Finset.univ.filter fun j => Bf (full u v) j (pr a b) := by
    intro q hq
    rw [Finset.mem_erase, Finset.mem_map] at hq
    obtain ⟨hne, ⟨a', b'⟩, hm, rfl⟩ := hq
    simp only [Finset.mem_product, Finset.mem_Iic, Function.Embedding.coeFn_mk] at hm hne ⊢
    simp only [Finset.mem_filter, Finset.mem_univ, true_and]
    have hle : full u v (pr a b) ≤ full u v (pr a' b') := by
      rw [full_pr, full_pr]
      exact add_le_add (hu _ _ hm.1) (hv _ _ hm.2)
    rcases hle.lt_or_eq with h | h
    · exact .inl h
    · refine .inr ⟨h.symm, lt_of_le_of_ne ?_ hne⟩
      have h1 : a'.val ≤ a.val := hm.1
      have h2 : b'.val ≤ b.val := hm.2
      show 16 * a'.val + b'.val ≤ 16 * a.val + b.val
      omega
  have hc := Finset.card_le_card hsub
  have hmem : pr a b ∈ (Finset.Iic a ×ˢ Finset.Iic b).map ⟨fun x : Fin 16 × Fin 16 => pr x.1 x.2, hinj⟩ :=
    Finset.mem_map.mpr ⟨(a, b), by simp, rfl⟩
  rw [Finset.card_erase_of_mem hmem, Finset.card_map, Finset.card_product,
    Fin.card_Iic, Fin.card_Iic] at hc
  unfold rank
  omega

/-- A pair among the first sixteen is kept. -/
theorem exists_kept (q : Fin 256) (hq : rank (full u v) q < 16) : ∃ r : Fin 50, g r = q := by
  obtain ⟨a, b, rfl⟩ := exists_pr q
  have h := rank_full_ge u v hu hv a b
  obtain ⟨r, ha, hb⟩ := g_surj a b (by omega)
  exact ⟨r, by rw [g, ha, hb]⟩

/-- The kept pair of rank `t < 16` among the kept ones is the pair of rank `t` among all. -/
theorem kept_sel (hne : ∀ a b, u a + v b ≠ ⊥) (t : Fin 16) :
    ∃ r : Fin 50, g r = sel (full u v) (t.castLE (by decide)) ∧ sel (kept u v) (t.castLE (by decide)) = r.castLE (by decide) := by
  obtain ⟨r, hr⟩ := exists_kept u v hu hv (sel (full u v) (t.castLE (by decide))) (by rw [rank_sel]; exact t.isLt)
  refine ⟨r, hr, (eq_sel _ ?_).symm⟩
  have hk : ∀ r : Fin 50, kept u v (r.castLE (by decide)) = full u v (g r) := fun r => by
    rw [g, full_pr]; exact dif_pos r.isLt
  have hset : (Finset.univ.filter fun j => Bf (kept u v) j (r.castLE (by decide)))
      = (Finset.univ.filter fun j : Fin 50 => Bf (full u v) (g j) (g r)).map ⟨Fin.castLE (by decide : 50 ≤ 56), Fin.castLE_injective _⟩ := by
    ext j
    simp only [Finset.mem_filter, Finset.mem_univ, true_and, Finset.mem_map, Function.Embedding.coeFn_mk]
    constructor
    · intro h
      by_cases hj : j.val < 50
      · refine ⟨⟨j.val, hj⟩, ?_, Fin.ext rfl⟩
        have e : j = (⟨j.val, hj⟩ : Fin 50).castLE (by decide) := Fin.ext rfl
        rw [e] at h
        rcases h with h | ⟨h1, h2⟩
        · rw [hk, hk] at h; exact .inl h
        · rw [hk, hk] at h1; exact .inr ⟨h1, g_strictMono h2⟩
      · have e : kept u v j = ⊥ := dif_neg hj
        rcases h with h | ⟨h1, _⟩
        · rw [e] at h; exact absurd h not_lt_bot
        · rw [e, hk, g, full_pr] at h1; exact absurd h1.symm (hne _ _)
    · rintro ⟨i, h, rfl⟩
      rcases h with h | ⟨h1, h2⟩
      · exact .inl (by rw [hk, hk]; exact h)
      · exact .inr ⟨by rw [hk, hk]; exact h1, g_strictMono.lt_iff_lt.mp h2⟩
  have himg : (Finset.univ.filter fun j => Bf (full u v) j (g r))
      = (Finset.univ.filter fun j : Fin 50 => Bf (full u v) (g j) (g r)).map ⟨g, g_strictMono.injective⟩ := by
    ext q
    simp only [Finset.mem_filter, Finset.mem_univ, true_and, Finset.mem_map, Function.Embedding.coeFn_mk]
    constructor
    · intro h
      have hlt := rank_lt _ h
      rw [hr, rank_sel] at hlt
      obtain ⟨j, rfl⟩ := exists_kept u v hu hv q (lt_trans hlt t.isLt)
      exact ⟨j, h, rfl⟩
    · rintro ⟨j, h, rfl⟩
      exact h
  have h1 := rank_sel (full u v) (t.castLE (by decide))
  rw [← hr] at h1
  unfold rank at h1 ⊢
  rw [himg, Finset.card_map] at h1
  rw [hset, Finset.card_map]
  exact h1

end Prune

end Cert.TopRank
-- ==== Proof.RouteSpec.lean ====
module

public import proofs.«01_k».proof.Proof.TopRank
public import proofs.«01_k».proof.Defs
public import Idealize.ShloMosaic.Lib.Pointwise

/-! # The routing of one token through one head

What both programs compute from the two halves' scores `s`, `s'` of a head's keys: the sixteen best pairs, as the experts'
numbers and as the gates. -/

@[expose] public section

noncomputable section

namespace Cert.RouteProof

open Idealize.ShloMosaic Cert.TopRank

/-- The key of rank `a`. -/
def key (s : Fin 128 → EReal) (a : Fin 16) : Fin 128 := sel s (a.castLE (by omega))

/-- Its score. -/
def best (s : Fin 128 → EReal) (a : Fin 16) : EReal := s (key s a)

/-- The pair of rank `t` among the pairs of the two halves' sixteen best keys. -/
def pair (s s' : Fin 128 → EReal) (t : Fin 16) : Fin 256 := sel (full (best s) (best s')) (t.castLE (by omega))

/-- The pair's score. -/
def score (s s' : Fin 128 → EReal) (t : Fin 16) : EReal := full (best s) (best s') (pair s s' t)

/-- The number of the expert at a pair of places. -/
def number (s s' : Fin 128 → EReal) (q : Fin 256) : BitVec 32 :=
  IntOp.addi (IntOp.muli (BitVec.ofNat 32 (key s ⟨q.val / 16, by omega⟩).val) 128#32) (BitVec.ofNat 32 (key s' ⟨q.val % 16, by omega⟩).val)

/-- The expert of rank `t`. -/
def expert (s s' : Fin 128 → EReal) (t : Fin 16) : BitVec 32 := number s s' (pair s s' t)

/-- The gate of rank `t`. -/
def gate (s s' : Fin 128 → EReal) (t : Fin 16) : EReal :=
  Ideal.div (Ideal.exp (score s s' t - score s s' 0)) (0 + ∑ t' : Fin 16, Ideal.exp (score s s' t' - score s s' 0))

theorem best_anti (s : Fin 128 → EReal) (a b : Fin 16) (h : a ≤ b) : best s b ≤ best s a := sel_antitone _ (by exact h)

theorem score_le (s s' : Fin 128 → EReal) (t : Fin 16) : score s s' t ≤ score s s' 0 := sel_antitone _ (by exact Fin.zero_le t)

theorem best_ne (s : Fin 128 → EReal) (h : ∀ k, s k ≠ ⊥) (a : Fin 16) : best s a ≠ ⊥ := h _

theorem pairs_ne (s s' : Fin 128 → EReal) (h : ∀ k, s k ≠ ⊥) (h' : ∀ k, s' k ≠ ⊥) (a b : Fin 16) : best s a + best s' b ≠ ⊥ := by
  rw [Ne, EReal.add_eq_bot_iff, not_or]
  exact ⟨best_ne s h a, best_ne s' h' b⟩

theorem number_pr (s s' : Fin 128 → EReal) (a b : Fin 16) : number s s' (pr a b)
    = IntOp.addi (IntOp.muli (BitVec.ofNat 32 (key s a).val) 128#32) (BitVec.ofNat 32 (key s' b).val) := by
  have h : (⟨(pr a b).val / 16, by omega⟩ : Fin 16) = a := Fin.ext (show (16 * a.val + b.val) / 16 = a.val by omega)
  have h' : (⟨(pr a b).val % 16, by omega⟩ : Fin 16) = b := Fin.ext (show (16 * a.val + b.val) % 16 = b.val by omega)
  unfold number
  rw [h, h']

theorem number_nonneg (s s' : Fin 128 → EReal) (q : Fin 256) : 0 ≤ (number s s' q).toInt := by
  have h : number s s' q = BitVec.ofNat 32 ((key s ⟨q.val / 16, by omega⟩).val * 128 + (key s' ⟨q.val % 16, by omega⟩).val) := by
    rw [BitVec.ofNat_add, BitVec.ofNat_mul]; rfl
  rw [h, BitVec.toInt_eq_toNat_of_lt (by rw [BitVec.toNat_ofNat]; omega)]
  exact Int.natCast_nonneg _

theorem neg_inf : Ideal.ofBits .f32 4286578688#32 = ⊥ := by
  simp [Ideal.ofBits, Ideal.ieee]

/-- A running maximum from minus infinity is an entry that is at least every other. -/
theorem fold_max_eq {n : Nat} (b : EReal) (f : Fin n → EReal) (M : EReal) (p : Fin n) (hp : f p = M) (hb : b ≤ M) (h : ∀ i, f i ≤ M) :
    Finset.univ.fold max b f = M :=
  le_antisymm ((Finset.fold_max_le M).mpr ⟨hb, fun i _ => h i⟩) ((Finset.le_fold_max M).mpr (.inr ⟨p, Finset.mem_univ _, hp.ge⟩))

section Arguments

variable (x : FVec Ideal ⟨3, ![1, 2048, 1024]⟩ .f32) (sc sh : FVec Ideal ⟨2, ![1, 1024]⟩ .f32) (w : FVec Ideal ⟨2, ![1024, 1024]⟩ .f32)
  (k : FVec Ideal ⟨4, ![8, 2, 128, 64]⟩ .f32)

/-- A modulated token's entry. -/
def hidden (t : Fin 2048) (e : Fin 1024) : EReal := x (ix3 0 t e) * (1 + sc (ix2 0 e)) + sh (ix2 0 e)

/-- A query's entry. -/
def query (t : Fin 2048) (i : Fin 1024) : EReal := ∑ e : Fin 1024, hidden x sc sh t e * w (ix2 e i)

/-- The scores of the keys of half `b` of head `a`. -/
def keyScores (t : Fin 2048) (a : Fin 8) (b : Fin 2) (n : Fin 128) : EReal :=
  ∑ d : Fin 64, k (ix4 a b n d) * query x sc sh w t ⟨a.val * 128 + b.val * 64 + d.val, by omega⟩

/-- The expert in slot `i` of a token. -/
def slotExpert (t : Fin 2048) (i : Fin 128) : BitVec 32 :=
  expert (keyScores x sc sh w k t ⟨i.val / 16, by omega⟩ 0) (keyScores x sc sh w k t ⟨i.val / 16, by omega⟩ 1) ⟨i.val % 16, by omega⟩

/-- The gate in slot `i` of a token. -/
def slotGate (t : Fin 2048) (i : Fin 128) : EReal :=
  gate (keyScores x sc sh w k t ⟨i.val / 16, by omega⟩ 0) (keyScores x sc sh w k t ⟨i.val / 16, by omega⟩ 1) ⟨i.val % 16, by omega⟩

end Arguments

end Cert.RouteProof
-- ==== Proof.RouteFinite.lean ====
module

public import proofs.«01_k».proof.Proof.RouteSpec
public import proofs.«01_k».proof.Proof.Gen.Pre_all_finite

/-! With finite arguments every score of the routing is a real number, so no score is minus infinity. -/

@[expose] public section

noncomputable section

namespace Cert.RouteProof

open Idealize.ShloMosaic Idealize.ShloMosaic.TcCoe Idealize.SL.Sem

/-- A value that is a real number. -/
def IsReal (v : EReal) : Prop := ∃ r : ℝ, v = (r : EReal)

theorem IsReal.add {a b : EReal} (ha : IsReal a) (hb : IsReal b) : IsReal (a + b) := by
  obtain ⟨r, rfl⟩ := ha
  obtain ⟨r', rfl⟩ := hb
  exact ⟨r + r', (EReal.coe_add r r').symm⟩

theorem IsReal.mul {a b : EReal} (ha : IsReal a) (hb : IsReal b) : IsReal (a * b) := by
  obtain ⟨r, rfl⟩ := ha
  obtain ⟨r', rfl⟩ := hb
  exact ⟨r * r', (EReal.coe_mul r r').symm⟩

theorem IsReal.sum {n : Nat} {f : Fin n → EReal} (h : ∀ i, IsReal (f i)) : IsReal (∑ i, f i) :=
  Finset.sum_induction f IsReal (fun _ _ => IsReal.add) ⟨0, rfl⟩ fun i _ => h i

theorem IsReal.ne_bot {a : EReal} (h : IsReal a) : a ≠ ⊥ := by
  obtain ⟨r, rfl⟩ := h
  exact EReal.coe_ne_bot r

theorem isReal_one : IsReal 1 := ⟨1, rfl⟩

theorem pos_inf : Ideal.ofBits .f32 2139095040#32 = ⊤ := by
  simp [Ideal.ofBits, Ideal.ieee]

/-- A value whose absolute value is below infinity. -/
theorem isReal_of_abs (v : EReal) (h : BitVec.ofBool (decide (max v (-v) < Ideal.ofBits .f32 2139095040#32)) = 1#1) : IsReal v := by
  rw [pos_inf] at h
  have h' : max v (-v) < ⊤ := by
    by_contra hn
    rw [decide_eq_false hn] at h
    exact absurd h (by decide)
  induction v with
  | bot => exact absurd h' (by simp)
  | coe r => exact ⟨r, rfl⟩
  | top => exact absurd h' (by simp)

theorem keyScores_ne (x : FVec Ideal ⟨3, ![1, 2048, 1024]⟩ .f32) (sc sh : FVec Ideal ⟨2, ![1, 1024]⟩ .f32) (w : FVec Ideal ⟨2, ![1024, 1024]⟩ .f32)
    (k : FVec Ideal ⟨4, ![8, 2, 128, 64]⟩ .f32) (hx : ∀ i, IsReal (x i)) (hsc : ∀ i, IsReal (sc i)) (hsh : ∀ i, IsReal (sh i)) (hw : ∀ i, IsReal (w i))
    (hk : ∀ i, IsReal (k i)) (t : Fin 2048) (a : Fin 8) (b : Fin 2) (n : Fin 128) : keyScores x sc sh w k t a b n ≠ ⊥ :=
  (IsReal.sum fun _ => (hk _).mul (IsReal.sum fun _ => (((hx _).mul (isReal_one.add (hsc _))).add (hsh _)).mul (hw _))).ne_bot

/-- What the precondition says of the five arguments. -/
theorem isReal_of_pre (x : FVec Ideal ⟨3, ![1, 2048, 1024]⟩ .f32) (sc sh : FVec Ideal ⟨2, ![1, 1024]⟩ .f32) (w : FVec Ideal ⟨2, ![1024, 1024]⟩ .f32)
    (k : FVec Ideal ⟨4, ![8, 2, 128, 64]⟩ .f32)
    (h : (Cert.Pre_all_finite.fn (F := Ideal) x sc sh w k).1 = (fun _ => 1#1) ∧ (Cert.Pre_all_finite.fn (F := Ideal) x sc sh w k).2.1 = (fun _ => 1#1)
      ∧ (Cert.Pre_all_finite.fn (F := Ideal) x sc sh w k).2.2.1 = (fun _ => 1#1) ∧ (Cert.Pre_all_finite.fn (F := Ideal) x sc sh w k).2.2.2.1 = (fun _ => 1#1)
      ∧ (Cert.Pre_all_finite.fn (F := Ideal) x sc sh w k).2.2.2.2 = (fun _ => 1#1)) :
    (∀ i, IsReal (x i)) ∧ (∀ i, IsReal (sc i)) ∧ (∀ i, IsReal (sh i)) ∧ (∀ i, IsReal (w i)) ∧ (∀ i, IsReal (k i)) :=
  ⟨fun i => isReal_of_abs _ (congrFun h.1 i), fun i => isReal_of_abs _ (congrFun h.2.1 i), fun i => isReal_of_abs _ (congrFun h.2.2.1 i),
    fun i => isReal_of_abs _ (congrFun h.2.2.2.1 i), fun i => isReal_of_abs _ (congrFun h.2.2.2.2 i)⟩

end Cert.RouteProof
-- ==== Proof.MixFinite.lean ====
module

public import proofs.«01_k».proof.Proof.MixArgs
public import proofs.«01_k».proof.Proof.RouteFinite
public import proofs.«01_k».proof.Proof.Gen.Pre_mix_finite

/-! # Finite arguments of the time mixing are real numbers -/

@[expose] public section

noncomputable section

namespace Cert.MixProof

open Idealize.ShloMosaic
open Cert.RouteProof (IsReal isReal_of_abs)

/-- A real number that a value is. -/
theorem toReal_eq {v : EReal} (h : IsReal v) : v = ((v.toReal : ℝ) : EReal) := by
  obtain ⟨r, rfl⟩ := h
  rfl

/-- What the precondition says of the fourteen arguments. -/
theorem realArgs_of_pre (a0 : FVec Ideal ⟨3, ![1, 2048, 1792]⟩ .f32) (a1 : FVec Ideal ⟨4, ![1, 8, 64, 64]⟩ .f32) (a2 : FVec Ideal ⟨3, ![1, 1, 1792]⟩ .f32) (a3 : FVec Ideal ⟨1, ![1792]⟩ .f32) (a4 : FVec Ideal ⟨1, ![512]⟩ .f32) (a5 : FVec Ideal ⟨2, ![64, 512]⟩ .f32) (a6 : FVec Ideal ⟨1, ![512]⟩ .f32) (a7 : FVec Ideal ⟨2, ![64, 512]⟩ .f32) (a8 : FVec Ideal ⟨2, ![128, 512]⟩ .f32) (a9 : FVec Ideal ⟨1, ![512]⟩ .f32) (a10 : FVec Ideal ⟨1, ![512]⟩ .f32) (a11 : FVec Ideal ⟨2, ![8, 64]⟩ .f32) (a12 : FVec Ideal ⟨1, ![512]⟩ .f32) (a13 : FVec Ideal ⟨1, ![512]⟩ .f32)
    (h : (Cert.Pre_mix_finite.fn (F := Ideal) a0 a1 a2 a3 a4 a5 a6 a7 a8 a9 a10 a11 a12 a13).1 = (fun _ => 1#1)
      ∧ (Cert.Pre_mix_finite.fn (F := Ideal) a0 a1 a2 a3 a4 a5 a6 a7 a8 a9 a10 a11 a12 a13).2.1 = (fun _ => 1#1)
      ∧ (Cert.Pre_mix_finite.fn (F := Ideal) a0 a1 a2 a3 a4 a5 a6 a7 a8 a9 a10 a11 a12 a13).2.2.1 = (fun _ => 1#1)
      ∧ (Cert.Pre_mix_finite.fn (F := Ideal) a0 a1 a2 a3 a4 a5 a6 a7 a8 a9 a10 a11 a12 a13).2.2.2.1 = (fun _ => 1#1)
      ∧ (Cert.Pre_mix_finite.fn (F := Ideal) a0 a1 a2 a3 a4 a5 a6 a7 a8 a9 a10 a11 a12 a13).2.2.2.2.1 = (fun _ => 1#1)
      ∧ (Cert.Pre_mix_finite.fn (F := Ideal) a0 a1 a2 a3 a4 a5 a6 a7 a8 a9 a10 a11 a12 a13).2.2.2.2.2.1 = (fun _ => 1#1)
      ∧ (Cert.Pre_mix_finite.fn (F := Ideal) a0 a1 a2 a3 a4 a5 a6 a7 a8 a9 a10 a11 a12 a13).2.2.2.2.2.2.1 = (fun _ => 1#1)
      ∧ (Cert.Pre_mix_finite.fn (F := Ideal) a0 a1 a2 a3 a4 a5 a6 a7 a8 a9 a10 a11 a12 a13).2.2.2.2.2.2.2.1 = (fun _ => 1#1)
      ∧ (Cert.Pre_mix_finite.fn (F := Ideal) a0 a1 a2 a3 a4 a5 a6 a7 a8 a9 a10 a11 a12 a13).2.2.2.2.2.2.2.2.1 = (fun _ => 1#1)
      ∧ (Cert.Pre_mix_finite.fn (F := Ideal) a0 a1 a2 a3 a4 a5 a6 a7 a8 a9 a10 a11 a12 a13).2.2.2.2.2.2.2.2.2.1 = (fun _ => 1#1)
      ∧ (Cert.Pre_mix_finite.fn (F := Ideal) a0 a1 a2 a3 a4 a5 a6 a7 a8 a9 a10 a11 a12 a13).2.2.2.2.2.2.2.2.2.2.1 = (fun _ => 1#1)
      ∧ (Cert.Pre_mix_finite.fn (F := Ideal) a0 a1 a2 a3 a4 a5 a6 a7 a8 a9 a10 a11 a12 a13).2.2.2.2.2.2.2.2.2.2.2.1 = (fun _ => 1#1)
      ∧ (Cert.Pre_mix_finite.fn (F := Ideal) a0 a1 a2 a3 a4 a5 a6 a7 a8 a9 a10 a11 a12 a13).2.2.2.2.2.2.2.2.2.2.2.2.1 = (fun _ => 1#1)
      ∧ (Cert.Pre_mix_finite.fn (F := Ideal) a0 a1 a2 a3 a4 a5 a6 a7 a8 a9 a10 a11 a12 a13).2.2.2.2.2.2.2.2.2.2.2.2.2 = (fun _ => 1#1)) :
    ∃ (Z : ℕ → Fin 1792 → ℝ) (q : Fin 1792 → ℝ) (P : Par) (M : Fin 8 → Mat), RealArgs a0 a1 a2 a3 a4 a5 a6 a7 a8 a9 a10 a11 a12 a13 Z q P M := by
  have h0 : ∀ i, IsReal (a0 i) := fun i => isReal_of_abs _ (congrFun h.1 i)
  have h1 : ∀ i, IsReal (a1 i) := fun i => isReal_of_abs _ (congrFun h.2.1 i)
  have h2 : ∀ i, IsReal (a2 i) := fun i => isReal_of_abs _ (congrFun h.2.2.1 i)
  have h3 : ∀ i, IsReal (a3 i) := fun i => isReal_of_abs _ (congrFun h.2.2.2.1 i)
  have h4 : ∀ i, IsReal (a4 i) := fun i => isReal_of_abs _ (congrFun h.2.2.2.2.1 i)
  have h5 : ∀ i, IsReal (a5 i) := fun i => isReal_of_abs _ (congrFun h.2.2.2.2.2.1 i)
  have h6 : ∀ i, IsReal (a6 i) := fun i => isReal_of_abs _ (congrFun h.2.2.2.2.2.2.1 i)
  have h7 : ∀ i, IsReal (a7 i) := fun i => isReal_of_abs _ (congrFun h.2.2.2.2.2.2.2.1 i)
  have h8 : ∀ i, IsReal (a8 i) := fun i => isReal_of_abs _ (congrFun h.2.2.2.2.2.2.2.2.1 i)
  have h9 : ∀ i, IsReal (a9 i) := fun i => isReal_of_abs _ (congrFun h.2.2.2.2.2.2.2.2.2.1 i)
  have h10 : ∀ i, IsReal (a10 i) := fun i => isReal_of_abs _ (congrFun h.2.2.2.2.2.2.2.2.2.2.1 i)
  have h11 : ∀ i, IsReal (a11 i) := fun i => isReal_of_abs _ (congrFun h.2.2.2.2.2.2.2.2.2.2.2.1 i)
  have h12 : ∀ i, IsReal (a12 i) := fun i => isReal_of_abs _ (congrFun h.2.2.2.2.2.2.2.2.2.2.2.2.1 i)
  have h13 : ∀ i, IsReal (a13 i) := fun i => isReal_of_abs _ (congrFun h.2.2.2.2.2.2.2.2.2.2.2.2.2 i)
  refine ⟨fun n j => if hn : n < 2048 then (a0 (ix3 0 ⟨n, hn⟩ j)).toReal else 0, fun j => (a2 (ix3 0 0 j)).toReal,
    { mu := fun j => (a3 (ix1 j)).toReal, w0 := fun j => (a4 (ix1 j)).toReal, w2 := fun i j => (a5 (ix2 i j)).toReal, a0 := fun j => (a6 (ix1 j)).toReal,
      a2 := fun i j => (a7 (ix2 i j)).toReal, g2 := fun i j => (a8 (ix2 i j)).toReal, kk := fun j => (a9 (ix1 j)).toReal, ka := fun j => (a10 (ix1 j)).toReal,
      rk := fun j => (a11 (ix2 (hOf j) (nOf j))).toReal, gg := fun j => (a12 (ix1 j)).toReal, gb := fun j => (a13 (ix1 j)).toReal },
    fun h i j => (a1 (ix4 0 h i j)).toReal, ?_⟩
  refine ⟨fun i j => ?_, fun _ _ _ => toReal_eq (h1 _), fun _ => toReal_eq (h2 _), fun _ => toReal_eq (h3 _), fun _ => toReal_eq (h4 _), fun _ _ => toReal_eq (h5 _),
    fun _ => toReal_eq (h6 _), fun _ _ => toReal_eq (h7 _), fun _ _ => toReal_eq (h8 _), fun _ => toReal_eq (h9 _), fun _ => toReal_eq (h10 _), fun h n => ?_,
    fun _ => toReal_eq (h12 _), fun _ => toReal_eq (h13 _)⟩
  · rw [dif_pos i.isLt]
    exact toReal_eq (h0 _)
  · show a11 (ix2 h n) = (((a11 (ix2 (hOf (hd h n)) (nOf (hd h n)))).toReal : ℝ) : EReal)
    rw [hOf_hd, nOf_hd]
    exact toReal_eq (h11 _)

end Cert.MixProof
-- ==== Proof.Mix.lean ====
module

public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Step
public import proofs.«01_k».proof.Proof.Gen.Pre_mix_finite
public import proofs.«01_k».proof.Defs
public import proofs.«01_k».proof.Proof.MixRun
public import proofs.«01_k».proof.Proof.MixRef
public import proofs.«01_k».proof.Proof.MixFinite

/-! # The time mixing and its reference -/

@[expose] public section

set_option maxRecDepth 65536

noncomputable section

namespace Cert.MixClaim

open Idealize.ShloMosaic Idealize.ShloMosaic.TcCoe Idealize.SL.Sem
open Cert.MixProof (Par Mat RealArgs realArgs_of_pre tokenOut headState tiny small xs)

/-- With finite arguments the chunked time mixing ends with the three arrays of the token by token recurrence. -/
theorem algebraic : Cert.algebraic_MixIdeal_MixRefIdeal_pre_mix_finite := fun m ρ m' ρ' hp hag =>
  ⟨fun c => Cert.MixIdeal.Value.G15 m c, fun c => Cert.MixIdeal.Value.G16 m c, fun c => Cert.MixIdeal.Value.G17 m c,
    Cert.MixIdeal.Value.run m ρ,
    (θ_run _ _ _).mono (fun _ h c => by
      obtain ⟨Z, q, P, M, H⟩ := realArgs_of_pre _ _ _ _ _ _ _ _ _ _ _ _ _ _ (hp c)
      have HR : MixLoop.RArgs m' c Z q P M := by
        obtain ⟨h0, h1, h2, h3, h4, h5, h6, h7, h8, h9, h10, h11, h12, h13⟩ := hag c
        unfold MixLoop.RArgs
        rw [h0, h1, h2, h3, h4, h5, h6, h7, h8, h9, h10, h11, h12, h13]
        exact H
      obtain ⟨e0, e1, e2, r⟩ := h c
      exact ⟨e0.trans ((MixLoop.ref_tokens HR).trans (MixCase.tokens H).symm), e1.trans ((MixLoop.ref_state HR).trans (MixCase.final_state H).symm),
        e2.trans ((MixLoop.ref_row HR).trans (MixCase.final_row H).symm), r⟩) (Cert.MixRefIdeal.Value.run m' ρ')⟩

end Cert.MixClaim
-- ==== Proof.RowNorm.lean ====
module

public import Idealize.ShloMosaic.Lib.Pointwise

@[expose] public section

noncomputable section

namespace Cert.RowNorm

open Idealize.ShloMosaic

/-! # The normalisation of one row of 1024 extended reals

Every layer norm of the layer is one of these functions of a row `z`: the mean, the mean of the squared deviations, and the
deviations times the reciprocal root of that mean plus a small constant. -/

/-- The row length as the extended real that both programs divide by. -/
abbrev len : EReal := Ideal.ofBits .f32 0x44800000#32

/-- The small constant added to the variance. -/
abbrev eps : EReal := Ideal.ofBits .f32 0x3727C5AC#32

/-- The mean of a row. -/
def mean (z : Fin 1024 → EReal) : EReal := Ideal.div (∑ k : Fin 1024, z k) len

/-- The mean squared deviation of a row. -/
def variance (z : Fin 1024 → EReal) : EReal :=
  Ideal.div (∑ k : Fin 1024, (z k - mean z) * (z k - mean z)) len

/-- The normalised row, before any gain or bias. -/
def normalised (z : Fin 1024 → EReal) (j : Fin 1024) : EReal :=
  (z j - mean z) * Ideal.rsqrt (variance z + eps)

/-- Layer norm with gain `g` and bias `b`. -/
def layerNorm (z g b : Fin 1024 → EReal) (j : Fin 1024) : EReal := normalised z j * g j + b j

end Cert.RowNorm
-- ==== Proof.Merge.lean ====
module

public import proofs.«01_k».proof.Proof.Gen.MergeIdeal.Value
public import proofs.«01_k».proof.Proof.Gen.MergeRefIdeal.Run
public import proofs.«01_k».proof.Defs
public import proofs.«01_k».proof.Proof.RowNorm
public import Idealize.ShloMosaic.Lib.Pointwise
public import Idealize.ShloMosaic.Lib.Pipeline.ValueKit
public import Idealize.ShloMosaic.Lib.StableHlo.ReadAt

@[expose] public section

set_option maxRecDepth 16384

noncomputable section

namespace Cert.MergeProof

open Idealize.ShloMosaic Idealize.ShloMosaic.TcCoe Idealize.SL.Sem
open Idealize.ShloMosaic.Pipeline (Dat)
open Cert.RowNorm

/-- The modulated token row. -/
def hrow (x sc sh : Fin 1024 → EReal) (k : Fin 1024) : EReal := x k * (1 + sc k) + sh k

/-- The merged row: each branch's projection weighted by its own gate. -/
def merged (h : Fin 1024 → EReal) (ya : Fin 512 → EReal) (yb : Fin 1024 → EReal) (wga wgb : Fin 1024 → Fin 1024 → EReal)
    (wa : Fin 512 → Fin 1024 → EReal) (wb : Fin 1024 → Fin 1024 → EReal) (j : Fin 1024) : EReal :=
  Ideal.logistic (∑ k : Fin 1024, h k * wga k j) * (∑ k : Fin 512, ya k * wa k j)
    + Ideal.logistic (∑ k : Fin 1024, h k * wgb k j) * (∑ k : Fin 1024, yb k * wb k j)

/-- The row that the norm reads: the scaled residual plus the gated projection of the merged row. -/
def outRow (x gt mg : Fin 1024 → EReal) (wo : Fin 1024 → Fin 1024 → EReal) (j : Fin 1024) : EReal :=
  Ideal.ofBits .f32 0x3F9837F0#32 * x j + gt j * ∑ k : Fin 1024, mg k * wo k j

section Spec
open Cert.MergeIdeal

/-- The result from the argument arrays: rows 2048 to 4095 of batch 3. -/
def G (x : FVec Ideal S8x4096x1024 .f32) (gt sc sh : FVec Ideal S1x1024 .f32) (ya : FVec Ideal S1x2048x512 .bf16) (yb : FVec Ideal S1x2048x1024 .bf16)
    (w : FVec Ideal S1024x5316 .f32) (wa : FVec Ideal S512x1024 .f32) (wb wo : FVec Ideal S1024x1024 .f32) (g b : FVec Ideal S1024 .f32) :
    FVec Ideal S1x2048x1024 .f32 := fun i =>
  layerNorm (outRow (fun k => x (ix3 3 ⟨2048 + (i 1).val, by have h : (i 1).val < 2048 := (i 1).isLt; omega⟩ k)) (fun k => gt (ix2 0 k))
      (merged (hrow (fun k => x (ix3 3 ⟨2048 + (i 1).val, by have h : (i 1).val < 2048 := (i 1).isLt; omega⟩ k)) (fun k => sc (ix2 0 k)) (fun k => sh (ix2 0 k)))
        (fun k => ya (ix3 0 (i 1) k)) (fun k => yb (ix3 0 (i 1) k))
        (fun k j => w (ix2 k ⟨3268 + j.val, by omega⟩)) (fun k j => w (ix2 k ⟨4292 + j.val, by omega⟩))
        (fun k j => wa (ix2 k j)) (fun k j => wb (ix2 k j)))
      (fun k j => wo (ix2 k j)))
    (fun k => g (ix1 k)) (fun k => b (ix1 k)) (i 2)

end Spec

section Kernel
open Cert.MergeIdeal Cert.MergeIdeal.Gen

theorem pay2_eq (ya : FVec Ideal S1x256x512 .bf16) (wa : FVec Ideal S512x1024 .bf16) (yb : FVec Ideal S1x256x1024 .bf16) (wb : FVec Ideal S1024x1024 .bf16)
    (x : FVec Ideal S1x256x1024 .f32) (sc sh : FVec Ideal S1x1x1024 .f32) (wg : FVec Ideal S1024x2048 .bf16) (r : Fin 256) (j : Fin 1024) :
    k0_pay2 (F := Ideal) ya wa yb wb x sc sh wg (ix2 r j)
      = merged (hrow (fun k => x (ix3 0 r k)) (fun k => sc (ix3 0 0 k)) (fun k => sh (ix3 0 0 k))) (fun k => ya (ix3 0 r k)) (fun k => yb (ix3 0 r k))
          (fun k j => wg (ix2 k ⟨j.val, by omega⟩)) (fun k j => wg (ix2 k ⟨1024 + j.val, by omega⟩)) (fun k j => wa (ix2 k j)) (fun k j => wb (ix2 k j)) j := by
  pointwise [k0_pay2, merged, hrow]

theorem pay3_eq (mg : FVec Ideal S256x1024 .f32) (wo : FVec Ideal S1024x1024 .bf16) (x : FVec Ideal S1x256x1024 .f32) (gt : FVec Ideal S1x1x1024 .f32)
    (g b : FVec Ideal S1x1024 .f32) (j : S1x256x1024.Idx) :
    k0_pay1 (F := Ideal) (k0_pay3 mg wo x gt g b) j
      = layerNorm (outRow (fun k => x (ix3 0 (j 1) k)) (fun k => gt (ix3 0 0 k)) (fun k => mg (ix2 (j 1) k)) (fun k j => wo (ix2 k j)))
          (fun k => g (ix2 0 k)) (fun k => b (ix2 0 k)) (j 2) := by
  idx_vars j
  pointwise [k0_pay1, k0_pay3, layerNorm, normalised, mean, variance, outRow]

theorem index_maps : ∀ t : Fin grid0.N, win0_0.index t = ![3, 8 + t.val, 0] ∧ win0_1.index t = ![0, 0, 0] ∧ win0_2.index t = ![0, 0, 0]
     ∧ win0_3.index t = ![0, 0, 0] ∧ win0_4.index t = ![0, t.val, 0] ∧ win0_5.index t = ![0, t.val, 0] ∧ win0_6.index t = ![0, 0]
     ∧ win0_7.index t = ![0, 0] ∧ win0_8.index t = ![0, 0] ∧ win0_9.index t = ![0, 0] ∧ win0_10.index t = ![0, 0] ∧ win0_11.index t = ![0, 0]
     ∧ win0_12.index t = ![0, t.val, 0] := by decide +kernel

theorem zero3 : (![0, 0, 0] : Fin 3 → Nat) = fun _ => 0 := funext fun a => by fin_cases a <;> rfl
theorem zero2 : (![0, 0] : Fin 2 → Nat) = fun _ => 0 := funext fun a => by fin_cases a <;> rfl

variable (m : (ℓ : Loc nD τ sig) → Buf (Elt Ideal) ℓ) (c : Dev nD)

abbrev ax : FVec Ideal S8x4096x1024 .f32 := m ((c.tc : Thread nD τ).loc main_arg0)
abbrev agt : FVec Ideal S1x1024 .f32 := m ((c.tc : Thread nD τ).loc main_arg1)
abbrev asc : FVec Ideal S1x1024 .f32 := m ((c.tc : Thread nD τ).loc main_arg2)
abbrev ash : FVec Ideal S1x1024 .f32 := m ((c.tc : Thread nD τ).loc main_arg3)
abbrev aya : FVec Ideal S1x2048x512 .bf16 := m ((c.tc : Thread nD τ).loc main_arg4)
abbrev ayb : FVec Ideal S1x2048x1024 .bf16 := m ((c.tc : Thread nD τ).loc main_arg5)
abbrev aw : FVec Ideal S1024x5316 .f32 := m ((c.tc : Thread nD τ).loc main_arg6)
abbrev awa : FVec Ideal S512x1024 .f32 := m ((c.tc : Thread nD τ).loc main_arg7)
abbrev awb : FVec Ideal S1024x1024 .f32 := m ((c.tc : Thread nD τ).loc main_arg8)
abbrev awo : FVec Ideal S1024x1024 .f32 := m ((c.tc : Thread nD τ).loc main_arg9)
abbrev ag : FVec Ideal S1024 .f32 := m ((c.tc : Thread nD τ).loc main_arg10)
abbrev ab : FVec Ideal S1024 .f32 := m ((c.tc : Thread nD τ).loc main_arg11)

/-- The result from the memory's argument arrays. -/
abbrev Gm : FVec Ideal S1x2048x1024 .f32 := G (ax m c) (agt m c) (asc m c) (ash m c) (aya m c) (ayb m c) (aw m c) (awa m c) (awb m c) (awo m c) (ag m c) (ab m c)

abbrev B0 (t : Fin cfg0.N) : FVec Ideal S1x256x1024 .f32 := iblk m c 0 t
abbrev B1 (t : Fin cfg0.N) : FVec Ideal S1x1x1024 .f32 := iblk m c 1 t
abbrev B2 (t : Fin cfg0.N) : FVec Ideal S1x1x1024 .f32 := iblk m c 2 t
abbrev B3 (t : Fin cfg0.N) : FVec Ideal S1x1x1024 .f32 := iblk m c 3 t
abbrev B4 (t : Fin cfg0.N) : FVec Ideal S1x256x512 .bf16 := iblk m c 4 t
abbrev B5 (t : Fin cfg0.N) : FVec Ideal S1x256x1024 .bf16 := iblk m c 5 t
abbrev B6 (t : Fin cfg0.N) : FVec Ideal S1024x2048 .bf16 := iblk m c 6 t
abbrev B7 (t : Fin cfg0.N) : FVec Ideal S512x1024 .bf16 := iblk m c 7 t
abbrev B8 (t : Fin cfg0.N) : FVec Ideal S1024x1024 .bf16 := iblk m c 8 t
abbrev B9 (t : Fin cfg0.N) : FVec Ideal S1024x1024 .bf16 := iblk m c 9 t
abbrev B10 (t : Fin cfg0.N) : FVec Ideal S1x1024 .f32 := iblk m c 10 t
abbrev B11 (t : Fin cfg0.N) : FVec Ideal S1x1024 .f32 := iblk m c 11 t

theorem b0_read (t : Fin cfg0.N) (ht : t.val < 8) (r : Fin 256) (k : Fin 1024) : B0 m c t (ix3 0 r k) = ax m c (ix3 3 ⟨2048 + (256 * t.val + r.val), by omega⟩ k) := by
  obtain ⟨h0, -⟩ := index_maps t
  blk_ext! [iblk, V, h0]

theorem b1_read (t : Fin cfg0.N) (k : Fin 1024) : B1 m c t (ix3 0 0 k) = agt m c (ix2 0 k) := by
  obtain ⟨-, h1, -⟩ := index_maps t
  blk_ext! [iblk, V, h1]

theorem b2_read (t : Fin cfg0.N) (k : Fin 1024) : B2 m c t (ix3 0 0 k) = asc m c (ix2 0 k) := by
  obtain ⟨-, -, h2, -⟩ := index_maps t
  blk_ext! [iblk, V, h2]

theorem b3_read (t : Fin cfg0.N) (k : Fin 1024) : B3 m c t (ix3 0 0 k) = ash m c (ix2 0 k) := by
  obtain ⟨-, -, -, h3, -⟩ := index_maps t
  blk_ext! [iblk, V, h3]

theorem b4_read (t : Fin cfg0.N) (ht : t.val < 8) (r : Fin 256) (k : Fin 512) : B4 m c t (ix3 0 r k) = aya m c (ix3 0 ⟨256 * t.val + r.val, by omega⟩ k) := by
  obtain ⟨-, -, -, -, h4, -⟩ := index_maps t
  blk_ext! [iblk, V, h4]

theorem b5_read (t : Fin cfg0.N) (ht : t.val < 8) (r : Fin 256) (k : Fin 1024) : B5 m c t (ix3 0 r k) = ayb m c (ix3 0 ⟨256 * t.val + r.val, by omega⟩ k) := by
  obtain ⟨-, -, -, -, -, h5, -⟩ := index_maps t
  blk_ext! [iblk, V, h5]

/-- The gate weights' operand: two groups of columns of the input weight. -/
theorem wg_entry (k : Fin 1024) (j : Fin 2048) : (V m c main_v9 : FVec Ideal S1024x2048 .bf16) (ix2 k j) = aw m c (ix2 k ⟨3268 + j.val, by omega⟩) := by
  unfold V
  after_reads_at
  by_cases h : j.val < 1024
  · simp only [dif_pos h]
    after_reads_at
  · simp only [dif_neg h]
    after_reads_at
    exact congrArg (aw m c) (congrArg (ix2 k) (Fin.ext (by simp only []; omega)))

theorem b6_read (t : Fin cfg0.N) (k : Fin 1024) (j : Fin 2048) : B6 m c t (ix2 k j) = aw m c (ix2 k ⟨3268 + j.val, by omega⟩) := by
  obtain ⟨-, -, -, -, -, -, h6, -⟩ := index_maps t
  have e : B6 m c t (ix2 k j) = (V m c main_v9 : FVec Ideal S1024x2048 .bf16) (ix2 k j) := by
    blk_ext [iblk, h6]
  exact e.trans (wg_entry m c k j)

theorem b7_read (t : Fin cfg0.N) (k : Fin 512) (j : Fin 1024) : B7 m c t (ix2 k j) = awa m c (ix2 k j) := by
  obtain ⟨-, -, -, -, -, -, -, h7, -⟩ := index_maps t
  blk_ext! [iblk, V, h7]

theorem b8_read (t : Fin cfg0.N) (k : Fin 1024) (j : Fin 1024) : B8 m c t (ix2 k j) = awb m c (ix2 k j) := by
  obtain ⟨-, -, -, -, -, -, -, -, h8, -⟩ := index_maps t
  blk_ext! [iblk, V, h8]

theorem b9_read (t : Fin cfg0.N) (k : Fin 1024) (j : Fin 1024) : B9 m c t (ix2 k j) = awo m c (ix2 k j) := by
  obtain ⟨-, -, -, -, -, -, -, -, -, h9, -⟩ := index_maps t
  blk_ext! [iblk, V, h9]

theorem b10_read (t : Fin cfg0.N) (k : Fin 1024) : B10 m c t (ix2 0 k) = ag m c (ix1 k) := by
  obtain ⟨-, -, -, -, -, -, -, -, -, -, h10, -⟩ := index_maps t
  blk_ext! [iblk, V, h10]

theorem b11_read (t : Fin cfg0.N) (k : Fin 1024) : B11 m c t (ix2 0 k) = ab m c (ix1 k) := by
  obtain ⟨-, -, -, -, -, -, -, -, -, -, -, h11, -⟩ := index_maps t
  blk_ext! [iblk, V, h11]

theorem flushed12 (t : Fin cfg0.N) :
    (dats m 0 c).flushed 12 t = ((cfg0.win 12).blk t).view.read (Elt Ideal) (Gm m c) := by
  rw [Value.flushed12]
  unfold out0_12
  rw [View.canon_unit_zero zero3]
  simp only [View.ld_unit_zero (S := S1x256x512) zero3, View.ld_unit_zero (S := S1x256x1024) zero3, View.ld_unit_zero (S := S1x1x1024) zero3,
    View.ld_unit_zero (S := S512x1024) zero2, View.ld_unit_zero (S := S1024x1024) zero2, View.ld_unit_zero (S := S1024x2048) zero2, View.ld_unit_zero (S := S1x1024) zero2]
  funext j
  show k0_pay1 (F := Ideal) (k0_pay3 (k0_pay2 (B4 m c t) (B7 m c t) (B5 m c t) (B8 m c t) (B0 m c t) (B2 m c t) (B3 m c t) (B6 m c t)) (B9 m c t) (B0 m c t) (B1 m c t) (B10 m c t) (B11 m c t)) j
    = Gm m c (((cfg0.win 12).blk t).view.emb j)
  refine (pay3_eq ..).trans ?_
  obtain ⟨-, -, -, -, -, -, -, -, -, -, -, -, h12⟩ := index_maps t
  have ht : t.val < 8 := lt_of_lt_of_eq t.isLt N_0
  idx_vars j
  have he : ((cfg0.win 12).blk t).view.emb (ix3 j0 j1 j2) = ix3 (0 : Fin 1) (⟨256 * t.val + j1.val, by omega⟩ : Fin 2048) j2 := by
    blk_ext [h12]
  rw [he]
  show layerNorm (outRow (fun k => B0 m c t (ix3 0 j1 k)) (fun k => B1 m c t (ix3 0 0 k)) (fun k => k0_pay2 (F := Ideal) (B4 m c t) (B7 m c t) (B5 m c t) (B8 m c t) (B0 m c t) (B2 m c t) (B3 m c t) (B6 m c t) (ix2 j1 k))
    (fun k j => B9 m c t (ix2 k j))) (fun k => B10 m c t (ix2 0 k)) (fun k => B11 m c t (ix2 0 k)) j2 = _
  rw [funext fun k => b0_read m c t ht j1 k, funext fun k => b1_read m c t k, funext fun k => pay2_eq (B4 m c t) (B7 m c t) (B5 m c t) (B8 m c t) (B0 m c t) (B2 m c t) (B3 m c t) (B6 m c t) j1 k,
    funext fun k => funext fun j => b9_read m c t k j, funext fun k => b10_read m c t k, funext fun k => b11_read m c t k]
  rw [funext fun k => b0_read m c t ht j1 k, funext fun k => b2_read m c t k, funext fun k => b3_read m c t k, funext fun k => b4_read m c t ht j1 k, funext fun k => b5_read m c t ht j1 k,
    funext fun k => funext fun j => b7_read m c t k j, funext fun k => funext fun j => b8_read m c t k j,
    funext fun k => funext fun (j : Fin 1024) => b6_read m c t k ⟨j.val, by omega⟩, funext fun k => funext fun (j : Fin 1024) => b6_read m c t k ⟨1024 + j.val, by omega⟩]
  have e : ∀ j : Fin 1024, (⟨3268 + (1024 + j.val), by omega⟩ : Fin 5316) = ⟨4292 + j.val, by omega⟩ := fun j => Fin.ext (by simp only []; omega)
  simp only [e]
  rfl

/-- The indices of the block of result main_v18 that grid point `t` writes. -/
theorem mem_blk12 (t : Fin cfg0.N) (i : S1x2048x1024.Idx) :
    i ∈ ((cfg0.win 12).blk t).view.set ↔ t.val * 256 ≤ (i 1 : Nat) ∧ (i 1 : Nat) < t.val * 256 + 256 := by
  show i ∈ ((View.whole main_v18).slice (win0_12.rect t)).set ↔ _
  rw [View.set_slice_whole, Rect.mem_set_unit]
  have b0 : (i 0 : Nat) < 1 := (i 0).isLt
  have b2 : (i 2 : Nat) < 1024 := (i 2).isLt
  have e : ∀ t : Fin grid0.N, (win0_12.index t 0 * win0_12.size 0 = 0 ∧ win0_12.xsize (grid0.coords t) 0 = 1)
      ∧ (win0_12.index t 1 * win0_12.size 1 = t.val * 256 ∧ win0_12.xsize (grid0.coords t) 1 = 256)
      ∧ (win0_12.index t 2 * win0_12.size 2 = 0 ∧ win0_12.xsize (grid0.coords t) 2 = 1024) := by decide +kernel
  obtain ⟨⟨e0, f0⟩, ⟨e1, f1⟩, e2, f2⟩ := e t
  refine ⟨fun h => ?_, fun h a => ?_⟩
  · have : win0_12.index t 1 * win0_12.size 1 ≤ (i 1 : Nat) ∧ (i 1 : Nat) < win0_12.index t 1 * win0_12.size 1 + win0_12.xsize (grid0.coords t) 1 := h 1
    rw [e1, f1] at this; exact this
  · match a with
    | ⟨0, _⟩ => show win0_12.index t 0 * win0_12.size 0 ≤ (i 0 : Nat) ∧ (i 0 : Nat) < win0_12.index t 0 * win0_12.size 0 + win0_12.xsize (grid0.coords t) 0
                rw [e0, f0]; omega
    | ⟨1, _⟩ => show win0_12.index t 1 * win0_12.size 1 ≤ (i 1 : Nat) ∧ (i 1 : Nat) < win0_12.index t 1 * win0_12.size 1 + win0_12.xsize (grid0.coords t) 1
                rw [e1, f1]; exact h
    | ⟨2, _⟩ => show win0_12.index t 2 * win0_12.size 2 ≤ (i 2 : Nat) ∧ (i 2 : Nat) < win0_12.index t 2 * win0_12.size 2 + win0_12.xsize (grid0.coords t) 2
                rw [e2, f2]; omega

/-- Those blocks fill the array. -/
theorem cover12 (i : S1x2048x1024.Idx) :
    ∃ t : Fin cfg0.N, (cfg0.win 12).flush t = true ∧ i ∈ ((cfg0.win 12).blk t).view.set := by
  have h1 : (i 1 : Nat) < 2048 := (i 1).isLt
  refine ⟨⟨(i 1 : Nat) / 256, by show _ < grid0.N; rw [N_0]; omega⟩, flush0_12 _, ?_⟩
  rw [mem_blk12]
  dsimp only
  omega

/-- The kernel's result array is the specification of the argument arrays. -/
theorem final : (dats m 0 c).arrAt 12 cfg0.N = Gm m c :=
  (dats m 0 c).arrAt_eq_of_cover 12 (Gm m c) (fun t _ => flushed12 m c t) cover12

end Kernel

section Reference
open Cert.MergeRefIdeal

set_option maxHeartbeats 1000000 in
theorem ref_eq (m : (ℓ : Loc nD τ sig) → Buf (Elt Ideal) ℓ) (c : Dev nD) :
    Value.res_out0 m c = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) := by
  funext j
  idx_vars j
  unfold Value.res_out0 Value.res_main_v67
  obtain rfl : j0 = 0 := Subsingleton.elim _ _
  pointwise [G, layerNorm, normalised, mean, variance, outRow, merged, hrow, Ideal.logistic]

end Reference

/-- The merge and its reference end with the same array. -/
theorem algebraic : Cert.algebraic_MergeIdeal_MergeRefIdeal := fun m ρ m' ρ' _ hag =>
  ⟨fun c => Gm m c,
    (θ_run _ _ _).mono (fun _ h c => ⟨(h c).1.trans (final m c), (h c).2⟩) (MergeIdeal.Value.run_blocks m ρ),
    (θ_run _ _ _).mono (fun _ h c => ⟨(h c).1.trans (by
      obtain ⟨h0, h1, h2, h3, h4, h5, h6, h7, h8, h9, h10, h11⟩ := hag c
      refine (ref_eq m' c).trans ?_
      rw [h0, h1, h2, h3, h4, h5, h6, h7, h8, h9, h10, h11]), (h c).2⟩) (MergeRefIdeal.Value.run m' ρ')⟩

end Cert.MergeProof
-- ==== Proof.Proj.lean ====
module

public import proofs.«01_k».proof.Proof.Gen.ProjIdeal.Value
public import proofs.«01_k».proof.Proof.Gen.ProjRefIdeal.Run
public import proofs.«01_k».proof.Defs
public import proofs.«01_k».proof.Proof.RowNorm
public import Idealize.ShloMosaic.Lib.Pointwise
public import Idealize.ShloMosaic.Lib.Pipeline.ValueKit
public import Idealize.ShloMosaic.Lib.StableHlo.ReadAt

@[expose] public section

set_option maxRecDepth 16384

noncomputable section

namespace Cert.ProjProof

open Idealize.ShloMosaic Idealize.ShloMosaic.TcCoe Idealize.SL.Sem
open Idealize.ShloMosaic.Pipeline (Dat)
open Cert.RowNorm

/-- The modulated token row: token `s` of the window, scaled and shifted. -/
def hrow (x : Fin 2048 → Fin 1024 → EReal) (sc sh : Fin 1024 → EReal) (s : Fin 2048) (k : Fin 1024) : EReal :=
  x s k * (1 + sc k) + sh k

/-- One entry of the projection: the modulated row against a column of the input weight. -/
def z (x : Fin 2048 → Fin 1024 → EReal) (sc sh : Fin 1024 → EReal) (w : Fin 1024 → Fin 5316 → EReal) (s : Fin 2048) (j : Fin 5316) : EReal :=
  ∑ k : Fin 1024, hrow x sc sh s k * w k j

section Spec

variable (x : FVec Ideal ProjIdeal.S8x4096x1024 .f32) (sc sh : FVec Ideal ProjIdeal.S1x1024 .f32) (w : FVec Ideal ProjIdeal.S1024x5316 .f32)

/-- The projection of the argument arrays: rows 2048 to 4095 of batch 3. -/
abbrev zA (s : Fin 2048) (j : Fin 5316) : EReal :=
  z (fun s k => x (ix3 3 ⟨2048 + s.val, by omega⟩ k)) (fun k => sc (ix2 0 k)) (fun k => sh (ix2 0 k)) (fun k j => w (ix2 k j)) s j

/-- The first 1792 columns. -/
def G6 : FVec Ideal ProjIdeal.S1x2048x1792 .f32 := fun i =>
  zA x sc sh w (i 1) ⟨(i 2).val, by have h : (i 2).val < 1792 := (i 2).isLt; omega⟩
/-- The next 1024 columns. -/
def G7 : FVec Ideal ProjIdeal.S1x2048x1024 .bf16 := fun i =>
  zA x sc sh w (i 1) ⟨1792 + (i 2).val, by have h : (i 2).val < 1024 := (i 2).isLt; omega⟩
/-- Which column of the weight each column of the small result reads. -/
def smallCol (j : Fin 512) : Option (Fin 5316) :=
  if h : j.val < 256 then some ⟨2944 + j.val, by omega⟩
  else if h : j.val - 256 < 128 then some ⟨2816 + (j.val - 256), by omega⟩
  else if h : j.val - 256 - 128 < 64 then some ⟨3200 + (j.val - 256 - 128), by omega⟩
  else if h : j.val - 256 - 128 - 64 < 4 then some ⟨3264 + (j.val - 256 - 128 - 64), by omega⟩ else none
/-- The small result: four groups of columns and 60 columns of zeros. -/
def G8 : FVec Ideal ProjIdeal.S1x2048x512 .f32 := fun i =>
  match smallCol (i 2) with
  | some j => zA x sc sh w (i 1) j
  | none => 0

end Spec

section Kernel
open Cert.ProjIdeal Cert.ProjIdeal.Gen

theorem pay3_eq (x : FVec Ideal S1x256x1024 .f32) (sc sh : FVec Ideal S1x1x1024 .f32) (w : FVec Ideal S1024x1792 .bf16) (j : S1x256x1792.Idx) :
    k0_pay3 (F := Ideal) x sc sh w j = ∑ k : Fin 1024, (x (ix3 0 (j 1) k) * (1 + sc (ix3 0 0 k)) + sh (ix3 0 0 k)) * w (ix2 k (j 2)) := by
  idx_vars j
  pointwise [k0_pay2, k0_pay3]

theorem pay4_eq (x : FVec Ideal S1x256x1024 .f32) (sc sh : FVec Ideal S1x1x1024 .f32) (w : FVec Ideal S1024x1024 .bf16) (j : S1x256x1024.Idx) :
    k0_pay4 (F := Ideal) x sc sh w j = ∑ k : Fin 1024, (x (ix3 0 (j 1) k) * (1 + sc (ix3 0 0 k)) + sh (ix3 0 0 k)) * w (ix2 k (j 2)) := by
  idx_vars j
  pointwise [k0_pay2, k0_pay4]

theorem pay5_eq (x : FVec Ideal S1x256x1024 .f32) (sc sh : FVec Ideal S1x1x1024 .f32) (w : FVec Ideal S1024x512 .bf16) (j : S1x256x512.Idx) :
    k0_pay1 (F := Ideal) (k0_pay5 (F := Ideal) x sc sh w) j = ∑ k : Fin 1024, (x (ix3 0 (j 1) k) * (1 + sc (ix3 0 0 k)) + sh (ix3 0 0 k)) * w (ix2 k (j 2)) := by
  idx_vars j
  pointwise [k0_pay1, k0_pay2, k0_pay5]

theorem index_maps : ∀ t : Fin grid0.N, win0_0.index t = ![3, 8 + t.val, 0] ∧ win0_1.index t = ![0, 0, 0] ∧ win0_2.index t = ![0, 0, 0]
     ∧ win0_3.index t = ![0, 0] ∧ win0_4.index t = ![0, 0] ∧ win0_5.index t = ![0, 0]
     ∧ win0_6.index t = ![0, t.val, 0] ∧ win0_7.index t = ![0, t.val, 0] ∧ win0_8.index t = ![0, t.val, 0] := by decide +kernel

variable (m : (ℓ : Loc nD τ sig) → Buf (Elt Ideal) ℓ) (c : Dev nD)

abbrev ax : FVec Ideal S8x4096x1024 .f32 := m ((c.tc : Thread nD τ).loc main_arg0)
abbrev asc : FVec Ideal S1x1024 .f32 := m ((c.tc : Thread nD τ).loc main_arg1)
abbrev ash : FVec Ideal S1x1024 .f32 := m ((c.tc : Thread nD τ).loc main_arg2)
abbrev aw : FVec Ideal S1024x5316 .f32 := m ((c.tc : Thread nD τ).loc main_arg3)

theorem zero3 : (![0, 0, 0] : Fin 3 → Nat) = fun _ => 0 := funext fun a => by fin_cases a <;> rfl
theorem zero2 : (![0, 0] : Fin 2 → Nat) = fun _ => 0 := funext fun a => by fin_cases a <;> rfl

abbrev B0 (t : Fin cfg0.N) : FVec Ideal S1x256x1024 .f32 := iblk m c 0 t
abbrev B1 (t : Fin cfg0.N) : FVec Ideal S1x1x1024 .f32 := iblk m c 1 t
abbrev B2 (t : Fin cfg0.N) : FVec Ideal S1x1x1024 .f32 := iblk m c 2 t
abbrev B3 (t : Fin cfg0.N) : FVec Ideal S1024x1792 .bf16 := iblk m c 3 t
abbrev B4 (t : Fin cfg0.N) : FVec Ideal S1024x1024 .bf16 := iblk m c 4 t
abbrev B5 (t : Fin cfg0.N) : FVec Ideal S1024x512 .bf16 := iblk m c 5 t

theorem b0_read (t : Fin cfg0.N) (ht : t.val < 8) (r : Fin 256) (k : Fin 1024) :
    B0 m c t (ix3 0 r k) = ax m c (ix3 3 ⟨2048 + (256 * t.val + r.val), by omega⟩ k) := by
  obtain ⟨h0, -⟩ := index_maps t
  blk_ext! [iblk, V, h0]

theorem b1_read (t : Fin cfg0.N) (k : Fin 1024) : B1 m c t (ix3 0 0 k) = asc m c (ix2 0 k) := by
  obtain ⟨-, h1, -⟩ := index_maps t
  blk_ext! [iblk, V, h1]

theorem b2_read (t : Fin cfg0.N) (k : Fin 1024) : B2 m c t (ix3 0 0 k) = ash m c (ix2 0 k) := by
  obtain ⟨-, -, h2, -⟩ := index_maps t
  blk_ext! [iblk, V, h2]

/-- The modulated row read from the blocks of point `t`. -/
theorem row_blk (t : Fin cfg0.N) (ht : t.val < 8) (r : Fin 256) (k : Fin 1024) :
    B0 m c t (ix3 0 r k) * (1 + B1 m c t (ix3 0 0 k)) + B2 m c t (ix3 0 0 k)
      = hrow (fun s k => ax m c (ix3 3 ⟨2048 + s.val, by omega⟩ k)) (fun k => asc m c (ix2 0 k)) (fun k => ash m c (ix2 0 k))
          ⟨256 * t.val + r.val, by omega⟩ k := by
  rw [b0_read m c t ht, b1_read, b2_read]
  rfl

/-- Column `j` of the first weight operand. -/
theorem w3_blk (t : Fin cfg0.N) (k : Fin 1024) (j : Fin 1792) : B3 m c t (ix2 k j) = aw m c (ix2 k ⟨j.val, by omega⟩) := by
  obtain ⟨-, -, -, h3, -⟩ := index_maps t
  blk_ext! [iblk, V, h3]

/-- Column `j` of the second weight operand. -/
theorem w4_blk (t : Fin cfg0.N) (k : Fin 1024) (j : Fin 1024) : B4 m c t (ix2 k j) = aw m c (ix2 k ⟨1792 + j.val, by omega⟩) := by
  obtain ⟨-, -, -, -, h4, -⟩ := index_maps t
  blk_ext! [iblk, V, h4]

/-- Column `j` of the third weight operand: a column of the input weight, or zero. -/
theorem w5_blk (t : Fin cfg0.N) (k : Fin 1024) (j : Fin 512) : B5 m c t (ix2 k j) = match smallCol j with
    | some j => aw m c (ix2 k j)
    | none => 0 := by
  obtain ⟨-, -, -, -, -, h5, -⟩ := index_maps t
  have e : B5 m c t (ix2 k j) = (V m c main_v12 : FVec Ideal S1024x512 .bf16) (ix2 k j) := by
    blk_ext [iblk, h5]
  rw [e]
  clear e
  unfold V
  after_reads_at
  unfold smallCol
  by_cases h1 : j.val < 256
  · simp only [dif_pos h1]
    after_reads_at
  · simp only [dif_neg h1]
    by_cases h2 : j.val - 256 < 128
    · simp only [dif_pos h2]
      after_reads_at
    · simp only [dif_neg h2]
      by_cases h3 : j.val - 256 - 128 < 64
      · simp only [dif_pos h3]
        after_reads_at
      · simp only [dif_neg h3]
        by_cases h4 : j.val - 256 - 128 - 64 < 4
        · simp only [dif_pos h4]
          after_reads_at
        · simp only [dif_neg h4]
          after_reads_at

theorem flushed6 (t : Fin cfg0.N) :
    (dats m 0 c).flushed 6 t = ((cfg0.win 6).blk t).view.read (Elt Ideal) (G6 (ax m c) (asc m c) (ash m c) (aw m c)) := by
  rw [Value.flushed6]
  unfold out0_6
  rw [View.canon_unit_zero zero3, View.ld_unit_zero zero3, View.ld_unit_zero zero3, View.ld_unit_zero zero3, View.ld_unit_zero zero2]
  funext j
  show k0_pay3 (F := Ideal) (iblk m c 0 t) (iblk m c 1 t) (iblk m c 2 t) (iblk m c 3 t) j = G6 (ax m c) (asc m c) (ash m c) (aw m c) (((cfg0.win 6).blk t).view.emb j)
  refine (pay3_eq ..).trans ?_
  obtain ⟨-, -, -, -, -, -, h6, -⟩ := index_maps t
  have ht : t.val < 8 := lt_of_lt_of_eq t.isLt N_0
  idx_vars j
  have he : ((cfg0.win 6).blk t).view.emb (ix3 j0 j1 j2) = ix3 (0 : Fin 1) (⟨256 * t.val + j1.val, by omega⟩ : Fin 2048) j2 := by
    blk_ext [h6]
  rw [he]
  exact Finset.sum_congr rfl fun k _ => congrArg₂ (· * ·) (row_blk m c t ht j1 k) (w3_blk m c t k j2)

theorem flushed7 (t : Fin cfg0.N) :
    (dats m 0 c).flushed 7 t = ((cfg0.win 7).blk t).view.read (Elt Ideal) (G7 (ax m c) (asc m c) (ash m c) (aw m c)) := by
  rw [Value.flushed7]
  unfold out0_7
  rw [View.canon_unit_zero zero3, View.ld_unit_zero zero3, View.ld_unit_zero zero3, View.ld_unit_zero zero3, View.ld_unit_zero zero2]
  funext j
  show k0_pay4 (F := Ideal) (iblk m c 0 t) (iblk m c 1 t) (iblk m c 2 t) (iblk m c 4 t) j = G7 (ax m c) (asc m c) (ash m c) (aw m c) (((cfg0.win 7).blk t).view.emb j)
  refine (pay4_eq ..).trans ?_
  obtain ⟨-, -, -, -, -, -, -, h7, -⟩ := index_maps t
  have ht : t.val < 8 := lt_of_lt_of_eq t.isLt N_0
  idx_vars j
  have he : ((cfg0.win 7).blk t).view.emb (ix3 j0 j1 j2) = ix3 (0 : Fin 1) (⟨256 * t.val + j1.val, by omega⟩ : Fin 2048) j2 := by
    blk_ext [h7]
  rw [he]
  exact Finset.sum_congr rfl fun k _ => congrArg₂ (· * ·) (row_blk m c t ht j1 k) (w4_blk m c t k j2)

theorem flushed8 (t : Fin cfg0.N) :
    (dats m 0 c).flushed 8 t = ((cfg0.win 8).blk t).view.read (Elt Ideal) (G8 (ax m c) (asc m c) (ash m c) (aw m c)) := by
  rw [Value.flushed8]
  unfold out0_8
  rw [View.canon_unit_zero zero3, View.ld_unit_zero zero3, View.ld_unit_zero zero3, View.ld_unit_zero zero3, View.ld_unit_zero zero2]
  funext j
  show k0_pay1 (F := Ideal) (k0_pay5 (F := Ideal) (iblk m c 0 t) (iblk m c 1 t) (iblk m c 2 t) (iblk m c 5 t)) j = G8 (ax m c) (asc m c) (ash m c) (aw m c) (((cfg0.win 8).blk t).view.emb j)
  refine (pay5_eq ..).trans ?_
  obtain ⟨-, -, -, -, -, -, -, -, h8⟩ := index_maps t
  have ht : t.val < 8 := lt_of_lt_of_eq t.isLt N_0
  idx_vars j
  have he : ((cfg0.win 8).blk t).view.emb (ix3 j0 j1 j2) = ix3 (0 : Fin 1) (⟨256 * t.val + j1.val, by omega⟩ : Fin 2048) j2 := by
    blk_ext [h8]
  rw [he]
  refine (Finset.sum_congr rfl fun k _ => congrArg₂ (· * ·) (row_blk m c t ht j1 k) (w5_blk m c t k j2)).trans ?_
  show _ = match smallCol j2 with
    | some j => _
    | none => _
  cases smallCol j2 with
  | some j => rfl
  | none => exact Finset.sum_eq_zero fun k _ => mul_zero _

/-- The indices of the block of result main_v15_0 that grid point `t` writes. -/
theorem mem_blk6 (t : Fin cfg0.N) (i : S1x2048x1792.Idx) :
    i ∈ ((cfg0.win 6).blk t).view.set ↔ t.val * 256 ≤ (i 1 : Nat) ∧ (i 1 : Nat) < t.val * 256 + 256 := by
  show i ∈ ((View.whole main_v15_0).slice (win0_6.rect t)).set ↔ _
  rw [View.set_slice_whole, Rect.mem_set_unit]
  have b0 : (i 0 : Nat) < 1 := (i 0).isLt
  have b2 : (i 2 : Nat) < 1792 := (i 2).isLt
  have e : ∀ t : Fin grid0.N, (win0_6.index t 0 * win0_6.size 0 = 0 ∧ win0_6.xsize (grid0.coords t) 0 = 1)
      ∧ (win0_6.index t 1 * win0_6.size 1 = t.val * 256 ∧ win0_6.xsize (grid0.coords t) 1 = 256)
      ∧ (win0_6.index t 2 * win0_6.size 2 = 0 ∧ win0_6.xsize (grid0.coords t) 2 = 1792) := by decide +kernel
  obtain ⟨⟨e0, f0⟩, ⟨e1, f1⟩, e2, f2⟩ := e t
  refine ⟨fun h => ?_, fun h a => ?_⟩
  · have : win0_6.index t 1 * win0_6.size 1 ≤ (i 1 : Nat) ∧ (i 1 : Nat) < win0_6.index t 1 * win0_6.size 1 + win0_6.xsize (grid0.coords t) 1 := h 1
    rw [e1, f1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e0, f0]; omega
    | ⟨1, _⟩ => show win0_6.index t 1 * win0_6.size 1 ≤ (i 1 : Nat) ∧ (i 1 : Nat) < win0_6.index t 1 * win0_6.size 1 + win0_6.xsize (grid0.coords t) 1
                rw [e1, f1]; exact h
    | ⟨2, _⟩ => show win0_6.index t 2 * win0_6.size 2 ≤ (i 2 : Nat) ∧ (i 2 : Nat) < win0_6.index t 2 * win0_6.size 2 + win0_6.xsize (grid0.coords t) 2
                rw [e2, f2]; omega

/-- Those blocks fill the array. -/
theorem cover6 (i : S1x2048x1792.Idx) :
    ∃ t : Fin cfg0.N, (cfg0.win 6).flush t = true ∧ i ∈ ((cfg0.win 6).blk t).view.set := by
  have h1 : (i 1 : Nat) < 2048 := (i 1).isLt
  refine ⟨⟨(i 1 : Nat) / 256, by show _ < grid0.N; rw [N_0]; omega⟩, flush0_6 _, ?_⟩
  rw [mem_blk6]
  dsimp only
  omega

/-- The indices of the block of result main_v15_1 that grid point `t` writes. -/
theorem mem_blk7 (t : Fin cfg0.N) (i : S1x2048x1024.Idx) :
    i ∈ ((cfg0.win 7).blk t).view.set ↔ t.val * 256 ≤ (i 1 : Nat) ∧ (i 1 : Nat) < t.val * 256 + 256 := by
  show i ∈ ((View.whole main_v15_1).slice (win0_7.rect t)).set ↔ _
  rw [View.set_slice_whole, Rect.mem_set_unit]
  have b0 : (i 0 : Nat) < 1 := (i 0).isLt
  have b2 : (i 2 : Nat) < 1024 := (i 2).isLt
  have e : ∀ t : Fin grid0.N, (win0_7.index t 0 * win0_7.size 0 = 0 ∧ win0_7.xsize (grid0.coords t) 0 = 1)
      ∧ (win0_7.index t 1 * win0_7.size 1 = t.val * 256 ∧ win0_7.xsize (grid0.coords t) 1 = 256)
      ∧ (win0_7.index t 2 * win0_7.size 2 = 0 ∧ win0_7.xsize (grid0.coords t) 2 = 1024) := by decide +kernel
  obtain ⟨⟨e0, f0⟩, ⟨e1, f1⟩, e2, f2⟩ := e t
  refine ⟨fun h => ?_, fun h a => ?_⟩
  · have : win0_7.index t 1 * win0_7.size 1 ≤ (i 1 : Nat) ∧ (i 1 : Nat) < win0_7.index t 1 * win0_7.size 1 + win0_7.xsize (grid0.coords t) 1 := h 1
    rw [e1, f1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e0, f0]; omega
    | ⟨1, _⟩ => show win0_7.index t 1 * win0_7.size 1 ≤ (i 1 : Nat) ∧ (i 1 : Nat) < win0_7.index t 1 * win0_7.size 1 + win0_7.xsize (grid0.coords t) 1
                rw [e1, f1]; exact h
    | ⟨2, _⟩ => show win0_7.index t 2 * win0_7.size 2 ≤ (i 2 : Nat) ∧ (i 2 : Nat) < win0_7.index t 2 * win0_7.size 2 + win0_7.xsize (grid0.coords t) 2
                rw [e2, f2]; omega

/-- Those blocks fill the array. -/
theorem cover7 (i : S1x2048x1024.Idx) :
    ∃ t : Fin cfg0.N, (cfg0.win 7).flush t = true ∧ i ∈ ((cfg0.win 7).blk t).view.set := by
  have h1 : (i 1 : Nat) < 2048 := (i 1).isLt
  refine ⟨⟨(i 1 : Nat) / 256, by show _ < grid0.N; rw [N_0]; omega⟩, flush0_7 _, ?_⟩
  rw [mem_blk7]
  dsimp only
  omega

/-- The indices of the block of result main_v15_2 that grid point `t` writes. -/
theorem mem_blk8 (t : Fin cfg0.N) (i : S1x2048x512.Idx) :
    i ∈ ((cfg0.win 8).blk t).view.set ↔ t.val * 256 ≤ (i 1 : Nat) ∧ (i 1 : Nat) < t.val * 256 + 256 := by
  show i ∈ ((View.whole main_v15_2).slice (win0_8.rect t)).set ↔ _
  rw [View.set_slice_whole, Rect.mem_set_unit]
  have b0 : (i 0 : Nat) < 1 := (i 0).isLt
  have b2 : (i 2 : Nat) < 512 := (i 2).isLt
  have e : ∀ t : Fin grid0.N, (win0_8.index t 0 * win0_8.size 0 = 0 ∧ win0_8.xsize (grid0.coords t) 0 = 1)
      ∧ (win0_8.index t 1 * win0_8.size 1 = t.val * 256 ∧ win0_8.xsize (grid0.coords t) 1 = 256)
      ∧ (win0_8.index t 2 * win0_8.size 2 = 0 ∧ win0_8.xsize (grid0.coords t) 2 = 512) := by decide +kernel
  obtain ⟨⟨e0, f0⟩, ⟨e1, f1⟩, e2, f2⟩ := e t
  refine ⟨fun h => ?_, fun h a => ?_⟩
  · have : win0_8.index t 1 * win0_8.size 1 ≤ (i 1 : Nat) ∧ (i 1 : Nat) < win0_8.index t 1 * win0_8.size 1 + win0_8.xsize (grid0.coords t) 1 := h 1
    rw [e1, f1] at this; exact this
  · match a with
    | ⟨0, _⟩ => show win0_8.index t 0 * win0_8.size 0 ≤ (i 0 : Nat) ∧ (i 0 : Nat) < win0_8.index t 0 * win0_8.size 0 + win0_8.xsize (grid0.coords t) 0
                rw [e0, f0]; omega
    | ⟨1, _⟩ => show win0_8.index t 1 * win0_8.size 1 ≤ (i 1 : Nat) ∧ (i 1 : Nat) < win0_8.index t 1 * win0_8.size 1 + win0_8.xsize (grid0.coords t) 1
                rw [e1, f1]; exact h
    | ⟨2, _⟩ => show win0_8.index t 2 * win0_8.size 2 ≤ (i 2 : Nat) ∧ (i 2 : Nat) < win0_8.index t 2 * win0_8.size 2 + win0_8.xsize (grid0.coords t) 2
                rw [e2, f2]; omega

/-- Those blocks fill the array. -/
theorem cover8 (i : S1x2048x512.Idx) :
    ∃ t : Fin cfg0.N, (cfg0.win 8).flush t = true ∧ i ∈ ((cfg0.win 8).blk t).view.set := by
  have h1 : (i 1 : Nat) < 2048 := (i 1).isLt
  refine ⟨⟨(i 1 : Nat) / 256, by show _ < grid0.N; rw [N_0]; omega⟩, flush0_8 _, ?_⟩
  rw [mem_blk8]
  dsimp only
  omega

end Kernel

section Reference
open Cert.ProjRefIdeal

variable (m : (ℓ : Loc nD τ sig) → Buf (Elt Ideal) ℓ) (ρ : Dev nD → PrngReg)

abbrev rx (c : Dev nD) : FVec Ideal S8x4096x1024 .f32 := m ((c.tc : Thread nD τ).loc main_arg0)
abbrev rsc (c : Dev nD) : FVec Ideal S1x1024 .f32 := m ((c.tc : Thread nD τ).loc main_arg1)
abbrev rsh (c : Dev nD) : FVec Ideal S1x1024 .f32 := m ((c.tc : Thread nD τ).loc main_arg2)
abbrev rw_ (c : Dev nD) : FVec Ideal S1024x5316 .f32 := m ((c.tc : Thread nD τ).loc main_arg3)

theorem ref_run : θ_run defs (onTc (τ := τ) (main (F := Ideal))) ⟨m, fun _ => 0, ρ⟩ fun r => ∀ c : Dev nD,
      (r.2.mem ((c.tc : Thread nD τ).loc main_v10) = G6 (rx m c) (rsc m c) (rsh m c) (rw_ m c)
      ∧ r.2.mem ((c.tc : Thread nD τ).loc main_v19) = G7 (rx m c) (rsc m c) (rsh m c) (rw_ m c)
      ∧ r.2.mem ((c.tc : Thread nD τ).loc main_v20) = G8 (rx m c) (rsc m c) (rsh m c) (rw_ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ⟨⟨(h c).1.trans ?_, (h c).2.1.trans ?_, (h c).2.2.1.trans ?_⟩, (h c).2.2.2⟩) (Value.run m ρ)
  · funext j
    idx_vars j
    pointwise [G6, zA, z, hrow]
  · funext j
    idx_vars j
    pointwise [G7, zA, z, hrow]
  · funext j
    idx_vars j
    pointwise [G8, zA, z, hrow]
    unfold smallCol
    split_ifs <;> rfl

end Reference

section Claim
open Cert.ProjIdeal Cert.ProjIdeal.Gen

/-- The projections and their reference end with the same three arrays. -/
theorem algebraic : Cert.algebraic_ProjIdeal_ProjRefIdeal := fun m ρ m' ρ' _ hag =>
  ⟨fun c => G6 (ax m c) (asc m c) (ash m c) (aw m c), fun c => G7 (ax m c) (asc m c) (ash m c) (aw m c), fun c => G8 (ax m c) (asc m c) (ash m c) (aw m c),
    (θ_run _ _ _).mono (fun _ h c => ⟨(h c).1.trans ((dats m 0 c).arrAt_eq_of_cover 6 _ (fun t _ => flushed6 m c t) cover6),
      (h c).2.1.trans ((dats m 0 c).arrAt_eq_of_cover 7 _ (fun t _ => flushed7 m c t) cover7),
      (h c).2.2.1.trans ((dats m 0 c).arrAt_eq_of_cover 8 _ (fun t _ => flushed8 m c t) cover8), (h c).2.2.2⟩) (ProjIdeal.Value.run_blocks m ρ),
    (θ_run _ _ _).mono (fun _ h c => by
      obtain ⟨h0, h1, h2, h3⟩ := hag c
      obtain ⟨⟨e0, e1, e2⟩, r⟩ := h c
      simp only [rx, rsc, rsh, rw_, h0, h1, h2, h3] at e0 e1 e2
      exact ⟨e0, e1, e2, r⟩) (ref_run m' ρ')⟩

end Claim

end Cert.ProjProof
-- ==== Proof.Final.lean ====
module

public import proofs.«01_k».proof.Proof.Gen.FinalIdeal.Value
public import proofs.«01_k».proof.Proof.Gen.FinalRefIdeal.Run
public import proofs.«01_k».proof.Defs
public import proofs.«01_k».proof.Proof.RowNorm
public import Idealize.ShloMosaic.Lib.Pointwise
public import Idealize.ShloMosaic.Lib.Pipeline.ValueKit

@[expose] public section

set_option maxRecDepth 16384

noncomputable section

namespace Cert.FinalProof

open Idealize.ShloMosaic Idealize.ShloMosaic.TcCoe Idealize.SL.Sem
open Idealize.ShloMosaic.Pipeline (Dat)
open Cert.RowNorm

/-- The row that the last norm reads at token `t`: the scaled residual plus the gated update. -/
def row (x : Fin 2048 → Fin 1024 → EReal) (gt : Fin 1024 → EReal) (y : Fin 2048 → Fin 1024 → EReal) (t : Fin 2048) (k : Fin 1024) : EReal :=
  Ideal.ofBits .f32 0x3F9837F0#32 * x t k + gt k * y t k

/-- The layer's result at an index, from its five intermediate arrays. -/
def G (x : FVec Ideal FinalIdeal.S1x2048x1024 .f32) (gt : FVec Ideal FinalIdeal.S1x1024 .f32)
    (y : FVec Ideal FinalIdeal.S1x2048x1024 .f32) (g b : FVec Ideal FinalIdeal.S1024 .f32) : FVec Ideal FinalIdeal.S1x2048x1024 .f32 :=
  fun i => layerNorm (row (fun t k => x (ix3 0 t k)) (fun k => gt (ix2 0 k)) (fun t k => y (ix3 0 t k)) (i 1)) (fun k => g (ix1 k)) (fun k => b (ix1 k)) (i 2)

section Reference
open Cert.FinalRefIdeal

theorem ref_eq (m : (ℓ : Loc nD τ sig) → Buf (Elt Ideal) ℓ) (c : Dev nD) :
    Value.res_out0 m c = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  funext j
  idx_vars j
  unfold Value.res_out0 Value.res_main_v29
  pointwise [G, layerNorm, normalised, mean, variance, row]
  obtain rfl : j0 = 0 := Subsingleton.elim _ _
  rfl

end Reference

section Kernel
open Cert.FinalIdeal Cert.FinalIdeal.Gen

theorem pay_eq (x : FVec Ideal S1x256x1024 .f32) (gt : FVec Ideal S1x1x1024 .f32) (y : FVec Ideal S1x256x1024 .f32) (g b : FVec Ideal S1x1024 .f32) (j : S1x256x1024.Idx) :
    k0_pay1 (F := Ideal) (k0_pay2 x gt y g b) j = layerNorm (fun k => Ideal.ofBits .f32 0x3F9837F0#32 * x (ix3 0 (j 1) k) + gt (ix3 0 0 k) * y (ix3 0 (j 1) k))
      (fun k => g (ix2 0 k)) (fun k => b (ix2 0 k)) (j 2) := by
  idx_vars j
  pointwise [k0_pay1, k0_pay2, layerNorm, normalised, mean, variance]

theorem index_maps : ∀ t : Fin grid0.N, win0_0.index t = ![0, t.val, 0] ∧ win0_1.index t = ![0, 0, 0] ∧ win0_2.index t = ![0, t.val, 0]
     ∧ win0_3.index t = ![0, 0] ∧ win0_4.index t = ![0, 0] ∧ win0_5.index t = ![0, t.val, 0] := by decide +kernel

/-- The argument arrays' result. -/
abbrev Gm (m : (ℓ : Loc nD τ sig) → Buf (Elt Ideal) ℓ) (c : Dev nD) : FVec Ideal S1x2048x1024 .f32 :=
  G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))

theorem zero3 : (![0, 0, 0] : Fin 3 → Nat) = fun _ => 0 := funext fun a => by fin_cases a <;> rfl
theorem zero2 : (![0, 0] : Fin 2 → Nat) = fun _ => 0 := funext fun a => by fin_cases a <;> rfl

theorem flushed_eq (m : (ℓ : Loc nD τ sig) → Buf (Elt Ideal) ℓ) (c : Dev nD) (t : Fin cfg0.N) :
    (dats m 0 c).flushed 5 t = ((cfg0.win 5).blk t).view.read (Elt Ideal) (Gm m c) := by
  rw [Value.flushed5]
  unfold out0_5
  rw [View.canon_unit_zero zero3, View.ld_unit_zero zero3, View.ld_unit_zero zero3, View.ld_unit_zero zero3, View.ld_unit_zero zero2, View.ld_unit_zero zero2]
  funext j
  show k0_pay1 (F := Ideal) (k0_pay2 (iblk m c 0 t) (iblk m c 1 t) (iblk m c 2 t) (iblk m c 3 t) (iblk m c 4 t)) j = Gm m c (((cfg0.win 5).blk t).view.emb j)
  refine (pay_eq ..).trans ?_
  obtain ⟨h0, h1, h2, h3, h4, h5⟩ := index_maps t
  have ht : t.val < 8 := lt_of_lt_of_eq t.isLt N_0
  idx_vars j
  have he : ((cfg0.win 5).blk t).view.emb (ix3 j0 j1 j2) = ix3 (0 : Fin 1) (⟨256 * t.val + j1.val, by omega⟩ : Fin 2048) j2 := by
    blk_ext [h5]
  rw [he]
  simp only [Gm, G, layerNorm, normalised, mean, variance, row]
  blk_point [iblk, V, h0, h1, h2, h3, h4]

theorem mem_blk (t : Fin cfg0.N) (i : S1x2048x1024.Idx) :
    i ∈ ((cfg0.win 5).blk t).view.set ↔ t.val * 256 ≤ (i 1 : Nat) ∧ (i 1 : Nat) < t.val * 256 + 256 := by
  show i ∈ ((View.whole main_v3).slice (win0_5.rect t)).set ↔ _
  rw [View.set_slice_whole, Rect.mem_set_unit]
  have b0 : (i 0 : Nat) < 1 := (i 0).isLt
  have b2 : (i 2 : Nat) < 1024 := (i 2).isLt
  have e : ∀ t : Fin grid0.N, (win0_5.index t 0 * win0_5.size 0 = 0 ∧ win0_5.xsize (grid0.coords t) 0 = 1)
      ∧ (win0_5.index t 1 * win0_5.size 1 = t.val * 256 ∧ win0_5.xsize (grid0.coords t) 1 = 256)
      ∧ (win0_5.index t 2 * win0_5.size 2 = 0 ∧ win0_5.xsize (grid0.coords t) 2 = 1024) := by decide +kernel
  obtain ⟨⟨e0, f0⟩, ⟨e1, f1⟩, e2, f2⟩ := e t
  refine ⟨fun h => ?_, fun h a => ?_⟩
  · have : win0_5.index t 1 * win0_5.size 1 ≤ (i 1 : Nat) ∧ (i 1 : Nat) < win0_5.index t 1 * win0_5.size 1 + win0_5.xsize (grid0.coords t) 1 := h 1
    rw [e1, f1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e0, f0]; omega
    | ⟨1, _⟩ => show win0_5.index t 1 * win0_5.size 1 ≤ (i 1 : Nat) ∧ (i 1 : Nat) < win0_5.index t 1 * win0_5.size 1 + win0_5.xsize (grid0.coords t) 1
                rw [e1, f1]; exact h
    | ⟨2, _⟩ => show win0_5.index t 2 * win0_5.size 2 ≤ (i 2 : Nat) ∧ (i 2 : Nat) < win0_5.index t 2 * win0_5.size 2 + win0_5.xsize (grid0.coords t) 2
                rw [e2, f2]; omega

theorem cover (i : S1x2048x1024.Idx) :
    ∃ t : Fin cfg0.N, (cfg0.win 5).flush t = true ∧ i ∈ ((cfg0.win 5).blk t).view.set := by
  have h1 : (i 1 : Nat) < 2048 := (i 1).isLt
  refine ⟨⟨(i 1 : Nat) / 256, by show _ < grid0.N; rw [N_0]; omega⟩, flush0_5 _, ?_⟩
  rw [mem_blk]
  dsimp only
  omega

/-- The kernel's result array is the specification of the argument arrays. -/
theorem final (m : (ℓ : Loc nD τ sig) → Buf (Elt Ideal) ℓ) (c : Dev nD) : (dats m 0 c).arrAt 5 cfg0.N = Gm m c :=
  (dats m 0 c).arrAt_eq_of_cover 5 (Gm m c) (fun t _ => flushed_eq m c t) cover

end Kernel

/-- The last call and its reference end with the same array. -/
theorem algebraic : Cert.algebraic_FinalIdeal_FinalRefIdeal := fun m ρ m' ρ' _ hag =>
  ⟨fun c => Gm m c,
    (θ_run _ _ _).mono (fun _ h c => ⟨(h c).1.trans (final m c), (h c).2⟩) (FinalIdeal.Value.run_blocks m ρ),
    (θ_run _ _ _).mono (fun _ h c => ⟨(h c).1.trans (by
      obtain ⟨h0, h1, h2, h3, h4⟩ := hag c
      refine (ref_eq m' c).trans ?_
      rw [h0, h1, h2, h3, h4]), (h c).2⟩) (FinalRefIdeal.Value.run m' ρ')⟩

end Cert.FinalProof
-- ==== Proof.Prep.lean ====
module

public import proofs.«01_k».proof.Proof.Gen.PrepIdeal.Frame
public import proofs.«01_k».proof.Proof.Gen.PrepRefIdeal.Run
public import proofs.«01_k».proof.Defs
public import proofs.«01_k».proof.Proof.RowNorm
public import Idealize.ShloMosaic.Lib.Pointwise
public import Idealize.ShloMosaic.Lib.Pipeline.ValueKit
public import Idealize.ShloMosaic.Lib.StableHlo.ReadAt

@[expose] public section

set_option maxRecDepth 16384

noncomputable section

namespace Cert.PrepProof

open Idealize.ShloMosaic Idealize.ShloMosaic.TcCoe Idealize.SL.Sem
open Idealize.ShloMosaic.Pipeline (Dat)
open Cert.RowNorm

/-- The root-mean-square norm of a row of 128, with gain `g`. -/
def rms (z g : Fin 128 → EReal) (j : Fin 128) : EReal :=
  z j * Ideal.rsqrt (Ideal.div (∑ k : Fin 128, z k * z k) (Ideal.ofBits .f32 0x43000000#32) + Ideal.ofBits .f32 0x3727C5AC#32) * g j

/-- The mean of a row of 64. -/
def mean64 (z : Fin 64 → EReal) : EReal := Ideal.div (∑ k : Fin 64, z k) (Ideal.ofBits .f32 0x42800000#32)

/-- The layer norm of a row of 64, with gain `g` and bias `b`. -/
def norm64 (z g b : Fin 64 → EReal) (j : Fin 64) : EReal :=
  (z j - mean64 z) * Ideal.rsqrt (mean64 (fun k => (z k - mean64 z) * (z k - mean64 z)) + Ideal.ofBits .f32 0x3727C5AC#32) * g j + b j

section Spec
open Cert.PrepIdeal

variable (z : FVec Ideal S1x2048x512 .f32)

def G4 : FVec Ideal S1x2048x256 .bf16 := fun i => z (ix3 0 (i 1) ⟨(i 2).val, by have h : (i 2).val < 256 := (i 2).isLt; omega⟩)
def G5 (g : FVec Ideal S128 .f32) : FVec Ideal S1x2048x128 .bf16 := fun i =>
  rms (fun k => z (ix3 0 (i 1) ⟨256 + k.val, by omega⟩)) (fun k => g (ix1 k)) (i 2)
def G6 (g b : FVec Ideal S64 .f32) : FVec Ideal S1x2048x64 .bf16 := fun i =>
  norm64 (fun k => z (ix3 0 (i 1) ⟨384 + k.val, by omega⟩)) (fun k => g (ix1 k)) (fun k => b (ix1 k)) (i 2)

end Spec

section Kernel
open Cert.PrepIdeal Cert.PrepIdeal.Gen

theorem pay3_eq (z : FVec Ideal S1x512x512 .f32) (j0 : Fin 1) (r : Fin 512) (j : Fin 256) : k0_pay3 (F := Ideal) z (ix3 j0 r j) = z (ix3 0 r ⟨j.val, by omega⟩) := by
  pointwise [k0_pay2, k0_pay3]

theorem pay4_eq (z : FVec Ideal S1x512x512 .f32) (g : FVec Ideal S1x128 .f32) (j0 : Fin 1) (r : Fin 512) (j : Fin 128) :
    k0_pay4 (F := Ideal) z g (ix3 j0 r j) = rms (fun k => z (ix3 0 r ⟨256 + k.val, by omega⟩)) (fun k => g (ix2 0 k)) j := by
  pointwise [k0_pay2, k0_pay4, rms]

theorem pay1_eq (z : FVec Ideal S1x512x512 .f32) (g b : FVec Ideal S1x64 .f32) (j0 : Fin 1) (r : Fin 512) (j : Fin 64) :
    k0_pay1 (F := Ideal) (k0_pay5 z) (k0_pay6 z) (k0_pay7 z) g b (ix3 j0 r j)
      = norm64 (fun k => z (ix3 0 r ⟨384 + k.val, by omega⟩)) (fun k => g (ix2 0 k)) (fun k => b (ix2 0 k)) j := by
  pointwise [k0_pay1, k0_pay2, k0_pay5, k0_pay6, k0_pay7, norm64, mean64]

theorem zero3 : (![0, 0, 0] : Fin 3 → Nat) = fun _ => 0 := funext fun a => by fin_cases a <;> rfl
theorem zero2 : (![0, 0] : Fin 2 → Nat) = fun _ => 0 := funext fun a => by fin_cases a <;> rfl

theorem index_maps : ∀ t : Fin grid0.N, win0_0.index t = ![0, t.val, 0] ∧ win0_1.index t = ![0, 0] ∧ win0_2.index t = ![0, 0] ∧ win0_3.index t = ![0, 0]
    ∧ win0_4.index t = ![0, t.val, 0] ∧ win0_5.index t = ![0, t.val, 0] ∧ win0_6.index t = ![0, t.val, 0] := by decide +kernel

variable (m : (ℓ : Loc nD τ sig) → Buf (Elt Ideal) ℓ) (c : Dev nD)

abbrev az : FVec Ideal S1x2048x512 .f32 := m ((c.tc : Thread nD τ).loc main_arg0)
abbrev akv : FVec Ideal S128 .f32 := m ((c.tc : Thread nD τ).loc main_arg1)
abbrev akg : FVec Ideal S64 .f32 := m ((c.tc : Thread nD τ).loc main_arg2)
abbrev akb : FVec Ideal S64 .f32 := m ((c.tc : Thread nD τ).loc main_arg3)
abbrev B0 (t : Fin cfg0.N) : FVec Ideal S1x512x512 .f32 := iblk m c 0 t
abbrev B1 (t : Fin cfg0.N) : FVec Ideal S1x128 .f32 := iblk m c 1 t
abbrev B2 (t : Fin cfg0.N) : FVec Ideal S1x64 .f32 := iblk m c 2 t
abbrev B3 (t : Fin cfg0.N) : FVec Ideal S1x64 .f32 := iblk m c 3 t

theorem b0_read (t : Fin cfg0.N) (ht : t.val < 4) (r : Fin 512) (k : Fin 512) : B0 m c t (ix3 0 r k) = az m c (ix3 0 ⟨512 * t.val + r.val, by omega⟩ k) := by
  obtain ⟨h0, -⟩ := index_maps t
  blk_ext! [iblk, V, h0]

theorem b1_read (t : Fin cfg0.N) (k : Fin 128) : B1 m c t (ix2 0 k) = akv m c (ix1 k) := by
  obtain ⟨-, h1, -⟩ := index_maps t
  blk_ext! [iblk, V, h1]

theorem b2_read (t : Fin cfg0.N) (k : Fin 64) : B2 m c t (ix2 0 k) = akg m c (ix1 k) := by
  obtain ⟨-, -, h2, -⟩ := index_maps t
  blk_ext! [iblk, V, h2]

theorem b3_read (t : Fin cfg0.N) (k : Fin 64) : B3 m c t (ix2 0 k) = akb m c (ix1 k) := by
  obtain ⟨-, -, -, h3, -⟩ := index_maps t
  blk_ext! [iblk, V, h3]

theorem flushed4 (t : Fin cfg0.N) : (dats m 0 c).flushed 4 t = ((cfg0.win 4).blk t).view.read (Elt Ideal) (G4 (az m c)) := by
  show (cfg0.win 4).cut (grid0.coords t) ((dats m 0 c).after 4 t) = _
  rw [after0_4]
  unfold out0_4
  rw [View.canon_unit_zero zero3, View.ld_unit_zero zero3]
  funext j
  show k0_pay3 (F := Ideal) (B0 m c t) j = G4 (az m c) (((cfg0.win 4).blk t).view.emb j)
  obtain ⟨-, -, -, -, h4, -⟩ := index_maps t
  have ht : t.val < 4 := lt_of_lt_of_eq t.isLt N_0
  idx_vars j
  have he : ((cfg0.win 4).blk t).view.emb (ix3 j0 j1 j2) = ix3 (0 : Fin 1) (⟨512 * t.val + j1.val, by omega⟩ : Fin 2048) j2 := by
    blk_ext [h4]
  rw [he]
  refine (pay3_eq ..).trans ?_
  rw [b0_read m c t ht]
  rfl

theorem flushed5 (t : Fin cfg0.N) : (dats m 0 c).flushed 5 t = ((cfg0.win 5).blk t).view.read (Elt Ideal) (G5 (az m c) (akv m c)) := by
  show (cfg0.win 5).cut (grid0.coords t) ((dats m 0 c).after 5 t) = _
  rw [after0_5]
  unfold out0_5
  rw [View.canon_unit_zero zero3, View.ld_unit_zero zero3, View.ld_unit_zero zero2]
  funext j
  show k0_pay4 (F := Ideal) (B0 m c t) (B1 m c t) j = G5 (az m c) (akv m c) (((cfg0.win 5).blk t).view.emb j)
  obtain ⟨-, -, -, -, -, h5, -⟩ := index_maps t
  have ht : t.val < 4 := lt_of_lt_of_eq t.isLt N_0
  idx_vars j
  have he : ((cfg0.win 5).blk t).view.emb (ix3 j0 j1 j2) = ix3 (0 : Fin 1) (⟨512 * t.val + j1.val, by omega⟩ : Fin 2048) j2 := by
    blk_ext [h5]
  rw [he]
  refine (pay4_eq ..).trans ?_
  rw [funext fun (k : Fin 128) => b0_read m c t ht j1 ⟨256 + k.val, by omega⟩, funext fun k => b1_read m c t k]
  rfl

theorem flushed6 (t : Fin cfg0.N) : (dats m 0 c).flushed 6 t = ((cfg0.win 6).blk t).view.read (Elt Ideal) (G6 (az m c) (akg m c) (akb m c)) := by
  show (cfg0.win 6).cut (grid0.coords t) ((dats m 0 c).after 6 t) = _
  rw [after0_6]
  unfold out0_6
  rw [View.canon_unit_zero zero3, View.ld_unit_zero zero3, View.ld_unit_zero zero2, View.ld_unit_zero zero2]
  funext j
  show k0_pay1 (F := Ideal) (k0_pay5 (B0 m c t)) (k0_pay6 (B0 m c t)) (k0_pay7 (B0 m c t)) (B2 m c t) (B3 m c t) j = G6 (az m c) (akg m c) (akb m c) (((cfg0.win 6).blk t).view.emb j)
  obtain ⟨-, -, -, -, -, -, h6⟩ := index_maps t
  have ht : t.val < 4 := lt_of_lt_of_eq t.isLt N_0
  idx_vars j
  have he : ((cfg0.win 6).blk t).view.emb (ix3 j0 j1 j2) = ix3 (0 : Fin 1) (⟨512 * t.val + j1.val, by omega⟩ : Fin 2048) j2 := by
    blk_ext [h6]
  rw [he]
  refine (pay1_eq ..).trans ?_
  rw [funext fun (k : Fin 64) => b0_read m c t ht j1 ⟨384 + k.val, by omega⟩, funext fun k => b2_read m c t k, funext fun k => b3_read m c t k]
  rfl

/-- The indices of the block of result main_v3_0 that grid point `t` writes. -/
theorem mem_blk4 (t : Fin cfg0.N) (i : S1x2048x256.Idx) :
    i ∈ ((cfg0.win 4).blk t).view.set ↔ t.val * 512 ≤ (i 1 : Nat) ∧ (i 1 : Nat) < t.val * 512 + 512 := by
  show i ∈ ((View.whole main_v3_0).slice (win0_4.rect t)).set ↔ _
  rw [View.set_slice_whole, Rect.mem_set_unit]
  have b0 : (i 0 : Nat) < 1 := (i 0).isLt
  have b2 : (i 2 : Nat) < 256 := (i 2).isLt
  have e : ∀ t : Fin grid0.N, (win0_4.index t 0 * win0_4.size 0 = 0 ∧ win0_4.xsize (grid0.coords t) 0 = 1)
      ∧ (win0_4.index t 1 * win0_4.size 1 = t.val * 512 ∧ win0_4.xsize (grid0.coords t) 1 = 512)
      ∧ (win0_4.index t 2 * win0_4.size 2 = 0 ∧ win0_4.xsize (grid0.coords t) 2 = 256) := by decide +kernel
  obtain ⟨⟨e0, f0⟩, ⟨e1, f1⟩, e2, f2⟩ := e t
  refine ⟨fun h => ?_, fun h a => ?_⟩
  · have : win0_4.index t 1 * win0_4.size 1 ≤ (i 1 : Nat) ∧ (i 1 : Nat) < win0_4.index t 1 * win0_4.size 1 + win0_4.xsize (grid0.coords t) 1 := h 1
    rw [e1, f1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e0, f0]; omega
    | ⟨1, _⟩ => show win0_4.index t 1 * win0_4.size 1 ≤ (i 1 : Nat) ∧ (i 1 : Nat) < win0_4.index t 1 * win0_4.size 1 + win0_4.xsize (grid0.coords t) 1
                rw [e1, f1]; exact h
    | ⟨2, _⟩ => show win0_4.index t 2 * win0_4.size 2 ≤ (i 2 : Nat) ∧ (i 2 : Nat) < win0_4.index t 2 * win0_4.size 2 + win0_4.xsize (grid0.coords t) 2
                rw [e2, f2]; omega

/-- Those blocks fill the array. -/
theorem cover4 (i : S1x2048x256.Idx) :
    ∃ t : Fin cfg0.N, (cfg0.win 4).flush t = true ∧ i ∈ ((cfg0.win 4).blk t).view.set := by
  have h1 : (i 1 : Nat) < 2048 := (i 1).isLt
  refine ⟨⟨(i 1 : Nat) / 512, by show _ < grid0.N; rw [N_0]; omega⟩, flush0_4 _, ?_⟩
  rw [mem_blk4]
  dsimp only
  omega

/-- The indices of the block of result main_v3_1 that grid point `t` writes. -/
theorem mem_blk5 (t : Fin cfg0.N) (i : S1x2048x128.Idx) :
    i ∈ ((cfg0.win 5).blk t).view.set ↔ t.val * 512 ≤ (i 1 : Nat) ∧ (i 1 : Nat) < t.val * 512 + 512 := by
  show i ∈ ((View.whole main_v3_1).slice (win0_5.rect t)).set ↔ _
  rw [View.set_slice_whole, Rect.mem_set_unit]
  have b0 : (i 0 : Nat) < 1 := (i 0).isLt
  have b2 : (i 2 : Nat) < 128 := (i 2).isLt
  have e : ∀ t : Fin grid0.N, (win0_5.index t 0 * win0_5.size 0 = 0 ∧ win0_5.xsize (grid0.coords t) 0 = 1)
      ∧ (win0_5.index t 1 * win0_5.size 1 = t.val * 512 ∧ win0_5.xsize (grid0.coords t) 1 = 512)
      ∧ (win0_5.index t 2 * win0_5.size 2 = 0 ∧ win0_5.xsize (grid0.coords t) 2 = 128) := by decide +kernel
  obtain ⟨⟨e0, f0⟩, ⟨e1, f1⟩, e2, f2⟩ := e t
  refine ⟨fun h => ?_, fun h a => ?_⟩
  · have : win0_5.index t 1 * win0_5.size 1 ≤ (i 1 : Nat) ∧ (i 1 : Nat) < win0_5.index t 1 * win0_5.size 1 + win0_5.xsize (grid0.coords t) 1 := h 1
    rw [e1, f1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e0, f0]; omega
    | ⟨1, _⟩ => show win0_5.index t 1 * win0_5.size 1 ≤ (i 1 : Nat) ∧ (i 1 : Nat) < win0_5.index t 1 * win0_5.size 1 + win0_5.xsize (grid0.coords t) 1
                rw [e1, f1]; exact h
    | ⟨2, _⟩ => show win0_5.index t 2 * win0_5.size 2 ≤ (i 2 : Nat) ∧ (i 2 : Nat) < win0_5.index t 2 * win0_5.size 2 + win0_5.xsize (grid0.coords t) 2
                rw [e2, f2]; omega

/-- Those blocks fill the array. -/
theorem cover5 (i : S1x2048x128.Idx) :
    ∃ t : Fin cfg0.N, (cfg0.win 5).flush t = true ∧ i ∈ ((cfg0.win 5).blk t).view.set := by
  have h1 : (i 1 : Nat) < 2048 := (i 1).isLt
  refine ⟨⟨(i 1 : Nat) / 512, by show _ < grid0.N; rw [N_0]; omega⟩, flush0_5 _, ?_⟩
  rw [mem_blk5]
  dsimp only
  omega

/-- The indices of the block of result main_v3_2 that grid point `t` writes. -/
theorem mem_blk6 (t : Fin cfg0.N) (i : S1x2048x64.Idx) :
    i ∈ ((cfg0.win 6).blk t).view.set ↔ t.val * 512 ≤ (i 1 : Nat) ∧ (i 1 : Nat) < t.val * 512 + 512 := by
  show i ∈ ((View.whole main_v3_2).slice (win0_6.rect t)).set ↔ _
  rw [View.set_slice_whole, Rect.mem_set_unit]
  have b0 : (i 0 : Nat) < 1 := (i 0).isLt
  have b2 : (i 2 : Nat) < 64 := (i 2).isLt
  have e : ∀ t : Fin grid0.N, (win0_6.index t 0 * win0_6.size 0 = 0 ∧ win0_6.xsize (grid0.coords t) 0 = 1)
      ∧ (win0_6.index t 1 * win0_6.size 1 = t.val * 512 ∧ win0_6.xsize (grid0.coords t) 1 = 512)
      ∧ (win0_6.index t 2 * win0_6.size 2 = 0 ∧ win0_6.xsize (grid0.coords t) 2 = 64) := by decide +kernel
  obtain ⟨⟨e0, f0⟩, ⟨e1, f1⟩, e2, f2⟩ := e t
  refine ⟨fun h => ?_, fun h a => ?_⟩
  · have : win0_6.index t 1 * win0_6.size 1 ≤ (i 1 : Nat) ∧ (i 1 : Nat) < win0_6.index t 1 * win0_6.size 1 + win0_6.xsize (grid0.coords t) 1 := h 1
    rw [e1, f1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e0, f0]; omega
    | ⟨1, _⟩ => show win0_6.index t 1 * win0_6.size 1 ≤ (i 1 : Nat) ∧ (i 1 : Nat) < win0_6.index t 1 * win0_6.size 1 + win0_6.xsize (grid0.coords t) 1
                rw [e1, f1]; exact h
    | ⟨2, _⟩ => show win0_6.index t 2 * win0_6.size 2 ≤ (i 2 : Nat) ∧ (i 2 : Nat) < win0_6.index t 2 * win0_6.size 2 + win0_6.xsize (grid0.coords t) 2
                rw [e2, f2]; omega

/-- Those blocks fill the array. -/
theorem cover6 (i : S1x2048x64.Idx) :
    ∃ t : Fin cfg0.N, (cfg0.win 6).flush t = true ∧ i ∈ ((cfg0.win 6).blk t).view.set := by
  have h1 : (i 1 : Nat) < 2048 := (i 1).isLt
  refine ⟨⟨(i 1 : Nat) / 512, by show _ < grid0.N; rw [N_0]; omega⟩, flush0_6 _, ?_⟩
  rw [mem_blk6]
  dsimp only
  omega

/-- What a run ends with: the three result arrays and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v3_0) = G4 (az m c)
      ∧ r.2.mem ((c.tc : Thread nD τ).loc main_v3_1) = G5 (az m c) (akv m c)
      ∧ r.2.mem ((c.tc : Thread nD τ).loc main_v3_2) = G6 (az m c) (akg m c) (akb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c =>
    ⟨((h c).1 4).trans ((dats m 0 c).arrAt_eq_of_cover 4 _ (fun t _ => flushed4 m c t) cover4),
      ((h c).1 5).trans ((dats m 0 c).arrAt_eq_of_cover 5 _ (fun t _ => flushed5 m c t) cover5),
      ((h c).1 6).trans ((dats m 0 c).arrAt_eq_of_cover 6 _ (fun t _ => flushed6 m c t) cover6),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Kernel

section Reference
open Cert.PrepRefIdeal

variable (m : (ℓ : Loc nD τ sig) → Buf (Elt Ideal) ℓ) (ρ : Dev nD → PrngReg)

abbrev rz (c : Dev nD) : FVec Ideal S1x2048x512 .f32 := m ((c.tc : Thread nD τ).loc main_arg0)
abbrev rkv (c : Dev nD) : FVec Ideal S128 .f32 := m ((c.tc : Thread nD τ).loc main_arg1)
abbrev rkg (c : Dev nD) : FVec Ideal S64 .f32 := m ((c.tc : Thread nD τ).loc main_arg2)
abbrev rkb (c : Dev nD) : FVec Ideal S64 .f32 := m ((c.tc : Thread nD τ).loc main_arg3)

theorem ref_run : θ_run defs (onTc (τ := τ) (main (F := Ideal))) ⟨m, fun _ => 0, ρ⟩ fun r => ∀ c : Dev nD,
      (r.2.mem ((c.tc : Thread nD τ).loc main_v4) = G4 (rz m c)
      ∧ r.2.mem ((c.tc : Thread nD τ).loc main_v18) = G5 (rz m c) (rkv m c)
      ∧ r.2.mem ((c.tc : Thread nD τ).loc main_v43) = G6 (rz m c) (rkg m c) (rkb m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ⟨⟨(h c).1.trans ?_, (h c).2.1.trans ?_, (h c).2.2.1.trans ?_⟩, (h c).2.2.2⟩) (Value.run m ρ)
  · funext j
    idx_vars j
    obtain rfl : j0 = 0 := Subsingleton.elim _ _
    pointwise [G4]
  · funext j
    idx_vars j
    obtain rfl : j0 = 0 := Subsingleton.elim _ _
    pointwise [G5, rms]
  · funext j
    idx_vars j
    obtain rfl : j0 = 0 := Subsingleton.elim _ _
    pointwise [G6, norm64, mean64]

end Reference

section Claim
open Cert.PrepIdeal Cert.PrepIdeal.Gen

/-- The preparation and its reference end with the same three arrays. -/
theorem algebraic : Cert.algebraic_PrepIdeal_PrepRefIdeal := fun m ρ m' ρ' _ hag =>
  ⟨fun c => G4 (az m c), fun c => G5 (az m c) (akv m c), fun c => G6 (az m c) (akg m c) (akb m c),
    run m ρ,
    (θ_run _ _ _).mono (fun _ h c => by
      obtain ⟨h0, h1, h2, h3⟩ := hag c
      obtain ⟨⟨e0, e1, e2⟩, r⟩ := h c
      simp only [rz, rkv, rkg, rkb, h0, h1, h2, h3] at e0 e1 e2
      exact ⟨e0, e1, e2, r⟩) (ref_run m' ρ')⟩

end Claim

end Cert.PrepProof
-- ==== Proof.Act.lean ====
module

public import proofs.«01_k».proof.Proof.Gen.ActIdeal.Value
public import proofs.«01_k».proof.Proof.Gen.ActRefIdeal.Run
public import proofs.«01_k».proof.Defs
public import proofs.«01_k».proof.Proof.RowNorm
public import Idealize.ShloMosaic.Lib.Pointwise
public import Idealize.ShloMosaic.Lib.Pipeline.ValueKit
public import Idealize.ShloMosaic.Lib.StableHlo.ReadAt

@[expose] public section

set_option maxRecDepth 16384

noncomputable section

namespace Cert.ActProof

open Idealize.ShloMosaic Idealize.ShloMosaic.TcCoe Idealize.SL.Sem
open Idealize.ShloMosaic.Pipeline (Dat)
open Cert.RowNorm

/-- The gated activation at one entry: half of `x` times the complementary error function of `-x` times a constant, times the gate. -/
def gelu (x g : EReal) : EReal :=
  Ideal.ofBits .f32 0x3F000000#32 * x * Ideal.erfc (-x * Ideal.ofBits .f32 0x3F3504F3#32) * g

/-- The result from the two argument arrays. -/
def G (x : FVec Ideal ActIdeal.S2048x128 .f32) (g : FVec Ideal ActIdeal.S1x2048x128 .f32) : FVec Ideal ActIdeal.S2048x128 .f32 :=
  fun i => gelu (x i) (g (ix3 0 (i 0) (i 1)))

section Kernel
open Cert.ActIdeal Cert.ActIdeal.Gen

theorem pay_eq (x g : FVec Ideal S2048x128 .f32) (j : S2048x128.Idx) : k0_pay1 (F := Ideal) x g j = gelu (x j) (g j) := by
  idx_vars j
  have e (x c : EReal) : Ideal.erfc (-x * c) = 1 + Ideal.erf (x * c) := by rw [EReal.neg_mul, Ideal.erfc_neg]
  pointwise [k0_pay1, gelu]
  rw [e]
  rfl

theorem zero2 : (![0, 0] : Fin 2 → Nat) = fun _ => 0 := funext fun a => by fin_cases a <;> rfl

theorem index_maps : ∀ t : Fin grid0.N, win0_0.index t = ![0, 0] ∧ win0_1.index t = ![0, 0] ∧ win0_2.index t = ![0, 0] := by decide +kernel

variable (m : (ℓ : Loc nD τ sig) → Buf (Elt Ideal) ℓ) (c : Dev nD)

abbrev Gm : FVec Ideal S2048x128 .f32 := G (m ((c.tc : Thread nD τ).loc main_arg0)) (m ((c.tc : Thread nD τ).loc main_arg1))

abbrev B0 (t : Fin cfg0.N) : FVec Ideal S2048x128 .f32 := iblk m c 0 t
abbrev B1 (t : Fin cfg0.N) : FVec Ideal S2048x128 .f32 := iblk m c 1 t

theorem b0_read (t : Fin cfg0.N) (r : Fin 2048) (k : Fin 128) : B0 m c t (ix2 r k) = (m ((c.tc : Thread nD τ).loc main_arg0) : FVec Ideal S2048x128 .f32) (ix2 r k) := by
  obtain ⟨h0, -, -⟩ := index_maps t
  blk_ext! [iblk, V, h0]

theorem b1_read (t : Fin cfg0.N) (r : Fin 2048) (k : Fin 128) : B1 m c t (ix2 r k) = (m ((c.tc : Thread nD τ).loc main_arg1) : FVec Ideal S1x2048x128 .f32) (ix3 0 r k) := by
  obtain ⟨-, h1, -⟩ := index_maps t
  blk_ext! [iblk, V, h1]

theorem flushed2 (t : Fin cfg0.N) : (dats m 0 c).flushed 2 t = ((cfg0.win 2).blk t).view.read (Elt Ideal) (Gm m c) := by
  rw [Value.flushed2]
  unfold out0_2
  rw [View.canon_unit_zero zero2, View.ld_unit_zero zero2, View.ld_unit_zero zero2]
  funext j
  show k0_pay1 (F := Ideal) (B0 m c t) (B1 m c t) j = Gm m c (((cfg0.win 2).blk t).view.emb j)
  refine (pay_eq ..).trans ?_
  obtain ⟨-, -, h2⟩ := index_maps t
  idx_vars j
  have he : ((cfg0.win 2).blk t).view.emb (ix2 j0 j1) = ix2 j0 j1 := by
    blk_ext [h2]
  rw [he, b0_read, b1_read]
  rfl

/-- The one block is the whole array. -/
theorem cover2 (i : S2048x128.Idx) : ∃ t : Fin cfg0.N, (cfg0.win 2).flush t = true ∧ i ∈ ((cfg0.win 2).blk t).view.set := by
  have h0 : 0 < grid0.N := by rw [N_0]; omega
  refine ⟨⟨0, h0⟩, flush0_2 _, ?_⟩
  show i ∈ ((View.whole main_v1).slice (win0_2.rect ⟨0, h0⟩)).set
  rw [View.set_slice_whole, Rect.mem_set_unit]
  have b0 : (i 0 : Nat) < 2048 := (i 0).isLt
  have b1 : (i 1 : Nat) < 128 := (i 1).isLt
  have e : ∀ t : Fin grid0.N, (win0_2.index t 0 * win0_2.size 0 = 0 ∧ win0_2.xsize (grid0.coords t) 0 = 2048)
      ∧ (win0_2.index t 1 * win0_2.size 1 = 0 ∧ win0_2.xsize (grid0.coords t) 1 = 128) := by decide +kernel
  obtain ⟨⟨e0, f0⟩, e1, f1⟩ := e ⟨0, h0⟩
  intro a
  match a with
  | ⟨0, _⟩ => show win0_2.index ⟨0, h0⟩ 0 * win0_2.size 0 ≤ (i 0 : Nat) ∧ (i 0 : Nat) < win0_2.index ⟨0, h0⟩ 0 * win0_2.size 0 + win0_2.xsize (grid0.coords ⟨0, h0⟩) 0
              rw [e0, f0]; omega
  | ⟨1, _⟩ => show win0_2.index ⟨0, h0⟩ 1 * win0_2.size 1 ≤ (i 1 : Nat) ∧ (i 1 : Nat) < win0_2.index ⟨0, h0⟩ 1 * win0_2.size 1 + win0_2.xsize (grid0.coords ⟨0, h0⟩) 1
              rw [e1, f1]; omega

theorem final : (dats m 0 c).arrAt 2 cfg0.N = Gm m c :=
  (dats m 0 c).arrAt_eq_of_cover 2 (Gm m c) (fun t _ => flushed2 m c t) cover2

end Kernel

section Reference
open Cert.ActRefIdeal

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ⟨(h c).1.trans ?_, (h c).2⟩) (Value.run m ρ)
  funext j
  idx_vars j
  clean_types
  pointwise [G, gelu]

end Reference

/-- The activation and its reference end with the same array. -/
theorem algebraic : Cert.algebraic_ActIdeal_ActRefIdeal := fun m ρ m' ρ' _ hag =>
  ⟨fun c => Gm m c,
    (θ_run _ _ _).mono (fun _ h c => ⟨(h c).1.trans (final m c), (h c).2⟩) (ActIdeal.Value.run_blocks m ρ),
    (θ_run _ _ _).mono (fun _ h c => ⟨(h c).1.trans (by
      obtain ⟨h0, h1⟩ := hag c
      rw [h0, h1]), (h c).2⟩) (ref_run m' ρ')⟩

end Cert.ActProof
-- ==== Proof.RouteSteps.lean ====
module

public import proofs.«01_k».proof.Proof.Gen.KernelIdeal.Value
public import proofs.«01_k».proof.Defs

/-! What one trip of the routing kernel's loop over the heads stores, as rounds of one step: the column maximum, the first
row that holds it, and that row overwritten with minus infinity. -/

@[expose] public section

set_option maxRecDepth 16384

noncomputable section

namespace Cert.RouteProof

open Idealize.ShloMosaic Idealize.ShloMosaic.TcCoe Idealize.SL.Sem
open Cert.KernelIdeal Cert.KernelIdeal.Gen

/-- The row number of every entry of a block of 128 scores by 256 tokens. -/
abbrev io : IVec S128x256 32 := iota .tc S128x256 32 [0] iota_S128x256_d0_w32

/-- The greatest score of every column of 128 scores. -/
def mx (x : FVec Ideal S128x256 .f32) : FVec Ideal S1x256 .f32 :=
  shapeCast S1x256 (multiReduction .maximumf [0] S256 x 0xFF800000#32 reduces_S128x256_S256 (.inl rfl) rfl) shapeCasts_S256_S1x256

/-- The entries that equal their column's greatest. -/
def em (x : FVec Ideal S128x256 .f32) : IVec S128x256 1 := cmpf .oeq x (broadcastTo S128x256 (mx x) broadcasts_S1x256_S128x256)

/-- The row number where the entry equals its column's greatest, and 128 elsewhere. -/
def cd (x : FVec Ideal S128x256 .f32) : IVec S128x256 32 := select (em x) io (broadcast S128x256 128#32)

/-- The first row of every column that holds the greatest score. -/
def ps (x : FVec Ideal S128x256 .f32) : IVec S1x256 32 :=
  shapeCast S1x256 (multiReductionI .minsi [0] S256 (cd x) 2147483647#32 reduces_S128x256_S256 rfl) shapeCasts_S256_S1x256

/-- The entries that a round takes. -/
def ht (x : FVec Ideal S128x256 .f32) : IVec S128x256 1 := cmpi .eq io (broadcastTo S128x256 (ps x) broadcasts_S1x256_S128x256)

/-- The block after a round: the entries taken overwritten with minus infinity. -/
def mk (x : FVec Ideal S128x256 .f32) : FVec Ideal S128x256 .f32 := select (ht x) (broadcast S128x256 (Scalar.ofBits .f32 0xFF800000#32)) x

/-- The block after a number of rounds. -/
def st (x : FVec Ideal S128x256 .f32) : Nat → FVec Ideal S128x256 .f32
  | 0 => x
  | r + 1 => mk (st x r)

/-- The row number of every entry of a block of 56 candidates by 256 tokens. -/
abbrev io' : IVec S56x256 32 := iota .tc S56x256 32 [0] iota_S56x256_d0_w32

/-- The greatest score of every column of 56 candidates. -/
def mx' (x : FVec Ideal S56x256 .f32) : FVec Ideal S1x256 .f32 :=
  shapeCast S1x256 (multiReduction .maximumf [0] S256 x 0xFF800000#32 reduces_S56x256_S256 (.inl rfl) rfl) shapeCasts_S256_S1x256

/-- The entries that equal their column's greatest. -/
def em' (x : FVec Ideal S56x256 .f32) : IVec S56x256 1 := cmpf .oeq x (broadcastTo S56x256 (mx' x) broadcasts_S1x256_S56x256)

/-- The row number where the entry equals its column's greatest, and 56 elsewhere. -/
def cd' (x : FVec Ideal S56x256 .f32) : IVec S56x256 32 := select (em' x) io' (broadcast S56x256 56#32)

/-- The first row of every column that holds the greatest score. -/
def ps' (x : FVec Ideal S56x256 .f32) : IVec S1x256 32 :=
  shapeCast S1x256 (multiReductionI .minsi [0] S256 (cd' x) 2147483647#32 reduces_S56x256_S256 rfl) shapeCasts_S256_S1x256

/-- The entries that a round takes. -/
def ht' (x : FVec Ideal S56x256 .f32) : IVec S56x256 1 := cmpi .eq io' (broadcastTo S56x256 (ps' x) broadcasts_S1x256_S56x256)

/-- The block after a round: the entries taken overwritten with minus infinity. -/
def mk' (x : FVec Ideal S56x256 .f32) : FVec Ideal S56x256 .f32 := select (ht' x) (broadcast S56x256 (Scalar.ofBits .f32 0xFF800000#32)) x

/-- The block after a number of rounds. -/
def st' (x : FVec Ideal S56x256 .f32) : Nat → FVec Ideal S56x256 .f32
  | 0 => x
  | r + 1 => mk' (st' x r)

/-- The entries of the payload at the places a round takes, and -1 elsewhere. -/
def pks (x : FVec Ideal S56x256 .f32) (y : IVec S56x256 32) : IVec S56x256 32 := select (ht' x) y (broadcast S56x256 4294967295#32)

/-- The payload that a round takes. -/
def pk (x : FVec Ideal S56x256 .f32) (y : IVec S56x256 32) : IVec S1x256 32 :=
  shapeCast S1x256 (multiReductionI .maxsi [0] S256 (pks x y) 2147483648#32 reduces_S56x256_S256 rfl) shapeCasts_S256_S1x256

/-- The sixteen greatest scores of every column. -/
def vals (x : FVec Ideal S128x256 .f32) : FVec Ideal S16x256 .f32 :=
  concatenate S16x256 0 [⟨S1x256, mx (st x 0)⟩, ⟨S1x256, mx (st x 1)⟩, ⟨S1x256, mx (st x 2)⟩, ⟨S1x256, mx (st x 3)⟩, ⟨S1x256, mx (st x 4)⟩, ⟨S1x256, mx (st x 5)⟩, ⟨S1x256, mx (st x 6)⟩, ⟨S1x256, mx (st x 7)⟩, ⟨S1x256, mx (st x 8)⟩, ⟨S1x256, mx (st x 9)⟩, ⟨S1x256, mx (st x 10)⟩, ⟨S1x256, mx (st x 11)⟩, ⟨S1x256, mx (st x 12)⟩, ⟨S1x256, mx (st x 13)⟩, ⟨S1x256, mx (st x 14)⟩, ⟨S1x256, mx (st x 15)⟩] concatenates_S1x256_S1x256_S1x256_S1x256_S1x256_S1x256_S1x256_S1x256_S1x256_S1x256_S1x256_S1x256_S1x256_S1x256_S1x256_S1x256_S16x256_d0

/-- The rows of the sixteen greatest scores of every column. -/
def inds (x : FVec Ideal S128x256 .f32) : IVec S16x256 32 :=
  concatenate S16x256 0 [⟨S1x256, ps (st x 0)⟩, ⟨S1x256, ps (st x 1)⟩, ⟨S1x256, ps (st x 2)⟩, ⟨S1x256, ps (st x 3)⟩, ⟨S1x256, ps (st x 4)⟩, ⟨S1x256, ps (st x 5)⟩, ⟨S1x256, ps (st x 6)⟩, ⟨S1x256, ps (st x 7)⟩, ⟨S1x256, ps (st x 8)⟩, ⟨S1x256, ps (st x 9)⟩, ⟨S1x256, ps (st x 10)⟩, ⟨S1x256, ps (st x 11)⟩, ⟨S1x256, ps (st x 12)⟩, ⟨S1x256, ps (st x 13)⟩, ⟨S1x256, ps (st x 14)⟩, ⟨S1x256, ps (st x 15)⟩] concatenates_S1x256_S1x256_S1x256_S1x256_S1x256_S1x256_S1x256_S1x256_S1x256_S1x256_S1x256_S1x256_S1x256_S1x256_S1x256_S1x256_S16x256_d0

/-- The sixteen greatest candidates of every column. -/
def vals' (x : FVec Ideal S56x256 .f32) : FVec Ideal S16x256 .f32 :=
  concatenate S16x256 0 [⟨S1x256, mx' (st' x 0)⟩, ⟨S1x256, mx' (st' x 1)⟩, ⟨S1x256, mx' (st' x 2)⟩, ⟨S1x256, mx' (st' x 3)⟩, ⟨S1x256, mx' (st' x 4)⟩, ⟨S1x256, mx' (st' x 5)⟩, ⟨S1x256, mx' (st' x 6)⟩, ⟨S1x256, mx' (st' x 7)⟩, ⟨S1x256, mx' (st' x 8)⟩, ⟨S1x256, mx' (st' x 9)⟩, ⟨S1x256, mx' (st' x 10)⟩, ⟨S1x256, mx' (st' x 11)⟩, ⟨S1x256, mx' (st' x 12)⟩, ⟨S1x256, mx' (st' x 13)⟩, ⟨S1x256, mx' (st' x 14)⟩, ⟨S1x256, mx' (st' x 15)⟩] concatenates_S1x256_S1x256_S1x256_S1x256_S1x256_S1x256_S1x256_S1x256_S1x256_S1x256_S1x256_S1x256_S1x256_S1x256_S1x256_S1x256_S16x256_d0

/-- The payloads of the sixteen greatest candidates of every column. -/
def picks (x : FVec Ideal S56x256 .f32) (y : IVec S56x256 32) : IVec S16x256 32 :=
  concatenate S16x256 0 [⟨S1x256, pk (st' x 0) y⟩, ⟨S1x256, pk (st' x 1) y⟩, ⟨S1x256, pk (st' x 2) y⟩, ⟨S1x256, pk (st' x 3) y⟩, ⟨S1x256, pk (st' x 4) y⟩, ⟨S1x256, pk (st' x 5) y⟩, ⟨S1x256, pk (st' x 6) y⟩, ⟨S1x256, pk (st' x 7) y⟩, ⟨S1x256, pk (st' x 8) y⟩, ⟨S1x256, pk (st' x 9) y⟩, ⟨S1x256, pk (st' x 10) y⟩, ⟨S1x256, pk (st' x 11) y⟩, ⟨S1x256, pk (st' x 12) y⟩, ⟨S1x256, pk (st' x 13) y⟩, ⟨S1x256, pk (st' x 14) y⟩, ⟨S1x256, pk (st' x 15) y⟩] concatenates_S1x256_S1x256_S1x256_S1x256_S1x256_S1x256_S1x256_S1x256_S1x256_S1x256_S1x256_S1x256_S1x256_S1x256_S1x256_S1x256_S16x256_d0

/-- The quotients of exponentials that are the gates, from the sorted scores. -/
def gates (t : FVec Ideal S16x256 .f32) : FVec Ideal S16x256 .f32 :=
  divf (exp (subf t (broadcastTo S16x256 (extractStridedSlice S1x256 ![0, 0] t slices_S16x256_o0_0_S1x256) broadcasts_S1x256_S16x256)))
    (broadcastTo S16x256 (shapeCast S1x256 (multiReduction .add [0] S256
      (exp (subf t (broadcastTo S16x256 (extractStridedSlice S1x256 ![0, 0] t slices_S16x256_o0_0_S1x256) broadcasts_S1x256_S16x256)))
      0x00000000#32 reduces_S16x256_S256 (.inl rfl) rfl) shapeCasts_S256_S1x256) broadcasts_S1x256_S16x256)

/-- The candidate sums: of the row `a` of the first half's scores and the first `16 / (a + 1)` rows of the second's. -/
def cand (u v : FVec Ideal S16x256 .f32) : FVec Ideal S56x256 .f32 :=
  k0_pay137 u v (addf (broadcastTo S16x256 (extractStridedSlice S1x256 ![0, 0] u slices_S16x256_o0_0_S1x256) broadcasts_S1x256_S16x256) v) (k0_pay112 u v) (k0_pay114 u v) (k0_pay116 u v) (k0_pay118 u v) (k0_pay120 u v) (k0_pay122 u v) (k0_pay124 u v) (k0_pay126 u v) (k0_pay128 u v) (k0_pay130 u v) (k0_pay132 u v) (k0_pay134 u v)

/-- The experts' numbers of the candidates. -/
def cidx (u v : IVec S16x256 32) : IVec S56x256 32 :=
  k0_pay138 u v (k0_pay111 v (k0_pay110 u)) (k0_pay113 u v) (k0_pay115 u v) (k0_pay117 u v) (k0_pay119 u v) (k0_pay121 u v) (k0_pay123 u v) (k0_pay125 u v) (k0_pay127 u v) (k0_pay129 u v) (k0_pay131 u v) (k0_pay133 u v) (k0_pay135 u) k0_pay136

section Trip

variable (arg6 : Memref sig .tc .vmem S8x2x128x64 .bf16) (arg10 : Memref sig .tc .vmem S8x256x128 .bf16)
  (X6 : BufTy.Contents (Elt Ideal) arg6.view.ty) (X10 : BufTy.Contents (Elt Ideal) arg10.view.ty) (k : Fin k0_t1_loop.trips)

/-- The first half's scores of a head: its keys against its queries. -/
def S1 : FVec Ideal S128x256 .f32 :=
  k0_pay4 (View.readAt (Elt Ideal) arg10.view (Rect.unit (s := S8x256x128) (k0_off1 k) S1x256x128.size (k0_off1_inb k)).toLoadRect X10)
    (View.readAt (Elt Ideal) arg6.view (Rect.unit (s := S8x2x128x64) (k0_off2 k) S1x1x128x64.size (k0_off2_inb k)).toLoadRect X6)

/-- The second half's scores of a head. -/
def S2 : FVec Ideal S128x256 .f32 :=
  k0_pay5 (View.readAt (Elt Ideal) arg10.view (Rect.unit (s := S8x256x128) (k0_off1 k) S1x256x128.size (k0_off1_inb k)).toLoadRect X10)
    (View.readAt (Elt Ideal) arg6.view (Rect.unit (s := S8x2x128x64) (k0_off3 k) S1x1x128x64.size (k0_off3_inb k)).toLoadRect X6)

/-- The candidates of a head. -/
def C : FVec Ideal S56x256 .f32 := cand (vals (S1 arg6 arg10 X6 X10 k)) (vals (S2 arg6 arg10 X6 X10 k))

/-- The candidates' experts of a head. -/
def Y : IVec S56x256 32 := cidx (inds (S1 arg6 arg10 X6 X10 k)) (inds (S2 arg6 arg10 X6 X10 k))

theorem e_r_2 : trip_k0_t1.sl.r_2 (F := Ideal) arg6 arg10 X6 X10 k = ps (st (S1 arg6 arg10 X6 X10 k) 0) := by
  unfold trip_k0_t1.sl.r_2
  rfl

theorem e_r_4 : trip_k0_t1.sl.r_4 (F := Ideal) arg6 arg10 X6 X10 k = ps (st (S1 arg6 arg10 X6 X10 k) 1) := by
  unfold trip_k0_t1.sl.r_4
  rfl

theorem e_r_5 : trip_k0_t1.sl.r_5 (F := Ideal) arg6 arg10 X6 X10 k = st (S1 arg6 arg10 X6 X10 k) 2 := by
  unfold trip_k0_t1.sl.r_5
  rfl

theorem e_r_6 : trip_k0_t1.sl.r_6 (F := Ideal) arg6 arg10 X6 X10 k = mx (st (S1 arg6 arg10 X6 X10 k) 2) := by
  unfold trip_k0_t1.sl.r_6
  rfl

theorem e_r_7 : trip_k0_t1.sl.r_7 (F := Ideal) arg6 arg10 X6 X10 k = ps (st (S1 arg6 arg10 X6 X10 k) 2) := by
  unfold trip_k0_t1.sl.r_7
  rw [e_r_5, e_r_6]
  generalize S1 arg6 arg10 X6 X10 k = s1z
  rfl

theorem e_r_9 : trip_k0_t1.sl.r_9 (F := Ideal) arg6 arg10 X6 X10 k = ps (st (S1 arg6 arg10 X6 X10 k) 3) := by
  unfold trip_k0_t1.sl.r_9
  rw [e_r_5, e_r_6]
  generalize S1 arg6 arg10 X6 X10 k = s1z
  rfl

theorem e_r_11 : trip_k0_t1.sl.r_11 (F := Ideal) arg6 arg10 X6 X10 k = ps (st (S1 arg6 arg10 X6 X10 k) 4) := by
  unfold trip_k0_t1.sl.r_11
  rw [e_r_5, e_r_6]
  generalize S1 arg6 arg10 X6 X10 k = s1z
  rfl

theorem e_r_14 : trip_k0_t1.sl.r_14 (F := Ideal) arg6 arg10 X6 X10 k = ps (st (S1 arg6 arg10 X6 X10 k) 5) := by
  unfold trip_k0_t1.sl.r_14
  rw [e_r_5, e_r_6]
  generalize S1 arg6 arg10 X6 X10 k = s1z
  rfl

theorem e_r_12 : trip_k0_t1.sl.r_12 (F := Ideal) arg6 arg10 X6 X10 k = st (S1 arg6 arg10 X6 X10 k) 5 := by
  unfold trip_k0_t1.sl.r_12
  rw [e_r_5, e_r_6]
  generalize S1 arg6 arg10 X6 X10 k = s1z
  rfl

theorem e_r_15 : trip_k0_t1.sl.r_15 (F := Ideal) arg6 arg10 X6 X10 k = ht (st (S1 arg6 arg10 X6 X10 k) 5) := by
  unfold trip_k0_t1.sl.r_15
  rw [e_r_5, e_r_6]
  generalize S1 arg6 arg10 X6 X10 k = s1z
  rfl

theorem e_r_17 : trip_k0_t1.sl.r_17 (F := Ideal) arg6 arg10 X6 X10 k = ps (st (S1 arg6 arg10 X6 X10 k) 6) := by
  unfold trip_k0_t1.sl.r_17
  rw [e_r_12, e_r_15]
  generalize S1 arg6 arg10 X6 X10 k = s1z
  rfl

theorem e_r_19 : trip_k0_t1.sl.r_19 (F := Ideal) arg6 arg10 X6 X10 k = ps (st (S1 arg6 arg10 X6 X10 k) 7) := by
  unfold trip_k0_t1.sl.r_19
  rw [e_r_12, e_r_15]
  generalize S1 arg6 arg10 X6 X10 k = s1z
  rfl

theorem e_r_21 : trip_k0_t1.sl.r_21 (F := Ideal) arg6 arg10 X6 X10 k = ps (st (S1 arg6 arg10 X6 X10 k) 8) := by
  unfold trip_k0_t1.sl.r_21
  rw [e_r_12, e_r_15]
  generalize S1 arg6 arg10 X6 X10 k = s1z
  rfl

theorem e_r_24 : trip_k0_t1.sl.r_24 (F := Ideal) arg6 arg10 X6 X10 k = ps (st (S1 arg6 arg10 X6 X10 k) 9) := by
  unfold trip_k0_t1.sl.r_24
  rw [e_r_12, e_r_15]
  generalize S1 arg6 arg10 X6 X10 k = s1z
  rfl

theorem e_r_22 : trip_k0_t1.sl.r_22 (F := Ideal) arg6 arg10 X6 X10 k = st (S1 arg6 arg10 X6 X10 k) 9 := by
  unfold trip_k0_t1.sl.r_22
  rw [e_r_12, e_r_15]
  generalize S1 arg6 arg10 X6 X10 k = s1z
  rfl

theorem e_r_26 : trip_k0_t1.sl.r_26 (F := Ideal) arg6 arg10 X6 X10 k = ps (st (S1 arg6 arg10 X6 X10 k) 10) := by
  unfold trip_k0_t1.sl.r_26
  rw [e_r_22, e_r_24]
  generalize S1 arg6 arg10 X6 X10 k = s1z
  rfl

theorem e_r_28 : trip_k0_t1.sl.r_28 (F := Ideal) arg6 arg10 X6 X10 k = ps (st (S1 arg6 arg10 X6 X10 k) 11) := by
  unfold trip_k0_t1.sl.r_28
  rw [e_r_22, e_r_24]
  generalize S1 arg6 arg10 X6 X10 k = s1z
  rfl

theorem e_r_30 : trip_k0_t1.sl.r_30 (F := Ideal) arg6 arg10 X6 X10 k = ps (st (S1 arg6 arg10 X6 X10 k) 12) := by
  unfold trip_k0_t1.sl.r_30
  rw [e_r_22, e_r_24]
  generalize S1 arg6 arg10 X6 X10 k = s1z
  rfl

theorem e_r_31 : trip_k0_t1.sl.r_31 (F := Ideal) arg6 arg10 X6 X10 k = st (S1 arg6 arg10 X6 X10 k) 13 := by
  unfold trip_k0_t1.sl.r_31
  rw [e_r_22, e_r_24]
  generalize S1 arg6 arg10 X6 X10 k = s1z
  rfl

theorem e_r_33 : trip_k0_t1.sl.r_33 (F := Ideal) arg6 arg10 X6 X10 k = em (st (S1 arg6 arg10 X6 X10 k) 13) := by
  unfold trip_k0_t1.sl.r_33
  rw [e_r_22, e_r_24]
  generalize S1 arg6 arg10 X6 X10 k = s1z
  rfl

theorem e_r_35 : trip_k0_t1.sl.r_35 (F := Ideal) arg6 arg10 X6 X10 k = inds (S1 arg6 arg10 X6 X10 k) := by
  unfold trip_k0_t1.sl.r_35
  rw [e_r_2, e_r_4, e_r_7, e_r_9, e_r_11, e_r_14, e_r_17, e_r_19, e_r_21, e_r_24, e_r_26, e_r_28, e_r_30, e_r_31, e_r_33]
  generalize S1 arg6 arg10 X6 X10 k = s1z
  rfl

theorem e_r : trip_k0_t1.sl.r (F := Ideal) arg6 arg10 X6 X10 k = st (S2 arg6 arg10 X6 X10 k) 0 := by
  unfold trip_k0_t1.sl.r
  rfl

theorem e_r_37 : trip_k0_t1.sl.r_37 (F := Ideal) arg6 arg10 X6 X10 k = ps (st (S2 arg6 arg10 X6 X10 k) 0) := by
  unfold trip_k0_t1.sl.r_37
  rw [e_r]
  generalize S2 arg6 arg10 X6 X10 k = s2z
  rfl

theorem e_r_40 : trip_k0_t1.sl.r_40 (F := Ideal) arg6 arg10 X6 X10 k = em (st (S2 arg6 arg10 X6 X10 k) 1) := by
  unfold trip_k0_t1.sl.r_40
  rw [e_r]
  generalize S2 arg6 arg10 X6 X10 k = s2z
  rfl

theorem e_r_41 : trip_k0_t1.sl.r_41 (F := Ideal) arg6 arg10 X6 X10 k = ps (st (S2 arg6 arg10 X6 X10 k) 1) := by
  unfold trip_k0_t1.sl.r_41
  rw [e_r_40]
  generalize S2 arg6 arg10 X6 X10 k = s2z
  rfl

theorem e_r_38 : trip_k0_t1.sl.r_38 (F := Ideal) arg6 arg10 X6 X10 k = st (S2 arg6 arg10 X6 X10 k) 1 := by
  unfold trip_k0_t1.sl.r_38
  rw [e_r]
  generalize S2 arg6 arg10 X6 X10 k = s2z
  rfl

theorem e_r_43 : trip_k0_t1.sl.r_43 (F := Ideal) arg6 arg10 X6 X10 k = ps (st (S2 arg6 arg10 X6 X10 k) 2) := by
  unfold trip_k0_t1.sl.r_43
  rw [e_r_38, e_r_40]
  generalize S2 arg6 arg10 X6 X10 k = s2z
  rfl

theorem e_r_45 : trip_k0_t1.sl.r_45 (F := Ideal) arg6 arg10 X6 X10 k = ps (st (S2 arg6 arg10 X6 X10 k) 3) := by
  unfold trip_k0_t1.sl.r_45
  rw [e_r_38, e_r_40]
  generalize S2 arg6 arg10 X6 X10 k = s2z
  rfl

theorem e_r_47 : trip_k0_t1.sl.r_47 (F := Ideal) arg6 arg10 X6 X10 k = ps (st (S2 arg6 arg10 X6 X10 k) 4) := by
  unfold trip_k0_t1.sl.r_47
  rw [e_r_38, e_r_40]
  generalize S2 arg6 arg10 X6 X10 k = s2z
  rfl

theorem e_r_48 : trip_k0_t1.sl.r_48 (F := Ideal) arg6 arg10 X6 X10 k = st (S2 arg6 arg10 X6 X10 k) 5 := by
  unfold trip_k0_t1.sl.r_48
  rw [e_r_38, e_r_40]
  generalize S2 arg6 arg10 X6 X10 k = s2z
  rfl

theorem e_r_50 : trip_k0_t1.sl.r_50 (F := Ideal) arg6 arg10 X6 X10 k = ps (st (S2 arg6 arg10 X6 X10 k) 5) := by
  unfold trip_k0_t1.sl.r_50
  rw [e_r_48]
  generalize S2 arg6 arg10 X6 X10 k = s2z
  rfl

theorem e_r_52 : trip_k0_t1.sl.r_52 (F := Ideal) arg6 arg10 X6 X10 k = ps (st (S2 arg6 arg10 X6 X10 k) 6) := by
  unfold trip_k0_t1.sl.r_52
  rw [e_r_48]
  generalize S2 arg6 arg10 X6 X10 k = s2z
  rfl

theorem e_r_54 : trip_k0_t1.sl.r_54 (F := Ideal) arg6 arg10 X6 X10 k = ps (st (S2 arg6 arg10 X6 X10 k) 7) := by
  unfold trip_k0_t1.sl.r_54
  rw [e_r_48]
  generalize S2 arg6 arg10 X6 X10 k = s2z
  rfl

theorem e_r_57 : trip_k0_t1.sl.r_57 (F := Ideal) arg6 arg10 X6 X10 k = ps (st (S2 arg6 arg10 X6 X10 k) 8) := by
  unfold trip_k0_t1.sl.r_57
  rw [e_r_48]
  generalize S2 arg6 arg10 X6 X10 k = s2z
  rfl

theorem e_r_55 : trip_k0_t1.sl.r_55 (F := Ideal) arg6 arg10 X6 X10 k = st (S2 arg6 arg10 X6 X10 k) 8 := by
  unfold trip_k0_t1.sl.r_55
  rw [e_r_48]
  generalize S2 arg6 arg10 X6 X10 k = s2z
  rfl

theorem e_r_58 : trip_k0_t1.sl.r_58 (F := Ideal) arg6 arg10 X6 X10 k = ht (st (S2 arg6 arg10 X6 X10 k) 8) := by
  unfold trip_k0_t1.sl.r_58
  rw [e_r_48]
  generalize S2 arg6 arg10 X6 X10 k = s2z
  rfl

theorem e_r_60 : trip_k0_t1.sl.r_60 (F := Ideal) arg6 arg10 X6 X10 k = ps (st (S2 arg6 arg10 X6 X10 k) 9) := by
  unfold trip_k0_t1.sl.r_60
  rw [e_r_55, e_r_58]
  generalize S2 arg6 arg10 X6 X10 k = s2z
  rfl

theorem e_r_62 : trip_k0_t1.sl.r_62 (F := Ideal) arg6 arg10 X6 X10 k = ps (st (S2 arg6 arg10 X6 X10 k) 10) := by
  unfold trip_k0_t1.sl.r_62
  rw [e_r_55, e_r_58]
  generalize S2 arg6 arg10 X6 X10 k = s2z
  rfl

theorem e_r_64 : trip_k0_t1.sl.r_64 (F := Ideal) arg6 arg10 X6 X10 k = ps (st (S2 arg6 arg10 X6 X10 k) 11) := by
  unfold trip_k0_t1.sl.r_64
  rw [e_r_55, e_r_58]
  generalize S2 arg6 arg10 X6 X10 k = s2z
  rfl

theorem e_r_65 : trip_k0_t1.sl.r_65 (F := Ideal) arg6 arg10 X6 X10 k = st (S2 arg6 arg10 X6 X10 k) 12 := by
  unfold trip_k0_t1.sl.r_65
  rw [e_r_55, e_r_58]
  generalize S2 arg6 arg10 X6 X10 k = s2z
  rfl

theorem e_r_67 : trip_k0_t1.sl.r_67 (F := Ideal) arg6 arg10 X6 X10 k = cd (st (S2 arg6 arg10 X6 X10 k) 12) := by
  unfold trip_k0_t1.sl.r_67
  rw [e_r_55, e_r_58]
  generalize S2 arg6 arg10 X6 X10 k = s2z
  rfl

theorem e_r_69 : trip_k0_t1.sl.r_69 (F := Ideal) arg6 arg10 X6 X10 k = inds (S2 arg6 arg10 X6 X10 k) := by
  unfold trip_k0_t1.sl.r_69
  rw [e_r_37, e_r_41, e_r_43, e_r_45, e_r_47, e_r_50, e_r_52, e_r_54, e_r_57, e_r_60, e_r_62, e_r_64, e_r_65, e_r_67]
  generalize S2 arg6 arg10 X6 X10 k = s2z
  rfl

theorem e_r_97 : trip_k0_t1.sl.r_97 (F := Ideal) arg6 arg10 X6 X10 k = (Y arg6 arg10 X6 X10 k) := by
  unfold Y
  rw [← e_r_35, ← e_r_69]
  rfl

theorem e_r_1 : trip_k0_t1.sl.r_1 (F := Ideal) arg6 arg10 X6 X10 k = mx (st (S1 arg6 arg10 X6 X10 k) 0) := by
  unfold trip_k0_t1.sl.r_1
  rfl

theorem e_r_3 : trip_k0_t1.sl.r_3 (F := Ideal) arg6 arg10 X6 X10 k = mx (st (S1 arg6 arg10 X6 X10 k) 1) := by
  unfold trip_k0_t1.sl.r_3
  rfl

theorem e_r_8 : trip_k0_t1.sl.r_8 (F := Ideal) arg6 arg10 X6 X10 k = mx (st (S1 arg6 arg10 X6 X10 k) 3) := by
  unfold trip_k0_t1.sl.r_8
  rw [e_r_5, e_r_6]
  generalize S1 arg6 arg10 X6 X10 k = s1z
  rfl

theorem e_r_10 : trip_k0_t1.sl.r_10 (F := Ideal) arg6 arg10 X6 X10 k = mx (st (S1 arg6 arg10 X6 X10 k) 4) := by
  unfold trip_k0_t1.sl.r_10
  rw [e_r_5, e_r_6]
  generalize S1 arg6 arg10 X6 X10 k = s1z
  rfl

theorem e_r_13 : trip_k0_t1.sl.r_13 (F := Ideal) arg6 arg10 X6 X10 k = mx (st (S1 arg6 arg10 X6 X10 k) 5) := by
  unfold trip_k0_t1.sl.r_13
  rw [e_r_5, e_r_6]
  generalize S1 arg6 arg10 X6 X10 k = s1z
  rfl

theorem e_r_16 : trip_k0_t1.sl.r_16 (F := Ideal) arg6 arg10 X6 X10 k = mx (st (S1 arg6 arg10 X6 X10 k) 6) := by
  unfold trip_k0_t1.sl.r_16
  rw [e_r_12, e_r_15]
  generalize S1 arg6 arg10 X6 X10 k = s1z
  rfl

theorem e_r_18 : trip_k0_t1.sl.r_18 (F := Ideal) arg6 arg10 X6 X10 k = mx (st (S1 arg6 arg10 X6 X10 k) 7) := by
  unfold trip_k0_t1.sl.r_18
  rw [e_r_12, e_r_15]
  generalize S1 arg6 arg10 X6 X10 k = s1z
  rfl

theorem e_r_20 : trip_k0_t1.sl.r_20 (F := Ideal) arg6 arg10 X6 X10 k = mx (st (S1 arg6 arg10 X6 X10 k) 8) := by
  unfold trip_k0_t1.sl.r_20
  rw [e_r_12, e_r_15]
  generalize S1 arg6 arg10 X6 X10 k = s1z
  rfl

theorem e_r_23 : trip_k0_t1.sl.r_23 (F := Ideal) arg6 arg10 X6 X10 k = mx (st (S1 arg6 arg10 X6 X10 k) 9) := by
  unfold trip_k0_t1.sl.r_23
  rw [e_r_12, e_r_15]
  generalize S1 arg6 arg10 X6 X10 k = s1z
  rfl

theorem e_r_25 : trip_k0_t1.sl.r_25 (F := Ideal) arg6 arg10 X6 X10 k = mx (st (S1 arg6 arg10 X6 X10 k) 10) := by
  unfold trip_k0_t1.sl.r_25
  rw [e_r_22, e_r_24]
  generalize S1 arg6 arg10 X6 X10 k = s1z
  rfl

theorem e_r_27 : trip_k0_t1.sl.r_27 (F := Ideal) arg6 arg10 X6 X10 k = mx (st (S1 arg6 arg10 X6 X10 k) 11) := by
  unfold trip_k0_t1.sl.r_27
  rw [e_r_22, e_r_24]
  generalize S1 arg6 arg10 X6 X10 k = s1z
  rfl

theorem e_r_29 : trip_k0_t1.sl.r_29 (F := Ideal) arg6 arg10 X6 X10 k = mx (st (S1 arg6 arg10 X6 X10 k) 12) := by
  unfold trip_k0_t1.sl.r_29
  rw [e_r_22, e_r_24]
  generalize S1 arg6 arg10 X6 X10 k = s1z
  rfl

theorem e_r_32 : trip_k0_t1.sl.r_32 (F := Ideal) arg6 arg10 X6 X10 k = mx (st (S1 arg6 arg10 X6 X10 k) 13) := by
  unfold trip_k0_t1.sl.r_32
  rw [e_r_22, e_r_24]
  generalize S1 arg6 arg10 X6 X10 k = s1z
  rfl

theorem e_r_34 : trip_k0_t1.sl.r_34 (F := Ideal) arg6 arg10 X6 X10 k = vals (S1 arg6 arg10 X6 X10 k) := by
  unfold trip_k0_t1.sl.r_34
  rw [e_r_1, e_r_3, e_r_6, e_r_8, e_r_10, e_r_13, e_r_16, e_r_18, e_r_20, e_r_23, e_r_25, e_r_27, e_r_29, e_r_31, e_r_32, e_r_33]
  generalize S1 arg6 arg10 X6 X10 k = s1z
  rfl

theorem e_r_36 : trip_k0_t1.sl.r_36 (F := Ideal) arg6 arg10 X6 X10 k = mx (st (S2 arg6 arg10 X6 X10 k) 0) := by
  unfold trip_k0_t1.sl.r_36
  rw [e_r]
  generalize S2 arg6 arg10 X6 X10 k = s2z
  rfl

theorem e_r_39 : trip_k0_t1.sl.r_39 (F := Ideal) arg6 arg10 X6 X10 k = mx (st (S2 arg6 arg10 X6 X10 k) 1) := by
  unfold trip_k0_t1.sl.r_39
  rw [e_r]
  generalize S2 arg6 arg10 X6 X10 k = s2z
  rfl

theorem e_r_42 : trip_k0_t1.sl.r_42 (F := Ideal) arg6 arg10 X6 X10 k = mx (st (S2 arg6 arg10 X6 X10 k) 2) := by
  unfold trip_k0_t1.sl.r_42
  rw [e_r_38, e_r_40]
  generalize S2 arg6 arg10 X6 X10 k = s2z
  rfl

theorem e_r_44 : trip_k0_t1.sl.r_44 (F := Ideal) arg6 arg10 X6 X10 k = mx (st (S2 arg6 arg10 X6 X10 k) 3) := by
  unfold trip_k0_t1.sl.r_44
  rw [e_r_38, e_r_40]
  generalize S2 arg6 arg10 X6 X10 k = s2z
  rfl

theorem e_r_46 : trip_k0_t1.sl.r_46 (F := Ideal) arg6 arg10 X6 X10 k = mx (st (S2 arg6 arg10 X6 X10 k) 4) := by
  unfold trip_k0_t1.sl.r_46
  rw [e_r_38, e_r_40]
  generalize S2 arg6 arg10 X6 X10 k = s2z
  rfl

theorem e_r_49 : trip_k0_t1.sl.r_49 (F := Ideal) arg6 arg10 X6 X10 k = mx (st (S2 arg6 arg10 X6 X10 k) 5) := by
  unfold trip_k0_t1.sl.r_49
  rw [e_r_48]
  generalize S2 arg6 arg10 X6 X10 k = s2z
  rfl

theorem e_r_51 : trip_k0_t1.sl.r_51 (F := Ideal) arg6 arg10 X6 X10 k = mx (st (S2 arg6 arg10 X6 X10 k) 6) := by
  unfold trip_k0_t1.sl.r_51
  rw [e_r_48]
  generalize S2 arg6 arg10 X6 X10 k = s2z
  rfl

theorem e_r_53 : trip_k0_t1.sl.r_53 (F := Ideal) arg6 arg10 X6 X10 k = mx (st (S2 arg6 arg10 X6 X10 k) 7) := by
  unfold trip_k0_t1.sl.r_53
  rw [e_r_48]
  generalize S2 arg6 arg10 X6 X10 k = s2z
  rfl

theorem e_r_56 : trip_k0_t1.sl.r_56 (F := Ideal) arg6 arg10 X6 X10 k = mx (st (S2 arg6 arg10 X6 X10 k) 8) := by
  unfold trip_k0_t1.sl.r_56
  rw [e_r_48]
  generalize S2 arg6 arg10 X6 X10 k = s2z
  rfl

theorem e_r_59 : trip_k0_t1.sl.r_59 (F := Ideal) arg6 arg10 X6 X10 k = mx (st (S2 arg6 arg10 X6 X10 k) 9) := by
  unfold trip_k0_t1.sl.r_59
  rw [e_r_55, e_r_58]
  generalize S2 arg6 arg10 X6 X10 k = s2z
  rfl

theorem e_r_61 : trip_k0_t1.sl.r_61 (F := Ideal) arg6 arg10 X6 X10 k = mx (st (S2 arg6 arg10 X6 X10 k) 10) := by
  unfold trip_k0_t1.sl.r_61
  rw [e_r_55, e_r_58]
  generalize S2 arg6 arg10 X6 X10 k = s2z
  rfl

theorem e_r_63 : trip_k0_t1.sl.r_63 (F := Ideal) arg6 arg10 X6 X10 k = mx (st (S2 arg6 arg10 X6 X10 k) 11) := by
  unfold trip_k0_t1.sl.r_63
  rw [e_r_55, e_r_58]
  generalize S2 arg6 arg10 X6 X10 k = s2z
  rfl

theorem e_r_66 : trip_k0_t1.sl.r_66 (F := Ideal) arg6 arg10 X6 X10 k = mx (st (S2 arg6 arg10 X6 X10 k) 12) := by
  unfold trip_k0_t1.sl.r_66
  rw [e_r_55, e_r_58]
  generalize S2 arg6 arg10 X6 X10 k = s2z
  rfl

theorem e_r_68 : trip_k0_t1.sl.r_68 (F := Ideal) arg6 arg10 X6 X10 k = vals (S2 arg6 arg10 X6 X10 k) := by
  unfold trip_k0_t1.sl.r_68
  rw [e_r_36, e_r_39, e_r_42, e_r_44, e_r_46, e_r_49, e_r_51, e_r_53, e_r_56, e_r_59, e_r_61, e_r_63, e_r_65, e_r_66, e_r_67]
  generalize S2 arg6 arg10 X6 X10 k = s2z
  rfl

theorem e_r_99 : trip_k0_t1.sl.r_99 (F := Ideal) arg6 arg10 X6 X10 k = pk (st' (C arg6 arg10 X6 X10 k) 0) (Y arg6 arg10 X6 X10 k) := by
  rw [show C arg6 arg10 X6 X10 k = cand (trip_k0_t1.sl.r_34 (F := Ideal) arg6 arg10 X6 X10 k) (trip_k0_t1.sl.r_68 (F := Ideal) arg6 arg10 X6 X10 k) by rw [e_r_34, e_r_68]; rfl, ← e_r_97]
  rfl

theorem e_r_100 : trip_k0_t1.sl.r_100 (F := Ideal) arg6 arg10 X6 X10 k = st' (C arg6 arg10 X6 X10 k) 1 := by
  rw [show C arg6 arg10 X6 X10 k = cand (trip_k0_t1.sl.r_34 (F := Ideal) arg6 arg10 X6 X10 k) (trip_k0_t1.sl.r_68 (F := Ideal) arg6 arg10 X6 X10 k) by rw [e_r_34, e_r_68]; rfl]
  rfl

theorem e_r_102 : trip_k0_t1.sl.r_102 (F := Ideal) arg6 arg10 X6 X10 k = pk (st' (C arg6 arg10 X6 X10 k) 1) (Y arg6 arg10 X6 X10 k) := by
  unfold trip_k0_t1.sl.r_102
  rw [e_r_97, e_r_100]
  generalize C arg6 arg10 X6 X10 k = cz
  generalize Y arg6 arg10 X6 X10 k = yz
  rfl

theorem e_r_104 : trip_k0_t1.sl.r_104 (F := Ideal) arg6 arg10 X6 X10 k = pk (st' (C arg6 arg10 X6 X10 k) 2) (Y arg6 arg10 X6 X10 k) := by
  unfold trip_k0_t1.sl.r_104
  rw [e_r_97, e_r_100]
  generalize C arg6 arg10 X6 X10 k = cz
  generalize Y arg6 arg10 X6 X10 k = yz
  rfl

theorem e_r_108 : trip_k0_t1.sl.r_108 (F := Ideal) arg6 arg10 X6 X10 k = pks (st' (C arg6 arg10 X6 X10 k) 3) (Y arg6 arg10 X6 X10 k) := by
  unfold trip_k0_t1.sl.r_108
  rw [e_r_97, e_r_100]
  generalize C arg6 arg10 X6 X10 k = cz
  generalize Y arg6 arg10 X6 X10 k = yz
  rfl

theorem e_r_109 : trip_k0_t1.sl.r_109 (F := Ideal) arg6 arg10 X6 X10 k = pk (st' (C arg6 arg10 X6 X10 k) 3) (Y arg6 arg10 X6 X10 k) := by
  unfold trip_k0_t1.sl.r_109
  rw [e_r_108]
  generalize C arg6 arg10 X6 X10 k = cz
  generalize Y arg6 arg10 X6 X10 k = yz
  rfl

theorem e_r_105 : trip_k0_t1.sl.r_105 (F := Ideal) arg6 arg10 X6 X10 k = st' (C arg6 arg10 X6 X10 k) 3 := by
  unfold trip_k0_t1.sl.r_105
  rw [e_r_100]
  generalize C arg6 arg10 X6 X10 k = cz
  rfl

theorem e_r_107 : trip_k0_t1.sl.r_107 (F := Ideal) arg6 arg10 X6 X10 k = ht' (st' (C arg6 arg10 X6 X10 k) 3) := by
  unfold trip_k0_t1.sl.r_107
  rw [e_r_100]
  generalize C arg6 arg10 X6 X10 k = cz
  rfl

theorem e_r_111 : trip_k0_t1.sl.r_111 (F := Ideal) arg6 arg10 X6 X10 k = pk (st' (C arg6 arg10 X6 X10 k) 4) (Y arg6 arg10 X6 X10 k) := by
  unfold trip_k0_t1.sl.r_111
  rw [e_r_97, e_r_105, e_r_107]
  generalize C arg6 arg10 X6 X10 k = cz
  generalize Y arg6 arg10 X6 X10 k = yz
  rfl

theorem e_r_113 : trip_k0_t1.sl.r_113 (F := Ideal) arg6 arg10 X6 X10 k = pk (st' (C arg6 arg10 X6 X10 k) 5) (Y arg6 arg10 X6 X10 k) := by
  unfold trip_k0_t1.sl.r_113
  rw [e_r_97, e_r_105, e_r_107]
  generalize C arg6 arg10 X6 X10 k = cz
  generalize Y arg6 arg10 X6 X10 k = yz
  rfl

theorem e_r_116 : trip_k0_t1.sl.r_116 (F := Ideal) arg6 arg10 X6 X10 k = ps' (st' (C arg6 arg10 X6 X10 k) 6) := by
  unfold trip_k0_t1.sl.r_116
  rw [e_r_105, e_r_107]
  generalize C arg6 arg10 X6 X10 k = cz
  rfl

theorem e_r_117 : trip_k0_t1.sl.r_117 (F := Ideal) arg6 arg10 X6 X10 k = pk (st' (C arg6 arg10 X6 X10 k) 6) (Y arg6 arg10 X6 X10 k) := by
  unfold trip_k0_t1.sl.r_117
  rw [e_r_97, e_r_116]
  generalize C arg6 arg10 X6 X10 k = cz
  generalize Y arg6 arg10 X6 X10 k = yz
  rfl

theorem e_r_114 : trip_k0_t1.sl.r_114 (F := Ideal) arg6 arg10 X6 X10 k = st' (C arg6 arg10 X6 X10 k) 6 := by
  unfold trip_k0_t1.sl.r_114
  rw [e_r_105, e_r_107]
  generalize C arg6 arg10 X6 X10 k = cz
  rfl

theorem e_r_119 : trip_k0_t1.sl.r_119 (F := Ideal) arg6 arg10 X6 X10 k = pk (st' (C arg6 arg10 X6 X10 k) 7) (Y arg6 arg10 X6 X10 k) := by
  unfold trip_k0_t1.sl.r_119
  rw [e_r_97, e_r_114, e_r_116]
  generalize C arg6 arg10 X6 X10 k = cz
  generalize Y arg6 arg10 X6 X10 k = yz
  rfl

theorem e_r_121 : trip_k0_t1.sl.r_121 (F := Ideal) arg6 arg10 X6 X10 k = pk (st' (C arg6 arg10 X6 X10 k) 8) (Y arg6 arg10 X6 X10 k) := by
  unfold trip_k0_t1.sl.r_121
  rw [e_r_97, e_r_114, e_r_116]
  generalize C arg6 arg10 X6 X10 k = cz
  generalize Y arg6 arg10 X6 X10 k = yz
  rfl

theorem e_r_124 : trip_k0_t1.sl.r_124 (F := Ideal) arg6 arg10 X6 X10 k = em' (st' (C arg6 arg10 X6 X10 k) 9) := by
  unfold trip_k0_t1.sl.r_124
  rw [e_r_114, e_r_116]
  generalize C arg6 arg10 X6 X10 k = cz
  rfl

theorem e_r_125 : trip_k0_t1.sl.r_125 (F := Ideal) arg6 arg10 X6 X10 k = pk (st' (C arg6 arg10 X6 X10 k) 9) (Y arg6 arg10 X6 X10 k) := by
  unfold trip_k0_t1.sl.r_125
  rw [e_r_97, e_r_124]
  generalize C arg6 arg10 X6 X10 k = cz
  generalize Y arg6 arg10 X6 X10 k = yz
  rfl

theorem e_r_122 : trip_k0_t1.sl.r_122 (F := Ideal) arg6 arg10 X6 X10 k = st' (C arg6 arg10 X6 X10 k) 9 := by
  unfold trip_k0_t1.sl.r_122
  rw [e_r_114, e_r_116]
  generalize C arg6 arg10 X6 X10 k = cz
  rfl

theorem e_r_127 : trip_k0_t1.sl.r_127 (F := Ideal) arg6 arg10 X6 X10 k = pk (st' (C arg6 arg10 X6 X10 k) 10) (Y arg6 arg10 X6 X10 k) := by
  unfold trip_k0_t1.sl.r_127
  rw [e_r_97, e_r_122, e_r_124]
  generalize C arg6 arg10 X6 X10 k = cz
  generalize Y arg6 arg10 X6 X10 k = yz
  rfl

theorem e_r_131 : trip_k0_t1.sl.r_131 (F := Ideal) arg6 arg10 X6 X10 k = pk (st' (C arg6 arg10 X6 X10 k) 11) (Y arg6 arg10 X6 X10 k) := by
  unfold trip_k0_t1.sl.r_131
  rw [e_r_97, e_r_122, e_r_124]
  generalize C arg6 arg10 X6 X10 k = cz
  generalize Y arg6 arg10 X6 X10 k = yz
  rfl

theorem e_r_128 : trip_k0_t1.sl.r_128 (F := Ideal) arg6 arg10 X6 X10 k = st' (C arg6 arg10 X6 X10 k) 11 := by
  unfold trip_k0_t1.sl.r_128
  rw [e_r_122, e_r_124]
  generalize C arg6 arg10 X6 X10 k = cz
  rfl

theorem e_r_130 : trip_k0_t1.sl.r_130 (F := Ideal) arg6 arg10 X6 X10 k = ht' (st' (C arg6 arg10 X6 X10 k) 11) := by
  unfold trip_k0_t1.sl.r_130
  rw [e_r_122, e_r_124]
  generalize C arg6 arg10 X6 X10 k = cz
  rfl

theorem e_r_133 : trip_k0_t1.sl.r_133 (F := Ideal) arg6 arg10 X6 X10 k = pk (st' (C arg6 arg10 X6 X10 k) 12) (Y arg6 arg10 X6 X10 k) := by
  unfold trip_k0_t1.sl.r_133
  rw [e_r_97, e_r_128, e_r_130]
  generalize C arg6 arg10 X6 X10 k = cz
  generalize Y arg6 arg10 X6 X10 k = yz
  rfl

theorem e_r_135 : trip_k0_t1.sl.r_135 (F := Ideal) arg6 arg10 X6 X10 k = pk (st' (C arg6 arg10 X6 X10 k) 13) (Y arg6 arg10 X6 X10 k) := by
  unfold trip_k0_t1.sl.r_135
  rw [e_r_97, e_r_128, e_r_130]
  generalize C arg6 arg10 X6 X10 k = cz
  generalize Y arg6 arg10 X6 X10 k = yz
  rfl

theorem e_r_138 : trip_k0_t1.sl.r_138 (F := Ideal) arg6 arg10 X6 X10 k = ht' (st' (C arg6 arg10 X6 X10 k) 14) := by
  unfold trip_k0_t1.sl.r_138
  rw [e_r_128, e_r_130]
  generalize C arg6 arg10 X6 X10 k = cz
  rfl

theorem e_v847 : trip_k0_t1.sl.v847 (F := Ideal) arg6 arg10 X6 X10 k = pks (st' (C arg6 arg10 X6 X10 k) 14) (Y arg6 arg10 X6 X10 k) := by
  unfold trip_k0_t1.sl.v847
  rw [e_r_138, e_r_97]
  generalize C arg6 arg10 X6 X10 k = cz
  generalize Y arg6 arg10 X6 X10 k = yz
  rfl

theorem e_r_136 : trip_k0_t1.sl.r_136 (F := Ideal) arg6 arg10 X6 X10 k = st' (C arg6 arg10 X6 X10 k) 14 := by
  unfold trip_k0_t1.sl.r_136
  rw [e_r_128, e_r_130]
  generalize C arg6 arg10 X6 X10 k = cz
  rfl

theorem e_v851 : trip_k0_t1.sl.v851 (F := Ideal) arg6 arg10 X6 X10 k = st' (C arg6 arg10 X6 X10 k) 15 := by
  unfold trip_k0_t1.sl.v851
  rw [e_r_136, e_r_138]
  generalize C arg6 arg10 X6 X10 k = cz
  rfl

theorem e_v853 : trip_k0_t1.sl.v853 (F := Ideal) arg6 arg10 X6 X10 k = mx' (st' (C arg6 arg10 X6 X10 k) 15) := by
  unfold trip_k0_t1.sl.v853
  rw [e_v851]
  generalize C arg6 arg10 X6 X10 k = cz
  rfl

theorem e_v863 : trip_k0_t1.sl.v863 (F := Ideal) arg6 arg10 X6 X10 k = pks (st' (C arg6 arg10 X6 X10 k) 15) (Y arg6 arg10 X6 X10 k) := by
  unfold trip_k0_t1.sl.v863
  rw [e_r_97, e_v851, e_v853]
  generalize C arg6 arg10 X6 X10 k = cz
  generalize Y arg6 arg10 X6 X10 k = yz
  rfl

theorem e_r_139 : trip_k0_t1.sl.r_139 (F := Ideal) arg6 arg10 X6 X10 k = picks (C arg6 arg10 X6 X10 k) (Y arg6 arg10 X6 X10 k) := by
  unfold trip_k0_t1.sl.r_139
  rw [e_r_99, e_r_102, e_r_104, e_r_109, e_r_111, e_r_113, e_r_117, e_r_119, e_r_121, e_r_125, e_r_127, e_r_131, e_r_133, e_r_135, e_v847, e_v863]
  generalize C arg6 arg10 X6 X10 k = cz
  generalize Y arg6 arg10 X6 X10 k = yz
  rfl

theorem e_r_98 : trip_k0_t1.sl.r_98 (F := Ideal) arg6 arg10 X6 X10 k = mx' (st' (C arg6 arg10 X6 X10 k) 0) := by
  rw [show C arg6 arg10 X6 X10 k = cand (trip_k0_t1.sl.r_34 (F := Ideal) arg6 arg10 X6 X10 k) (trip_k0_t1.sl.r_68 (F := Ideal) arg6 arg10 X6 X10 k) by rw [e_r_34, e_r_68]; rfl]
  rfl

theorem e_r_101 : trip_k0_t1.sl.r_101 (F := Ideal) arg6 arg10 X6 X10 k = mx' (st' (C arg6 arg10 X6 X10 k) 1) := by
  unfold trip_k0_t1.sl.r_101
  rw [e_r_100]
  generalize C arg6 arg10 X6 X10 k = cz
  rfl

theorem e_r_103 : trip_k0_t1.sl.r_103 (F := Ideal) arg6 arg10 X6 X10 k = mx' (st' (C arg6 arg10 X6 X10 k) 2) := by
  unfold trip_k0_t1.sl.r_103
  rw [e_r_100]
  generalize C arg6 arg10 X6 X10 k = cz
  rfl

theorem e_r_106 : trip_k0_t1.sl.r_106 (F := Ideal) arg6 arg10 X6 X10 k = mx' (st' (C arg6 arg10 X6 X10 k) 3) := by
  unfold trip_k0_t1.sl.r_106
  rw [e_r_100]
  generalize C arg6 arg10 X6 X10 k = cz
  rfl

theorem e_r_110 : trip_k0_t1.sl.r_110 (F := Ideal) arg6 arg10 X6 X10 k = mx' (st' (C arg6 arg10 X6 X10 k) 4) := by
  unfold trip_k0_t1.sl.r_110
  rw [e_r_105, e_r_107]
  generalize C arg6 arg10 X6 X10 k = cz
  rfl

theorem e_r_112 : trip_k0_t1.sl.r_112 (F := Ideal) arg6 arg10 X6 X10 k = mx' (st' (C arg6 arg10 X6 X10 k) 5) := by
  unfold trip_k0_t1.sl.r_112
  rw [e_r_105, e_r_107]
  generalize C arg6 arg10 X6 X10 k = cz
  rfl

theorem e_r_115 : trip_k0_t1.sl.r_115 (F := Ideal) arg6 arg10 X6 X10 k = mx' (st' (C arg6 arg10 X6 X10 k) 6) := by
  unfold trip_k0_t1.sl.r_115
  rw [e_r_105, e_r_107]
  generalize C arg6 arg10 X6 X10 k = cz
  rfl

theorem e_r_118 : trip_k0_t1.sl.r_118 (F := Ideal) arg6 arg10 X6 X10 k = mx' (st' (C arg6 arg10 X6 X10 k) 7) := by
  unfold trip_k0_t1.sl.r_118
  rw [e_r_114, e_r_116]
  generalize C arg6 arg10 X6 X10 k = cz
  rfl

theorem e_r_120 : trip_k0_t1.sl.r_120 (F := Ideal) arg6 arg10 X6 X10 k = mx' (st' (C arg6 arg10 X6 X10 k) 8) := by
  unfold trip_k0_t1.sl.r_120
  rw [e_r_114, e_r_116]
  generalize C arg6 arg10 X6 X10 k = cz
  rfl

theorem e_r_123 : trip_k0_t1.sl.r_123 (F := Ideal) arg6 arg10 X6 X10 k = mx' (st' (C arg6 arg10 X6 X10 k) 9) := by
  unfold trip_k0_t1.sl.r_123
  rw [e_r_114, e_r_116]
  generalize C arg6 arg10 X6 X10 k = cz
  rfl

theorem e_r_126 : trip_k0_t1.sl.r_126 (F := Ideal) arg6 arg10 X6 X10 k = mx' (st' (C arg6 arg10 X6 X10 k) 10) := by
  unfold trip_k0_t1.sl.r_126
  rw [e_r_122, e_r_124]
  generalize C arg6 arg10 X6 X10 k = cz
  rfl

theorem e_r_129 : trip_k0_t1.sl.r_129 (F := Ideal) arg6 arg10 X6 X10 k = mx' (st' (C arg6 arg10 X6 X10 k) 11) := by
  unfold trip_k0_t1.sl.r_129
  rw [e_r_122, e_r_124]
  generalize C arg6 arg10 X6 X10 k = cz
  rfl

theorem e_r_132 : trip_k0_t1.sl.r_132 (F := Ideal) arg6 arg10 X6 X10 k = mx' (st' (C arg6 arg10 X6 X10 k) 12) := by
  unfold trip_k0_t1.sl.r_132
  rw [e_r_128, e_r_130]
  generalize C arg6 arg10 X6 X10 k = cz
  rfl

theorem e_r_134 : trip_k0_t1.sl.r_134 (F := Ideal) arg6 arg10 X6 X10 k = mx' (st' (C arg6 arg10 X6 X10 k) 13) := by
  unfold trip_k0_t1.sl.r_134
  rw [e_r_128, e_r_130]
  generalize C arg6 arg10 X6 X10 k = cz
  rfl

theorem e_r_137 : trip_k0_t1.sl.r_137 (F := Ideal) arg6 arg10 X6 X10 k = mx' (st' (C arg6 arg10 X6 X10 k) 14) := by
  unfold trip_k0_t1.sl.r_137
  rw [e_r_128, e_r_130]
  generalize C arg6 arg10 X6 X10 k = cz
  rfl

theorem e_r_140 : trip_k0_t1.sl.r_140 (F := Ideal) arg6 arg10 X6 X10 k = gates (vals' (C arg6 arg10 X6 X10 k)) := by
  unfold trip_k0_t1.sl.r_140
  rw [e_r_98, e_r_101, e_r_103, e_r_106, e_r_110, e_r_112, e_r_115, e_r_118, e_r_120, e_r_123, e_r_126, e_r_129, e_r_132, e_r_134, e_r_137, e_v853]
  generalize C arg6 arg10 X6 X10 k = cz
  rfl

end Trip

end Cert.RouteProof
-- ==== Proof.RouteRound.lean ====
module

public import proofs.«01_k».proof.Proof.RouteSteps
public import proofs.«01_k».proof.Proof.RouteSpec
public import Idealize.ShloMosaic.Lib.Pointwise

/-! A round of the routing kernel's extraction read at one token: the round `t` yields the entry and the row of rank `t`. -/

@[expose] public section

set_option maxRecDepth 16384

noncomputable section

namespace Cert.RouteProof

open Idealize.ShloMosaic Idealize.ShloMosaic.TcCoe Idealize.SL.Sem
open Cert.KernelIdeal Cert.KernelIdeal.Gen
open Cert.TopRank

theorem minsi_toInt (a b : BitVec 32) : (IntOp.minsi a b).toInt = min a.toInt b.toInt := by
  unfold IntOp.minsi
  split <;> rename_i h <;> simp only [BitVec.slt, BitVec.sle, decide_eq_true_eq] at h <;> omega

theorem maxsi_toInt (a b : BitVec 32) : (IntOp.maxsi a b).toInt = max a.toInt b.toInt := by
  unfold IntOp.maxsi
  split <;> rename_i h <;> simp only [BitVec.slt, BitVec.sle, decide_eq_true_eq] at h <;> omega

/-- A running signed minimum is an entry that is at most every other. -/
theorem fold_minsi_eq {n : Nat} (b : BitVec 32) (f : Fin n → BitVec 32) (v : BitVec 32) (p : Fin n) (hp : f p = v) (hb : v.toInt ≤ b.toInt)
    (h : ∀ i, v.toInt ≤ (f i).toInt) : Finset.univ.fold IntOp.minsi b f = v := by
  apply BitVec.eq_of_toInt_eq
  rw [← Finset.fold_hom (op := IntOp.minsi) (op' := min) (m := BitVec.toInt) minsi_toInt]
  exact le_antisymm ((Finset.fold_min_le _).mpr (.inr ⟨p, Finset.mem_univ _, by rw [hp]⟩))
    ((Finset.le_fold_min _).mpr ⟨hb, fun i _ => h i⟩)

/-- A running signed maximum is an entry that is at least every other. -/
theorem fold_maxsi_eq {n : Nat} (b : BitVec 32) (f : Fin n → BitVec 32) (v : BitVec 32) (p : Fin n) (hp : f p = v) (hb : b.toInt ≤ v.toInt)
    (h : ∀ i, (f i).toInt ≤ v.toInt) : Finset.univ.fold IntOp.maxsi b f = v := by
  apply BitVec.eq_of_toInt_eq
  rw [← Finset.fold_hom (op := IntOp.maxsi) (op' := max) (m := BitVec.toInt) maxsi_toInt]
  exact le_antisymm ((Finset.fold_max_le _).mpr ⟨hb, fun i _ => h i⟩)
    ((Finset.le_fold_max _).mpr (.inr ⟨p, Finset.mem_univ _, by rw [hp]⟩))

theorem toInt_small (k : Nat) (h : k < 65536) : (BitVec.ofNat 32 k).toInt = k := by
  rw [BitVec.toInt_eq_toNat_of_lt (by rw [BitVec.toNat_ofNat]; omega), BitVec.toNat_ofNat, Nat.mod_eq_of_lt (by omega)]

theorem cmpi_ofNat (a b : Nat) (ha : a < 65536) (hb : b < 65536) :
    IntOp.cmpi .eq (BitVec.ofNat 32 a) (BitVec.ofNat 32 b) = BitVec.ofBool (decide (a = b)) := by
  have h : (BitVec.ofNat 32 a == BitVec.ofNat 32 b) = decide (a = b) := by
    rw [Bool.eq_iff_iff, beq_iff_eq, decide_eq_true_eq]
    constructor
    · intro h
      have := congrArg BitVec.toInt h
      rw [toInt_small _ ha, toInt_small _ hb] at this
      exact_mod_cast this
    · rintro rfl; rfl
  exact congrArg BitVec.ofBool h

theorem select_ofBool {α : Type} (b : Bool) (x y : α) : Scalar.select (BitVec.ofBool b) x y = if b = true then x else y := by
  cases b <;> rfl

/-- The column of a token. -/
def col (x : FVec Ideal S128x256 .f32) (j : Fin 256) : Fin 128 → EReal := fun k => x (ix2 k j)

theorem mx_apply (x : FVec Ideal S128x256 .f32) (j : Fin 256) : mx x (ix2 0 j) = Finset.univ.fold max ⊥ (col x j) := by
  pointwise [mx, col]
  rw [neg_inf]

theorem em_apply (x : FVec Ideal S128x256 .f32) (k : Fin 128) (j : Fin 256) :
    em x (ix2 k j) = FloatOps.cmpf .oeq (x (ix2 k j)) (mx x (ix2 0 j)) := by
  pointwise [em]

theorem cd_apply (x : FVec Ideal S128x256 .f32) (k : Fin 128) (j : Fin 256) :
    cd x (ix2 k j) = if x (ix2 k j) = mx x (ix2 0 j) then BitVec.ofNat 32 k.val else 128#32 := by
  have h : cd x (ix2 k j) = Scalar.select (em x (ix2 k j)) (BitVec.ofNat 32 k.val) 128#32 := by pointwise [cd]
  rw [h, em_apply]
  show Scalar.select (BitVec.ofBool (decide (_ = _))) _ _ = _
  rw [select_ofBool]
  exact if_congr decide_eq_true_iff rfl rfl

theorem ps_apply (x : FVec Ideal S128x256 .f32) (j : Fin 256) :
    ps x (ix2 0 j) = Finset.univ.fold IntOp.minsi 2147483647#32 fun k : Fin 128 => cd x (ix2 k j) := by
  pointwise [ps]

theorem ht_apply (x : FVec Ideal S128x256 .f32) (k : Fin 128) (j : Fin 256) :
    ht x (ix2 k j) = IntOp.cmpi .eq (BitVec.ofNat 32 k.val) (ps x (ix2 0 j)) := by
  pointwise [ht]

theorem mk_apply (x : FVec Ideal S128x256 .f32) (k : Fin 128) (j : Fin 256) :
    mk x (ix2 k j) = Scalar.select (ht x (ix2 k j)) ⊥ (x (ix2 k j)) := by
  pointwise [mk]
  rw [neg_inf]

/-- The round `t` on a column without the rows of rank below `t`. -/
theorem round (x : FVec Ideal S128x256 .f32) (j : Fin 256) (s : Fin 128 → EReal) (t : Fin 128) (hx : col x j = masked s t.val) (hs : s (sel s t) ≠ ⊥) :
    mx x (ix2 0 j) = s (sel s t) ∧ ps x (ix2 0 j) = BitVec.ofNat 32 (sel s t).val
      ∧ (∀ k : Fin 128, ht x (ix2 k j) = BitVec.ofBool (decide (k = sel s t))) ∧ col (mk x) j = masked s (t.val + 1) := by
  have hc : ∀ k, x (ix2 k j) = masked s t.val k := fun k => congrFun hx k
  have hm : mx x (ix2 0 j) = s (sel s t) := by
    rw [mx_apply, hx]
    exact fold_max_eq _ _ _ (sel s t) (masked_sel s t) bot_le (masked_le s t)
  have hp : ps x (ix2 0 j) = BitVec.ofNat 32 (sel s t).val := by
    rw [ps_apply]
    refine fold_minsi_eq _ _ _ (sel s t) ?_ ?_ fun i => ?_
    · rw [cd_apply, hm, hc, if_pos (masked_sel s t)]
    · rw [toInt_small _ (by omega)]
      have : (2147483647#32 : BitVec 32).toInt = 2147483647 := by decide
      omega
    · rw [cd_apply, hm, hc, toInt_small _ (by omega)]
      split
      · rename_i h
        have := le_of_masked_eq s t hs i h
        rw [toInt_small _ (by omega)]
        exact_mod_cast this
      · have : (128#32 : BitVec 32).toInt = 128 := by decide
        omega
  have hh : ∀ k : Fin 128, ht x (ix2 k j) = BitVec.ofBool (decide (k = sel s t)) := fun k => by
    rw [ht_apply, hp]
    exact (cmpi_ofNat _ _ (by omega) (by omega)).trans (congrArg BitVec.ofBool (decide_eq_decide.mpr Fin.val_inj))
  refine ⟨hm, hp, hh, funext fun k => ?_⟩
  show mk x (ix2 k j) = _
  rw [mk_apply, hh, hc, ← masked_succ, select_ofBool]
  exact if_congr decide_eq_true_iff rfl rfl

theorem col_st (x : FVec Ideal S128x256 .f32) (j : Fin 256) (r : Nat) (hr : r ≤ 128)
    (hs : ∀ t : Fin 128, t.val < r → col x j (sel (col x j) t) ≠ ⊥) : col (st x r) j = masked (col x j) r := by
  induction r with
  | zero => rw [masked_zero]; rfl
  | succ r ih =>
    exact (round (st x r) j (col x j) ⟨r, hr⟩ (ih (by omega) fun t ht => hs t (by omega)) (hs ⟨r, hr⟩ (Nat.lt_succ_self r))).2.2.2

theorem mx_st (x : FVec Ideal S128x256 .f32) (j : Fin 256) (r : Fin 128) (hs : ∀ t : Fin 128, t ≤ r → col x j (sel (col x j) t) ≠ ⊥) :
    mx (st x r.val) (ix2 0 j) = col x j (sel (col x j) r) :=
  (round _ j _ r (col_st x j r.val r.isLt.le fun t ht => hs t (by omega)) (hs r le_rfl)).1

theorem ps_st (x : FVec Ideal S128x256 .f32) (j : Fin 256) (r : Fin 128) (hs : ∀ t : Fin 128, t ≤ r → col x j (sel (col x j) t) ≠ ⊥) :
    ps (st x r.val) (ix2 0 j) = BitVec.ofNat 32 (sel (col x j) r).val :=
  (round _ j _ r (col_st x j r.val r.isLt.le fun t ht => hs t (by omega)) (hs r le_rfl)).2.1

/-- The column of a token. -/
def col' (x : FVec Ideal S56x256 .f32) (j : Fin 256) : Fin 56 → EReal := fun k => x (ix2 k j)

theorem mx'_apply (x : FVec Ideal S56x256 .f32) (j : Fin 256) : mx' x (ix2 0 j) = Finset.univ.fold max ⊥ (col' x j) := by
  pointwise [mx', col']
  rw [neg_inf]

theorem em'_apply (x : FVec Ideal S56x256 .f32) (k : Fin 56) (j : Fin 256) :
    em' x (ix2 k j) = FloatOps.cmpf .oeq (x (ix2 k j)) (mx' x (ix2 0 j)) := by
  pointwise [em']

theorem cd'_apply (x : FVec Ideal S56x256 .f32) (k : Fin 56) (j : Fin 256) :
    cd' x (ix2 k j) = if x (ix2 k j) = mx' x (ix2 0 j) then BitVec.ofNat 32 k.val else 56#32 := by
  have h : cd' x (ix2 k j) = Scalar.select (em' x (ix2 k j)) (BitVec.ofNat 32 k.val) 56#32 := by pointwise [cd']
  rw [h, em'_apply]
  show Scalar.select (BitVec.ofBool (decide (_ = _))) _ _ = _
  rw [select_ofBool]
  exact if_congr decide_eq_true_iff rfl rfl

theorem ps'_apply (x : FVec Ideal S56x256 .f32) (j : Fin 256) :
    ps' x (ix2 0 j) = Finset.univ.fold IntOp.minsi 2147483647#32 fun k : Fin 56 => cd' x (ix2 k j) := by
  pointwise [ps']

theorem ht'_apply (x : FVec Ideal S56x256 .f32) (k : Fin 56) (j : Fin 256) :
    ht' x (ix2 k j) = IntOp.cmpi .eq (BitVec.ofNat 32 k.val) (ps' x (ix2 0 j)) := by
  pointwise [ht']

theorem mk'_apply (x : FVec Ideal S56x256 .f32) (k : Fin 56) (j : Fin 256) :
    mk' x (ix2 k j) = Scalar.select (ht' x (ix2 k j)) ⊥ (x (ix2 k j)) := by
  pointwise [mk']
  rw [neg_inf]

/-- The round `t` on a column without the rows of rank below `t`. -/
theorem round' (x : FVec Ideal S56x256 .f32) (j : Fin 256) (s : Fin 56 → EReal) (t : Fin 56) (hx : col' x j = masked s t.val) (hs : s (sel s t) ≠ ⊥) :
    mx' x (ix2 0 j) = s (sel s t) ∧ ps' x (ix2 0 j) = BitVec.ofNat 32 (sel s t).val
      ∧ (∀ k : Fin 56, ht' x (ix2 k j) = BitVec.ofBool (decide (k = sel s t))) ∧ col' (mk' x) j = masked s (t.val + 1) := by
  have hc : ∀ k, x (ix2 k j) = masked s t.val k := fun k => congrFun hx k
  have hm : mx' x (ix2 0 j) = s (sel s t) := by
    rw [mx'_apply, hx]
    exact fold_max_eq _ _ _ (sel s t) (masked_sel s t) bot_le (masked_le s t)
  have hp : ps' x (ix2 0 j) = BitVec.ofNat 32 (sel s t).val := by
    rw [ps'_apply]
    refine fold_minsi_eq _ _ _ (sel s t) ?_ ?_ fun i => ?_
    · rw [cd'_apply, hm, hc, if_pos (masked_sel s t)]
    · rw [toInt_small _ (by omega)]
      have : (2147483647#32 : BitVec 32).toInt = 2147483647 := by decide
      omega
    · rw [cd'_apply, hm, hc, toInt_small _ (by omega)]
      split
      · rename_i h
        have := le_of_masked_eq s t hs i h
        rw [toInt_small _ (by omega)]
        exact_mod_cast this
      · have : (56#32 : BitVec 32).toInt = 56 := by decide
        omega
  have hh : ∀ k : Fin 56, ht' x (ix2 k j) = BitVec.ofBool (decide (k = sel s t)) := fun k => by
    rw [ht'_apply, hp]
    exact (cmpi_ofNat _ _ (by omega) (by omega)).trans (congrArg BitVec.ofBool (decide_eq_decide.mpr Fin.val_inj))
  refine ⟨hm, hp, hh, funext fun k => ?_⟩
  show mk' x (ix2 k j) = _
  rw [mk'_apply, hh, hc, ← masked_succ, select_ofBool]
  exact if_congr decide_eq_true_iff rfl rfl

theorem col'_st (x : FVec Ideal S56x256 .f32) (j : Fin 256) (r : Nat) (hr : r ≤ 56)
    (hs : ∀ t : Fin 56, t.val < r → col' x j (sel (col' x j) t) ≠ ⊥) : col' (st' x r) j = masked (col' x j) r := by
  induction r with
  | zero => rw [masked_zero]; rfl
  | succ r ih =>
    exact (round' (st' x r) j (col' x j) ⟨r, hr⟩ (ih (by omega) fun t ht => hs t (by omega)) (hs ⟨r, hr⟩ (Nat.lt_succ_self r))).2.2.2

theorem mx'_st (x : FVec Ideal S56x256 .f32) (j : Fin 256) (r : Fin 56) (hs : ∀ t : Fin 56, t ≤ r → col' x j (sel (col' x j) t) ≠ ⊥) :
    mx' (st' x r.val) (ix2 0 j) = col' x j (sel (col' x j) r) :=
  (round' _ j _ r (col'_st x j r.val r.isLt.le fun t ht => hs t (by omega)) (hs r le_rfl)).1

theorem ps'_st (x : FVec Ideal S56x256 .f32) (j : Fin 256) (r : Fin 56) (hs : ∀ t : Fin 56, t ≤ r → col' x j (sel (col' x j) t) ≠ ⊥) :
    ps' (st' x r.val) (ix2 0 j) = BitVec.ofNat 32 (sel (col' x j) r).val :=
  (round' _ j _ r (col'_st x j r.val r.isLt.le fun t ht => hs t (by omega)) (hs r le_rfl)).2.1

theorem pks_apply (x : FVec Ideal S56x256 .f32) (y : IVec S56x256 32) (k : Fin 56) (j : Fin 256) :
    pks x y (ix2 k j) = Scalar.select (ht' x (ix2 k j)) (y (ix2 k j)) 4294967295#32 := by
  pointwise [pks]

theorem pk_apply (x : FVec Ideal S56x256 .f32) (y : IVec S56x256 32) (j : Fin 256) :
    pk x y (ix2 0 j) = Finset.univ.fold IntOp.maxsi 2147483648#32 fun k : Fin 56 => pks x y (ix2 k j) := by
  pointwise [pk]

/-- The payload of round `r` is that of the row of rank `r`. -/
theorem pk_st (x : FVec Ideal S56x256 .f32) (y : IVec S56x256 32) (j : Fin 256) (r : Fin 56)
    (hs : ∀ t : Fin 56, t ≤ r → col' x j (sel (col' x j) t) ≠ ⊥) (hy : -1 ≤ (y (ix2 (sel (col' x j) r) j)).toInt) :
    pk (st' x r.val) y (ix2 0 j) = y (ix2 (sel (col' x j) r) j) := by
  have h := (round' _ j _ r (col'_st x j r.val r.isLt.le fun t ht => hs t (by omega)) (hs r le_rfl)).2.2.1
  rw [pk_apply]
  refine fold_maxsi_eq _ _ _ (sel (col' x j) r) ?_ ?_ fun i => ?_
  · rw [pks_apply, h, select_ofBool, if_pos (by simp)]
  · have : (2147483648#32 : BitVec 32).toInt = -2147483648 := by decide
    omega
  · rw [pks_apply, h, select_ofBool]
    split
    · rename_i hi
      rw [of_decide_eq_true hi]
    · have : (4294967295#32 : BitVec 32).toInt = -1 := by decide
      omega

theorem vals_apply (x : FVec Ideal S128x256 .f32) (r : Fin 16) (j : Fin 256) : vals x (ix2 r j) = mx (st x r.val) (ix2 0 j) := by
  fin_cases r <;> pointwise [vals]

theorem inds_apply (x : FVec Ideal S128x256 .f32) (r : Fin 16) (j : Fin 256) : inds x (ix2 r j) = ps (st x r.val) (ix2 0 j) := by
  fin_cases r <;> pointwise [inds]

theorem vals'_apply (x : FVec Ideal S56x256 .f32) (r : Fin 16) (j : Fin 256) : vals' x (ix2 r j) = mx' (st' x r.val) (ix2 0 j) := by
  fin_cases r <;> pointwise [vals']

theorem picks_apply (x : FVec Ideal S56x256 .f32) (y : IVec S56x256 32) (r : Fin 16) (j : Fin 256) :
    picks x y (ix2 r j) = pk (st' x r.val) y (ix2 0 j) := by
  fin_cases r <;> pointwise [picks]

end Cert.RouteProof
-- ==== Proof.RouteCand.lean ====
module

public import proofs.«01_k».proof.Proof.RouteRound

/-! # The candidates of a head

Entry by entry: the sums of the two halves' best scores over the kept pairs, and the experts' numbers of these pairs. -/

@[expose] public section

noncomputable section

namespace Cert.RouteProof

open Idealize.ShloMosaic Idealize.ShloMosaic.TcCoe Idealize.SL.Sem
open Cert.KernelIdeal Cert.KernelIdeal.Gen Cert.TopRank

set_option maxRecDepth 4000 in
theorem cand_apply (u v : FVec Ideal S16x256 .f32) (r : Fin 56) (j : Fin 256) :
    cand u v (ix2 r j) = kept (fun a => u (ix2 a j)) (fun b => v (ix2 b j)) r := by
  fin_cases r
  all_goals first
    | (pointwise [cand, k0_pay112, k0_pay114, k0_pay116, k0_pay118, k0_pay120, k0_pay122, k0_pay124, k0_pay126, k0_pay128, k0_pay130, k0_pay132, k0_pay134, k0_pay137]; rfl)
    | (pointwise [cand, k0_pay112, k0_pay114, k0_pay116, k0_pay118, k0_pay120, k0_pay122, k0_pay124, k0_pay126, k0_pay128, k0_pay130, k0_pay132, k0_pay134, k0_pay137]; exact neg_inf)

/-- The experts' numbers of the kept pairs. -/
def keptI (u v : Fin 16 → BitVec 32) (r : Fin 56) : BitVec 32 :=
  if h : r.val < 50 then IntOp.addi (IntOp.muli (u (ga ⟨r.val, h⟩)) 128#32) (v (gb ⟨r.val, h⟩)) else 4294967295#32

set_option maxRecDepth 4000 in
theorem cidx_apply (u v : IVec S16x256 32) (r : Fin 56) (j : Fin 256) :
    cidx u v (ix2 r j) = keptI (fun a => u (ix2 a j)) (fun b => v (ix2 b j)) r := by
  fin_cases r
  all_goals (pointwise [cidx, k0_pay110, k0_pay111, k0_pay113, k0_pay115, k0_pay117, k0_pay119, k0_pay121, k0_pay123, k0_pay125, k0_pay127, k0_pay129, k0_pay131, k0_pay133, k0_pay135, k0_pay136, k0_pay138]; rfl)

theorem gates_apply (t : FVec Ideal S16x256 .f32) (r : Fin 16) (j : Fin 256) :
    gates t (ix2 r j) = Ideal.div (Ideal.exp (t (ix2 r j) - t (ix2 0 j))) (0 + ∑ r' : Fin 16, Ideal.exp (t (ix2 r' j) - t (ix2 0 j))) := by
  pointwise [gates]

end Cert.RouteProof
-- ==== Proof.RouteHead.lean ====
module

public import proofs.«01_k».proof.Proof.RouteCand
public import proofs.«01_k».proof.Proof.RouteSpec

/-! # A head of the kernel

The extraction rounds of the kernel's loop, run on the scores of a head, yield the experts and gates. -/

@[expose] public section

noncomputable section

namespace Cert.RouteProof

open Idealize.ShloMosaic Idealize.ShloMosaic.TcCoe Idealize.SL.Sem
open Cert.KernelIdeal Cert.KernelIdeal.Gen Cert.TopRank

theorem vals_eq (x : FVec Ideal S128x256 .f32) (j : Fin 256) (hx : ∀ k, col x j k ≠ ⊥) (a : Fin 16) : vals x (ix2 a j) = best (col x j) a := by
  rw [vals_apply]
  exact mx_st x j (a.castLE (by omega)) fun t _ => hx _

theorem inds_eq (x : FVec Ideal S128x256 .f32) (j : Fin 256) (hx : ∀ k, col x j k ≠ ⊥) (a : Fin 16) :
    inds x (ix2 a j) = BitVec.ofNat 32 (key (col x j) a).val := by
  rw [inds_apply]
  exact ps_st x j (a.castLE (by omega)) fun t _ => hx _

section Head

variable (x x' : FVec Ideal S128x256 .f32) (j : Fin 256) (hx : ∀ k, col x j k ≠ ⊥) (hx' : ∀ k, col x' j k ≠ ⊥)
include hx hx'

theorem col_cand : col' (cand (vals x) (vals x')) j = kept (best (col x j)) (best (col x' j)) := by
  funext r
  show cand (vals x) (vals x') (ix2 r j) = _
  rw [cand_apply, funext (vals_eq x j hx), funext (vals_eq x' j hx')]

theorem sel_cand (t : Fin 16) : ∃ r : Fin 50, g r = pair (col x j) (col x' j) t
    ∧ sel (col' (cand (vals x) (vals x')) j) (t.castLE (by omega)) = r.castLE (by omega) := by
  rw [col_cand x x' j hx hx']
  exact kept_sel _ _ (best_anti _) (best_anti _) (pairs_ne _ _ hx hx') t

theorem kept_castLE (u v : Fin 16 → EReal) (r : Fin 50) : kept u v (r.castLE (by omega)) = full u v (g r) := by
  unfold g
  rw [full_pr]
  exact dif_pos r.isLt

theorem cand_at (t : Fin 16) : col' (cand (vals x) (vals x')) j (sel (col' (cand (vals x) (vals x')) j) (t.castLE (by omega)))
    = score (col x j) (col x' j) t := by
  obtain ⟨r, hr, h⟩ := sel_cand x x' j hx hx' t
  rw [h, col_cand x x' j hx hx', kept_castLE x x' j hx hx', hr]
  rfl

theorem cand_ne (t : Fin 56) (ht : t.val < 16) :
    col' (cand (vals x) (vals x')) j (sel (col' (cand (vals x) (vals x')) j) t) ≠ ⊥ := by
  refine ne_of_eq_of_ne (cand_at x x' j hx hx' ⟨t.val, ht⟩) ?_
  exact pairs_ne _ _ hx hx' _ _

theorem top_eq (t : Fin 16) : vals' (cand (vals x) (vals x')) (ix2 t j) = score (col x j) (col x' j) t := by
  rw [vals'_apply, ← cand_at x x' j hx hx']
  exact mx'_st _ j (t.castLE (by omega)) fun t' h => cand_ne x x' j hx hx' t' (by have : t'.val ≤ t.val := h; omega)

theorem gates_eq (t : Fin 16) : gates (vals' (cand (vals x) (vals x'))) (ix2 t j) = gate (col x j) (col x' j) t := by
  rw [gates_apply]
  simp only [top_eq x x' j hx hx']
  rfl

theorem picks_eq (t : Fin 16) : picks (cand (vals x) (vals x')) (cidx (inds x) (inds x')) (ix2 t j) = expert (col x j) (col x' j) t := by
  obtain ⟨r, hr, h⟩ := sel_cand x x' j hx hx' t
  have hy : cidx (inds x) (inds x') (ix2 (sel (col' (cand (vals x) (vals x')) j) (t.castLE (by omega))) j)
      = expert (col x j) (col x' j) t := by
    rw [h, cidx_apply, funext (inds_eq x j hx), funext (inds_eq x' j hx')]
    unfold expert
    rw [← hr]
    unfold g
    rw [number_pr]
    exact dif_pos r.isLt
  rw [picks_apply, ← hy]
  refine pk_st _ _ j (t.castLE (by omega)) (fun t' h => cand_ne x x' j hx hx' t' (by have : t'.val ≤ t.val := h; omega)) ?_
  rw [hy]
  exact le_trans (by omega) (number_nonneg _ _ _)

end Head

end Cert.RouteProof
-- ==== Proof.RouteLoop.lean ====
module

public import proofs.«01_k».proof.Proof.RouteHead
public import proofs.«01_k».proof.Proof.Gen.KernelIdeal.Value
public import Idealize.ShloMosaic.Lib.Pointwise
public import Idealize.ShloMosaic.Lib.Pipeline.ValueKit.Tiles

/-! What the routing kernel's loop over the heads leaves in its two scratch buffers, and what its trips read. -/

@[expose] public section

set_option maxRecDepth 16384

noncomputable section

namespace Cert.RouteProof

open Idealize.ShloMosaic Idealize.ShloMosaic.TcCoe Idealize.SL.Sem
open Cert.KernelIdeal Cert.KernelIdeal.Gen Cert.TopRank

/-- A list built by putting one trip's list in front after another holds what the trips hold. -/
theorem mem_trips {α : Type*} {n : ℕ} (T : Fin n → List α) (P : ℕ → List α) (h0 : P 0 = []) (hs : ∀ k : Fin n, P (k.val + 1) = T k ++ P k.val)
    (p : α) : ∀ j, j ≤ n → (p ∈ P j ↔ ∃ k : Fin n, k.val < j ∧ p ∈ T k)
  | 0, _ => by simp [h0]
  | j + 1, hj => by
    rw [hs ⟨j, hj⟩, List.mem_append, mem_trips T P h0 hs p j (by omega)]
    constructor
    · rintro (h | ⟨k, hk, h⟩)
      · exact ⟨⟨j, hj⟩, Nat.lt_succ_self j, h⟩
      · exact ⟨k, Nat.lt_succ_of_lt hk, h⟩
    · rintro ⟨k, hk, h⟩
      rcases Nat.lt_succ_iff_lt_or_eq.mp hk with hk | hk
      · exact .inr ⟨k, hk, h⟩
      · left
        have : k = ⟨j, hj⟩ := Fin.ext hk
        rwa [← this]

theorem trips_eq : k0_t1_loop.trips = 8 := by decide +kernel

/-- The row that trip `k`'s row `r` is stored to. -/
theorem row_emb (k : Fin k0_t1_loop.trips) (r : Fin 16) (j : Fin 256) :
    (Rect.unit (s := S128x256) (k0_off4 k) S16x256.size (k0_off4_inb k)).emb (ix2 r j)
      = ix2 (⟨16 * k.val + r.val, by have := lt_of_lt_of_eq k.isLt trips_eq; omega⟩ : Fin 128) j := by
  refine funext fun a => Fin.ext ?_
  refine (Rect.idx_unit_val ..).trans ?_
  refine (congrArg (· + _) (congrFun (k0_off4_eq k) a)).trans ?_
  fin_cases a
  · rfl
  · exact Nat.zero_add _

/-- Reading the whole buffer after all trips, where each stored its 16 rows. -/
theorem loop_read {e : EltTy} (v : View sig .tc .vmem S128x256 e) (f : v.ty.Contents (Elt Ideal))
    (T : Fin k0_t1_loop.trips → List (View.Piece (Elt Ideal) S128x256 e)) (P : ℕ → List (View.Piece (Elt Ideal) S128x256 e))
    (h0 : P 0 = []) (hs : ∀ k : Fin k0_t1_loop.trips, P (k.val + 1) = T k ++ P k.val)
    (A : Fin k0_t1_loop.trips → S16x256.Idx → Elt Ideal e)
    (hT : ∀ k, T k = [⟨Rect.unit (s := S128x256) (k0_off4 k) S16x256.size (k0_off4_inb k), A k⟩])
    (G : S128x256.Idx → Elt Ideal e)
    (hG : ∀ (k : Fin k0_t1_loop.trips) (r : Fin 16) (j : Fin 256),
      A k (ix2 r j) = G (ix2 ⟨16 * k.val + r.val, by have := lt_of_lt_of_eq k.isLt trips_eq; omega⟩ j)) :
    v.read (Elt Ideal) (v.writes (Elt Ideal) f (P k0_t1_loop.trips)) = G := by
  funext y
  refine View.read_writes_apply_of_pieces v f G _ (fun p hp x => ?_) y ?_
  · obtain ⟨k, -, hk⟩ := (mem_trips T P h0 hs p _ le_rfl).mp hp
    rw [hT, List.mem_singleton] at hk
    subst hk
    change S16x256.Idx at x
    idx_vars x
    rw [row_emb]
    exact hG k x0 x1
  · idx_vars y
    refine ⟨_, (mem_trips T P h0 hs _ _ le_rfl).mpr ⟨⟨y0.val / 16, by rw [trips_eq]; omega⟩, by have := trips_eq; show y0.val / 16 < _; omega, by rw [hT]; exact List.mem_singleton_self _⟩, ?_⟩
    have he := row_emb ⟨y0.val / 16, by rw [trips_eq]; omega⟩ ⟨y0.val % 16, by omega⟩ y1
    have hy : (⟨16 * (y0.val / 16) + y0.val % 16, by omega⟩ : Fin 128) = y0 := Fin.ext (Nat.div_add_mod _ _)
    rw [show (ix2 y0 y1 : S128x256.Idx) = _ from (congrArg (fun q => ix2 q y1) hy).symm]
    rw [← he]
    exact LoadRect.idx_mem _ _

section Trip

variable (arg6 : Memref sig .tc .vmem S8x2x128x64 .bf16) (arg10 : Memref sig .tc .vmem S8x256x128 .bf16)
  (X6 : BufTy.Contents (Elt Ideal) arg6.view.ty) (X10 : BufTy.Contents (Elt Ideal) arg10.view.ty) (k : Fin k0_t1_loop.trips)

theorem slab_read (t : Fin 256) (d : Fin 128) :
    View.readAt (Elt Ideal) arg10.view (Rect.unit (s := S8x256x128) (k0_off1 k) S1x256x128.size (k0_off1_inb k)).toLoadRect X10 (ix3 0 t d)
      = arg10.view.read (Elt Ideal) X10 (ix3 ⟨k.val, lt_of_lt_of_eq k.isLt trips_eq⟩ t d) := by
  refine (View.readAt_apply ..).trans (congrArg _ (funext fun a => Fin.ext ?_))
  refine (Rect.idx_unit_val ..).trans ?_
  refine (congrArg (· + _) (congrFun (k0_off1_eq k) a)).trans ?_
  fin_cases a
  · rfl
  · exact Nat.zero_add _
  · exact Nat.zero_add _

theorem keys_read (n : Fin 128) (d : Fin 64) :
    View.readAt (Elt Ideal) arg6.view (Rect.unit (s := S8x2x128x64) (k0_off2 k) S1x1x128x64.size (k0_off2_inb k)).toLoadRect X6 (ix4 0 0 n d)
      = arg6.view.read (Elt Ideal) X6 (ix4 ⟨k.val, lt_of_lt_of_eq k.isLt trips_eq⟩ 0 n d) := by
  refine (View.readAt_apply ..).trans (congrArg _ (funext fun a => Fin.ext ?_))
  refine (Rect.idx_unit_val ..).trans ?_
  refine (congrArg (· + _) (congrFun (k0_off2_eq k) a)).trans ?_
  fin_cases a
  · rfl
  · rfl
  · exact Nat.zero_add _
  · exact Nat.zero_add _

theorem keys_read' (n : Fin 128) (d : Fin 64) :
    View.readAt (Elt Ideal) arg6.view (Rect.unit (s := S8x2x128x64) (k0_off3 k) S1x1x128x64.size (k0_off3_inb k)).toLoadRect X6 (ix4 0 0 n d)
      = arg6.view.read (Elt Ideal) X6 (ix4 ⟨k.val, lt_of_lt_of_eq k.isLt trips_eq⟩ 1 n d) := by
  refine (View.readAt_apply ..).trans (congrArg _ (funext fun a => Fin.ext ?_))
  refine (Rect.idx_unit_val ..).trans ?_
  refine (congrArg (· + _) (congrFun (k0_off3_eq k) a)).trans ?_
  fin_cases a
  · rfl
  · rfl
  · exact Nat.zero_add _
  · exact Nat.zero_add _

theorem pay4_eq (q : FVec Ideal S1x256x128 .bf16) (kk : FVec Ideal S1x1x128x64 .bf16) (n : Fin 128) (t : Fin 256) :
    k0_pay4 (F := Ideal) q kk (ix2 n t) = ∑ d : Fin 64, kk (ix4 0 0 n d) * q (ix3 0 t ⟨d.val, by omega⟩) := by
  pointwise [k0_pay4, k0_pay3]

theorem pay5_eq (q : FVec Ideal S1x256x128 .bf16) (kk : FVec Ideal S1x1x128x64 .bf16) (n : Fin 128) (t : Fin 256) :
    k0_pay5 (F := Ideal) q kk (ix2 n t) = ∑ d : Fin 64, kk (ix4 0 0 n d) * q (ix3 0 t ⟨64 + d.val, by omega⟩) := by
  pointwise [k0_pay5, k0_pay3]

theorem S1_apply (n : Fin 128) (t : Fin 256) : S1 arg6 arg10 X6 X10 k (ix2 n t)
    = ∑ d : Fin 64, arg6.view.read (Elt Ideal) X6 (ix4 ⟨k.val, lt_of_lt_of_eq k.isLt trips_eq⟩ 0 n d)
        * arg10.view.read (Elt Ideal) X10 (ix3 ⟨k.val, lt_of_lt_of_eq k.isLt trips_eq⟩ t ⟨d.val, by omega⟩) := by
  unfold S1
  refine (pay4_eq _ _ n t).trans (Finset.sum_congr rfl fun d _ => ?_)
  rw [keys_read, slab_read]

theorem S2_apply (n : Fin 128) (t : Fin 256) : S2 arg6 arg10 X6 X10 k (ix2 n t)
    = ∑ d : Fin 64, arg6.view.read (Elt Ideal) X6 (ix4 ⟨k.val, lt_of_lt_of_eq k.isLt trips_eq⟩ 1 n d)
        * arg10.view.read (Elt Ideal) X10 (ix3 ⟨k.val, lt_of_lt_of_eq k.isLt trips_eq⟩ t ⟨64 + d.val, by omega⟩) := by
  unfold S2
  refine (pay5_eq _ _ n t).trans (Finset.sum_congr rfl fun d _ => ?_)
  rw [keys_read', slab_read]

end Trip

end Cert.RouteProof
-- ==== Proof.RouteBody.lean ====
module

public import proofs.«01_k».proof.Proof.RouteLoop

/-! What one grid point of the routing kernel stores: the modulated tokens, and the experts and gates of its 256 tokens. -/

@[expose] public section

set_option maxRecDepth 16384

noncomputable section

namespace Cert.RouteProof

open Idealize.ShloMosaic Idealize.ShloMosaic.TcCoe Idealize.SL.Sem
open Cert.KernelIdeal Cert.KernelIdeal.Gen Cert.TopRank

theorem zero3 : (![0, 0, 0] : Fin 3 → Nat) = fun _ => 0 := funext fun a => by fin_cases a <;> rfl
theorem zero2 : (![0, 0] : Fin 2 → Nat) = fun _ => 0 := funext fun a => by fin_cases a <;> rfl

/-- Reading a whole operand gives what it holds. -/
theorem read_arg {S : Shape} {e : EltTy} (a : Memref sig .tc .vmem S e) (h : a.IsWhole) {off : Fin S.rank → Nat} (h0 : off = fun _ => 0)
    (inb : ∀ q, off q + S.size q ≤ S.size q) (x : S.Idx → Elt Ideal e) :
    View.readAt (Elt Ideal) a.view (Rect.unit off S.size inb).toLoadRect (h.unread x) = x := by
  rw [View.readAt_eq_ld, h.read_unread, View.ld_unit_zero h0]

section Heads

/-- The place of an entry of head `h`'s queries. -/
theorem head_emb (h : Fin 8) (inb : ∀ a, (![h.val, 0, 0] : Fin 3 → Nat) a + S1x256x128.size a ≤ S8x256x128.size a) (t : Fin 256) (d : Fin 128) :
    (Rect.unit (s := S8x256x128) ![h.val, 0, 0] S1x256x128.size inb).emb (ix3 0 t d) = ix3 h t d := by
  refine funext fun a => Fin.ext ((Rect.idx_unit_val ..).trans ?_)
  fin_cases a
  · rfl
  · exact Nat.zero_add _
  · exact Nat.zero_add _

/-- What the buffer of the queries holds once all eight heads are stored. -/
def slabs (q : FVec Ideal S256x1024 .f32) : S8x256x128.Idx → EReal :=
  fun y => q (ix2 (y 1) ⟨(y 0).val * 128 + (y 2).val, by have h : (y 0).val < 8 := (y 0).isLt; have h' : (y 2).val < 128 := (y 2).isLt; omega⟩)

theorem slab_piece (q : FVec Ideal S256x1024 .f32) (h : Fin 8) (inb : ∀ a, (![h.val, 0, 0] : Fin 3 → Nat) a + S1x256x128.size a ≤ S8x256x128.size a)
    (P : S1x256x128.Idx → EReal) (hP : ∀ (t : Fin 256) (d : Fin 128), P (ix3 0 t d) = q (ix2 t ⟨h.val * 128 + d.val, by omega⟩)) (x : S1x256x128.Idx) :
    P x = slabs q ((Rect.unit (s := S8x256x128) ![h.val, 0, 0] S1x256x128.size inb).emb x) := by
  idx_vars x
  obtain rfl : x0 = 0 := Subsingleton.elim _ _
  rw [head_emb]
  exact hP x1 x2

theorem slab_mem (h : Fin 8) (inb : ∀ a, (![h.val, 0, 0] : Fin 3 → Nat) a + S1x256x128.size a ≤ S8x256x128.size a) (t : Fin 256) (d : Fin 128) :
    (ix3 h t d : S8x256x128.Idx) ∈ (Rect.unit (s := S8x256x128) ![h.val, 0, 0] S1x256x128.size inb).set := by
  rw [← head_emb h inb]
  exact LoadRect.idx_mem _ _

theorem slabs_read (v : View sig .tc .vmem S8x256x128 .bf16) (f : v.ty.Contents (Elt Ideal)) (q : FVec Ideal S256x1024 .f32)
    (P0 P1 P2 P3 P4 P5 P6 P7 : S1x256x128.Idx → EReal)
    (h0 : ∀ (t : Fin 256) (d : Fin 128), P0 (ix3 0 t d) = q (ix2 t ⟨0 * 128 + d.val, by omega⟩))
    (h1 : ∀ (t : Fin 256) (d : Fin 128), P1 (ix3 0 t d) = q (ix2 t ⟨1 * 128 + d.val, by omega⟩))
    (h2 : ∀ (t : Fin 256) (d : Fin 128), P2 (ix3 0 t d) = q (ix2 t ⟨2 * 128 + d.val, by omega⟩))
    (h3 : ∀ (t : Fin 256) (d : Fin 128), P3 (ix3 0 t d) = q (ix2 t ⟨3 * 128 + d.val, by omega⟩))
    (h4 : ∀ (t : Fin 256) (d : Fin 128), P4 (ix3 0 t d) = q (ix2 t ⟨4 * 128 + d.val, by omega⟩))
    (h5 : ∀ (t : Fin 256) (d : Fin 128), P5 (ix3 0 t d) = q (ix2 t ⟨5 * 128 + d.val, by omega⟩))
    (h6 : ∀ (t : Fin 256) (d : Fin 128), P6 (ix3 0 t d) = q (ix2 t ⟨6 * 128 + d.val, by omega⟩))
    (h7 : ∀ (t : Fin 256) (d : Fin 128), P7 (ix3 0 t d) = q (ix2 t ⟨7 * 128 + d.val, by omega⟩))
    : v.read (Elt Ideal) (v.writes (Elt Ideal) f [
      ⟨Rect.unit (s := S8x256x128) ![7, 0, 0] S1x256x128.size inb_S8x256x128_S1x256x128_7_0_0, P7⟩,
      ⟨Rect.unit (s := S8x256x128) ![6, 0, 0] S1x256x128.size inb_S8x256x128_S1x256x128_6_0_0, P6⟩,
      ⟨Rect.unit (s := S8x256x128) ![5, 0, 0] S1x256x128.size inb_S8x256x128_S1x256x128_5_0_0, P5⟩,
      ⟨Rect.unit (s := S8x256x128) ![4, 0, 0] S1x256x128.size inb_S8x256x128_S1x256x128_4_0_0, P4⟩,
      ⟨Rect.unit (s := S8x256x128) ![3, 0, 0] S1x256x128.size inb_S8x256x128_S1x256x128_3_0_0, P3⟩,
      ⟨Rect.unit (s := S8x256x128) ![2, 0, 0] S1x256x128.size inb_S8x256x128_S1x256x128_2_0_0, P2⟩,
      ⟨Rect.unit (s := S8x256x128) ![1, 0, 0] S1x256x128.size inb_S8x256x128_S1x256x128_1_0_0, P1⟩,
      ⟨Rect.unit (s := S8x256x128) ![0, 0, 0] S1x256x128.size inb_S8x256x128_S1x256x128_0_0_0, P0⟩])
      = slabs q := by
  funext y
  refine View.read_writes_apply_of_pieces v f (slabs q) _ ?_ y ?_
  · simp only [List.forall_mem_cons]
    exact ⟨slab_piece q 7 inb_S8x256x128_S1x256x128_7_0_0 P7 h7, slab_piece q 6 inb_S8x256x128_S1x256x128_6_0_0 P6 h6, slab_piece q 5 inb_S8x256x128_S1x256x128_5_0_0 P5 h5, slab_piece q 4 inb_S8x256x128_S1x256x128_4_0_0 P4 h4, slab_piece q 3 inb_S8x256x128_S1x256x128_3_0_0 P3 h3, slab_piece q 2 inb_S8x256x128_S1x256x128_2_0_0 P2 h2, slab_piece q 1 inb_S8x256x128_S1x256x128_1_0_0 P1 h1, slab_piece q 0 inb_S8x256x128_S1x256x128_0_0_0 P0 h0, fun _ hp => absurd hp List.not_mem_nil⟩
  · idx_vars y
    fin_cases y0
    · exact ⟨_, .tail _ (.tail _ (.tail _ (.tail _ (.tail _ (.tail _ (.tail _ (.head _))))))), slab_mem 0 inb_S8x256x128_S1x256x128_0_0_0 y1 y2⟩
    · exact ⟨_, .tail _ (.tail _ (.tail _ (.tail _ (.tail _ (.tail _ (.head _)))))), slab_mem 1 inb_S8x256x128_S1x256x128_1_0_0 y1 y2⟩
    · exact ⟨_, .tail _ (.tail _ (.tail _ (.tail _ (.tail _ (.head _))))), slab_mem 2 inb_S8x256x128_S1x256x128_2_0_0 y1 y2⟩
    · exact ⟨_, .tail _ (.tail _ (.tail _ (.tail _ (.head _)))), slab_mem 3 inb_S8x256x128_S1x256x128_3_0_0 y1 y2⟩
    · exact ⟨_, .tail _ (.tail _ (.tail _ (.head _))), slab_mem 4 inb_S8x256x128_S1x256x128_4_0_0 y1 y2⟩
    · exact ⟨_, .tail _ (.tail _ (.head _)), slab_mem 5 inb_S8x256x128_S1x256x128_5_0_0 y1 y2⟩
    · exact ⟨_, .tail _ (.head _), slab_mem 6 inb_S8x256x128_S1x256x128_6_0_0 y1 y2⟩
    · exact ⟨_, .head _, slab_mem 7 inb_S8x256x128_S1x256x128_7_0_0 y1 y2⟩

variable (x : FVec Ideal S1x256x1024 .f32) (sc sh : FVec Ideal S1x1x1024 .f32) (w : FVec Ideal S1024x1024 .bf16)

/-- A query's entry at one of the grid point's tokens. -/
def bq (t : Fin 256) (i : Fin 1024) : EReal :=
  ∑ e : Fin 1024, (x (ix3 0 t e) * (1 + sc (ix3 0 0 e)) + sh (ix3 0 0 e)) * w (ix2 e i)

theorem pay208_eq (j0 : Fin 1) (t : Fin 256) (e : Fin 1024) :
    k0_pay208 (F := Ideal) x sc sh (ix3 j0 t e) = x (ix3 0 t e) * (1 + sc (ix3 0 0 e)) + sh (ix3 0 0 e) := by
  pointwise [k0_pay208, k0_pay207]

theorem pay209_eq (t : Fin 256) (i : Fin 1024) : k0_pay209 (F := Ideal) x sc sh w (ix2 t i) = bq x sc sh w t i := by
  pointwise [k0_pay209, k0_pay207, bq]

theorem head0_eq (t : Fin 256) (d : Fin 128) : k0_pay210 (F := Ideal) x sc sh w (ix3 0 t d) = k0_pay209 (F := Ideal) x sc sh w (ix2 t ⟨0 * 128 + d.val, by omega⟩) := by
  unfold k0_pay210
  generalize k0_pay209 (F := Ideal) x sc sh w = q
  pointwise

theorem head1_eq (t : Fin 256) (d : Fin 128) : k0_pay211 (F := Ideal) x sc sh w (ix3 0 t d) = k0_pay209 (F := Ideal) x sc sh w (ix2 t ⟨1 * 128 + d.val, by omega⟩) := by
  unfold k0_pay211
  generalize k0_pay209 (F := Ideal) x sc sh w = q
  pointwise

theorem head2_eq (t : Fin 256) (d : Fin 128) : k0_pay213 (F := Ideal) (k0_pay212 x sc sh w) (ix3 0 t d) = k0_pay209 (F := Ideal) x sc sh w (ix2 t ⟨2 * 128 + d.val, by omega⟩) := by
  unfold k0_pay213 k0_pay212
  generalize k0_pay209 (F := Ideal) x sc sh w = q
  pointwise

theorem head3_eq (q : FVec Ideal S256x1024 .f32) (t : Fin 256) (d : Fin 128) : k0_pay214 (F := Ideal) q (ix3 0 t d) = q (ix2 t ⟨3 * 128 + d.val, by omega⟩) := by
  pointwise [k0_pay214]

theorem head4_eq (q : FVec Ideal S256x1024 .f32) (t : Fin 256) (d : Fin 128) : k0_pay215 (F := Ideal) q (ix3 0 t d) = q (ix2 t ⟨4 * 128 + d.val, by omega⟩) := by
  pointwise [k0_pay215]

theorem head5_eq (q : FVec Ideal S256x1024 .f32) (t : Fin 256) (d : Fin 128) : k0_pay216 (F := Ideal) q (ix3 0 t d) = q (ix2 t ⟨5 * 128 + d.val, by omega⟩) := by
  pointwise [k0_pay216]

theorem head6_eq (q : FVec Ideal S256x1024 .f32) (t : Fin 256) (d : Fin 128) : k0_pay217 (F := Ideal) q (ix3 0 t d) = q (ix2 t ⟨6 * 128 + d.val, by omega⟩) := by
  pointwise [k0_pay217]

theorem head7_eq (q : FVec Ideal S256x1024 .f32) (t : Fin 256) (d : Fin 128) : k0_pay218 (F := Ideal) q (ix3 0 t d) = q (ix2 t ⟨7 * 128 + d.val, by omega⟩) := by
  pointwise [k0_pay218]

end Heads

section Loop

theorem pay220_eq (x : IVec S16x256 32) : k0_pay220 x = x := by
  funext j
  idx_vars j
  pointwise [k0_pay220]

theorem pay219_eq (x : FVec Ideal S16x256 .f32) : k0_pay219 (F := Ideal) x = x := by
  funext j
  idx_vars j
  pointwise [k0_pay219]

theorem pay1_eq (x : IVec S128x256 32) (j0 : Fin 1) (t : Fin 256) (i : Fin 128) : k0_pay1 (k0_pay221 (F := Ideal) x) (ix3 j0 t i) = x (ix2 i t) := by
  pointwise [k0_pay1, k0_pay221]

theorem pay2_eq (x : FVec Ideal S128x256 .f32) (j0 : Fin 1) (t : Fin 256) (i : Fin 128) : k0_pay2 (F := Ideal) x (ix3 j0 t i) = x (ix2 i t) := by
  pointwise [k0_pay2]

variable (c : Dev nD) (i : grid0.Coords)
  (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S8x2x128x64 .bf16) (harg6 : arg6.IsWhole) (arg7 : Memref sig .tc .vmem S1x256x1024 .f32) (harg7 : arg7.IsWhole) (arg8 : Memref sig .tc .vmem S1x256x128 .i32) (harg8 : arg8.IsWhole) (arg9 : Memref sig .tc .vmem S1x256x128 .f32) (harg9 : arg9.IsWhole) (arg10 : Memref sig .tc .vmem S8x256x128 .bf16) (harg10 : arg10.IsWhole) (arg11 : Memref sig .tc .vmem S128x256 .i32) (harg11 : arg11.IsWhole) (arg12 : Memref sig .tc .vmem S128x256 .f32) (harg12 : arg12.IsWhole)
  (v18 : FVec Ideal S256x1024 .f32) (v30 : FVec Ideal S256x128 .bf16) (X6 : BufTy.Contents (Elt Ideal) arg6.view.ty) (X10 : BufTy.Contents (Elt Ideal) arg10.view.ty)

set_option maxHeartbeats 4000000 in
theorem trip_experts (k : Fin k0_t1_loop.trips) : (trip_k0_t1 (F := Ideal) Variants.none c none i arg2 harg2 arg3 harg3 arg4 harg4 arg5 harg5 arg6 harg6 arg7 harg7 arg8 harg8 arg9 harg9 arg10 harg10 arg11 harg11 arg12 harg12 v18 v30 X6 X10 k).1
    = [⟨Rect.unit (s := S128x256) (k0_off4 k) S16x256.size (k0_off4_inb k), picks (C arg6 arg10 X6 X10 k) (Y arg6 arg10 X6 X10 k)⟩] := by
  rw [trip_k0_t1]
  dsimp only
  rw [e_r_139, pay220_eq]

theorem loop_experts (s : Fin 8 → Fin 2 → Fin 256 → Fin 128 → EReal) (hs : ∀ a b t n, s a b t n ≠ ⊥)
    (h1 : ∀ (k : Fin k0_t1_loop.trips) t, col (S1 arg6 arg10 X6 X10 k) t = s ⟨k.val, lt_of_lt_of_eq k.isLt trips_eq⟩ 0 t)
    (h2 : ∀ (k : Fin k0_t1_loop.trips) t, col (S2 arg6 arg10 X6 X10 k) t = s ⟨k.val, lt_of_lt_of_eq k.isLt trips_eq⟩ 1 t)
    (f : arg11.view.ty.Contents (Elt Ideal)) (r : Fin 128) (t : Fin 256) :
    arg11.view.read (Elt Ideal) (arg11.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 v18 v30 X6 X10 k0_t1_loop.trips).1) (ix2 r t)
      = expert (s ⟨r.val / 16, by omega⟩ 0 t) (s ⟨r.val / 16, by omega⟩ 1 t) ⟨r.val % 16, by omega⟩ := by
  have h := loop_read arg11.view f (fun k => (trip_k0_t1 (F := Ideal) Variants.none c none i arg2 harg2 arg3 harg3 arg4 harg4 arg5 harg5 arg6 harg6 arg7 harg7 arg8 harg8 arg9 harg9 arg10 harg10 arg11 harg11 arg12 harg12 v18 v30 X6 X10 k).1) (fun n => (pb_k0_t1 (F := Ideal) Variants.none c none i arg2 harg2 arg3 harg3 arg4 harg4 arg5 harg5 arg6 harg6 arg7 harg7 arg8 harg8 arg9 harg9 arg10 harg10 arg11 harg11 arg12 harg12 v18 v30 X6 X10 n).1)
    rfl (fun k => congrArg (fun q => q.1) (pb_k0_t1_succ (F := Ideal) Variants.none c none i arg2 harg2 arg3 harg3 arg4 harg4 arg5 harg5 arg6 harg6 arg7 harg7 arg8 harg8 arg9 harg9 arg10 harg10 arg11 harg11 arg12 harg12 v18 v30 X6 X10 k)) (fun k => picks (C arg6 arg10 X6 X10 k) (Y arg6 arg10 X6 X10 k))
    (fun k => trip_experts c i arg2 harg2 arg3 harg3 arg4 harg4 arg5 harg5 arg6 harg6 arg7 harg7 arg8 harg8 arg9 harg9 arg10 harg10 arg11 harg11 arg12 harg12 v18 v30 X6 X10 k)
    (fun y => expert (s ⟨(y 0).val / 16, by have h : (y 0).val < 128 := (y 0).isLt; omega⟩ 0 (y 1)) (s ⟨(y 0).val / 16, by have h : (y 0).val < 128 := (y 0).isLt; omega⟩ 1 (y 1)) ⟨(y 0).val % 16, by omega⟩)
    (fun k r t => ?_)
  · exact congrFun h (ix2 r t)
  · have hk : k.val < 8 := lt_of_lt_of_eq k.isLt trips_eq
    refine (picks_eq (S1 arg6 arg10 X6 X10 k) (S2 arg6 arg10 X6 X10 k) t (fun n => ?_) (fun n => ?_) r).trans ?_
    · rw [h1]; exact hs _ _ _ _
    · rw [h2]; exact hs _ _ _ _
    · rw [h1, h2]
      show _ = expert (s ⟨(16 * k.val + r.val) / 16, _⟩ 0 t) (s ⟨(16 * k.val + r.val) / 16, _⟩ 1 t) ⟨(16 * k.val + r.val) % 16, _⟩
      have e1 : (16 * k.val + r.val) / 16 = k.val := by omega
      have e2 : (16 * k.val + r.val) % 16 = r.val := by omega
      simp only [e1, e2]

set_option maxHeartbeats 4000000 in
theorem trip_gates (k : Fin k0_t1_loop.trips) : (trip_k0_t1 (F := Ideal) Variants.none c none i arg2 harg2 arg3 harg3 arg4 harg4 arg5 harg5 arg6 harg6 arg7 harg7 arg8 harg8 arg9 harg9 arg10 harg10 arg11 harg11 arg12 harg12 v18 v30 X6 X10 k).2.1
    = [⟨Rect.unit (s := S128x256) (k0_off4 k) S16x256.size (k0_off4_inb k), gates (vals' (C arg6 arg10 X6 X10 k))⟩] := by
  rw [trip_k0_t1]
  dsimp only
  rw [e_r_140, pay219_eq]

theorem loop_gates (s : Fin 8 → Fin 2 → Fin 256 → Fin 128 → EReal) (hs : ∀ a b t n, s a b t n ≠ ⊥)
    (h1 : ∀ (k : Fin k0_t1_loop.trips) t, col (S1 arg6 arg10 X6 X10 k) t = s ⟨k.val, lt_of_lt_of_eq k.isLt trips_eq⟩ 0 t)
    (h2 : ∀ (k : Fin k0_t1_loop.trips) t, col (S2 arg6 arg10 X6 X10 k) t = s ⟨k.val, lt_of_lt_of_eq k.isLt trips_eq⟩ 1 t)
    (f : arg12.view.ty.Contents (Elt Ideal)) (r : Fin 128) (t : Fin 256) :
    arg12.view.read (Elt Ideal) (arg12.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 v18 v30 X6 X10 k0_t1_loop.trips).2) (ix2 r t)
      = gate (s ⟨r.val / 16, by omega⟩ 0 t) (s ⟨r.val / 16, by omega⟩ 1 t) ⟨r.val % 16, by omega⟩ := by
  have h := loop_read arg12.view f (fun k => (trip_k0_t1 (F := Ideal) Variants.none c none i arg2 harg2 arg3 harg3 arg4 harg4 arg5 harg5 arg6 harg6 arg7 harg7 arg8 harg8 arg9 harg9 arg10 harg10 arg11 harg11 arg12 harg12 v18 v30 X6 X10 k).2.1) (fun n => (pb_k0_t1 (F := Ideal) Variants.none c none i arg2 harg2 arg3 harg3 arg4 harg4 arg5 harg5 arg6 harg6 arg7 harg7 arg8 harg8 arg9 harg9 arg10 harg10 arg11 harg11 arg12 harg12 v18 v30 X6 X10 n).2)
    rfl (fun k => congrArg (fun q => q.2) (pb_k0_t1_succ (F := Ideal) Variants.none c none i arg2 harg2 arg3 harg3 arg4 harg4 arg5 harg5 arg6 harg6 arg7 harg7 arg8 harg8 arg9 harg9 arg10 harg10 arg11 harg11 arg12 harg12 v18 v30 X6 X10 k)) (fun k => gates (vals' (C arg6 arg10 X6 X10 k)))
    (fun k => trip_gates c i arg2 harg2 arg3 harg3 arg4 harg4 arg5 harg5 arg6 harg6 arg7 harg7 arg8 harg8 arg9 harg9 arg10 harg10 arg11 harg11 arg12 harg12 v18 v30 X6 X10 k)
    (fun y => gate (s ⟨(y 0).val / 16, by have h : (y 0).val < 128 := (y 0).isLt; omega⟩ 0 (y 1)) (s ⟨(y 0).val / 16, by have h : (y 0).val < 128 := (y 0).isLt; omega⟩ 1 (y 1)) ⟨(y 0).val % 16, by omega⟩)
    (fun k r t => ?_)
  · exact congrFun h (ix2 r t)
  · have hk : k.val < 8 := lt_of_lt_of_eq k.isLt trips_eq
    refine (gates_eq (S1 arg6 arg10 X6 X10 k) (S2 arg6 arg10 X6 X10 k) t (fun n => ?_) (fun n => ?_) r).trans ?_
    · rw [h1]; exact hs _ _ _ _
    · rw [h2]; exact hs _ _ _ _
    · rw [h1, h2]
      show _ = gate (s ⟨(16 * k.val + r.val) / 16, _⟩ 0 t) (s ⟨(16 * k.val + r.val) / 16, _⟩ 1 t) ⟨(16 * k.val + r.val) % 16, _⟩
      have e1 : (16 * k.val + r.val) / 16 = k.val := by omega
      have e2 : (16 * k.val + r.val) % 16 = r.val := by omega
      simp only [e1, e2]

end Loop

section Out

variable (c : Dev nD) (i : grid0.Coords)
  (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S8x2x128x64 .bf16) (harg6 : arg6.IsWhole) (arg7 : Memref sig .tc .vmem S1x256x1024 .f32) (harg7 : arg7.IsWhole) (arg8 : Memref sig .tc .vmem S1x256x128 .i32) (harg8 : arg8.IsWhole) (arg9 : Memref sig .tc .vmem S1x256x128 .f32) (harg9 : arg9.IsWhole) (arg10 : Memref sig .tc .vmem S8x256x128 .bf16) (harg10 : arg10.IsWhole) (arg11 : Memref sig .tc .vmem S128x256 .i32) (harg11 : arg11.IsWhole) (arg12 : Memref sig .tc .vmem S128x256 .f32) (harg12 : arg12.IsWhole)
  (x0 : FVec Ideal S1x256x1024 .f32) (x1 x2 : FVec Ideal S1x1x1024 .f32) (x3 : FVec Ideal S1024x1024 .bf16) (x4 : FVec Ideal S8x2x128x64 .bf16)

/-- The scores of the keys of half `b` of head `a` at one of the grid point's tokens. -/
def bs (a : Fin 8) (b : Fin 2) (t : Fin 256) (n : Fin 128) : EReal :=
  ∑ d : Fin 64, x4 (ix4 a b n d) * bq x0 x1 x2 x3 t ⟨a.val * 128 + b.val * 64 + d.val, by omega⟩

set_option maxHeartbeats 4000000 in
theorem queries_read (f : arg10.view.ty.Contents (Elt Ideal)) :
    arg10.view.read (Elt Ideal) (arg10.view.writes (Elt Ideal) f (kernelRun0_A.sl.HS0_8 (F := Ideal) c arg2 harg2 arg3 harg3 arg4 harg4 arg5 harg5 x0 x1 x2 x3)) = slabs (k0_pay209 (F := Ideal) x0 x1 x2 x3) := by
  unfold kernelRun0_A.sl.HS0_8 kernelRun0_A.sl.r kernelRun0_A.sl.r_1
  rw [read_arg arg2 harg2 zero3, read_arg arg3 harg3 zero3, read_arg arg4 harg4 zero3, read_arg arg5 harg5 zero2]
  exact slabs_read arg10.view f (k0_pay209 (F := Ideal) x0 x1 x2 x3) _ _ _ _ _ _ _ _ (head0_eq x0 x1 x2 x3) (head1_eq x0 x1 x2 x3) (head2_eq x0 x1 x2 x3)
    (head3_eq _) (head4_eq _) (head5_eq _) (head6_eq _) (head7_eq _)

abbrev Xq : arg10.view.ty.Contents (Elt Ideal) := arg10.view.writes (Elt Ideal) arg10.view.junk (kernelRun0_A.sl.HS0_8 (F := Ideal) c arg2 harg2 arg3 harg3 arg4 harg4 arg5 harg5 x0 x1 x2 x3)

theorem col_S1 (k : Fin k0_t1_loop.trips) (t : Fin 256) :
    col (S1 arg6 arg10 (harg6.unread x4) (Xq c arg2 harg2 arg3 harg3 arg4 harg4 arg5 harg5 arg10 x0 x1 x2 x3) k) t = bs x0 x1 x2 x3 x4 ⟨k.val, lt_of_lt_of_eq k.isLt trips_eq⟩ 0 t := by
  funext n
  refine (S1_apply ..).trans (Finset.sum_congr rfl fun d _ => ?_)
  rw [harg6.read_unread, queries_read]
  refine congrArg (x4 _ * ·) ((pay209_eq x0 x1 x2 x3 t _).trans (congrArg (bq x0 x1 x2 x3 t) (Fin.ext ?_)))
  show k.val * 128 + d.val = k.val * 128 + 0 * 64 + d.val
  omega

theorem col_S2 (k : Fin k0_t1_loop.trips) (t : Fin 256) :
    col (S2 arg6 arg10 (harg6.unread x4) (Xq c arg2 harg2 arg3 harg3 arg4 harg4 arg5 harg5 arg10 x0 x1 x2 x3) k) t = bs x0 x1 x2 x3 x4 ⟨k.val, lt_of_lt_of_eq k.isLt trips_eq⟩ 1 t := by
  funext n
  refine (S2_apply ..).trans (Finset.sum_congr rfl fun d _ => ?_)
  rw [harg6.read_unread, queries_read]
  refine congrArg (x4 _ * ·) ((pay209_eq x0 x1 x2 x3 t _).trans (congrArg (bq x0 x1 x2 x3 t) (Fin.ext ?_)))
  show k.val * 128 + (64 + d.val) = k.val * 128 + 1 * 64 + d.val
  omega

set_option maxHeartbeats 4000000 in
theorem out5_eq (j0 : Fin 1) (t : Fin 256) (e : Fin 1024) :
    out0_A_5 (F := Ideal) c i arg2 harg2 arg3 harg3 arg4 harg4 arg5 harg5 arg6 harg6 arg7 harg7 arg8 harg8 arg9 harg9 arg10 harg10 arg11 harg11 arg12 harg12 x0 x1 x2 x3 x4 (ix3 j0 t e) = x0 (ix3 0 t e) * (1 + x1 (ix3 0 0 e)) + x2 (ix3 0 0 e) := by
  unfold out0_A_5 kernelRun0_A
  dsimp only
  unfold kernelRun0_A.sl.H5_1
  rw [View.read_writes_junk_eq_canon, View.canon_unit_zero zero3, read_arg arg2 harg2 zero3, read_arg arg3 harg3 zero3, read_arg arg4 harg4 zero3]
  exact pay208_eq x0 x1 x2 j0 t e

set_option maxHeartbeats 4000000 in
theorem out6_eq (hs : ∀ a b t n, bs x0 x1 x2 x3 x4 a b t n ≠ ⊥) (j0 : Fin 1) (t : Fin 256) (r : Fin 128) :
    out0_A_6 (F := Ideal) c i arg2 harg2 arg3 harg3 arg4 harg4 arg5 harg5 arg6 harg6 arg7 harg7 arg8 harg8 arg9 harg9 arg10 harg10 arg11 harg11 arg12 harg12 x0 x1 x2 x3 x4 (ix3 j0 t r)
      = expert (bs x0 x1 x2 x3 x4 ⟨r.val / 16, by omega⟩ 0 t) (bs x0 x1 x2 x3 x4 ⟨r.val / 16, by omega⟩ 1 t) ⟨r.val % 16, by omega⟩ := by
  unfold out0_A_6 kernelRun0_A
  dsimp only
  unfold kernelRun0_A.sl.r_2
  rw [View.read_writes_junk_eq_canon, View.canon_unit_zero zero3]
  unfold View.readCov
  rw [View.readAt_eq_ld, View.ld_unit_zero zero2]
  refine (pay1_eq _ j0 t r).trans ?_
  exact loop_experts c i arg2 harg2 arg3 harg3 arg4 harg4 arg5 harg5 arg6 harg6 arg7 harg7 arg8 harg8 arg9 harg9 arg10 harg10 arg11 harg11 arg12 harg12 _ _ _ _ (bs x0 x1 x2 x3 x4) hs
    (col_S1 c arg2 harg2 arg3 harg3 arg4 harg4 arg5 harg5 arg6 harg6 arg10 x0 x1 x2 x3 x4) (col_S2 c arg2 harg2 arg3 harg3 arg4 harg4 arg5 harg5 arg6 harg6 arg10 x0 x1 x2 x3 x4) _ r t

set_option maxHeartbeats 4000000 in
theorem out7_eq (hs : ∀ a b t n, bs x0 x1 x2 x3 x4 a b t n ≠ ⊥) (j0 : Fin 1) (t : Fin 256) (r : Fin 128) :
    out0_A_7 (F := Ideal) c i arg2 harg2 arg3 harg3 arg4 harg4 arg5 harg5 arg6 harg6 arg7 harg7 arg8 harg8 arg9 harg9 arg10 harg10 arg11 harg11 arg12 harg12 x0 x1 x2 x3 x4 (ix3 j0 t r)
      = gate (bs x0 x1 x2 x3 x4 ⟨r.val / 16, by omega⟩ 0 t) (bs x0 x1 x2 x3 x4 ⟨r.val / 16, by omega⟩ 1 t) ⟨r.val % 16, by omega⟩ := by
  unfold out0_A_7 kernelRun0_A
  dsimp only
  rw [View.read_writes_junk_eq_canon, View.canon_unit_zero zero3]
  unfold View.readCov
  rw [View.readAt_eq_ld, View.ld_unit_zero zero2]
  refine (pay2_eq _ j0 t r).trans ?_
  exact loop_gates c i arg2 harg2 arg3 harg3 arg4 harg4 arg5 harg5 arg6 harg6 arg7 harg7 arg8 harg8 arg9 harg9 arg10 harg10 arg11 harg11 arg12 harg12 _ _ _ _ (bs x0 x1 x2 x3 x4) hs
    (col_S1 c arg2 harg2 arg3 harg3 arg4 harg4 arg5 harg5 arg6 harg6 arg10 x0 x1 x2 x3 x4) (col_S2 c arg2 harg2 arg3 harg3 arg4 harg4 arg5 harg5 arg6 harg6 arg10 x0 x1 x2 x3 x4) _ r t

end Out

end Cert.RouteProof
-- ==== Proof.RouteRef.lean ====
module

public import proofs.«01_k».proof.Proof.Gen.ReferenceIdeal.Run
public import proofs.«01_k».proof.Proof.RouteSpec
public import Idealize.ShloMosaic.Lib.Pointwise

/-! # The routing's reference

Its results by named stages, and each stage at an index. -/

@[expose] public section

noncomputable section

namespace Cert.RouteProof.Ref

open Idealize.ShloMosaic Idealize.ShloMosaic.TcCoe Idealize.SL.Sem
open Cert.ReferenceIdeal Cert.ReferenceIdeal.Gen Cert.ReferenceIdeal.Value Cert.TopRank

/-- The modulated tokens. -/
def hid (x : FVec Ideal S1x2048x1024 .f32) (sc sh : FVec Ideal S1x1024 .f32) : FVec Ideal S1x2048x1024 .f32 :=
  addf (mulf x (broadcastInDim S1x2048x1024 ![0, 1, 2] bcast_S1x1x1024_S1x2048x1024_0_1_2 (addf (broadcastInDim S1x1x1024 ![] bcast_S_S1x1x1024 (constant S_ .f32 0x3F800000#32)) (broadcastInDim S1x1x1024 ![0, 2] bcast_S1x1024_S1x1x1024_0_2 sc)))) (broadcastInDim S1x2048x1024 ![0, 1, 2] bcast_S1x1x1024_S1x2048x1024_0_1_2 (broadcastInDim S1x1x1024 ![0, 2] bcast_S1x1024_S1x1x1024_0_2 sh))

/-- The queries. -/
def qry (h : FVec Ideal S1x2048x1024 .f32) (w : FVec Ideal S1024x1024 .f32) : FVec Ideal S2048x8x2x64 .f32 :=
  shapeCast _ (Host.dotGeneral dot_S2048x1024_S1024x1024_S2048x1024_1_0_0_1_n_n none (shapeCast S2048x1024 h shapeCasts_S1x2048x1024_S2048x1024) w) shapeCasts_S2048x1024_S2048x8x2x64

/-- The keys' scores. -/
def scr (k : FVec Ideal S8x2x128x64 .f32) (q : FVec Ideal S2048x8x2x64 .f32) : FVec Ideal S2048x8x2x128 .f32 :=
  transpose S2048x8x2x128 [3, 0, 1, 2] (Host.dotGeneral dot_S8x2x128x64_S2048x8x2x64_S8x2x128x2048_3_3_2_0_01_12 none k q) transposes_S8x2x128x2048_S2048x8x2x128_3_0_1_2

/-- The first half's scores. -/
def half (s : FVec Ideal S2048x8x2x128 .f32) : FVec Ideal S2048x8x128 .f32 :=
  shapeCast _ (extractStridedSlice S2048x8x1x128 ![0, 0, 0, 0] s slices_S2048x8x2x128_S2048x8x1x128_0_0_0_0) shapeCasts_S2048x8x1x128_S2048x8x128

/-- The second half's scores. -/
def half' (s : FVec Ideal S2048x8x2x128 .f32) : FVec Ideal S2048x8x128 .f32 :=
  shapeCast _ (extractStridedSlice S2048x8x1x128 ![0, 0, 1, 0] s slices_S2048x8x2x128_S2048x8x1x128_0_0_1_0) shapeCasts_S2048x8x1x128_S2048x8x128

/-- The best keys. -/
def top (x : FVec Ideal S2048x8x128 .f32) : FVec Ideal S2048x8x16 .f32 × IVec S2048x8x16 32 :=
  Host.topK S2048x8x16 2 (FloatOps.cmpfTotal .gt) x sliceFits_S2048x8x128_S2048x8x16

/-- The best pairs. -/
def topp (x : FVec Ideal S2048x8x256 .f32) : FVec Ideal S2048x8x16 .f32 × IVec S2048x8x16 32 :=
  Host.topK S2048x8x16 2 (FloatOps.cmpfTotal .gt) x sliceFits_S2048x8x256_S2048x8x16

/-- The pairs' scores. -/
def sums (u v : FVec Ideal S2048x8x16 .f32) : FVec Ideal S2048x8x256 .f32 :=
  shapeCast _ (addf (broadcastInDim S2048x8x16x16 ![0, 1, 2, 3] bcast_S2048x8x16x1_S2048x8x16x16_0_1_2_3 (broadcastInDim S2048x8x16x1 ![0, 1, 2] bcast_S2048x8x16_S2048x8x16x1_0_1_2 u))
    (broadcastInDim S2048x8x16x16 ![0, 1, 2, 3] bcast_S2048x8x1x16_S2048x8x16x16_0_1_2_3 (broadcastInDim S2048x8x1x16 ![0, 1, 3] bcast_S2048x8x16_S2048x8x1x16_0_1_3 v))) shapeCasts_S2048x8x16x16_S2048x8x256

/-- The pairs' experts. -/
def nums (u v : IVec S2048x8x16 32) : IVec S2048x8x256 32 :=
  shapeCast _ (addi (broadcastInDim S2048x8x16x16 ![0, 1, 2, 3] bcast_S2048x8x16x1_S2048x8x16x16_0_1_2_3 (muli (broadcastInDim S2048x8x16x1 ![0, 1, 2] bcast_S2048x8x16_S2048x8x16x1_0_1_2 u) (broadcastInDim S2048x8x16x1 ![] bcast_S_S2048x8x16x1 (constantI S_ 32 128#32))))
    (broadcastInDim S2048x8x16x16 ![0, 1, 2, 3] bcast_S2048x8x1x16_S2048x8x16x16_0_1_2_3 (broadcastInDim S2048x8x1x16 ![0, 1, 3] bcast_S2048x8x16_S2048x8x1x16_0_1_3 v))) shapeCasts_S2048x8x16x16_S2048x8x256

/-- The places of the pairs as start indices. -/
def plc (p : IVec S2048x8x16 32) : IVec S2048x8x16x1 32 :=
  shapeCast _ (select (cmpi .slt p (broadcastInDim S2048x8x16 ![] bcast_S_S2048x8x16 (constantI S_ 32 0#32))) (addi p (broadcastInDim S2048x8x16 ![] bcast_S_S2048x8x16 (constantI S_ 32 256#32))) p) shapeCasts_S2048x8x16_S2048x8x16x1

/-- The experts at the places. -/
def take (y : IVec S2048x8x256 32) (p : IVec S2048x8x16 32) : IVec S2048x8x16 32 :=
  select (Host.reduce IntOp.andi (andi (cmpi .sge (plc p) (broadcastInDim S2048x8x16x1 ![] bcast_S_S2048x8x16x1 (constantI S_ 32 0#32)))
      (cmpi .sle (plc p) (broadcastInDim S2048x8x16x1 ![0, 1, 2, 3] bcast_S1x1x1x1_S2048x8x16x1_0_1_2_3 (broadcastInDim S1x1x1x1 ![3] bcast_S1_S1x1x1x1_3 (constantI S1 32 255#32)))))
      (constantI S_ 1 1#1) reducesTo_S2048x8x16x1_S2048x8x16_d3 h_S_)
    (Host.gather gather_S2048x8x256_S2048x8x16x1_S2048x8x16_n_2_01_01_2_3_111 y (plc p))
    (broadcastInDim S2048x8x16 ![] bcast_S_S2048x8x16 (constantI S_ 32 2147483648#32))

/-- The exponentials of the scores. -/
def exps (t : FVec Ideal S2048x8x16 .f32) : FVec Ideal S2048x8x16 .f32 :=
  Host.exp (subf t (broadcastInDim S2048x8x16 ![0, 1, 2] bcast_S2048x8x1_S2048x8x16_0_1_2 (broadcastInDim S2048x8x1 ![0, 1] bcast_S2048x8_S2048x8x1_0_1
    (maximumf (broadcastInDim S2048x8 ![] bcast_S_S2048x8 (constant S_ .f32 0xFF800000#32)) (Host.reduce FloatOps.maximumf t (constant S_ .f32 0xFF800000#32) reducesTo_S2048x8x16_S2048x8_d2 h_S_)))))

/-- The gates. -/
def gts (t : FVec Ideal S2048x8x16 .f32) : FVec Ideal S2048x8x16 .f32 :=
  Host.divf (exps t) (broadcastInDim S2048x8x16 ![0, 1, 2] bcast_S2048x8x1_S2048x8x16_0_1_2 (broadcastInDim S2048x8x1 ![0, 1] bcast_S2048x8_S2048x8x1_0_1
    (Host.reduceAdd (exps t) (constant S_ .f32 0x00000000#32) reducesTo_S2048x8x16_S2048x8_d2 h_S_)))

section Results

variable (m : (ℓ : Loc nD τ sig) → Buf (Elt Ideal) ℓ) (c : Dev nD)

/-- The scores from the arguments. -/
def scores : FVec Ideal S2048x8x2x128 .f32 :=
  scr (m ((c.tc : Thread nD τ).loc main_arg4)) (qry (hid (m ((c.tc : Thread nD τ).loc main_arg0)) (m ((c.tc : Thread nD τ).loc main_arg1)) (m ((c.tc : Thread nD τ).loc main_arg2))) (m ((c.tc : Thread nD τ).loc main_arg3)))

/-- The two halves' best keys and the best pairs. -/
def pairs : FVec Ideal S2048x8x16 .f32 × IVec S2048x8x16 32 := topp (sums (top (half (scores m c))).1 (top (half' (scores m c))).1)

theorem res1_eq : res_main_v43 m c = shapeCast S1x2048x128 (take (nums (top (half (scores m c))).2 (top (half' (scores m c))).2) (pairs m c).2) shapeCasts_S2048x8x16_S1x2048x128 := rfl

theorem res2_eq : res_main_v44 m c = shapeCast S1x2048x128 (gts (pairs m c).1) shapeCasts_S2048x8x16_S1x2048x128 := rfl

end Results

theorem hid_apply (x : FVec Ideal S1x2048x1024 .f32) (sc sh : FVec Ideal S1x1024 .f32) (t : Fin 2048) (e : Fin 1024) :
    hid x sc sh (ix3 0 t e) = x (ix3 0 t e) * (1 + sc (ix2 0 e)) + sh (ix2 0 e) := by
  pointwise [hid]

theorem qry_apply (h : FVec Ideal S1x2048x1024 .f32) (w : FVec Ideal S1024x1024 .f32) (t : Fin 2048) (a : Fin 8) (b : Fin 2) (d : Fin 64) :
    qry h w (ix4 t a b d) = ∑ e : Fin 1024, h (ix3 0 t e) * w (ix2 e ⟨a.val * 128 + b.val * 64 + d.val, by omega⟩) := by
  pointwise [qry]

theorem scr_apply (k : FVec Ideal S8x2x128x64 .f32) (q : FVec Ideal S2048x8x2x64 .f32) (t : Fin 2048) (a : Fin 8) (b : Fin 2) (n : Fin 128) :
    scr k q (ix4 t a b n) = ∑ d : Fin 64, k (ix4 a b n d) * q (ix4 t a b d) := by
  pointwise [scr]

theorem half_apply (s : FVec Ideal S2048x8x2x128 .f32) (t : Fin 2048) (a : Fin 8) (n : Fin 128) : half s (ix3 t a n) = s (ix4 t a 0 n) := by
  pointwise [half]

theorem half'_apply (s : FVec Ideal S2048x8x2x128 .f32) (t : Fin 2048) (a : Fin 8) (n : Fin 128) : half' s (ix3 t a n) = s (ix4 t a 1 n) := by
  pointwise [half']

theorem sums_apply (u v : FVec Ideal S2048x8x16 .f32) (t : Fin 2048) (a : Fin 8) (q : Fin 256) :
    sums u v (ix3 t a q) = u (ix3 t a ⟨q.val / 16, by omega⟩) + v (ix3 t a ⟨q.val % 16, by omega⟩) := by
  pointwise [sums]

theorem nums_apply (u v : IVec S2048x8x16 32) (t : Fin 2048) (a : Fin 8) (q : Fin 256) :
    nums u v (ix3 t a q) = IntOp.addi (IntOp.muli (u (ix3 t a ⟨q.val / 16, by omega⟩)) 128#32) (v (ix3 t a ⟨q.val % 16, by omega⟩)) := by
  pointwise [nums]

theorem plc_apply (p : IVec S2048x8x16 32) (t : Fin 2048) (a : Fin 8) (r : Fin 16) :
    plc p (ix4 t a r 0) = Scalar.select (IntOp.cmpi .slt (p (ix3 t a r)) 0#32) (IntOp.addi (p (ix3 t a r)) 256#32) (p (ix3 t a r)) := by
  pointwise [plc]

theorem exps_apply (x : FVec Ideal S2048x8x16 .f32) (t : Fin 2048) (a : Fin 8) (r : Fin 16) :
    exps x (ix3 t a r) = Ideal.exp (x (ix3 t a r) - max (⊥ : EReal) (Finset.univ.fold max (⊥ : EReal) fun k : Fin 16 => x (ix3 t a k))) := by
  pointwise [exps]
  rw [neg_inf]

theorem gts_apply (x : FVec Ideal S2048x8x16 .f32) (t : Fin 2048) (a : Fin 8) (r : Fin 16) :
    gts x (ix3 t a r) = Ideal.div (exps x (ix3 t a r)) (0 + ∑ k : Fin 16, exps x (ix3 t a k)) := by
  pointwise [gts]

theorem along_last (n : Nat) (t : Fin 2048) (a : Fin 8) (b k : Fin n) :
    Shape.Idx.along (s := ⟨3, ![2048, 8, n]⟩) (ix3 t a b) 2 k = ix3 t a k := by
  funext i
  fin_cases i <;> rfl

theorem before_eq (n : Nat) (s : Fin n → EReal) :
    (fun k k' => (FloatOps.cmpfTotal (F := Ideal) (φ := .f32) .gt (s k) (s k') == 1#1)) = fun k k' => decide (s k' < s k) := by
  funext k k'
  show (BitVec.ofBool (decide (s k' < s k)) == 1#1) = _
  cases decide (s k' < s k) <;> rfl

/-- A sorted row's entry, and its place. -/
theorem sorted (n : Nat) (x : FVec Ideal ⟨3, ![2048, 8, n]⟩ .f32) (t : Fin 2048) (a : Fin 8) (b : Fin n) :
    sortedFrom (fun k k' : Fin n => FloatOps.cmpfTotal (F := Ideal) (φ := .f32) .gt
      (x (Shape.Idx.along (s := ⟨3, ![2048, 8, n]⟩) (ix3 t a b) 2 k)) (x (Shape.Idx.along (s := ⟨3, ![2048, 8, n]⟩) (ix3 t a b) 2 k')) == 1#1) b
      = sel (fun k => x (ix3 t a k)) b := by
  simp only [along_last]
  exact congrArg (sortedFrom · b) (before_eq n fun k => x (ix3 t a k))

theorem slice_last (n : Nat) (h : 16 ≤ n) (hs : Shape.Slices ⟨3, ![2048, 8, n]⟩ (fun _ => 0) S2048x8x16) {α : Type}
    (v : (⟨3, ![2048, 8, n]⟩ : Shape).Idx → α) (t : Fin 2048) (a : Fin 8) (r : Fin 16) :
    extractStridedSlice S2048x8x16 (fun _ => 0) v hs (ix3 t a r) = v (ix3 t a (r.castLE h)) := by
  unfold extractStridedSlice
  congr 1
  funext i
  fin_cases i <;> exact Fin.ext (Nat.zero_add _)

theorem sort_fst (n : Nat) (x : FVec Ideal ⟨3, ![2048, 8, n]⟩ .f32) (y : IVec ⟨3, ![2048, 8, n]⟩ 32) (t : Fin 2048) (a : Fin 8) (b : Fin n) :
    (Host.sort2 ⟨3, ![2048, 8, n]⟩ 2 (fun l r => FloatOps.cmpfTotal (F := Ideal) (φ := .f32) .gt l.1 r.1) x y).1 (ix3 t a b)
      = x (ix3 t a (sel (fun k => x (ix3 t a k)) b)) := by
  unfold Host.sort2
  rw [dif_pos (show 2 < 3 by omega)]
  show x (Shape.Idx.along (s := ⟨3, ![2048, 8, n]⟩) (ix3 t a b) 2 (sortedFrom (n := n) (fun k k' => FloatOps.cmpfTotal (F := Ideal) (φ := .f32) .gt
      (x (Shape.Idx.along (s := ⟨3, ![2048, 8, n]⟩) (ix3 t a b) 2 k)) (x (Shape.Idx.along (s := ⟨3, ![2048, 8, n]⟩) (ix3 t a b) 2 k')) == 1#1) b)) = _
  rw [sorted, along_last]

theorem sort_snd (n : Nat) (x : FVec Ideal ⟨3, ![2048, 8, n]⟩ .f32) (y : IVec ⟨3, ![2048, 8, n]⟩ 32) (t : Fin 2048) (a : Fin 8) (b : Fin n) :
    (Host.sort2 ⟨3, ![2048, 8, n]⟩ 2 (fun l r => FloatOps.cmpfTotal (F := Ideal) (φ := .f32) .gt l.1 r.1) x y).2 (ix3 t a b)
      = y (ix3 t a (sel (fun k => x (ix3 t a k)) b)) := by
  unfold Host.sort2
  rw [dif_pos (show 2 < 3 by omega)]
  show y (Shape.Idx.along (s := ⟨3, ![2048, 8, n]⟩) (ix3 t a b) 2 (sortedFrom (n := n) (fun k k' => FloatOps.cmpfTotal (F := Ideal) (φ := .f32) .gt
      (x (Shape.Idx.along (s := ⟨3, ![2048, 8, n]⟩) (ix3 t a b) 2 k)) (x (Shape.Idx.along (s := ⟨3, ![2048, 8, n]⟩) (ix3 t a b) 2 k')) == 1#1) b)) = _
  rw [sorted, along_last]

theorem top_fst (x : FVec Ideal S2048x8x128 .f32) (t : Fin 2048) (a : Fin 8) (r : Fin 16) :
    (top x).1 (ix3 t a r) = best (fun k => x (ix3 t a k)) r := by
  unfold top Host.topK
  dsimp only
  exact (slice_last 128 (by omega) _ _ t a r).trans (sort_fst 128 x _ t a _)

theorem top_snd (x : FVec Ideal S2048x8x128 .f32) (t : Fin 2048) (a : Fin 8) (r : Fin 16) :
    (top x).2 (ix3 t a r) = BitVec.ofNat 32 (key (fun k => x (ix3 t a k)) r).val := by
  unfold top Host.topK
  dsimp only
  exact (slice_last 128 (by omega) _ _ t a r).trans (sort_snd 128 x _ t a _)

theorem topp_fst (x : FVec Ideal S2048x8x256 .f32) (t : Fin 2048) (a : Fin 8) (r : Fin 16) :
    (topp x).1 (ix3 t a r) = x (ix3 t a (sel (fun k => x (ix3 t a k)) (r.castLE (by omega)))) := by
  unfold topp Host.topK
  dsimp only
  exact (slice_last 256 (by omega) _ _ t a r).trans (sort_fst 256 x _ t a _)

theorem topp_snd (x : FVec Ideal S2048x8x256 .f32) (t : Fin 2048) (a : Fin 8) (r : Fin 16) :
    (topp x).2 (ix3 t a r) = BitVec.ofNat 32 (sel (fun k => x (ix3 t a k)) (r.castLE (by omega))).val := by
  unfold topp Host.topK
  dsimp only
  exact (slice_last 256 (by omega) _ _ t a r).trans (sort_snd 256 x _ t a _)

theorem word_small (q : Fin 256) : (BitVec.ofNat 32 q.val).toInt = q.val := by
  rw [BitVec.toInt_eq_toNat_of_lt (by rw [BitVec.toNat_ofNat]; omega), BitVec.toNat_ofNat, Nat.mod_eq_of_lt (by omega)]

theorem bounds : ∀ q : Fin 256, Scalar.select (IntOp.cmpi .slt (BitVec.ofNat 32 q.val) 0#32) (IntOp.addi (BitVec.ofNat 32 q.val) 256#32) (BitVec.ofNat 32 q.val) = BitVec.ofNat 32 q.val
    ∧ IntOp.cmpi .sge (BitVec.ofNat 32 q.val) 0#32 = 1#1 ∧ IntOp.cmpi .sle (BitVec.ofNat 32 q.val) 255#32 = 1#1 := by
  decide +kernel

/-- How the experts are read at their places. -/
abbrev gd : GatherDims S2048x8x256 S2048x8x16x1 S2048x8x16 := gather_S2048x8x256_S2048x8x16x1_S2048x8x16_n_2_01_01_2_3_111

theorem gather_apply (y : IVec S2048x8x256 32) (i : IVec S2048x8x16x1 32) (t : Fin 2048) (a : Fin 8) (r : Fin 16) (q : Fin 256)
    (hi : i (ix4 t a r 0) = BitVec.ofNat 32 q.val) : Host.gather gd y i (ix3 t a r) = y (ix3 t a q) := by
  have off (b : Fin 3) : GatherDims.offCoord gd (ix3 t a r) b = 0 := GatherDims.offCoord_eq_zero _ _ _ (by revert b; decide)
  have st (b : Fin 3) (h : b ∈ ([0, 1] : List (Fin 3))) : GatherDims.start gd (ix3 t a r) i b = 0 := GatherDims.start_batching _ _ _ _ h
  have b0 : GatherDims.batchCoord gd (ix3 t a r) (0 : Fin 3) = t.val := by
    unfold GatherDims.batchCoord
    rw [dif_pos (by decide)]
    rfl
  have b1 : GatherDims.batchCoord gd (ix3 t a r) (1 : Fin 3) = a.val := by
    unfold GatherDims.batchCoord
    rw [dif_pos (by decide)]
    rfl
  have b2 : GatherDims.batchCoord gd (ix3 t a r) (2 : Fin 3) = 0 := GatherDims.batchCoord_eq_zero _ _ _ (by decide)
  have hx : GatherDims.siIdx gd (ix3 t a r) (0 : Fin 1) = ix4 t a r 0 := by
    funext b
    fin_cases b <;> rfl
  have s2 : GatherDims.start gd (ix3 t a r) i (2 : Fin 3) = q.val := by
    unfold GatherDims.start
    rw [dif_pos (by decide)]
    show min (i (GatherDims.siIdx gd (ix3 t a r) (0 : Fin 1))).toInt.toNat 255 = q.val
    rw [hx, hi, word_small, Int.toNat_natCast]
    omega
  unfold Host.gather
  congr 1
  funext b
  refine Fin.ext ?_
  show GatherDims.start gd (ix3 t a r) i b + GatherDims.batchCoord gd (ix3 t a r) b + GatherDims.offCoord gd (ix3 t a r) b = _
  rw [off]
  fin_cases b
  · exact (congrArg₂ (· + · + 0) (st 0 (by decide)) b0).trans (Nat.zero_add _)
  · exact (congrArg₂ (· + · + 0) (st 1 (by decide)) b1).trans (Nat.zero_add _)
  · exact congrArg₂ (· + · + 0) s2 b2

theorem take_apply (y : IVec S2048x8x256 32) (p : IVec S2048x8x16 32) (t : Fin 2048) (a : Fin 8) (r : Fin 16) (q : Fin 256)
    (hp : p (ix3 t a r) = BitVec.ofNat 32 q.val) : take y p (ix3 t a r) = y (ix3 t a q) := by
  have hi : plc p (ix4 t a r 0) = BitVec.ofNat 32 q.val := by
    rw [plc_apply, hp]
    exact (bounds q).1
  have hg := gather_apply y (plc p) t a r q hi
  pointwise [take]
  rw [hg, Finset.univ_unique, Finset.fold_singleton]
  show Scalar.select (IntOp.andi (IntOp.andi (IntOp.cmpi .sge (plc p (ix4 t a r 0)) 0#32) (IntOp.cmpi .sle (plc p (ix4 t a r 0)) 255#32)) 1#1) _ _ = _
  rw [hi, (bounds q).2.1, (bounds q).2.2]
  rfl

section Read

variable (m : (ℓ : Loc nD τ sig) → Buf (Elt Ideal) ℓ) (c : Dev nD)

/-- The keys' scores of the arguments. -/
abbrev ks (t : Fin 2048) (a : Fin 8) (b : Fin 2) : Fin 128 → EReal :=
  keyScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t a b

theorem scores_apply (t : Fin 2048) (a : Fin 8) (b : Fin 2) (n : Fin 128) : scores m c (ix4 t a b n) = ks m c t a b n := by
  unfold scores
  rw [scr_apply]
  simp only [qry_apply, hid_apply]
  rfl

theorem row_eq (t : Fin 2048) (a : Fin 8) : (fun n => half (scores m c) (ix3 t a n)) = ks m c t a 0 :=
  funext fun n => (half_apply _ t a n).trans (scores_apply m c t a 0 n)

theorem row'_eq (t : Fin 2048) (a : Fin 8) : (fun n => half' (scores m c) (ix3 t a n)) = ks m c t a 1 :=
  funext fun n => (half'_apply _ t a n).trans (scores_apply m c t a 1 n)

theorem sums_eq (t : Fin 2048) (a : Fin 8) :
    (fun q => sums (top (half (scores m c))).1 (top (half' (scores m c))).1 (ix3 t a q)) = full (best (ks m c t a 0)) (best (ks m c t a 1)) := by
  funext q
  rw [sums_apply, top_fst, top_fst, row_eq, row'_eq]
  rfl

theorem pairs_fst (t : Fin 2048) (a : Fin 8) (r : Fin 16) : (pairs m c).1 (ix3 t a r) = score (ks m c t a 0) (ks m c t a 1) r := by
  unfold pairs
  rw [topp_fst]
  have h := sums_eq m c t a
  rw [h]
  exact congrFun h _

theorem pairs_snd (t : Fin 2048) (a : Fin 8) (r : Fin 16) :
    (pairs m c).2 (ix3 t a r) = BitVec.ofNat 32 (pair (ks m c t a 0) (ks m c t a 1) r).val := by
  unfold pairs
  rw [topp_snd, sums_eq]
  rfl

theorem exps_eq (t : Fin 2048) (a : Fin 8) (r : Fin 16) : exps (pairs m c).1 (ix3 t a r)
    = Ideal.exp (score (ks m c t a 0) (ks m c t a 1) r - score (ks m c t a 0) (ks m c t a 1) 0) := by
  rw [exps_apply]
  simp only [pairs_fst]
  have h := fold_max_eq ⊥ _ _ (0 : Fin 16) (rfl : score (ks m c t a 0) (ks m c t a 1) 0 = _) bot_le (score_le _ _)
  rw [h, max_eq_right bot_le]

theorem gate_apply (t : Fin 2048) (a : Fin 8) (r : Fin 16) : gts (pairs m c).1 (ix3 t a r) = gate (ks m c t a 0) (ks m c t a 1) r := by
  rw [gts_apply]
  simp only [exps_eq]
  rfl

theorem expert_apply (t : Fin 2048) (a : Fin 8) (r : Fin 16) :
    take (nums (top (half (scores m c))).2 (top (half' (scores m c))).2) (pairs m c).2 (ix3 t a r) = expert (ks m c t a 0) (ks m c t a 1) r := by
  rw [take_apply _ _ t a r _ (pairs_snd m c t a r), nums_apply, top_snd, top_snd, row_eq, row'_eq]
  rfl

theorem res1_apply (t : Fin 2048) (i : Fin 128) : res_main_v43 m c (ix3 0 t i)
    = slotExpert (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t i := by
  rw [res1_eq]
  have h := expert_apply m c t ⟨i.val / 16, by omega⟩ ⟨i.val % 16, by omega⟩
  generalize take (nums (top (half (scores m c))).2 (top (half' (scores m c))).2) (pairs m c).2 = y at h ⊢
  refine Eq.trans ?_ h
  pointwise

theorem res2_apply (t : Fin 2048) (i : Fin 128) : res_main_v44 m c (ix3 0 t i)
    = slotGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t i := by
  rw [res2_eq]
  have h := gate_apply m c t ⟨i.val / 16, by omega⟩ ⟨i.val % 16, by omega⟩
  generalize gts (pairs m c).1 = y at h ⊢
  refine Eq.trans ?_ h
  pointwise

end Read

end Cert.RouteProof.Ref
-- ==== Proof.Route.lean ====
module

public import proofs.«01_k».proof.Proof.RouteBody
public import proofs.«01_k».proof.Proof.RouteRef
public import proofs.«01_k».proof.Proof.RouteFinite
public import Idealize.ShloMosaic.Lib.Pipeline.ValueKit
public import Idealize.ShloMosaic.Lib.StableHlo.ReadAt

/-! The routing kernel and its reference: the modulated tokens, the experts and the gates are the same arrays. -/

@[expose] public section

set_option maxRecDepth 16384

noncomputable section

namespace Cert.RouteProof

open Idealize.ShloMosaic Idealize.ShloMosaic.TcCoe Idealize.SL.Sem

section Arrays

variable (x : FVec Ideal ⟨3, ![1, 2048, 1024]⟩ .f32) (sc sh : FVec Ideal ⟨2, ![1, 1024]⟩ .f32) (w : FVec Ideal ⟨2, ![1024, 1024]⟩ .f32)
  (k : FVec Ideal ⟨4, ![8, 2, 128, 64]⟩ .f32)

/-- The array of the modulated tokens. -/
def hiddens : FVec Ideal ⟨3, ![1, 2048, 1024]⟩ .f32 := fun i => hidden x sc sh (i 1) (i 2)
/-- The array of the chosen experts. -/
def experts : IVec ⟨3, ![1, 2048, 128]⟩ 32 := fun i => slotExpert x sc sh w k (i 1) (i 2)
/-- The array of their gates. -/
def gateArr : FVec Ideal ⟨3, ![1, 2048, 128]⟩ .f32 := fun i => slotGate x sc sh w k (i 1) (i 2)

end Arrays

section Kernel
open Cert.KernelIdeal Cert.KernelIdeal.Gen

theorem index_maps : ∀ t : Fin grid0.N, win0_0.index t = ![0, t.val, 0] ∧ win0_1.index t = ![0, 0, 0] ∧ win0_2.index t = ![0, 0, 0]
    ∧ win0_3.index t = ![0, 0] ∧ win0_4.index t = ![0, 0, 0, 0]
    ∧ win0_5.index t = ![0, t.val, 0] ∧ win0_6.index t = ![0, t.val, 0] ∧ win0_7.index t = ![0, t.val, 0] := by decide +kernel

variable (m : (ℓ : Loc nD τ sig) → Buf (Elt Ideal) ℓ) (c : Dev nD)

abbrev ax : FVec Ideal S1x2048x1024 .f32 := m ((c.tc : Thread nD τ).loc main_arg0)
abbrev asc : FVec Ideal S1x1024 .f32 := m ((c.tc : Thread nD τ).loc main_arg1)
abbrev ash : FVec Ideal S1x1024 .f32 := m ((c.tc : Thread nD τ).loc main_arg2)
abbrev aw : FVec Ideal S1024x1024 .f32 := m ((c.tc : Thread nD τ).loc main_arg3)
abbrev ak : FVec Ideal S8x2x128x64 .f32 := m ((c.tc : Thread nD τ).loc main_arg4)
abbrev B0 (t : Fin cfg0.N) : FVec Ideal S1x256x1024 .f32 := iblk m c 0 t
abbrev B1 (t : Fin cfg0.N) : FVec Ideal S1x1x1024 .f32 := iblk m c 1 t
abbrev B2 (t : Fin cfg0.N) : FVec Ideal S1x1x1024 .f32 := iblk m c 2 t
abbrev B3 (t : Fin cfg0.N) : FVec Ideal S1024x1024 .bf16 := iblk m c 3 t
abbrev B4 (t : Fin cfg0.N) : FVec Ideal S8x2x128x64 .bf16 := iblk m c 4 t

theorem b0_read (t : Fin cfg0.N) (ht : t.val < 8) (r : Fin 256) (e : Fin 1024) : B0 m c t (ix3 0 r e) = ax m c (ix3 0 ⟨256 * t.val + r.val, by omega⟩ e) := by
  obtain ⟨h0, -⟩ := index_maps t
  blk_ext! [iblk, V, h0]

theorem b1_read (t : Fin cfg0.N) (e : Fin 1024) : B1 m c t (ix3 0 0 e) = asc m c (ix2 0 e) := by
  obtain ⟨-, h1, -⟩ := index_maps t
  blk_ext! [iblk, V, h1]

theorem b2_read (t : Fin cfg0.N) (e : Fin 1024) : B2 m c t (ix3 0 0 e) = ash m c (ix2 0 e) := by
  obtain ⟨-, -, h2, -⟩ := index_maps t
  blk_ext! [iblk, V, h2]

theorem b3_read (t : Fin cfg0.N) (e i : Fin 1024) : B3 m c t (ix2 e i) = aw m c (ix2 e i) := by
  obtain ⟨-, -, -, h3, -⟩ := index_maps t
  blk_ext! [iblk, V, h3]

theorem b4_read (t : Fin cfg0.N) (a : Fin 8) (b : Fin 2) (n : Fin 128) (d : Fin 64) : B4 m c t (ix4 a b n d) = ak m c (ix4 a b n d) := by
  obtain ⟨-, -, -, -, h4, -⟩ := index_maps t
  blk_ext! [iblk, V, h4]

theorem bq_blk (t : Fin cfg0.N) (ht : t.val < 8) (r : Fin 256) (i : Fin 1024) :
    bq (B0 m c t) (B1 m c t) (B2 m c t) (B3 m c t) r i = query (ax m c) (asc m c) (ash m c) (aw m c) ⟨256 * t.val + r.val, by omega⟩ i := by
  refine Finset.sum_congr rfl fun e _ => ?_
  rw [b0_read m c t ht, b1_read, b2_read, b3_read]
  rfl

theorem bs_blk (t : Fin cfg0.N) (ht : t.val < 8) (a : Fin 8) (b : Fin 2) (r : Fin 256) :
    bs (B0 m c t) (B1 m c t) (B2 m c t) (B3 m c t) (B4 m c t) a b r
      = keyScores (ax m c) (asc m c) (ash m c) (aw m c) (ak m c) ⟨256 * t.val + r.val, by omega⟩ a b := by
  funext n
  refine Finset.sum_congr rfl fun d _ => ?_
  rw [b4_read, bq_blk m c t ht]

theorem flushed5 (t : Fin cfg0.N) : (dats m 0 c).flushed 5 t = ((cfg0.win 5).blk t).view.read (Elt Ideal) (hiddens (ax m c) (asc m c) (ash m c)) := by
  rw [Value.flushed5_A]
  funext j
  obtain ⟨-, -, -, -, -, h5, h6, h7⟩ := index_maps t
  have ht : t.val < 8 := lt_of_lt_of_eq t.isLt N_0
  idx_vars j
  have he : ((cfg0.win 5).blk t).view.emb (ix3 j0 j1 j2) = ix3 (0 : Fin 1) (⟨256 * t.val + j1.val, by omega⟩ : Fin 2048) j2 := by
    blk_ext [h5]
  show _ = (hiddens (ax m c) (asc m c) (ash m c)) (((cfg0.win 5).blk t).view.emb (ix3 j0 j1 j2))
  rw [he]
  refine (out5_eq c _ _ _ _ _ _ _ _ _ _ _ _ _ _ _ _ _ _ _ _ _ _ _ (B0 m c t) (B1 m c t) (B2 m c t) (B3 m c t) (B4 m c t) j0 j1 j2).trans ?_
  rw [b0_read m c t ht, b1_read, b2_read]
  rfl

theorem flushed6 (hs : ∀ t a b n, keyScores (ax m c) (asc m c) (ash m c) (aw m c) (ak m c) t a b n ≠ ⊥) (t : Fin cfg0.N) : (dats m 0 c).flushed 6 t = ((cfg0.win 6).blk t).view.read (Elt Ideal) (experts (ax m c) (asc m c) (ash m c) (aw m c) (ak m c)) := by
  rw [Value.flushed6_A]
  funext j
  obtain ⟨-, -, -, -, -, h5, h6, h7⟩ := index_maps t
  have ht : t.val < 8 := lt_of_lt_of_eq t.isLt N_0
  idx_vars j
  have he : ((cfg0.win 6).blk t).view.emb (ix3 j0 j1 j2) = ix3 (0 : Fin 1) (⟨256 * t.val + j1.val, by omega⟩ : Fin 2048) j2 := by
    blk_ext [h6]
  show _ = (experts (ax m c) (asc m c) (ash m c) (aw m c) (ak m c)) (((cfg0.win 6).blk t).view.emb (ix3 j0 j1 j2))
  rw [he]
  refine (out6_eq c _ _ _ _ _ _ _ _ _ _ _ _ _ _ _ _ _ _ _ _ _ _ _ (B0 m c t) (B1 m c t) (B2 m c t) (B3 m c t) (B4 m c t)
    (fun a b r n => by rw [bs_blk m c t ht]; exact hs _ _ _ _) j0 j1 j2).trans ?_
  rw [bs_blk m c t ht, bs_blk m c t ht]
  rfl

theorem flushed7 (hs : ∀ t a b n, keyScores (ax m c) (asc m c) (ash m c) (aw m c) (ak m c) t a b n ≠ ⊥) (t : Fin cfg0.N) : (dats m 0 c).flushed 7 t = ((cfg0.win 7).blk t).view.read (Elt Ideal) (gateArr (ax m c) (asc m c) (ash m c) (aw m c) (ak m c)) := by
  rw [Value.flushed7_A]
  funext j
  obtain ⟨-, -, -, -, -, h5, h6, h7⟩ := index_maps t
  have ht : t.val < 8 := lt_of_lt_of_eq t.isLt N_0
  idx_vars j
  have he : ((cfg0.win 7).blk t).view.emb (ix3 j0 j1 j2) = ix3 (0 : Fin 1) (⟨256 * t.val + j1.val, by omega⟩ : Fin 2048) j2 := by
    blk_ext [h7]
  show _ = (gateArr (ax m c) (asc m c) (ash m c) (aw m c) (ak m c)) (((cfg0.win 7).blk t).view.emb (ix3 j0 j1 j2))
  rw [he]
  refine (out7_eq c _ _ _ _ _ _ _ _ _ _ _ _ _ _ _ _ _ _ _ _ _ _ _ (B0 m c t) (B1 m c t) (B2 m c t) (B3 m c t) (B4 m c t)
    (fun a b r n => by rw [bs_blk m c t ht]; exact hs _ _ _ _) j0 j1 j2).trans ?_
  rw [bs_blk m c t ht, bs_blk m c t ht]
  rfl

/-- The indices of the block of result main_v4_0 that grid point `t` writes. -/
theorem mem_blk5 (t : Fin cfg0.N) (i : S1x2048x1024.Idx) :
    i ∈ ((cfg0.win 5).blk t).view.set ↔ t.val * 256 ≤ (i 1 : Nat) ∧ (i 1 : Nat) < t.val * 256 + 256 := by
  show i ∈ ((View.whole main_v4_0).slice (win0_5.rect t)).set ↔ _
  rw [View.set_slice_whole, Rect.mem_set_unit]
  have b0 : (i 0 : Nat) < 1 := (i 0).isLt
  have b2 : (i 2 : Nat) < 1024 := (i 2).isLt
  have e : ∀ t : Fin grid0.N, (win0_5.index t 0 * win0_5.size 0 = 0 ∧ win0_5.xsize (grid0.coords t) 0 = 1)
      ∧ (win0_5.index t 1 * win0_5.size 1 = t.val * 256 ∧ win0_5.xsize (grid0.coords t) 1 = 256)
      ∧ (win0_5.index t 2 * win0_5.size 2 = 0 ∧ win0_5.xsize (grid0.coords t) 2 = 1024) := by decide +kernel
  obtain ⟨⟨e0, f0⟩, ⟨e1, f1⟩, e2, f2⟩ := e t
  refine ⟨fun h => ?_, fun h a => ?_⟩
  · have : win0_5.index t 1 * win0_5.size 1 ≤ (i 1 : Nat) ∧ (i 1 : Nat) < win0_5.index t 1 * win0_5.size 1 + win0_5.xsize (grid0.coords t) 1 := h 1
    rw [e1, f1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e0, f0]; omega
    | ⟨1, _⟩ => show win0_5.index t 1 * win0_5.size 1 ≤ (i 1 : Nat) ∧ (i 1 : Nat) < win0_5.index t 1 * win0_5.size 1 + win0_5.xsize (grid0.coords t) 1
                rw [e1, f1]; exact h
    | ⟨2, _⟩ => show win0_5.index t 2 * win0_5.size 2 ≤ (i 2 : Nat) ∧ (i 2 : Nat) < win0_5.index t 2 * win0_5.size 2 + win0_5.xsize (grid0.coords t) 2
                rw [e2, f2]; omega

/-- Those blocks fill the array. -/
theorem cover5 (i : S1x2048x1024.Idx) :
    ∃ t : Fin cfg0.N, (cfg0.win 5).flush t = true ∧ i ∈ ((cfg0.win 5).blk t).view.set := by
  have h1 : (i 1 : Nat) < 2048 := (i 1).isLt
  refine ⟨⟨(i 1 : Nat) / 256, by show _ < grid0.N; rw [N_0]; omega⟩, flush0_5 _, ?_⟩
  rw [mem_blk5]
  dsimp only
  omega

/-- The indices of the block of result main_v4_1 that grid point `t` writes. -/
theorem mem_blk6 (t : Fin cfg0.N) (i : S1x2048x128.Idx) :
    i ∈ ((cfg0.win 6).blk t).view.set ↔ t.val * 256 ≤ (i 1 : Nat) ∧ (i 1 : Nat) < t.val * 256 + 256 := by
  show i ∈ ((View.whole main_v4_1).slice (win0_6.rect t)).set ↔ _
  rw [View.set_slice_whole, Rect.mem_set_unit]
  have b0 : (i 0 : Nat) < 1 := (i 0).isLt
  have b2 : (i 2 : Nat) < 128 := (i 2).isLt
  have e : ∀ t : Fin grid0.N, (win0_6.index t 0 * win0_6.size 0 = 0 ∧ win0_6.xsize (grid0.coords t) 0 = 1)
      ∧ (win0_6.index t 1 * win0_6.size 1 = t.val * 256 ∧ win0_6.xsize (grid0.coords t) 1 = 256)
      ∧ (win0_6.index t 2 * win0_6.size 2 = 0 ∧ win0_6.xsize (grid0.coords t) 2 = 128) := by decide +kernel
  obtain ⟨⟨e0, f0⟩, ⟨e1, f1⟩, e2, f2⟩ := e t
  refine ⟨fun h => ?_, fun h a => ?_⟩
  · have : win0_6.index t 1 * win0_6.size 1 ≤ (i 1 : Nat) ∧ (i 1 : Nat) < win0_6.index t 1 * win0_6.size 1 + win0_6.xsize (grid0.coords t) 1 := h 1
    rw [e1, f1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e0, f0]; omega
    | ⟨1, _⟩ => show win0_6.index t 1 * win0_6.size 1 ≤ (i 1 : Nat) ∧ (i 1 : Nat) < win0_6.index t 1 * win0_6.size 1 + win0_6.xsize (grid0.coords t) 1
                rw [e1, f1]; exact h
    | ⟨2, _⟩ => show win0_6.index t 2 * win0_6.size 2 ≤ (i 2 : Nat) ∧ (i 2 : Nat) < win0_6.index t 2 * win0_6.size 2 + win0_6.xsize (grid0.coords t) 2
                rw [e2, f2]; omega

/-- Those blocks fill the array. -/
theorem cover6 (i : S1x2048x128.Idx) :
    ∃ t : Fin cfg0.N, (cfg0.win 6).flush t = true ∧ i ∈ ((cfg0.win 6).blk t).view.set := by
  have h1 : (i 1 : Nat) < 2048 := (i 1).isLt
  refine ⟨⟨(i 1 : Nat) / 256, by show _ < grid0.N; rw [N_0]; omega⟩, flush0_6 _, ?_⟩
  rw [mem_blk6]
  dsimp only
  omega

/-- The indices of the block of result main_v4_2 that grid point `t` writes. -/
theorem mem_blk7 (t : Fin cfg0.N) (i : S1x2048x128.Idx) :
    i ∈ ((cfg0.win 7).blk t).view.set ↔ t.val * 256 ≤ (i 1 : Nat) ∧ (i 1 : Nat) < t.val * 256 + 256 := by
  show i ∈ ((View.whole main_v4_2).slice (win0_7.rect t)).set ↔ _
  rw [View.set_slice_whole, Rect.mem_set_unit]
  have b0 : (i 0 : Nat) < 1 := (i 0).isLt
  have b2 : (i 2 : Nat) < 128 := (i 2).isLt
  have e : ∀ t : Fin grid0.N, (win0_7.index t 0 * win0_7.size 0 = 0 ∧ win0_7.xsize (grid0.coords t) 0 = 1)
      ∧ (win0_7.index t 1 * win0_7.size 1 = t.val * 256 ∧ win0_7.xsize (grid0.coords t) 1 = 256)
      ∧ (win0_7.index t 2 * win0_7.size 2 = 0 ∧ win0_7.xsize (grid0.coords t) 2 = 128) := by decide +kernel
  obtain ⟨⟨e0, f0⟩, ⟨e1, f1⟩, e2, f2⟩ := e t
  refine ⟨fun h => ?_, fun h a => ?_⟩
  · have : win0_7.index t 1 * win0_7.size 1 ≤ (i 1 : Nat) ∧ (i 1 : Nat) < win0_7.index t 1 * win0_7.size 1 + win0_7.xsize (grid0.coords t) 1 := h 1
    rw [e1, f1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e0, f0]; omega
    | ⟨1, _⟩ => show win0_7.index t 1 * win0_7.size 1 ≤ (i 1 : Nat) ∧ (i 1 : Nat) < win0_7.index t 1 * win0_7.size 1 + win0_7.xsize (grid0.coords t) 1
                rw [e1, f1]; exact h
    | ⟨2, _⟩ => show win0_7.index t 2 * win0_7.size 2 ≤ (i 2 : Nat) ∧ (i 2 : Nat) < win0_7.index t 2 * win0_7.size 2 + win0_7.xsize (grid0.coords t) 2
                rw [e2, f2]; omega

/-- Those blocks fill the array. -/
theorem cover7 (i : S1x2048x128.Idx) :
    ∃ t : Fin cfg0.N, (cfg0.win 7).flush t = true ∧ i ∈ ((cfg0.win 7).blk t).view.set := by
  have h1 : (i 1 : Nat) < 2048 := (i 1).isLt
  refine ⟨⟨(i 1 : Nat) / 256, by show _ < grid0.N; rw [N_0]; omega⟩, flush0_7 _, ?_⟩
  rw [mem_blk7]
  dsimp only
  omega

/-- What a run ends with where no score is minus infinity: the three result arrays and the arguments as they were. -/
theorem run (hs : ∀ (c : Dev nD) t a b n, keyScores (ax m c) (asc m c) (ash m c) (aw m c) (ak m c) t a b n ≠ ⊥) (ρ : Dev nD → PrngReg) :
    θ_run defs (onTc (τ := τ) (main (F := Ideal))) ⟨m, fun _ => 0, ρ⟩ fun r => ∀ c : Dev nD,
      r.2.mem ((c.tc : Thread nD τ).loc main_v4_0) = hiddens (ax m c) (asc m c) (ash m c)
      ∧ r.2.mem ((c.tc : Thread nD τ).loc main_v4_1) = experts (ax m c) (asc m c) (ash m c) (aw m c) (ak m c)
      ∧ r.2.mem ((c.tc : Thread nD τ).loc main_v4_2) = gateArr (ax m c) (asc m c) (ash m c) (aw m c) (ak m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c =>
    ⟨(h c).1.trans ((dats m 0 c).arrAt_eq_of_cover 5 _ (fun t _ => flushed5 m c t) cover5),
      (h c).2.1.trans ((dats m 0 c).arrAt_eq_of_cover 6 _ (fun t _ => flushed6 m c (hs c) t) cover6),
      (h c).2.2.1.trans ((dats m 0 c).arrAt_eq_of_cover 7 _ (fun t _ => flushed7 m c (hs c) t) cover7),
      (h c).2.2.2⟩) (Value.run_blocks m ρ)

end Kernel

section Reference
open Cert.ReferenceIdeal

variable (m : (ℓ : Loc nD τ sig) → Buf (Elt Ideal) ℓ) (ρ : Dev nD → PrngReg)

abbrev rx (c : Dev nD) : FVec Ideal S1x2048x1024 .f32 := m ((c.tc : Thread nD τ).loc main_arg0)
abbrev rsc (c : Dev nD) : FVec Ideal S1x1024 .f32 := m ((c.tc : Thread nD τ).loc main_arg1)
abbrev rsh (c : Dev nD) : FVec Ideal S1x1024 .f32 := m ((c.tc : Thread nD τ).loc main_arg2)
abbrev rw' (c : Dev nD) : FVec Ideal S1024x1024 .f32 := m ((c.tc : Thread nD τ).loc main_arg3)
abbrev rk (c : Dev nD) : FVec Ideal S8x2x128x64 .f32 := m ((c.tc : Thread nD τ).loc main_arg4)

theorem ref_run : θ_run defs (onTc (τ := τ) (main (F := Ideal))) ⟨m, fun _ => 0, ρ⟩ fun r => ∀ c : Dev nD,
      (r.2.mem ((c.tc : Thread nD τ).loc main_v7) = hiddens (rx m c) (rsc m c) (rsh m c)
      ∧ r.2.mem ((c.tc : Thread nD τ).loc main_v43) = experts (rx m c) (rsc m c) (rsh m c) (rw' m c) (rk m c)
      ∧ r.2.mem ((c.tc : Thread nD τ).loc main_v44) = gateArr (rx m c) (rsc m c) (rsh m c) (rw' m c) (rk m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun _ h c => ⟨⟨(h c).1.trans ?_, (h c).2.1.trans ?_, (h c).2.2.1.trans ?_⟩, (h c).2.2.2⟩) (Value.run m ρ)
  · funext j
    change S1x2048x1024.Idx at j
    idx_vars j
    obtain rfl : j0 = 0 := Subsingleton.elim _ _
    exact Ref.hid_apply (rx m c) (rsc m c) (rsh m c) j1 j2
  · funext j
    change S1x2048x128.Idx at j
    idx_vars j
    obtain rfl : j0 = 0 := Subsingleton.elim _ _
    exact Ref.res1_apply m c j1 j2
  · funext j
    change S1x2048x128.Idx at j
    idx_vars j
    obtain rfl : j0 = 0 := Subsingleton.elim _ _
    exact Ref.res2_apply m c j1 j2

end Reference

section Claim

/-- The routing kernel and its reference end with the same three arrays, where every argument is finite. -/
theorem algebraic : Cert.algebraic_KernelIdeal_ReferenceIdeal_pre_all_finite := fun m ρ m' ρ' hp hag => by
  have hs : ∀ (c : Dev Cert.KernelIdeal.nD) t a b n, keyScores (ax m c) (asc m c) (ash m c) (aw m c) (ak m c) t a b n ≠ ⊥ := fun c => by
    obtain ⟨h0, h1, h2, h3, h4⟩ := isReal_of_pre _ _ _ _ _ (hp c)
    exact keyScores_ne _ _ _ _ _ h0 h1 h2 h3 h4
  refine ⟨fun c => hiddens (ax m c) (asc m c) (ash m c), fun c => experts (ax m c) (asc m c) (ash m c) (aw m c) (ak m c),
    fun c => gateArr (ax m c) (asc m c) (ash m c) (aw m c) (ak m c), run m hs ρ, (θ_run _ _ _).mono (fun _ h c => ?_) (ref_run m' ρ')⟩
  obtain ⟨h0, h1, h2, h3, h4⟩ := hag c
  obtain ⟨⟨e0, e1, e2⟩, r⟩ := h c
  simp only [rx, rsc, rsh, rw', rk, h0, h1, h2, h3, h4] at e0 e1 e2
  exact ⟨e0, e1, e2, r⟩

end Claim

end Cert.RouteProof
-- ==== Proof.lean ====
/- The proof of the certificate's claim: the generated frames, and one module of value theorems for each pair of programs. -/
module

public import proofs.«01_k».proof.Defs
public import proofs.«01_k».proof.Proof.Mix
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ReferenceIdeal
public import proofs.«01_k».proof.Proof.Gen.MergeRefIdeal
public import proofs.«01_k».proof.Proof.Gen.ProjRefIdeal
public import proofs.«01_k».proof.Proof.Gen.FinalRefIdeal
public import proofs.«01_k».proof.Proof.Gen.PrepRefIdeal
public import proofs.«01_k».proof.Proof.Gen.ActRefIdeal
public import proofs.«01_k».proof.Proof.Gen.Pre_all_finite
public import proofs.«01_k».proof.Proof.Gen.ReferenceIdeal.Run
public import proofs.«01_k».proof.Proof.Gen.MergeRefIdeal.Run
public import proofs.«01_k».proof.Proof.Gen.ProjRefIdeal.Run
public import proofs.«01_k».proof.Proof.Gen.FinalRefIdeal.Run
public import proofs.«01_k».proof.Proof.Gen.PrepRefIdeal.Run
public import proofs.«01_k».proof.Proof.Gen.ActRefIdeal.Run
public import proofs.«01_k».proof.Proof.Merge
public import proofs.«01_k».proof.Proof.Proj
public import proofs.«01_k».proof.Proof.Final
public import proofs.«01_k».proof.Proof.Prep
public import proofs.«01_k».proof.Proof.Act
public import proofs.«01_k».proof.Proof.Route

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Final.Gen.facts, Cert.FinalIdeal.Gen.facts, Cert.FinalRefIdeal.Gen.facts, Cert.Prep.Gen.facts, Cert.PrepIdeal.Gen.facts, Cert.PrepRefIdeal.Gen.facts, Cert.Act.Gen.facts, Cert.ActIdeal.Gen.facts, Cert.ActRefIdeal.Gen.facts, Cert.Mix.Gen.facts, Cert.MixIdeal.Gen.facts, Cert.MixRefIdeal.Gen.facts, Cert.Pre_all_finite.Gen.facts, Cert.Pre_mix_finite.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2.2.2, sem_eq_zero_of_no_sems (by decide) r.2⟩) (Cert.ReferenceIdeal.Value.run m ρ),
    fun m ρ _ => (θ_run _ _ _).mono (fun r h => ⟨fun c => (h c).2.2.2, sem_eq_zero_of_no_sems (by decide) r.2⟩) (Cert.ReferenceIdeal.Value.run m ρ),
    fun m ρ _ => Cert.Merge.Gen.frame m ρ,
    fun m ρ _ => Cert.MergeIdeal.Gen.frame m ρ,
    fun m ρ _ => (θ_run _ _ _).mono (fun r h => ⟨fun c => (h c).2, sem_eq_zero_of_no_sems (by decide) r.2⟩) (Cert.MergeRefIdeal.Value.run m ρ),
    fun m ρ _ => Cert.Proj.Gen.frame m ρ,
    fun m ρ _ => Cert.ProjIdeal.Gen.frame m ρ,
    fun m ρ _ => (θ_run _ _ _).mono (fun r h => ⟨fun c => (h c).2.2.2, sem_eq_zero_of_no_sems (by decide) r.2⟩) (Cert.ProjRefIdeal.Value.run m ρ),
    fun m ρ _ => Cert.Final.Gen.frame m ρ,
    fun m ρ _ => Cert.FinalIdeal.Gen.frame m ρ,
    fun m ρ _ => (θ_run _ _ _).mono (fun r h => ⟨fun c => (h c).2, sem_eq_zero_of_no_sems (by decide) r.2⟩) (Cert.FinalRefIdeal.Value.run m ρ),
    fun m ρ _ => Cert.Prep.Gen.frame m ρ,
    fun m ρ _ => Cert.PrepIdeal.Gen.frame m ρ,
    fun m ρ _ => (θ_run _ _ _).mono (fun r h => ⟨fun c => (h c).2.2.2, sem_eq_zero_of_no_sems (by decide) r.2⟩) (Cert.PrepRefIdeal.Value.run m ρ),
    fun m ρ _ => Cert.Act.Gen.frame m ρ,
    fun m ρ _ => Cert.ActIdeal.Gen.frame m ρ,
    fun m ρ _ => (θ_run _ _ _).mono (fun r h => ⟨fun c => (h c).2, sem_eq_zero_of_no_sems (by decide) r.2⟩) (Cert.ActRefIdeal.Value.run m ρ),
    fun m ρ _ => Cert.Mix.Gen.frame m ρ,
    fun m ρ _ => Cert.MixIdeal.Gen.frame m ρ,
    fun m ρ _ => Cert.MixIdeal.Gen.frame m ρ,
    fun m ρ _ => (θ_run _ _ _).mono (fun r h => ⟨fun c => (h c).2.2.2, sem_eq_zero_of_no_sems (by decide) r.2⟩) (Cert.MixRefIdeal.Value.run m ρ),
    fun m ρ _ => (θ_run _ _ _).mono (fun r h => ⟨fun c => (h c).2.2.2, sem_eq_zero_of_no_sems (by decide) r.2⟩) (Cert.MixRefIdeal.Value.run m ρ),
    trivial,
    RouteProof.algebraic,
    trivial,
    MergeProof.algebraic,
    trivial,
    ProjProof.algebraic,
    trivial,
    FinalProof.algebraic,
    trivial,
    PrepProof.algebraic,
    trivial,
    ActProof.algebraic,
    trivial,
    MixClaim.algebraic⟩

end Cert.Proof
